-- ==== Defs.lean ====
def Pre_Kernel [hPre_causal_tables : Cert.Pre_causal_tables.Facts] (m : (ℓ : Loc Cert.Kernel.nD Cert.Kernel.τ Cert.Kernel.sig) → Buf (Elt Bits) ℓ) : Prop :=
  ∀ c : Dev Cert.Kernel.nD,
    (Cert.Pre_causal_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_causal_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2 = (fun _ => 1#1)

def Pre_KernelIdeal [hPre_causal_tables : Cert.Pre_causal_tables.Facts] (m : (ℓ : Loc Cert.KernelIdeal.nD Cert.KernelIdeal.τ Cert.KernelIdeal.sig) → Buf (Elt Ideal) ℓ) : Prop :=
  ∀ c : Dev Cert.KernelIdeal.nD,
    (Cert.Pre_causal_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_causal_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_KernelIdeal_causal_finite [hPre_causal_finite : Cert.Pre_causal_finite.Facts] (m : (ℓ : Loc Cert.KernelIdeal.nD Cert.KernelIdeal.τ Cert.KernelIdeal.sig) → Buf (Elt Ideal) ℓ) : Prop :=
  ∀ c : Dev Cert.KernelIdeal.nD,
    (Cert.Pre_causal_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_causal_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_causal_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_causal_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_causal_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_causal_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_causal_finite [hPre_causal_finite : Cert.Pre_causal_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_causal_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_causal_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_causal_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_causal_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_causal_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_causal_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_causal_tables : Cert.Pre_causal_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_causal_tables : Cert.Pre_causal_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_causal_finite [hKernelIdeal : Cert.KernelIdeal.Facts] [hPre_causal_finite : Cert.Pre_causal_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_causal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_causal_finite [hReferenceIdeal : Cert.ReferenceIdeal.Facts] [hPre_causal_finite : Cert.Pre_causal_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_causal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_causal_finite [hKernelIdeal : Cert.KernelIdeal.Facts] [hReferenceIdeal : Cert.ReferenceIdeal.Facts] [hPre_causal_finite : Cert.Pre_causal_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_causal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v61) = v0 c
          ∧ r.2.mem ((c.tc : Thread Cert.Reference4Ideal.nD Cert.Reference4Ideal.τ).loc Cert.Reference4Ideal.main_v119) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v22_0)) (v1 : (c : Dev Cert.Kernel5Ideal.nD) → Buf (Elt Ideal) ((c.tc : Thread Cert.Kernel5Ideal.nD Cert.Kernel5Ideal.τ).loc Cert.Kernel5Ideal.main_v22_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22_0) = v0 c
          ∧ r.2.mem ((c.tc : Thread Cert.Kernel5Ideal.nD Cert.Kernel5Ideal.τ).loc Cert.Kernel5Ideal.main_v22_3) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_v37) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_causal_tables : Cert.Pre_causal_tables.Facts) (hPre_causal_finite : Cert.Pre_causal_finite.Facts),
    quiescent_Kernel (hKernel := hKernel) (hPre_causal_tables := hPre_causal_tables)
    ∧ quiescent_KernelIdeal (hKernelIdeal := hKernelIdeal) (hPre_causal_tables := hPre_causal_tables)
    ∧ quiescent_KernelIdeal_pre_causal_finite (hKernelIdeal := hKernelIdeal) (hPre_causal_finite := hPre_causal_finite)
    ∧ quiescent_ReferenceIdeal (hReferenceIdeal := hReferenceIdeal)
    ∧ quiescent_ReferenceIdeal_pre_causal_finite (hReferenceIdeal := hReferenceIdeal) (hPre_causal_finite := hPre_causal_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_causal_finite (hKernelIdeal := hKernelIdeal) (hReferenceIdeal := hReferenceIdeal) (hPre_causal_finite := hPre_causal_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_causal_finite.lean ====
abbrev S66 : Shape := ⟨1, ![66]⟩
abbrev S8448x6144 : Shape := ⟨2, ![8448, 6144]⟩
abbrev S8x128 : Shape := ⟨2, ![8, 128]⟩
abbrev S1x128 : Shape := ⟨2, ![1, 128]⟩
abbrev S_ : Shape := ⟨0, ![]⟩

class Facts : Prop where
  bitsLt_bf16_f32 : FTy.bits .bf16 < FTy.bits .f32
  bcast_S_S8448x6144 : S_.BroadcastsInDim S8448x6144 (![] : Fin 0 → Fin S8448x6144.rank)
  bcast_S_S8x128 : S_.BroadcastsInDim S8x128 (![] : Fin 0 → Fin S8x128.rank)

variable [Facts]

noncomputable abbrev lit0 : Fin 66 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32
  | _ => 0#32

noncomputable abbrev lit1 : Fin 66 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32 | 36 => 0#32 | 37 => 1#32 | 38 => 2#32 | 39 => 3#32
  | 40 => 4#32 | 41 => 5#32 | 42 => 6#32 | 43 => 7#32 | 44 => 8#32 | 45 => 0#32 | 46 => 1#32 | 47 => 2#32
  | 48 => 3#32 | 49 => 4#32 | 50 => 5#32 | 51 => 6#32 | 52 => 7#32 | 53 => 8#32 | 54 => 9#32 | 55 => 0#32
  | 56 => 1#32 | 57 => 2#32 | 58 => 3#32 | 59 => 4#32 | 60 => 5#32 | 61 => 6#32 | 62 => 7#32 | 63 => 8#32
  | 64 => 9#32 | 65 => 10#32
  | _ => 0#32

def fn {F : FTy → Type} [FloatOps F] (main_arg0 : IVec S66 32) (main_arg1 : IVec S66 32) (main_arg2 : FVec F S8448x6144 .bf16) (main_arg3 : FVec F S8448x6144 .bf16) (main_arg4 : FVec F S8448x6144 .bf16) (main_arg5 : FVec F S8x128 .f32) (main_arg6 : FVec F S1x128 .f32) : IVec S66 1 × IVec S66 1 × IVec S8448x6144 1 × IVec S8448x6144 1 × IVec S8448x6144 1 × IVec S8x128 1 :=
  let main_c : IVec S66 32 := fun i => lit0 (S66.rowMajor i)
  let main_c_0 : IVec S66 32 := fun i => lit1 (S66.rowMajor i)
  let main_v0 : IVec S66 1 := cmpi .eq main_arg0 main_c
  let main_v1 : IVec S66 1 := cmpi .eq main_arg1 main_c_0
  let main_v2 : FVec F S8448x6144 .f32 := (extf .f32 · bitsLt_bf16_f32) main_arg2
  let main_v3 : FVec F S8448x6144 .f32 := Host.absf main_v2
  let main_cst : FVec F S_ .f32 := constant S_ .f32 0x7F800000#32
  let main_v4 : FVec F S8448x6144 .f32 := broadcastInDim S8448x6144 ![] bcast_S_S8448x6144 main_cst
  let main_v5 : IVec S8448x6144 1 := cmpf .olt main_v3 main_v4
  let main_v6 : FVec F S8448x6144 .f32 := (extf .f32 · bitsLt_bf16_f32) main_arg3
  let main_v7 : FVec F S8448x6144 .f32 := Host.absf main_v6
  let main_cst_1 : FVec F S_ .f32 := constant S_ .f32 0x7F800000#32
  let main_v8 : FVec F S8448x6144 .f32 := broadcastInDim S8448x6144 ![] bcast_S_S8448x6144 main_cst_1
  let main_v9 : IVec S8448x6144 1 := cmpf .olt main_v7 main_v8
  let main_v10 : FVec F S8448x6144 .f32 := (extf .f32 · bitsLt_bf16_f32) main_arg4
  let main_v11 : FVec F S8448x6144 .f32 := Host.absf main_v10
  let main_cst_2 : FVec F S_ .f32 := constant S_ .f32 0x7F800000#32
  let main_v12 : FVec F S8448x6144 .f32 := broadcastInDim S8448x6144 ![] bcast_S_S8448x6144 main_cst_2
  let main_v13 : IVec S8448x6144 1 := cmpf .olt main_v11 main_v12
  let main_v14 : FVec F S8x128 .f32 := Host.absf main_arg5
  let main_cst_3 : FVec F S_ .f32 := constant S_ .f32 0x7F800000#32
  let main_v15 : FVec F S8x128 .f32 := broadcastInDim S8x128 ![] bcast_S_S8x128 main_cst_3
  let main_v16 : IVec S8x128 1 := cmpf .olt main_v14 main_v15
  (main_v0, main_v1, main_v5, main_v9, main_v13, main_v16)
-- ==== Pre_causal_tables.lean ====
abbrev S66 : Shape := ⟨1, ![66]⟩
abbrev S8448x6144 : Shape := ⟨2, ![8448, 6144]⟩
abbrev S8x128 : Shape := ⟨2, ![8, 128]⟩
abbrev S1x128 : Shape := ⟨2, ![1, 128]⟩

class Facts : Prop where

variable [Facts]

noncomputable abbrev lit0 : Fin 66 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32
  | _ => 0#32

noncomputable abbrev lit1 : Fin 66 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32 | 36 => 0#32 | 37 => 1#32 | 38 => 2#32 | 39 => 3#32
  | 40 => 4#32 | 41 => 5#32 | 42 => 6#32 | 43 => 7#32 | 44 => 8#32 | 45 => 0#32 | 46 => 1#32 | 47 => 2#32
  | 48 => 3#32 | 49 => 4#32 | 50 => 5#32 | 51 => 6#32 | 52 => 7#32 | 53 => 8#32 | 54 => 9#32 | 55 => 0#32
  | 56 => 1#32 | 57 => 2#32 | 58 => 3#32 | 59 => 4#32 | 60 => 5#32 | 61 => 6#32 | 62 => 7#32 | 63 => 8#32
  | 64 => 9#32 | 65 => 10#32
  | _ => 0#32

def fn {F : FTy → Type} [FloatOps F] (main_arg0 : IVec S66 32) (main_arg1 : IVec S66 32) (main_arg2 : FVec F S8448x6144 .bf16) (main_arg3 : FVec F S8448x6144 .bf16) (main_arg4 : FVec F S8448x6144 .bf16) (main_arg5 : FVec F S8x128 .f32) (main_arg6 : FVec F S1x128 .f32) : IVec S66 1 × IVec S66 1 :=
  let main_c : IVec S66 32 := fun i => lit0 (S66.rowMajor i)
  let main_c_0 : IVec S66 32 := fun i => lit1 (S66.rowMajor i)
  let main_v0 : IVec S66 1 := cmpi .eq main_arg0 main_c
  let main_v1 : IVec S66 1 := cmpi .eq main_arg1 main_c_0
  (main_v0, main_v1)
-- ==== Kernel.lean ====
abbrev S66 : Shape := ⟨1, ![66]⟩
abbrev S8448x6144 : Shape := ⟨2, ![8448, 6144]⟩
abbrev S8x128 : Shape := ⟨2, ![8, 128]⟩
abbrev S1x128 : Shape := ⟨2, ![1, 128]⟩
abbrev S8448x1024 : Shape := ⟨2, ![8448, 1024]⟩
abbrev S768x1024 : Shape := ⟨2, ![768, 1024]⟩
abbrev S1 : Shape := ⟨1, ![1]⟩
abbrev S8x1536x128 : Shape := ⟨3, ![8, 1536, 128]⟩
abbrev S8x1536x256 : Shape := ⟨3, ![8, 1536, 256]⟩
abbrev S768x128 : Shape := ⟨2, ![768, 128]⟩
abbrev S1x768x128 : Shape := ⟨3, ![1, 768, 128]⟩
abbrev S1x1536x128 : Shape := ⟨3, ![1, 1536, 128]⟩
abbrev S1536x128 : Shape := ⟨2, ![1536, 128]⟩
abbrev S1536x768 : Shape := ⟨2, ![1536, 768]⟩
abbrev S1536 : Shape := ⟨1, ![1536]⟩
abbrev S1536x1 : Shape := ⟨2, ![1536, 1]⟩
abbrev S768x256 : Shape := ⟨2, ![768, 256]⟩
abbrev S1536x256 : Shape := ⟨2, ![1536, 256]⟩
abbrev S1x1536x256 : Shape := ⟨3, ![1, 1536, 256]⟩
abbrev S256x256 : Shape := ⟨2, ![256, 256]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S1x256x256 : Shape := ⟨3, ![1, 256, 256]⟩
abbrev S256x512 : Shape := ⟨2, ![256, 512]⟩
abbrev S512x128 : Shape := ⟨2, ![512, 128]⟩
abbrev S512x256 : Shape := ⟨2, ![512, 256]⟩
abbrev S256x768 : Shape := ⟨2, ![256, 768]⟩
abbrev S1x1 : Shape := ⟨2, ![1, 1]⟩
abbrev S768 : Shape := ⟨1, ![768]⟩
abbrev S768x1 : Shape := ⟨2, ![768, 1]⟩

abbrev nBuf : Space → Nat
  | .hbm => 6
  | .vmem => 13
  | .smem => 2
  | _ => 0

abbrev bufTy : (tb : Table) → Fin (tcTables nBuf tb) → BufTy
  | .hbm, ⟨0, _⟩ => ⟨S8448x6144, .bf16⟩
  | .hbm, ⟨1, _⟩ => ⟨S8448x6144, .bf16⟩
  | .hbm, ⟨2, _⟩ => ⟨S8448x6144, .bf16⟩
  | .hbm, ⟨3, _⟩ => ⟨S8x128, .f32⟩
  | .hbm, ⟨4, _⟩ => ⟨S1x128, .f32⟩
  | .hbm, ⟨5, _⟩ => ⟨S8448x1024, .bf16⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .bf16⟩
  | .local _ .vmem, ⟨6, _⟩ => ⟨S8x128, .f32⟩
  | .local _ .vmem, ⟨7, _⟩ => ⟨S1x128, .f32⟩
  | .local _ .vmem, ⟨8, _⟩ => ⟨S768x1024, .bf16⟩
  | .local _ .vmem, ⟨9, _⟩ => ⟨S768x1024, .bf16⟩
  | .local _ .vmem, ⟨10, _⟩ => ⟨S8x1536x128, .bf16⟩
  | .local _ .vmem, ⟨11, _⟩ => ⟨S8x1536x128, .f32⟩
  | .local _ .vmem, ⟨12, _⟩ => ⟨S8x1536x256, .f32⟩
  | .local _ .smem, ⟨0, _⟩ => ⟨S66, .i32⟩
  | .local _ .smem, ⟨1, _⟩ => ⟨S66, .i32⟩
  | _, _ => ⟨S8448x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![66], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S66) ![v0.toNat] S1.size (k0_off1_inb i)) numel1_S1
  let c3_i32 : BitVec 32 := 3#32
  let c0_i32 : BitVec 32 := 0#32
  ![v1.toNat, c3_i32.toNat]

def cc0_transform_1 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S66) ![v0.toNat] S1.size (k0_off1_inb i)) numel1_S1
  let c4_i32 : BitVec 32 := 4#32
  let c0_i32 : BitVec 32 := 0#32
  ![v1.toNat, c4_i32.toNat]

def cc0_transform_2 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S66) ![v0.toNat] S1.size (k0_off1_inb i)) numel1_S1
  let c5_i32 : BitVec 32 := 5#32
  let c0_i32 : BitVec 32 := 0#32
  ![v1.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S66) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S66 : Shape := ⟨1, ![66]⟩
abbrev S8448x6144 : Shape := ⟨2, ![8448, 6144]⟩
abbrev S8x128 : Shape := ⟨2, ![8, 128]⟩
abbrev S1x128 : Shape := ⟨2, ![1, 128]⟩
abbrev S8448x1024 : Shape := ⟨2, ![8448, 1024]⟩
abbrev S8448x8x128 : Shape := ⟨3, ![8448, 8, 128]⟩
abbrev S128 : Shape := ⟨1, ![128]⟩
abbrev S_ : Shape := ⟨0, ![]⟩
abbrev S8448 : Shape := ⟨1, ![8448]⟩
abbrev S1x8448 : Shape := ⟨2, ![1, 8448]⟩
abbrev S8448x1 : Shape := ⟨2, ![8448, 1]⟩
abbrev S8448x8448 : Shape := ⟨2, ![8448, 8448]⟩
abbrev S8448x8x64 : Shape := ⟨3, ![8448, 8, 64]⟩
abbrev S8x8448x8448 : Shape := ⟨3, ![8, 8448, 8448]⟩
abbrev S8x8448 : Shape := ⟨2, ![8, 8448]⟩
abbrev S8x8448x1 : Shape := ⟨3, ![8, 8448, 1]⟩
abbrev S8x128x8448 : Shape := ⟨3, ![8, 128, 8448]⟩
abbrev S8448x8 : Shape := ⟨2, ![8448, 8]⟩
abbrev S8448x8x1 : Shape := ⟨3, ![8448, 8, 1]⟩
abbrev S1x1x128 : Shape := ⟨3, ![1, 1, 128]⟩

abbrev nBuf : Space → Nat
  | .hbm => 110
  | .vmem => 0
  | .smem => 0
  | _ => 0

abbrev bufTy : (tb : Table) → Fin (tcTables nBuf tb) → BufTy
  | .hbm, ⟨0, _⟩ => ⟨S66, .i32⟩
  | .hbm, ⟨1, _⟩ => ⟨S66, .i32⟩
  | .hbm, ⟨2, _⟩ => ⟨S8448x6144, .bf16⟩
  | .hbm, ⟨3, _⟩ => ⟨S8448x6144, .bf16⟩
  | .hbm, ⟨4, _⟩ => ⟨S8448x6144, .bf16⟩
  | .hbm, ⟨5, _⟩ => ⟨S8x128, .f32⟩
  | .hbm, ⟨6, _⟩ => ⟨S1x128, .f32⟩
  | .hbm, ⟨7, _⟩ => ⟨S8448x1024, .bf16⟩
  | .hbm, ⟨8, _⟩ => ⟨S8448x8x128, .bf16⟩
  | .hbm, ⟨9, _⟩ => ⟨S8448x1024, .bf16⟩
  | .hbm, ⟨10, _⟩ => ⟨S8448x8x128, .bf16⟩
  | .hbm, ⟨11, _⟩ => ⟨S8448x1024, .bf16⟩
  | .hbm, ⟨12, _⟩ => ⟨S8448x8x128, .bf16⟩
  | .hbm, ⟨13, _⟩ => ⟨S1x128, .f32⟩
  | .hbm, ⟨14, _⟩ => ⟨S128, .f32⟩
  | .hbm, ⟨15, _⟩ => ⟨S1x128, .f32⟩
  | .hbm, ⟨16, _⟩ => ⟨S128, .f32⟩
  | .hbm, ⟨17, _⟩ => ⟨S128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x128, .f32⟩
  | .hbm, ⟨22, _⟩ => ⟨S128, .f32⟩
  | .hbm, ⟨23, _⟩ => ⟨S1x128, .f32⟩
  | .hbm, ⟨24, _⟩ => ⟨S128, .f32⟩
  | .hbm, ⟨25, _⟩ => ⟨S128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8448, .i32⟩
  | .hbm, ⟨33, _⟩ => ⟨S1x8448, .i32⟩
  | .hbm, ⟨34, _⟩ => ⟨S8448x1, .i32⟩
  | .hbm, ⟨35, _⟩ => ⟨S8448x8448, .i32⟩
  | .hbm, ⟨36, _⟩ => ⟨S8448x8448, .i32⟩
  | .hbm, ⟨37, _⟩ => ⟨S8448x8448, .i1⟩
  | .hbm, ⟨38, _⟩ => ⟨S8448x8x64, .bf16⟩
  | .hbm, ⟨39, _⟩ => ⟨S8448x8x64, .bf16⟩
  | .hbm, ⟨40, _⟩ => ⟨S8x8448x8448, .f32⟩
  | .hbm, ⟨41, _⟩ => ⟨S_, .f32⟩
  | .hbm, ⟨42, _⟩ => ⟨S_, .f32⟩
  | .hbm, ⟨43, _⟩ => ⟨S8x8448x8448, .i1⟩
  | .hbm, ⟨44, _⟩ => ⟨S8x8448x8448, .f32⟩
  | .hbm, ⟨45, _⟩ => ⟨S8x8448x8448, .f32⟩
  | .hbm, ⟨46, _⟩ => ⟨S_, .f32⟩
  | .hbm, ⟨47, _⟩ => ⟨S8x8448, .f32⟩
  | .hbm, ⟨48, _⟩ => ⟨S_, .f32⟩
  | .hbm, ⟨49, _⟩ => ⟨S8x8448, .f32⟩
  | .hbm, ⟨50, _⟩ => ⟨S8x8448, .f32⟩
  | .hbm, ⟨51, _⟩ => ⟨S8x8448x1, .f32⟩
  | .hbm, ⟨52, _⟩ => ⟨S8x8448x8448, .f32⟩
  | .hbm, ⟨53, _⟩ => ⟨S8x8448x8448, .f32⟩
  | .hbm, ⟨54, _⟩ => ⟨S8x8448x8448, .f32⟩
  | .hbm, ⟨55, _⟩ => ⟨S_, .f32⟩
  | .hbm, ⟨56, _⟩ => ⟨S8x8448, .f32⟩
  | .hbm, ⟨57, _⟩ => ⟨S8x8448x1, .f32⟩
  | .hbm, ⟨58, _⟩ => ⟨S8x8448x8448, .f32⟩
  | .hbm, ⟨59, _⟩ => ⟨S8x8448x8448, .f32⟩
  | .hbm, ⟨60, _⟩ => ⟨S8448x8x64, .bf16⟩
  | .hbm, ⟨61, _⟩ => ⟨S8448x8x64, .bf16⟩
  | .hbm, ⟨62, _⟩ => ⟨S8x8448x8448, .f32⟩
  | .hbm, ⟨63, _⟩ => ⟨S_, .f32⟩
  | .hbm, ⟨64, _⟩ => ⟨S_, .f32⟩
  | .hbm, ⟨65, _⟩ => ⟨S8x8448x8448, .i1⟩
  | .hbm, ⟨66, _⟩ => ⟨S8x8448x8448, .f32⟩
  | .hbm, ⟨67, _⟩ => ⟨S8x8448x8448, .f32⟩
  | .hbm, ⟨68, _⟩ => ⟨S_, .f32⟩
  | .hbm, ⟨69, _⟩ => ⟨S8x8448, .f32⟩
  | .hbm, ⟨70, _⟩ => ⟨S_, .f32⟩
  | .hbm, ⟨71, _⟩ => ⟨S8x8448, .f32⟩
  | .hbm, ⟨72, _⟩ => ⟨S8x8448, .f32⟩
  | .hbm, ⟨73, _⟩ => ⟨S8x8448x1, .f32⟩
  | .hbm, ⟨74, _⟩ => ⟨S8x8448x8448, .f32⟩
  | .hbm, ⟨75, _⟩ => ⟨S8x8448x8448, .f32⟩
  | .hbm, ⟨76, _⟩ => ⟨S8x8448x8448, .f32⟩
  | .hbm, ⟨77, _⟩ => ⟨S_, .f32⟩
  | .hbm, ⟨78, _⟩ => ⟨S8x8448, .f32⟩
  | .hbm, ⟨79, _⟩ => ⟨S8x8448x1, .f32⟩
  | .hbm, ⟨80, _⟩ => ⟨S8x8448x8448, .f32⟩
  | .hbm, ⟨81, _⟩ => ⟨S8x8448x8448, .f32⟩
  | .hbm, ⟨82, _⟩ => ⟨S8x8448x8448, .f32⟩
  | .hbm, ⟨83, _⟩ => ⟨S8x8448x8448, .f32⟩
  | .hbm, ⟨84, _⟩ => ⟨S8x8448x8448, .f32⟩
  | .hbm, ⟨85, _⟩ => ⟨S8x8448x8448, .bf16⟩
  | .hbm, ⟨86, _⟩ => ⟨S8x128x8448, .f32⟩
  | .hbm, ⟨87, _⟩ => ⟨S8448x8x128, .f32⟩
  | .hbm, ⟨88, _⟩ => ⟨S8448x8x128, .f32⟩
  | .hbm, ⟨89, _⟩ => ⟨S_, .f32⟩
  | .hbm, ⟨90, _⟩ => ⟨S8448x8, .f32⟩
  | .hbm, ⟨91, _⟩ => ⟨S8448x8x1, .f32⟩
  | .hbm, ⟨92, _⟩ => ⟨S_, .f32⟩
  | .hbm, ⟨93, _⟩ => ⟨S8448x8x1, .f32⟩
  | .hbm, ⟨94, _⟩ => ⟨S8448x8x1, .f32⟩
  | .hbm, ⟨95, _⟩ => ⟨S_, .f32⟩
  | .hbm, ⟨96, _⟩ => ⟨S8448x8x1, .f32⟩
  | .hbm, ⟨97, _⟩ => ⟨S8448x8x1, .f32⟩
  | .hbm, ⟨98, _⟩ => ⟨S8448x8x1, .f32⟩
  | .hbm, ⟨99, _⟩ => ⟨S8448x8x128, .f32⟩
  | .hbm, ⟨100, _⟩ => ⟨S8448x8x128, .f32⟩
  | .hbm, ⟨101, _⟩ => ⟨S128, .f32⟩
  | .hbm, ⟨102, _⟩ => ⟨S1x1x128, .f32⟩
  | .hbm, ⟨103, _⟩ => ⟨S8448x8x128, .f32⟩
  | .hbm, ⟨104, _⟩ => ⟨S8448x8x128, .f32⟩
  | .hbm, ⟨105, _⟩ => ⟨S_, .f32⟩
  | .hbm, ⟨106, _⟩ => ⟨S8448x8x128, .f32⟩
  | .hbm, ⟨107, _⟩ => ⟨S8448x8x128, .f32⟩
  | .hbm, ⟨108, _⟩ => ⟨S8448x8x128, .bf16⟩
  | .hbm, ⟨109, _⟩ => ⟨S8448x1024, .bf16⟩
  | _, _ => ⟨S66, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_10 : Ref sig .tc := ⟨.hbm, 89, rfl⟩
abbrev main_v65 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_v68 : Ref sig .tc := ⟨.hbm, 94, rfl⟩
abbrev main_cst_12 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_13 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩

abbrev nD : Nat := 1
abbrev τ : Topo := Topo.v7x

variable {F : FTy → Type} [FloatOps F]
-- ==== Kernel2.lean ====
abbrev S8448x2048 : Shape := ⟨2, ![8448, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S2048x8192 : Shape := ⟨2, ![2048, 8192]⟩
abbrev S8192x2048 : Shape := ⟨2, ![8192, 2048]⟩
abbrev S2048 : Shape := ⟨1, ![2048]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S8448x2048, .f32⟩
  | .hbm, ⟨1, _⟩ => ⟨S1x2048x8192, .f32⟩
  | .hbm, ⟨2, _⟩ => ⟨S1x8192x2048, .f32⟩
  | .hbm, ⟨3, _⟩ => ⟨S1x2048, .f32⟩
  | .hbm, ⟨4, _⟩ => ⟨S1x2048, .f32⟩
  | .hbm, ⟨5, _⟩ => ⟨S2048x8192, .f32⟩
  | .hbm, ⟨6, _⟩ => ⟨S2048x8192, .bf16⟩
  | .hbm, ⟨7, _⟩ => ⟨S8192x2048, .f32⟩
  | .hbm, ⟨8, _⟩ => ⟨S8192x2048, .bf16⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let c16_i32 : BitVec 32 := 16#32
  let arg0 : BitVec 32 := BitVec.ofNat 32 (i 0).val
  let c512_i32 : BitVec 32 := 512#32
  let v0 : BitVec 32 := Scalar.muli arg0 c512_i32
  let v1 : BitVec 32 := Scalar.addi c16_i32 v0
  v1
def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c16_i32 : BitVec 32 := 16#32
  let v1 : BitVec 32 := Scalar.addi c16_i32 v0
  let v2 : BitVec 32 := v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8448x2048 : Shape := ⟨2, ![8448, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 49
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S1x2048x8192, .f32⟩
  | .hbm, ⟨2, _⟩ => ⟨S1x8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S2048x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S1x2048, .f32⟩
  | .hbm, ⟨47, _⟩ => ⟨S8192x2048, .f32⟩
  | .hbm, ⟨48, _⟩ => ⟨S8192x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel3.lean ====
abbrev S32x2048 : Shape := ⟨2, ![32, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S2048x8192 : Shape := ⟨2, ![2048, 8192]⟩
abbrev S8192x2048 : Shape := ⟨2, ![8192, 2048]⟩
abbrev S2048 : Shape := ⟨1, ![2048]⟩
abbrev S2048x1024 : Shape := ⟨2, ![2048, 1024]⟩
abbrev S1024x2048 : Shape := ⟨2, ![1024, 2048]⟩
abbrev S32x1024 : Shape := ⟨2, ![32, 1024]⟩
abbrev S32 : Shape := ⟨1, ![32]⟩
abbrev S32x1 : Shape := ⟨2, ![32, 1]⟩

abbrev nBuf : Space → Nat
  | .hbm => 14
  | .vmem => 10
  | .smem => 0
  | _ => 0

abbrev bufTy : (tb : Table) → Fin (tcTables nBuf tb) → BufTy
  | .hbm, ⟨0, _⟩ => ⟨S32x2048, .f32⟩
  | .hbm, ⟨1, _⟩ => ⟨S1x2048x8192, .f32⟩
  | .hbm, ⟨2, _⟩ => ⟨S1x8192x2048, .f32⟩
  | .hbm, ⟨3, _⟩ => ⟨S1x2048, .f32⟩
  | .hbm, ⟨4, _⟩ => ⟨S1x2048, .f32⟩
  | .hbm, ⟨5, _⟩ => ⟨S2048x8192, .f32⟩
  | .hbm, ⟨6, _⟩ => ⟨S2048x8192, .bf16⟩
  | .hbm, ⟨7, _⟩ => ⟨S8192x2048, .f32⟩
  | .hbm, ⟨8, _⟩ => ⟨S8192x2048, .bf16⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S32x2048, .f32⟩
  | .local _ .vmem, ⟨0, _⟩ => ⟨S32x2048, .f32⟩
  | .local _ .vmem, ⟨1, _⟩ => ⟨S2048x1024, .bf16⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | .local _ .vmem, ⟨5, _⟩ => ⟨S1x2048, .f32⟩
  | .local _ .vmem, ⟨6, _⟩ => ⟨S1x2048, .f32⟩
  | .local _ .vmem, ⟨7, _⟩ => ⟨S32x2048, .f32⟩
  | .local _ .vmem, ⟨8, _⟩ => ⟨S32x2048, .bf16⟩
  | .local _ .vmem, ⟨9, _⟩ => ⟨S32x2048, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 8], ![false, false]⟩

def k0_mult1 (i : grid0.Coords) : BitVec 32 :=
  let c0_i32 : BitVec 32 := 0#32
  let arg0 : BitVec 32 := BitVec.ofNat 32 (i 0).val
  let c32_i32 : BitVec 32 := 32#32
  let v0 : BitVec 32 := Scalar.muli arg0 c32_i32
  let v1 : BitVec 32 := Scalar.addi c0_i32 v0
  v1
def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference3Ideal.lean ====
abbrev S32x2048 : Shape := ⟨2, ![32, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S2048x8192 : Shape := ⟨2, ![2048, 8192]⟩
abbrev S32x8192 : Shape := ⟨2, ![32, 8192]⟩
abbrev S_ : Shape := ⟨0, ![]⟩
abbrev S8192x2048 : Shape := ⟨2, ![8192, 2048]⟩
abbrev S2048 : Shape := ⟨1, ![2048]⟩
abbrev S32 : Shape := ⟨1, ![32]⟩
abbrev S32x1 : Shape := ⟨2, ![32, 1]⟩

abbrev nBuf : Space → Nat
  | .hbm => 48
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S1x2048x8192, .f32⟩
  | .hbm, ⟨2, _⟩ => ⟨S1x8192x2048, .f32⟩
  | .hbm, ⟨3, _⟩ => ⟨S1x2048, .f32⟩
  | .hbm, ⟨4, _⟩ => ⟨S1x2048, .f32⟩
  | .hbm, ⟨5, _⟩ => ⟨S2048x8192, .f32⟩
  | .hbm, ⟨6, _⟩ => ⟨S32x8192, .f32⟩
  | .hbm, ⟨7, _⟩ => ⟨S_, .f32⟩
  | .hbm, ⟨8, _⟩ => ⟨S32x8192, .f32⟩
  | .hbm, ⟨9, _⟩ => ⟨S32x8192, .f32⟩
  | .hbm, ⟨10, _⟩ => ⟨S32x8192, .f32⟩
  | .hbm, ⟨11, _⟩ => ⟨S_, .f32⟩
  | .hbm, ⟨12, _⟩ => ⟨S32x2048, .f32⟩
  | .hbm, ⟨13, _⟩ => ⟨S32x2048, .f32⟩
  | .hbm, ⟨14, _⟩ => ⟨S8192x2048, .f32⟩
  | .hbm, ⟨15, _⟩ => ⟨S32x2048, .f32⟩
  | .hbm, ⟨16, _⟩ => ⟨S32x2048, .f32⟩
  | .hbm, ⟨17, _⟩ => ⟨S2048, .f32⟩
  | .hbm, ⟨18, _⟩ => ⟨S2048, .f32⟩
  | .hbm, ⟨19, _⟩ => ⟨S_, .f32⟩
  | .hbm, ⟨20, _⟩ => ⟨S32, .f32⟩
  | .hbm, ⟨21, _⟩ => ⟨S32x1, .f32⟩
  | .hbm, ⟨22, _⟩ => ⟨S_, .f32⟩
  | .hbm, ⟨23, _⟩ => ⟨S32x1, .f32⟩
  | .hbm, ⟨24, _⟩ => ⟨S32x1, .f32⟩
  | .hbm, ⟨25, _⟩ => ⟨S32x2048, .f32⟩
  | .hbm, ⟨26, _⟩ => ⟨S32x2048, .f32⟩
  | .hbm, ⟨27, _⟩ => ⟨S32x2048, .f32⟩
  | .hbm, ⟨28, _⟩ => ⟨S_, .f32⟩
  | .hbm, ⟨29, _⟩ => ⟨S32, .f32⟩
  | .hbm, ⟨30, _⟩ => ⟨S32x1, .f32⟩
  | .hbm, ⟨31, _⟩ => ⟨S_, .f32⟩
  | .hbm, ⟨32, _⟩ => ⟨S32x1, .f32⟩
  | .hbm, ⟨33, _⟩ => ⟨S32x1, .f32⟩
  | .hbm, ⟨34, _⟩ => ⟨S32x2048, .f32⟩
  | .hbm, ⟨35, _⟩ => ⟨S32x2048, .f32⟩
  | .hbm, ⟨36, _⟩ => ⟨S_, .f32⟩
  | .hbm, ⟨37, _⟩ => ⟨S32x1, .f32⟩
  | .hbm, ⟨38, _⟩ => ⟨S32x1, .f32⟩
  | .hbm, ⟨39, _⟩ => ⟨S32x1, .f32⟩
  | .hbm, ⟨40, _⟩ => ⟨S32x2048, .f32⟩
  | .hbm, ⟨41, _⟩ => ⟨S32x2048, .f32⟩
  | .hbm, ⟨42, _⟩ => ⟨S1x2048, .f32⟩
  | .hbm, ⟨43, _⟩ => ⟨S32x2048, .f32⟩
  | .hbm, ⟨44, _⟩ => ⟨S32x2048, .f32⟩
  | .hbm, ⟨45, _⟩ => ⟨S1x2048, .f32⟩
  | .hbm, ⟨46, _⟩ => ⟨S32x2048, .f32⟩
  | .hbm, ⟨47, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel4.lean ====
abbrev S1x8192x2048 : Shape := ⟨3, ![1, 8192, 2048]⟩
abbrev S16x2048 : Shape := ⟨2, ![16, 2048]⟩
abbrev S32x1x2048 : Shape := ⟨3, ![32, 1, 2048]⟩
abbrev S8448x1024 : Shape := ⟨2, ![8448, 1024]⟩
abbrev S32x8x128 : Shape := ⟨3, ![32, 8, 128]⟩
abbrev S1x2048x2048 : Shape := ⟨3, ![1, 2048, 2048]⟩
abbrev S2048 : Shape := ⟨1, ![2048]⟩
abbrev S1x2048 : Shape := ⟨2, ![1, 2048]⟩
abbrev S2048x2048 : Shape := ⟨2, ![2048, 2048]⟩
abbrev S8192x2048 : Shape := ⟨2, ![8192, 2048]⟩
abbrev S32x2048 : Shape := ⟨2, ![32, 2048]⟩
abbrev S32x1024 : Shape := ⟨2, ![32, 1024]⟩
abbrev S1024x2048 : Shape := ⟨2, ![1024, 2048]⟩
abbrev S8448x2048 : Shape := ⟨2, ![8448, 2048]⟩
abbrev S384x2048 : Shape := ⟨2, ![384, 2048]⟩
abbrev S384x1024 : Shape := ⟨2, ![384, 1024]⟩
abbrev S368x2048 : Shape := ⟨2, ![368, 2048]⟩
abbrev S384 : Shape := ⟨1, ![384]⟩
abbrev S384x1 : Shape := ⟨2, ![384, 1]⟩
abbrev S144x2048 : Shape := ⟨2, ![144, 2048]⟩
abbrev S192x2048 : Shape := ⟨2, ![192, 2048]⟩
abbrev S32 : Shape := ⟨1, ![32]⟩
abbrev S32x1 : Shape := ⟨2, ![32, 1]⟩

abbrev nBuf : Space → Nat
  | .hbm => 30
  | .vmem => 19
  | .smem => 0
  | _ => 0

abbrev bufTy : (tb : Table) → Fin (tcTables nBuf tb) → BufTy
  | .hbm, ⟨0, _⟩ => ⟨S1x8192x2048, .f32⟩
  | .hbm, ⟨1, _⟩ => ⟨S16x2048, .f32⟩
  | .hbm, ⟨2, _⟩ => ⟨S32x1x2048, .f32⟩
  | .hbm, ⟨3, _⟩ => ⟨S8448x1024, .bf16⟩
  | .hbm, ⟨4, _⟩ => ⟨S8448x1024, .bf16⟩
  | .hbm, ⟨5, _⟩ => ⟨S32x8x128, .f32⟩
  | .hbm, ⟨6, _⟩ => ⟨S32x8x128, .f32⟩
  | .hbm, ⟨7, _⟩ => ⟨S1x2048x2048, .f32⟩
  | .hbm, ⟨8, _⟩ => ⟨S2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S2048x2048, .f32⟩
  | .hbm, ⟨13, _⟩ => ⟨S2048x2048, .bf16⟩
  | .hbm, ⟨14, _⟩ => ⟨S8192x2048, .f32⟩
  | .hbm, ⟨15, _⟩ => ⟨S32x2048, .f32⟩
  | .hbm, ⟨16, _⟩ => ⟨S32x1024, .f32⟩
  | .hbm, ⟨17, _⟩ => ⟨S32x1024, .bf16⟩
  | .hbm, ⟨18, _⟩ => ⟨S32x1024, .f32⟩
  | .hbm, ⟨19, _⟩ => ⟨S32x1024, .bf16⟩
  | .hbm, ⟨20, _⟩ => ⟨S1024x2048, .bf16⟩
  | .hbm, ⟨21, _⟩ => ⟨S1024x2048, .bf16⟩
  | .hbm, ⟨22, _⟩ => ⟨S1x2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S8448x2048, .f32⟩
  | .hbm, ⟨29, _⟩ => ⟨S32x2048, .f32⟩
  | .local _ .vmem, ⟨0, _⟩ => ⟨S384x2048, .f32⟩
  | .local _ .vmem, ⟨1, _⟩ => ⟨S384x2048, .f32⟩
  | .local _ .vmem, ⟨2, _⟩ => ⟨S16x2048, .f32⟩
  | .local _ .vmem, ⟨3, _⟩ => ⟨S32x2048, .f32⟩
  | .local _ .vmem, ⟨4, _⟩ => ⟨S384x1024, .bf16⟩
  | .local _ .vmem, ⟨5, _⟩ => ⟨S384x1024, .bf16⟩
  | .local _ .vmem, ⟨6, _⟩ => ⟨S384x1024, .bf16⟩
  | .local _ .vmem, ⟨7, _⟩ => ⟨S384x1024, .bf16⟩
  | .local _ .vmem, ⟨8, _⟩ => ⟨S32x1024, .bf16⟩
  | .local _ .vmem, ⟨9, _⟩ => ⟨S32x1024, .bf16⟩
  | .local _ .vmem, ⟨10, _⟩ => ⟨S1024x2048, .bf16⟩
  | .local _ .vmem, ⟨11, _⟩ => ⟨S1024x2048, .bf16⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S384x2048, .f32⟩
  | .local _ .vmem, ⟨17, _⟩ => ⟨S384x2048, .f32⟩
  | .local _ .vmem, ⟨18, _⟩ => ⟨S32x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18

abbrev nD : Nat := 1
abbrev τ : Topo := Topo.v7x

variable {F : FTy → Type} [FloatOps F]

abbrev grid0 : Pipeline.Grid := ⟨1, ![22], ![false]⟩

def k0_mult1 (i : grid0.Coords) : BitVec 32 :=
  let c7808_i32 : BitVec 32 := 7808#32
  let c0_i32 : BitVec 32 := 0#32
  let arg0 : BitVec 32 := BitVec.ofNat 32 (i 0).val
  let c384_i32 : BitVec 32 := 384#32
  let v0 : BitVec 32 := Scalar.muli arg0 c384_i32
  let c16_i32 : BitVec 32 := 16#32
  let v1 : BitVec 32 := Scalar.subi v0 c16_i32
  let v2 : BitVec 32 := Scalar.maxsi c0_i32 v1
  let v3 : BitVec 32 := Scalar.minsi c7808_i32 v2
  v3
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c21_i32 : BitVec 32 := 21#32
  let v4 : BitVec 1 := Scalar.cmpi .slt arg0 c21_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c21_i32_3 : BitVec 32 := 21#32
  let v8 : BitVec 1 := Scalar.cmpi .eq arg0 c21_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c384_i32 : BitVec 32 := 384#32
  let v0 : BitVec 32 := Scalar.muli arg0 c384_i32
  let c16_i32 : BitVec 32 := 16#32
  let v1 : BitVec 32 := Scalar.subi v0 c16_i32
  let c0_i32 : BitVec 32 := 0#32
  let c7808_i32 : BitVec 32 := 7808#32
  let v2 : BitVec 32 := Scalar.maxsi c0_i32 v1
  let v3 : BitVec 32 := Scalar.minsi c7808_i32 v2
  let v4 : BitVec 32 := v3
  let c0_i32_0 : BitVec 32 := 0#32
  let c0_i32_1 : BitVec 32 := 0#32
  ![v4.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S384x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S32x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference4Ideal.lean ====
abbrev S1x8192x2048 : Shape := ⟨3, ![1, 8192, 2048]⟩
abbrev S16x2048 : Shape := ⟨2, ![16, 2048]⟩
abbrev S32x1x2048 : Shape := ⟨3, ![32, 1, 2048]⟩
abbrev S8448x1024 : Shape := ⟨2, ![8448, 1024]⟩
abbrev S32x8x128 : Shape := ⟨3, ![32, 8, 128]⟩
abbrev S1x2048x2048 : Shape := ⟨3, ![1, 2048, 2048]⟩
abbrev S2048 : Shape := ⟨1, ![2048]⟩
abbrev S1x2048 : Shape := ⟨2, ![1, 2048]⟩
abbrev S32x2048 : Shape := ⟨2, ![32, 2048]⟩
abbrev S8192x2048 : Shape := ⟨2, ![8192, 2048]⟩
abbrev S_ : Shape := ⟨0, ![]⟩
abbrev S192x2048 : Shape := ⟨2, ![192, 2048]⟩
abbrev S8448x2048 : Shape := ⟨2, ![8448, 2048]⟩
abbrev S8448 : Shape := ⟨1, ![8448]⟩
abbrev S8448x1 : Shape := ⟨2, ![8448, 1]⟩
abbrev S2048x2048 : Shape := ⟨2, ![2048, 2048]⟩
abbrev S32x1024 : Shape := ⟨2, ![32, 1024]⟩
abbrev S32 : Shape := ⟨1, ![32]⟩
abbrev S32x1 : Shape := ⟨2, ![32, 1]⟩

abbrev nBuf : Space → Nat
  | .hbm => 156
  | .vmem => 0
  | .smem => 0
  | _ => 0

abbrev hbmTy0_0 (i : Nat) : BufTy := match i % 128 with
  | 0 => ⟨S1x8192x2048, .f32⟩
  | 1 => ⟨S16x2048, .f32⟩
  | 2 => ⟨S32x1x2048, .f32⟩
  | 3 => ⟨S8448x1024, .bf16⟩
  | 4 => ⟨S8448x1024, .bf16⟩
  | 5 => ⟨S32x8x128, .f32⟩
  | 6 => ⟨S32x8x128, .f32⟩
  | 7 => ⟨S1x2048x2048, .f32⟩
  | 8 => ⟨S2048, .f32⟩
  | 9 => ⟨S2048, .f32⟩
  | 10 => ⟨S1x2048, .f32⟩
  | 11 => ⟨S1x2048, .f32⟩
  | 12 => ⟨S32x2048, .f32⟩
  | 13 => ⟨S8192x2048, .f32⟩
  | 14 => ⟨S_, .f32⟩
  | 15 => ⟨S16x2048, .f32⟩
  | 16 => ⟨S_, .f32⟩
  | 17 => ⟨S192x2048, .f32⟩
  | 18 => ⟨S8448x2048, .f32⟩
  | 19 => ⟨S8448x2048, .bf16⟩
  | 20 => ⟨S8448x2048, .f32⟩
  | 21 => ⟨S_, .f32⟩
  | 22 => ⟨S8448, .f32⟩
  | 23 => ⟨S8448x1, .f32⟩
  | 24 => ⟨S_, .f32⟩
  | 25 => ⟨S8448x1, .f32⟩
  | 26 => ⟨S8448x1, .f32⟩
  | 27 => ⟨S8448x2048, .f32⟩
  | 28 => ⟨S8448x2048, .f32⟩
  | 29 => ⟨S8448x2048, .f32⟩
  | 30 => ⟨S_, .f32⟩
  | 31 => ⟨S8448, .f32⟩
  | 32 => ⟨S8448x1, .f32⟩
  | 33 => ⟨S_, .f32⟩
  | 34 => ⟨S8448x1, .f32⟩
  | 35 => ⟨S8448x1, .f32⟩
  | 36 => ⟨S8448x2048, .f32⟩
  | 37 => ⟨S8448x2048, .f32⟩
  | 38 => ⟨S_, .f32⟩
  | 39 => ⟨S8448x1, .f32⟩
  | 40 => ⟨S8448x1, .f32⟩
  | 41 => ⟨S8448x1, .f32⟩
  | 42 => ⟨S8448x2048, .f32⟩
  | 43 => ⟨S8448x2048, .f32⟩
  | 44 => ⟨S1x2048, .f32⟩
  | 45 => ⟨S8448x2048, .f32⟩
  | 46 => ⟨S8448x2048, .f32⟩
  | 47 => ⟨S1x2048, .f32⟩
  | 48 => ⟨S8448x2048, .f32⟩
  | 49 => ⟨S8448x2048, .f32⟩
  | 50 => ⟨S_, .f32⟩
  | 51 => ⟨S8448x2048, .f32⟩
  | 52 => ⟨S8448x2048, .f32⟩
  | 53 => ⟨S2048x2048, .f32⟩
  | 54 => ⟨S8448x2048, .f32⟩
  | 55 => ⟨S8448x2048, .f32⟩
  | 56 => ⟨S2048, .f32⟩
  | 57 => ⟨S2048, .f32⟩
  | 58 => ⟨S_, .f32⟩
  | 59 => ⟨S8448, .f32⟩
  | 60 => ⟨S8448x1, .f32⟩
  | 61 => ⟨S_, .f32⟩
  | 62 => ⟨S8448x1, .f32⟩
  | 63 => ⟨S8448x1, .f32⟩
  | 64 => ⟨S8448x2048, .f32⟩
  | 65 => ⟨S8448x2048, .f32⟩
  | 66 => ⟨S8448x2048, .f32⟩
  | 67 => ⟨S_, .f32⟩
  | 68 => ⟨S8448, .f32⟩
  | 69 => ⟨S8448x1, .f32⟩
  | 70 => ⟨S_, .f32⟩
  | 71 => ⟨S8448x1, .f32⟩
  | 72 => ⟨S8448x1, .f32⟩
  | 73 => ⟨S8448x2048, .f32⟩
  | 74 => ⟨S8448x2048, .f32⟩
  | 75 => ⟨S_, .f32⟩
  | 76 => ⟨S8448x1, .f32⟩
  | 77 => ⟨S8448x1, .f32⟩
  | 78 => ⟨S8448x1, .f32⟩
  | 79 => ⟨S8448x2048, .f32⟩
  | 80 => ⟨S8448x2048, .f32⟩
  | 81 => ⟨S1x2048, .f32⟩
  | 82 => ⟨S8448x2048, .f32⟩
  | 83 => ⟨S8448x2048, .f32⟩
  | 84 => ⟨S1x2048, .f32⟩
  | 85 => ⟨S8448x2048, .f32⟩
  | 86 => ⟨S8448x2048, .f32⟩
  | 87 => ⟨S32x1024, .f32⟩
  | 88 => ⟨S32x1024, .f32⟩
  | 89 => ⟨S32x2048, .f32⟩
  | 90 => ⟨S_, .f32⟩
  | 91 => ⟨S32, .f32⟩
  | 92 => ⟨S32x1, .f32⟩
  | 93 => ⟨S_, .f32⟩
  | 94 => ⟨S32x1, .f32⟩
  | 95 => ⟨S32x1, .f32⟩
  | 96 => ⟨S32x2048, .f32⟩
  | 97 => ⟨S32x2048, .f32⟩
  | 98 => ⟨S32x2048, .f32⟩
  | 99 => ⟨S_, .f32⟩
  | 100 => ⟨S32, .f32⟩
  | 101 => ⟨S32x1, .f32⟩
  | 102 => ⟨S_, .f32⟩
  | 103 => ⟨S32x1, .f32⟩
  | 104 => ⟨S32x1, .f32⟩
  | 105 => ⟨S32x2048, .f32⟩
  | 106 => ⟨S32x2048, .f32⟩
  | 107 => ⟨S_, .f32⟩
  | 108 => ⟨S32x1, .f32⟩
  | 109 => ⟨S32x1, .f32⟩
  | 110 => ⟨S32x1, .f32⟩
  | 111 => ⟨S32x2048, .f32⟩
  | 112 => ⟨S32x2048, .f32⟩
  | 113 => ⟨S1x2048, .f32⟩
  | 114 => ⟨S32x2048, .f32⟩
  | 115 => ⟨S32x2048, .f32⟩
  | 116 => ⟨S1x2048, .f32⟩
  | 117 => ⟨S32x2048, .f32⟩
  | 118 => ⟨S32x2048, .f32⟩
  | 119 => ⟨S_, .f32⟩
  | 120 => ⟨S32x2048, .f32⟩
  | 121 => ⟨S32x2048, .f32⟩
  | 122 => ⟨S2048x2048, .f32⟩
  | 123 => ⟨S32x2048, .f32⟩
  | 124 => ⟨S32x2048, .f32⟩
  | 125 => ⟨S2048, .f32⟩
  | 126 => ⟨S2048, .f32⟩
  | 127 => ⟨S_, .f32⟩
  | _ => ⟨S1x8192x2048, .f32⟩

abbrev hbmTy0_1 (i : Nat) : BufTy := match i % 128 with
  | 0 => ⟨S32, .f32⟩
  | 1 => ⟨S32x1, .f32⟩
  | 2 => ⟨S_, .f32⟩
  | 3 => ⟨S32x1, .f32⟩
  | 4 => ⟨S32x1, .f32⟩
  | 5 => ⟨S32x2048, .f32⟩
  | 6 => ⟨S32x2048, .f32⟩
  | 7 => ⟨S32x2048, .f32⟩
  | 8 => ⟨S_, .f32⟩
  | 9 => ⟨S32, .f32⟩
  | 10 => ⟨S32x1, .f32⟩
  | 11 => ⟨S_, .f32⟩
  | 12 => ⟨S32x1, .f32⟩
  | 13 => ⟨S32x1, .f32⟩
  | 14 => ⟨S32x2048, .f32⟩
  | 15 => ⟨S32x2048, .f32⟩
  | 16 => ⟨S_, .f32⟩
  | 17 => ⟨S32x1, .f32⟩
  | 18 => ⟨S32x1, .f32⟩
  | 19 => ⟨S32x1, .f32⟩
  | 20 => ⟨S32x2048, .f32⟩
  | 21 => ⟨S32x2048, .f32⟩
  | 22 => ⟨S1x2048, .f32⟩
  | 23 => ⟨S32x2048, .f32⟩
  | 24 => ⟨S32x2048, .f32⟩
  | 25 => ⟨S1x2048, .f32⟩
  | 26 => ⟨S32x2048, .f32⟩
  | 27 => ⟨S32x2048, .f32⟩
  | _ => ⟨S1x8192x2048, .f32⟩

abbrev hbmTy (i : Nat) : BufTy := match i / 128 with
  | 0 => hbmTy0_0 i
  | 1 => hbmTy0_1 i
  | _ => ⟨S1x8192x2048, .f32⟩

abbrev bufTy : (tb : Table) → Fin (tcTables nBuf tb) → BufTy
  | .hbm, ⟨i, _⟩ => hbmTy i
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_17 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_18 : Ref sig .tc := ⟨.hbm, 127, rfl⟩
abbrev main_v96 : Ref sig .tc := ⟨.hbm, 128, rfl⟩
abbrev main_v97 : Ref sig .tc := ⟨.hbm, 129, rfl⟩
abbrev main_cst_19 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_20 : Ref sig .tc := ⟨.hbm, 136, rfl⟩
abbrev main_v103 : Ref sig .tc := ⟨.hbm, 137, rfl⟩
abbrev main_v104 : Ref sig .tc := ⟨.hbm, 138, rfl⟩
abbrev main_cst_21 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_22 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩

abbrev nD : Nat := 1
abbrev τ : Topo := Topo.v7x

variable {F : FTy → Type} [FloatOps F]
-- ==== Kernel5.lean ====
abbrev S1x8192x2048 : Shape := ⟨3, ![1, 8192, 2048]⟩
abbrev S32x1x2048 : Shape := ⟨3, ![32, 1, 2048]⟩
abbrev S16x2048 : Shape := ⟨2, ![16, 2048]⟩
abbrev S2048 : Shape := ⟨1, ![2048]⟩
abbrev S1x2048x6152 : Shape := ⟨3, ![1, 2048, 6152]⟩
abbrev S1x8 : Shape := ⟨2, ![1, 8]⟩
abbrev S128 : Shape := ⟨1, ![128]⟩
abbrev S1x128 : Shape := ⟨2, ![1, 128]⟩
abbrev S2048x6152 : Shape := ⟨2, ![2048, 6152]⟩
abbrev S2048x8 : Shape := ⟨2, ![2048, 8]⟩
abbrev S_ : Shape := ⟨0, ![]⟩
abbrev S128x1 : Shape := ⟨2, ![128, 1]⟩
abbrev S2048x128 : Shape := ⟨2, ![2048, 128]⟩
abbrev S8 : Shape := ⟨1, ![8]⟩
abbrev S8192x2048 : Shape := ⟨2, ![8192, 2048]⟩
abbrev S32x2048 : Shape := ⟨2, ![32, 2048]⟩
abbrev S1x2048 : Shape := ⟨2, ![1, 2048]⟩
abbrev S8448x2048 : Shape := ⟨2, ![8448, 2048]⟩
abbrev S8448x128 : Shape := ⟨2, ![8448, 128]⟩
abbrev S8448x8 : Shape := ⟨2, ![8448, 8]⟩
abbrev S384x2048 : Shape := ⟨2, ![384, 2048]⟩
abbrev S384x128 : Shape := ⟨2, ![384, 128]⟩
abbrev S384x8 : Shape := ⟨2, ![384, 8]⟩
abbrev S8x128 : Shape := ⟨2, ![8, 128]⟩
abbrev S368x2048 : Shape := ⟨2, ![368, 2048]⟩
abbrev S384 : Shape := ⟨1, ![384]⟩
abbrev S384x1 : Shape := ⟨2, ![384, 1]⟩
abbrev S384x384 : Shape := ⟨2, ![384, 384]⟩
abbrev S144x2048 : Shape := ⟨2, ![144, 2048]⟩
abbrev S192x2048 : Shape := ⟨2, ![192, 2048]⟩

abbrev nBuf : Space → Nat
  | .hbm => 48
  | .vmem => 18
  | .smem => 0
  | _ => 0

abbrev bufTy : (tb : Table) → Fin (tcTables nBuf tb) → BufTy
  | .hbm, ⟨0, _⟩ => ⟨S1x8192x2048, .f32⟩
  | .hbm, ⟨1, _⟩ => ⟨S32x1x2048, .f32⟩
  | .hbm, ⟨2, _⟩ => ⟨S16x2048, .f32⟩
  | .hbm, ⟨3, _⟩ => ⟨S2048, .f32⟩
  | .hbm, ⟨4, _⟩ => ⟨S2048, .f32⟩
  | .hbm, ⟨5, _⟩ => ⟨S1x2048x6152, .f32⟩
  | .hbm, ⟨6, _⟩ => ⟨S1x8, .f32⟩
  | .hbm, ⟨7, _⟩ => ⟨S128, .i32⟩
  | .hbm, ⟨8, _⟩ => ⟨S128, .i1⟩
  | .hbm, ⟨9, _⟩ => ⟨S128, .i1⟩
  | .hbm, ⟨10, _⟩ => ⟨S1x128, .i1⟩
  | .hbm, ⟨11, _⟩ => ⟨S128, .i1⟩
  | .hbm, ⟨12, _⟩ => ⟨S128, .i1⟩
  | .hbm, ⟨13, _⟩ => ⟨S1x128, .i32⟩
  | .hbm, ⟨14, _⟩ => ⟨S2048x6152, .f32⟩
  | .hbm, ⟨15, _⟩ => ⟨S2048x8, .f32⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S128x1, .i32⟩
  | .hbm, ⟨21, _⟩ => ⟨S2048x128, .f32⟩
  | .hbm, ⟨22, _⟩ => ⟨S_, .f32⟩
  | .hbm, ⟨23, _⟩ => ⟨S_, .f32⟩
  | .hbm, ⟨24, _⟩ => ⟨S2048x128, .i1⟩
  | .hbm, ⟨25, _⟩ => ⟨S2048x128, .f32⟩
  | .hbm, ⟨26, _⟩ => ⟨S2048x128, .f32⟩
  | .hbm, ⟨27, _⟩ => ⟨S2048x128, .bf16⟩
  | .hbm, ⟨28, _⟩ => ⟨S8, .f32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S128x1, .i32⟩
  | .hbm, ⟨34, _⟩ => ⟨S128, .f32⟩
  | .hbm, ⟨35, _⟩ => ⟨S_, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S1x128, .f32⟩
  | .hbm, ⟨40, _⟩ => ⟨S8192x2048, .f32⟩
  | .hbm, ⟨41, _⟩ => ⟨S32x2048, .f32⟩
  | .hbm, ⟨42, _⟩ => ⟨S1x2048, .f32⟩
  | .hbm, ⟨43, _⟩ => ⟨S1x2048, .f32⟩
  | .hbm, ⟨44, _⟩ => ⟨S8448x2048, .bf16⟩
  | .hbm, ⟨45, _⟩ => ⟨S8448x128, .bf16⟩
  | .hbm, ⟨46, _⟩ => ⟨S8448x128, .bf16⟩
  | .hbm, ⟨47, _⟩ => ⟨S8448x8, .f32⟩
  | .local _ .vmem, ⟨0, _⟩ => ⟨S384x2048, .f32⟩
  | .local _ .vmem, ⟨1, _⟩ => ⟨S384x2048, .f32⟩
  | .local _ .vmem, ⟨2, _⟩ => ⟨S16x2048, .f32⟩
  | .local _ .vmem, ⟨3, _⟩ => ⟨S32x2048, .f32⟩
  | .local _ .vmem, ⟨4, _⟩ => ⟨S1x2048, .f32⟩
  | .local _ .vmem, ⟨5, _⟩ => ⟨S1x2048, .f32⟩
  | .local _ .vmem, ⟨6, _⟩ => ⟨S2048x128, .bf16⟩
  | .local _ .vmem, ⟨7, _⟩ => ⟨S1x128, .f32⟩
  | .local _ .vmem, ⟨8, _⟩ => ⟨S1x128, .i32⟩
  | .local _ .vmem, ⟨9, _⟩ => ⟨S384x2048, .bf16⟩
  | .local _ .vmem, ⟨10, _⟩ => ⟨S384x2048, .bf16⟩
  | .local _ .vmem, ⟨11, _⟩ => ⟨S384x128, .bf16⟩
  | .local _ .vmem, ⟨12, _⟩ => ⟨S384x128, .bf16⟩
  | .local _ .vmem, ⟨13, _⟩ => ⟨S384x128, .bf16⟩
  | .local _ .vmem, ⟨14, _⟩ => ⟨S384x128, .bf16⟩
  | .local _ .vmem, ⟨15, _⟩ => ⟨S384x8, .f32⟩
  | .local _ .vmem, ⟨16, _⟩ => ⟨S384x8, .f32⟩
  | .local _ .vmem, ⟨17, _⟩ => ⟨S8x128, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_v0 : Ref sig .tc := ⟨.hbm, 10, rfl⟩
abbrev main_c_2 : Ref sig .tc := ⟨.hbm, 11, rfl⟩
abbrev main_c_3 : Ref sig .tc := ⟨.hbm, 12, rfl⟩
abbrev main_c_4 : Ref sig .tc := ⟨.hbm, 13, rfl⟩
abbrev main_v1 : Ref sig .tc := ⟨.hbm, 14, rfl⟩
abbrev main_v2 : Ref sig .tc := ⟨.hbm, 15, rfl⟩
abbrev main_c_5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_6 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22_0 : Ref sig .tc := ⟨.hbm, 44, rfl⟩
abbrev main_v22_1 : Ref sig .tc := ⟨.hbm, 45, rfl⟩
abbrev main_v22_2 : Ref sig .tc := ⟨.hbm, 46, rfl⟩
abbrev main_v22_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![22], ![false]⟩

def k0_mult1 (i : grid0.Coords) : BitVec 32 :=
  let c7808_i32 : BitVec 32 := 7808#32
  let c0_i32 : BitVec 32 := 0#32
  let arg0 : BitVec 32 := BitVec.ofNat 32 (i 0).val
  let c384_i32 : BitVec 32 := 384#32
  let v0 : BitVec 32 := Scalar.muli arg0 c384_i32
  let c16_i32 : BitVec 32 := 16#32
  let v1 : BitVec 32 := Scalar.subi v0 c16_i32
  let v2 : BitVec 32 := Scalar.maxsi c0_i32 v1
  let v3 : BitVec 32 := Scalar.minsi c7808_i32 v2
  v3
def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg0 : BitVec 32 := BitVec.ofNat 32 (i 0).val
  let c0_i32_3 : BitVec 32 := 0#32
  let v6 : BitVec 1 := Scalar.cmpi .sgt arg0 c0_i32_3
  let c21_i32 : BitVec 32 := 21#32
  let v7 : BitVec 1 := Scalar.cmpi .slt arg0 c21_i32
  let v8 : BitVec 1 := Scalar.andi v6 v7
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c21_i32_5 : BitVec 32 := 21#32
  let v11 : BitVec 1 := Scalar.cmpi .eq arg0 c21_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let c384_i32 : BitVec 32 := 384#32
  let v0 : BitVec 32 := Scalar.muli arg0 c384_i32
  let c16_i32 : BitVec 32 := 16#32
  let v1 : BitVec 32 := Scalar.subi v0 c16_i32
  let c0_i32 : BitVec 32 := 0#32
  let c7808_i32 : BitVec 32 := 7808#32
  let v2 : BitVec 32 := Scalar.maxsi c0_i32 v1
  let v3 : BitVec 32 := Scalar.minsi c7808_i32 v2
  let v4 : BitVec 32 := v3
  let c0_i32_0 : BitVec 32 := 0#32
  let c0_i32_1 : BitVec 32 := 0#32
  ![v4.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S1x8192x2048 : Shape := ⟨3, ![1, 8192, 2048]⟩
abbrev S32x1x2048 : Shape := ⟨3, ![32, 1, 2048]⟩
abbrev S16x2048 : Shape := ⟨2, ![16, 2048]⟩
abbrev S2048 : Shape := ⟨1, ![2048]⟩
abbrev S1x2048x6152 : Shape := ⟨3, ![1, 2048, 6152]⟩
abbrev S1x8 : Shape := ⟨2, ![1, 8]⟩
abbrev S8192x2048 : Shape := ⟨2, ![8192, 2048]⟩
abbrev S_ : Shape := ⟨0, ![]⟩
abbrev S32x2048 : Shape := ⟨2, ![32, 2048]⟩
abbrev S192x2048 : Shape := ⟨2, ![192, 2048]⟩
abbrev S8448x2048 : Shape := ⟨2, ![8448, 2048]⟩
abbrev S8448 : Shape := ⟨1, ![8448]⟩
abbrev S8448x1 : Shape := ⟨2, ![8448, 1]⟩
abbrev S1x2048 : Shape := ⟨2, ![1, 2048]⟩
abbrev S2048x6152 : Shape := ⟨2, ![2048, 6152]⟩
abbrev S2048x8 : Shape := ⟨2, ![2048, 8]⟩
abbrev S8448x8 : Shape := ⟨2, ![8448, 8]⟩
abbrev S8 : Shape := ⟨1, ![8]⟩

abbrev nBuf : Space → Nat
  | .hbm => 67
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S32x1x2048, .f32⟩
  | .hbm, ⟨2, _⟩ => ⟨S16x2048, .f32⟩
  | .hbm, ⟨3, _⟩ => ⟨S2048, .f32⟩
  | .hbm, ⟨4, _⟩ => ⟨S2048, .f32⟩
  | .hbm, ⟨5, _⟩ => ⟨S1x2048x6152, .f32⟩
  | .hbm, ⟨6, _⟩ => ⟨S1x8, .f32⟩
  | .hbm, ⟨7, _⟩ => ⟨S8192x2048, .f32⟩
  | .hbm, ⟨8, _⟩ => ⟨S_, .f32⟩
  | .hbm, ⟨9, _⟩ => ⟨S16x2048, .f32⟩
  | .hbm, ⟨10, _⟩ => ⟨S32x2048, .f32⟩
  | .hbm, ⟨11, _⟩ => ⟨S_, .f32⟩
  | .hbm, ⟨12, _⟩ => ⟨S192x2048, .f32⟩
  | .hbm, ⟨13, _⟩ => ⟨S8448x2048, .f32⟩
  | .hbm, ⟨14, _⟩ => ⟨S_, .f32⟩
  | .hbm, ⟨15, _⟩ => ⟨S8448, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S8448x2048, .f32⟩
  | .hbm, ⟨21, _⟩ => ⟨S8448x2048, .f32⟩
  | .hbm, ⟨22, _⟩ => ⟨S8448x2048, .f32⟩
  | .hbm, ⟨23, _⟩ => ⟨S_, .f32⟩
  | .hbm, ⟨24, _⟩ => ⟨S8448, .f32⟩
  | .hbm, ⟨25, _⟩ => ⟨S8448x1, .f32⟩
  | .hbm, ⟨26, _⟩ => ⟨S_, .f32⟩
  | .hbm, ⟨27, _⟩ => ⟨S8448x1, .f32⟩
  | .hbm, ⟨28, _⟩ => ⟨S8448x1, .f32⟩
  | .hbm, ⟨29, _⟩ => ⟨S8448x2048, .f32⟩
  | .hbm, ⟨30, _⟩ => ⟨S8448x2048, .f32⟩
  | .hbm, ⟨31, _⟩ => ⟨S_, .f32⟩
  | .hbm, ⟨32, _⟩ => ⟨S8448x1, .f32⟩
  | .hbm, ⟨33, _⟩ => ⟨S8448x1, .f32⟩
  | .hbm, ⟨34, _⟩ => ⟨S8448x1, .f32⟩
  | .hbm, ⟨35, _⟩ => ⟨S8448x2048, .f32⟩
  | .hbm, ⟨36, _⟩ => ⟨S8448x2048, .f32⟩
  | .hbm, ⟨37, _⟩ => ⟨S1x2048, .f32⟩
  | .hbm, ⟨38, _⟩ => ⟨S8448x2048, .f32⟩
  | .hbm, ⟨39, _⟩ => ⟨S8448x2048, .f32⟩
  | .hbm, ⟨40, _⟩ => ⟨S1x2048, .f32⟩
  | .hbm, ⟨41, _⟩ => ⟨S8448x2048, .f32⟩
  | .hbm, ⟨42, _⟩ => ⟨S8448x2048, .f32⟩
  | .hbm, ⟨43, _⟩ => ⟨S2048x6152, .f32⟩
  | .hbm, ⟨44, _⟩ => ⟨S2048x8, .f32⟩
  | .hbm, ⟨45, _⟩ => ⟨S8448x8, .f32⟩
  | .hbm, ⟨46, _⟩ => ⟨S8448x2048, .bf16⟩
  | .hbm, ⟨47, _⟩ => ⟨S8, .f32⟩
  | .hbm, ⟨48, _⟩ => ⟨S1x8, .f32⟩
  | .hbm, ⟨49, _⟩ => ⟨S8448x8, .f32⟩
  | .hbm, ⟨50, _⟩ => ⟨S8448x8, .f32⟩
  | .hbm, ⟨51, _⟩ => ⟨S8448x8, .f32⟩
  | .hbm, ⟨52, _⟩ => ⟨S_, .f32⟩
  | .hbm, ⟨53, _⟩ => ⟨S8448x8, .f32⟩
  | .hbm, ⟨54, _⟩ => ⟨S8448x8, .f32⟩
  | .hbm, ⟨55, _⟩ => ⟨S8448x8, .f32⟩
  | .hbm, ⟨56, _⟩ => ⟨S8448x8, .f32⟩
  | .hbm, ⟨57, _⟩ => ⟨S8448x8, .i1⟩
  | .hbm, ⟨58, _⟩ => ⟨S8448x8, .f32⟩
  | .hbm, ⟨59, _⟩ => ⟨S8448x8, .f32⟩
  | .hbm, ⟨60, _⟩ => ⟨S8448x8, .f32⟩
  | .hbm, ⟨61, _⟩ => ⟨S8448x8, .f32⟩
  | .hbm, ⟨62, _⟩ => ⟨S8448x8, .f32⟩
  | .hbm, ⟨63, _⟩ => ⟨S8448x8, .f32⟩
  | .hbm, ⟨64, _⟩ => ⟨S8448x8, .f32⟩
  | .hbm, ⟨65, _⟩ => ⟨S8448x8, .f32⟩
  | .hbm, ⟨66, _⟩ => ⟨S8448x8, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call0_v0 : Ref sig .tc := ⟨.hbm, 51, rfl⟩
abbrev main_call0_call0_cst : Ref sig .tc := ⟨.hbm, 52, rfl⟩
abbrev main_call0_call0_v0 : Ref sig .tc := ⟨.hbm, 53, rfl⟩
abbrev main_call0_call0_v1 : Ref sig .tc := ⟨.hbm, 54, rfl⟩
abbrev main_call0_call0_v2 : Ref sig .tc := ⟨.hbm, 55, rfl⟩
abbrev main_call0_call0_v3 : Ref sig .tc := ⟨.hbm, 56, rfl⟩
abbrev main_call0_call0_v4 : Ref sig .tc := ⟨.hbm, 57, rfl⟩
abbrev main_call0_call0_v5 : Ref sig .tc := ⟨.hbm, 58, rfl⟩
abbrev main_call0_call0_v6 : Ref sig .tc := ⟨.hbm, 59, rfl⟩
abbrev main_call0_call0_v7 : Ref sig .tc := ⟨.hbm, 60, rfl⟩
abbrev main_call0_call0_v8 : Ref sig .tc := ⟨.hbm, 61, rfl⟩
abbrev main_call0_call0_v9 : Ref sig .tc := ⟨.hbm, 62, rfl⟩
abbrev main_call0_call0_v10 : Ref sig .tc := ⟨.hbm, 63, rfl⟩
abbrev main_call0_call0_v11 : Ref sig .tc := ⟨.hbm, 64, rfl⟩
abbrev main_call0_v1 : Ref sig .tc := ⟨.hbm, 65, rfl⟩
abbrev main_v37 : Ref sig .tc := ⟨.hbm, 66, rfl⟩

abbrev nD : Nat := 1
abbrev τ : Topo := Topo.v7x

variable {F : FTy → Type} [FloatOps F]
-- ==== Proof.AttnMath.lean ====
/-
  The arithmetic of the blockwise softmax over the extended reals, free of any program: a row's running pair (the running
  maximum and the running sum of the exponentials times a column) after a number of keys, its step over a block of keys of
  which a leading part is kept, and the softmax average both programs end with.
-/
module

public import Idealize.ShloMosaic.Lib.Pointwise

@[expose] public section

noncomputable section

namespace Cert.AttnMath

open Idealize.ShloMosaic
open scoped BigOperators

/-- The softmax average of the first `n` values under the scores `s`. -/
def att (s w : ℕ → ℝ) (n : ℕ) : ℝ :=
  (∑ j ∈ Finset.range n, Real.exp (s j) * w j) / ∑ j ∈ Finset.range n, Real.exp (s j)

/-- A row's running pair after `n` keys: nothing yet, or the sum of the exponentials shifted by the running maximum. -/
def Inv (s w : ℕ → ℝ) (n : ℕ) (m a : EReal) : Prop :=
  (n = 0 ∧ m = ⊥ ∧ a = 0)
    ∨ (0 < n ∧ ∃ M : ℝ, m = (M : EReal) ∧ a = ((∑ j ∈ Finset.range n, Real.exp (s j - M) * w j : ℝ) : EReal))

theorem fold_max_cases {ι : Type*} (S : Finset ι) (t : ι → EReal) (h : ∀ i ∈ S, t i = ⊥ ∨ ∃ r : ℝ, t i = r) :
    S.fold max ⊥ t = ⊥ ∨ ∃ r : ℝ, S.fold max ⊥ t = r := by
  classical
  induction S using Finset.induction_on with
  | empty => exact .inl (Finset.fold_empty)
  | insert a S ha ih =>
    rw [Finset.fold_insert ha]
    rcases h a (Finset.mem_insert_self a S) with h1 | ⟨r, h1⟩ <;>
      rcases ih (fun i hi => h i (Finset.mem_insert_of_mem hi)) with h2 | ⟨q, h2⟩ <;> rw [h1, h2]
    · exact .inl (max_self _)
    · exact .inr ⟨q, max_eq_right bot_le⟩
    · exact .inr ⟨r, max_eq_left bot_le⟩
    · exact .inr ⟨max r q, (EReal.coe_strictMono.monotone.map_max).symm⟩

theorem le_fold_max {ι : Type*} (S : Finset ι) (t : ι → EReal) {i : ι} (hi : i ∈ S) : t i ≤ S.fold max ⊥ t :=
  (Finset.le_fold_max _).mpr (.inr ⟨i, hi, le_rfl⟩)

/-- The greatest of scores of which at least one is a number and the rest are numbers or −∞ is a number. -/
theorem fold_max_real {ι : Type*} [Fintype ι] (t : ι → EReal) (h : ∀ i, t i = ⊥ ∨ ∃ r : ℝ, t i = r) (i : ι) (r : ℝ) (hi : t i = r) :
    ∃ q : ℝ, Finset.univ.fold max ⊥ t = q := by
  rcases fold_max_cases Finset.univ t (fun i _ => h i) with e | e
  · have := le_fold_max Finset.univ t (Finset.mem_univ i)
    rw [e, hi] at this
    exact absurd (le_bot_iff.mp this) (EReal.coe_ne_bot r)
  · exact e

theorem max_real {m x : EReal} (hm : m = ⊥ ∨ ∃ r : ℝ, m = r) (hx : ∃ r : ℝ, x = r) : ∃ r : ℝ, max m x = r := by
  obtain ⟨q, rfl⟩ := hx
  rcases hm with rfl | ⟨r, rfl⟩
  · exact ⟨q, max_eq_right bot_le⟩
  · exact ⟨max r q, (EReal.coe_strictMono.monotone.map_max).symm⟩

theorem coe_sum {ι : Type*} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

theorem exp_bot_sub (M : ℝ) : Ideal.exp ((⊥ : EReal) - (M : EReal)) = 0 := by
  rw [EReal.bot_sub]; rfl

theorem exp_coe_sub (x M : ℝ) : Ideal.exp ((x : EReal) - (M : EReal)) = (Real.exp (x - M) : EReal) := by
  rw [← EReal.coe_sub]; rfl

/-- A sum over a block whose first `cnt` places are kept is the sum over those. -/
theorem sum_kept {nc cnt : ℕ} (hcn : cnt ≤ nc) (f : ℕ → ℝ) :
    ∑ c : Fin nc, (if c.val < cnt then f c.val else 0) = ∑ j ∈ Finset.range cnt, f j := by
  rw [Fin.sum_univ_eq_sum_range (fun c => if c < cnt then f c else 0) nc, ← Finset.sum_filter]
  congr 1
  ext j
  simp only [Finset.mem_filter, Finset.mem_range]
  omega

/-- The block's own contribution: the kept places' exponentials times the values. -/
theorem block_sum {nc cnt : ℕ} (hcn : cnt ≤ nc) (s w : ℕ → ℝ) (M : ℝ) (t v : Fin nc → EReal)
    (ht : ∀ c, t c = if c.val < cnt then (s c.val : EReal) else ⊥) (hv : ∀ c, c.val < cnt → v c = (w c.val : EReal)) :
    ∑ c, Ideal.exp (t c - (M : EReal)) * v c = ((∑ j ∈ Finset.range cnt, Real.exp (s j - M) * w j : ℝ) : EReal) := by
  rw [← sum_kept hcn fun j => Real.exp (s j - M) * w j, ← coe_sum]
  refine Finset.sum_congr rfl fun c _ => ?_
  rw [ht c]
  split_ifs with h
  · rw [exp_coe_sub, hv c h, EReal.coe_mul]
  · rw [exp_bot_sub, zero_mul, EReal.coe_zero]

theorem scores_cases {nc cnt : ℕ} (s : ℕ → ℝ) (t : Fin nc → EReal)
    (ht : ∀ c, t c = if c.val < cnt then (s c.val : EReal) else ⊥) (c : Fin nc) : t c = ⊥ ∨ ∃ r : ℝ, t c = r := by
  rw [ht c]; split_ifs
  · exact .inr ⟨_, rfl⟩
  · exact .inl rfl

theorem scores_max {nc cnt : ℕ} (h0 : 0 < cnt) (hcn : cnt ≤ nc) (s : ℕ → ℝ) (t : Fin nc → EReal)
    (ht : ∀ c, t c = if c.val < cnt then (s c.val : EReal) else ⊥) : ∃ q : ℝ, Finset.univ.fold max ⊥ t = q :=
  fold_max_real t (scores_cases s t ht) ⟨0, by omega⟩ (s 0) (by rw [ht, if_pos h0])

theorem Inv.cases {s w : ℕ → ℝ} {n : ℕ} {m a : EReal} (h : Inv s w n m a) : m = ⊥ ∨ ∃ r : ℝ, m = r := by
  rcases h with ⟨_, h, _⟩ | ⟨_, M, h, _⟩
  · exact .inl h
  · exact .inr ⟨M, h⟩

/-- ONE STEP over a block of `nc` keys of which the first `cnt` are kept. -/
theorem Inv.step {s w : ℕ → ℝ} {n : ℕ} {m a : EReal} (h : Inv s w n m a) {nc cnt : ℕ} (h0 : 0 < cnt) (hcn : cnt ≤ nc)
    (t v : Fin nc → EReal) (ht : ∀ c, t c = if c.val < cnt then (s (n + c.val) : EReal) else ⊥)
    (hv : ∀ c, c.val < cnt → v c = (w (n + c.val) : EReal)) :
    Inv s w (n + cnt) (max m (Finset.univ.fold max ⊥ t))
      (a * Ideal.exp (m - max m (Finset.univ.fold max ⊥ t))
        + ∑ c, Ideal.exp (t c - max m (Finset.univ.fold max ⊥ t)) * v c) := by
  obtain ⟨M', hM'⟩ := max_real h.cases (scores_max h0 hcn (fun j => s (n + j)) t ht)
  rw [hM', block_sum hcn (fun j => s (n + j)) (fun j => w (n + j)) M' t v ht hv]
  refine .inr ⟨by omega, M', rfl, ?_⟩
  rw [Finset.sum_range_add]
  rcases h with ⟨rfl, rfl, rfl⟩ | ⟨_, M, rfl, rfl⟩
  · rw [zero_mul, zero_add, Finset.sum_range_zero, zero_add]
  · rw [exp_coe_sub, ← EReal.coe_mul, ← EReal.coe_add, Finset.sum_mul]
    congr 2
    refine Finset.sum_congr rfl fun j _ => ?_
    rw [mul_right_comm, ← Real.exp_add]
    congr 2
    ring

theorem sum_exp_shift (s w : ℕ → ℝ) (n : ℕ) (M : ℝ) :
    ∑ j ∈ Finset.range n, Real.exp (s j - M) * w j = Real.exp (-M) * ∑ j ∈ Finset.range n, Real.exp (s j) * w j := by
  rw [Finset.mul_sum]
  refine Finset.sum_congr rfl fun j _ => ?_
  rw [sub_eq_add_neg, Real.exp_add]; ring

theorem sum_exp_pos (s : ℕ → ℝ) {n : ℕ} (hn : 0 < n) : 0 < ∑ j ∈ Finset.range n, Real.exp (s j) :=
  Finset.sum_pos (fun j _ => Real.exp_pos _) ⟨0, Finset.mem_range.mpr hn⟩

/-- The quotient of the shifted sums is the softmax average, whatever the shift. -/
theorem shift_att (s w : ℕ → ℝ) {n : ℕ} (hn : 0 < n) (M : ℝ) :
    (∑ j ∈ Finset.range n, Real.exp (s j - M) * w j) / (∑ j ∈ Finset.range n, Real.exp (s j - M) * 1) = att s w n := by
  rw [sum_exp_shift, sum_exp_shift s (fun _ => 1), att, mul_div_mul_left _ _ (Real.exp_ne_zero _)]
  simp only [mul_one]

/-- What a row ends with: the values' sum over the ones' sum is the softmax average. -/
theorem Inv.quotient {s w : ℕ → ℝ} {n : ℕ} (hn : 0 < n) {m a b : EReal} (h : Inv s w n m a) (h1 : Inv s (fun _ => 1) n m b) :
    Ideal.div a b = (att s w n : EReal) := by
  rcases h with ⟨h, _⟩ | ⟨_, M, rfl, rfl⟩
  · omega
  rcases h1 with ⟨h, _⟩ | ⟨_, M', e, rfl⟩
  · omega
  obtain rfl : M = M' := EReal.coe_eq_coe_iff.mp e
  have hp : (∑ j ∈ Finset.range n, Real.exp (s j - M) * 1) ≠ 0 := by
    simp only [mul_one]; exact (sum_exp_pos (fun j => s j - M) hn).ne'
  rw [Ideal.div_coe hp, ← EReal.coe_mul, mul_one_div, shift_att s w hn M]

/-- The reference's row: the difference of two softmax rows, times the values, summed over every key, is the difference of
    the two averages. -/
theorem softmax_rows {N cnt : ℕ} (h0 : 0 < cnt) (hcn : cnt ≤ N) (s1 s2 w : ℕ → ℝ) (lam : ℝ) (t1 t2 v : Fin N → EReal)
    (h1 : ∀ c, t1 c = if c.val < cnt then (s1 c.val : EReal) else ⊥)
    (h2 : ∀ c, t2 c = if c.val < cnt then (s2 c.val : EReal) else ⊥) (hv : ∀ c, v c = (w c.val : EReal)) :
    ∑ c, v c * (Ideal.div (Ideal.exp (t1 c - Finset.univ.fold max ⊥ t1)) (∑ k, Ideal.exp (t1 k - Finset.univ.fold max ⊥ t1))
        - (lam : EReal) * Ideal.div (Ideal.exp (t2 c - Finset.univ.fold max ⊥ t2)) (∑ k, Ideal.exp (t2 k - Finset.univ.fold max ⊥ t2)))
      = (att s1 w cnt : EReal) - (lam : EReal) * (att s2 w cnt : EReal) := by
  obtain ⟨M1, e1⟩ := scores_max h0 hcn s1 t1 h1
  obtain ⟨M2, e2⟩ := scores_max h0 hcn s2 t2 h2
  have den : ∀ (s : ℕ → ℝ) (t : Fin N → EReal) (M : ℝ), (∀ c, t c = if c.val < cnt then (s c.val : EReal) else ⊥) →
      ∑ k, Ideal.exp (t k - (M : EReal)) = ((∑ j ∈ Finset.range cnt, Real.exp (s j - M) * 1 : ℝ) : EReal) := fun s t M h => by
    rw [← block_sum hcn s (fun _ => 1) M t (fun _ => ((1 : ℝ) : EReal)) h fun _ _ => rfl]
    exact Finset.sum_congr rfl fun k _ => by rw [EReal.coe_one, mul_one]
  have pos : ∀ (s : ℕ → ℝ) (M : ℝ), (∑ j ∈ Finset.range cnt, Real.exp (s j - M) * 1) ≠ 0 := fun s M => by
    simp only [mul_one]; exact (sum_exp_pos (fun j => s j - M) h0).ne'
  have prob : ∀ (s : ℕ → ℝ) (t : Fin N → EReal) (M : ℝ), (∀ c, t c = if c.val < cnt then (s c.val : EReal) else ⊥) → ∀ c,
      Ideal.exp (t c - (M : EReal)) = ((if c.val < cnt then Real.exp (s c.val - M) else 0 : ℝ) : EReal) := fun s t M h c => by
    rw [h c]; split_ifs
    · exact exp_coe_sub _ _
    · rw [exp_bot_sub, EReal.coe_zero]
  rw [e1, e2, den s1 t1 M1 h1, den s2 t2 M2 h2]
  set D1 := ∑ j ∈ Finset.range cnt, Real.exp (s1 j - M1) * 1 with hD1
  set D2 := ∑ j ∈ Finset.range cnt, Real.exp (s2 j - M2) * 1 with hD2
  have p1 : D1 ≠ 0 := pos s1 M1
  have p2 : D2 ≠ 0 := pos s2 M2
  have term : ∀ c : Fin N, v c * (Ideal.div (Ideal.exp (t1 c - (M1 : EReal))) (D1 : EReal)
      - (lam : EReal) * Ideal.div (Ideal.exp (t2 c - (M2 : EReal))) (D2 : EReal))
      = ((if c.val < cnt then Real.exp (s1 c.val - M1) * w c.val / D1 - lam * (Real.exp (s2 c.val - M2) * w c.val / D2) else 0 : ℝ) : EReal) := fun c => by
    rw [Ideal.div_coe p1, Ideal.div_coe p2, prob s1 t1 M1 h1 c, prob s2 t2 M2 h2 c, hv c]
    norm_cast
    split_ifs
    · ring
    · ring
  rw [Finset.sum_congr rfl fun c _ => term c, coe_sum,
    sum_kept hcn fun j => Real.exp (s1 j - M1) * w j / D1 - lam * (Real.exp (s2 j - M2) * w j / D2),
    Finset.sum_sub_distrib, ← Finset.mul_sum, ← Finset.sum_div, ← Finset.sum_div, hD1, hD2, shift_att s1 w h0 M1, shift_att s2 w h0 M2]
  norm_cast

end Cert.AttnMath

end
-- ==== Proof.AttnBlk.lean ====
/-
  The differential attention's block step read at one place: the new running maximum and the new running sums of one head's
  block of queries after one block of keys, for the full blocks and for the three heights of the blocks on the diagonal.
-/
module

public import proofs.«01_k».proof.Proof.Gen.KernelIdeal.Skeleton
public import Idealize.ShloMosaic.Lib.Pointwise
public import proofs.«01_k».proof.Proof.AttnMath

@[expose] public section

set_option maxRecDepth 16384

noncomputable section

namespace Cert.KernelIdeal.Attn

open Cert.KernelIdeal Cert.KernelIdeal.Gen
open Idealize.ShloMosaic
open scoped BigOperators

/-- The mask constant is −∞. -/
theorem mask_eq : (Named.named (F := Ideal) κ "mask" (φ := .f32) 0xF149F2CA#32 : EReal) = ⊥ := rfl

theorem neg_inf_eq : Ideal.ofBits .f32 0xFF800000#32 = ⊥ := by
  decide

/-- A row's greatest entry. -/
theorem row_max {a b : ℕ} (T : FVec Ideal (⟨2, ![a, b]⟩ : Shape) .f32) (h : (⟨2, ![a, b]⟩ : Shape).Reduces [1] ⟨1, ![a]⟩)
    (hφ : FKind.Formats .f32) (hacc : (0xFF800000#32 : BitVec (FTy.f32).bits) = FKind.maximumf.neutral .f32 hφ) (j : (⟨1, ![a]⟩ : Shape).Idx) :
    multiReduction .maximumf [1] ⟨1, ![a]⟩ T 0xFF800000#32 h hφ hacc j = Finset.univ.fold max ⊥ fun c : Fin b => T (ix2 (j 0) c) := by
  pointwise
  rw [neg_inf_eq]

theorem toInt_small (n : ℕ) (h : n < 4096) : (BitVec.ofNat 32 n).toInt = (n : ℤ) := by
  rw [BitVec.toInt_eq_toNat_cond, BitVec.toNat_ofNat, Nat.mod_eq_of_lt (by omega), if_pos (by omega)]

/-- The diagonal's test: key `c` is kept by query `x` of a block that starts at row `o`. -/
theorem keep_iff (o x c : ℕ) (ho : o < 1024) (hx : x < 1024) (hc : c < 1024) :
    (IntOp.cmpi .sle (BitVec.ofNat 32 c) (IntOp.addi (BitVec.ofNat 32 x) (BitVec.ofNat 32 o)) = 1) ↔ c ≤ o + x := by
  show (BitVec.ofBool (BitVec.sle (BitVec.ofNat 32 c) (BitVec.ofNat 32 x + BitVec.ofNat 32 o)) = 1#1) ↔ _
  rw [← BitVec.ofNat_add, BitVec.sle, toInt_small c (by omega), toInt_small (x + o) (by omega)]
  by_cases h : c ≤ o + x
  · simp only [h, iff_true]
    rw [decide_eq_true (by omega)]
    rfl
  · simp only [h, iff_false]
    rw [decide_eq_false (by omega)]
    decide

section Full

variable (k v : Vec Ideal S768x128 .bf16) (q : Vec Ideal S1x1536x128 .bf16) (mx : Vec Ideal S1x1536x128 .f32) (ac : Vec Ideal S1x1536x256 .f32)

theorem score_full (x : Fin 1536) (c : Fin 768) : k0_pay34 (F := Ideal) k q (ix2 x c) = ∑ l : Fin 128, q (ix3 0 x l) * k (ix2 c l) := by
  unfold_payloads
  pointwise [dot_S1536x128_S768x128_S1536x768_1_1_0_0_n_n]

theorem max_full (x : Fin 1536) (l : Fin 128) :
    k0_pay36 (F := Ideal) k q mx (ix2 x l) = max (mx (ix3 0 x l)) (Finset.univ.fold max ⊥ fun c : Fin 768 => k0_pay34 (F := Ideal) k q (ix2 x c)) := by
  unfold k0_pay36 k0_pay35
  have hR := row_max (k0_pay34 (F := Ideal) k q) reduces_S1536x768_S1536 (.inl rfl) rfl
  generalize multiReduction (F := Ideal) .maximumf [1] S1536 (k0_pay34 (F := Ideal) k q) 0xFF800000#32 reduces_S1536x768_S1536 (.inl rfl) rfl = R at hR ⊢
  pointwise
  rw [hR]
  rfl

theorem rep_full (N : FVec Ideal S1536x128 .f32) (x : Fin 1536) (M : EReal) (h : ∀ l, N (ix2 x l) = M) (c : Fin 768) :
    concatenate S1536x768 1 [⟨S1536x128, N⟩, ⟨S1536x128, N⟩, ⟨S1536x128, N⟩, ⟨S1536x128, N⟩, ⟨S1536x128, N⟩, ⟨S1536x128, N⟩] concatenates_S1536x128_S1536x128_S1536x128_S1536x128_S1536x128_S1536x128_S1536x768_d1 (ix2 x c) = M := by
  pointwise
  simp only [h, dite_eq_ite, ite_self]

theorem acc_full (x : Fin 1536) (M m0 : EReal) (hm : ∀ l, k0_pay36 (F := Ideal) k q mx (ix2 x l) = M) (l : Fin 256) (hl : ∀ l, mx (ix3 0 x l) = m0) :
    k0_pay37 (F := Ideal) k q mx v ac (ix3 0 x l)
      = ac (ix3 0 x l) * Ideal.exp (m0 - M) + ∑ c : Fin 768, Ideal.exp (k0_pay34 (F := Ideal) k q (ix2 x c) - M) * (if h : l.val < 128 then v (ix2 c ⟨l.val, h⟩) else 1) := by
  unfold k0_pay37 k0_pay35
  have hr := rep_full (k0_pay36 (F := Ideal) k q mx) x M hm
  generalize k0_pay34 (F := Ideal) k q = T
  generalize k0_pay36 (F := Ideal) k q mx = N at hm hr ⊢
  generalize concatenate S1536x768 1 [⟨S1536x128, N⟩, ⟨S1536x128, N⟩, ⟨S1536x128, N⟩, ⟨S1536x128, N⟩, ⟨S1536x128, N⟩, ⟨S1536x128, N⟩] concatenates_S1536x128_S1536x128_S1536x128_S1536x128_S1536x128_S1536x128_S1536x768_d1 = C at hr ⊢
  pointwise [dot_S1536x768_S768x256_S1536x256_1_0_0_1_n_n]
  simp only [hm, hl, hr, dite_eq_ite, ite_self]

theorem store_max_full (x : Fin 1536) (l : Fin 128) : k0_pay38 (F := Ideal) k q mx (ix3 0 x l) = k0_pay36 (F := Ideal) k q mx (ix2 x l) := by
  unfold k0_pay38
  pointwise

end Full

section Diag256

variable (k v : Vec Ideal S256x128 .bf16) (q : Vec Ideal S1x256x128 .bf16) (mx : Vec Ideal S1x256x128 .f32) (ac : Vec Ideal S1x256x256 .f32)

theorem score_256 (x : Fin 256) (c : Fin 256) :
    k0_pay78 (F := Ideal) k q (ix2 x c) = if c.val ≤ 0 + x.val then ∑ l : Fin 128, q (ix3 0 x l) * k (ix2 c l) else ⊥ := by
  unfold k0_pay78 k0_pay77
  pointwise [dot_S256x128_S256x128_S256x256_1_1_0_0_n_n]
  rw [mask_eq]
  refine if_congr ?_ rfl rfl
  have hx := x.isLt
  have hc := c.isLt
  refine (keep_iff 0 x.val c.val (by omega) (by omega) (by omega)).trans ?_
  omega

theorem max_256 (x : Fin 256) (l : Fin 128) :
    k0_pay80 (F := Ideal) k q mx (ix2 x l) = max (mx (ix3 0 x l)) (Finset.univ.fold max ⊥ fun c : Fin 256 => k0_pay78 (F := Ideal) k q (ix2 x c)) := by
  unfold k0_pay80 k0_pay79
  have hR := row_max (k0_pay78 (F := Ideal) k q) reduces_S256x256_S256 (.inl rfl) rfl
  generalize multiReduction (F := Ideal) .maximumf [1] S256 (k0_pay78 (F := Ideal) k q) 0xFF800000#32 reduces_S256x256_S256 (.inl rfl) rfl = R at hR ⊢
  pointwise
  rw [hR]
  rfl

theorem store_max_256 (N : FVec Ideal S256x128 .f32) (x : Fin 256) (l : Fin 128) : k0_pay82 (F := Ideal) N (ix3 0 x l) = N (ix2 x l) := by
  unfold k0_pay82
  pointwise

theorem rep_256 (N : FVec Ideal S256x128 .f32) (x : Fin 256) (M : EReal) (h : ∀ l, N (ix2 x l) = M) (c : Fin 256) :
    concatenate S256x256 1 [⟨S256x128, N⟩, ⟨S256x128, N⟩] concatenates_S256x128_S256x128_S256x256_d1 (ix2 x c) = M := by
  pointwise
  simp only [h, dite_eq_ite, ite_self]

theorem acc_256 (x : Fin 256) (M m0 : EReal) (hm : ∀ l, k0_pay80 (F := Ideal) k q mx (ix2 x l) = M) (l : Fin 256) (hl : ∀ l, mx (ix3 0 x l) = m0) :
    k0_pay81 (F := Ideal) k q mx v ac (ix3 0 x l)
      = ac (ix3 0 x l) * Ideal.exp (m0 - M) + ∑ c : Fin 256, Ideal.exp (k0_pay78 (F := Ideal) k q (ix2 x c) - M) * (if h : l.val < 128 then v (ix2 c ⟨l.val, h⟩) else 1) := by
  unfold k0_pay81 k0_pay79
  have hr := rep_256 (k0_pay80 (F := Ideal) k q mx) x M hm
  generalize k0_pay78 (F := Ideal) k q = T
  generalize k0_pay80 (F := Ideal) k q mx = N at hm hr ⊢
  generalize concatenate S256x256 1 [⟨S256x128, N⟩, ⟨S256x128, N⟩] concatenates_S256x128_S256x128_S256x256_d1 = C at hr ⊢
  pointwise [dot_S256x256_S256x256_S256x256_1_0_0_1_n_n]
  simp only [hm, hl, hr, dite_eq_ite, ite_self]

end Diag256

section Diag512

variable (k v : Vec Ideal S512x128 .bf16) (q : Vec Ideal S1x256x128 .bf16) (mx : Vec Ideal S1x256x128 .f32) (ac : Vec Ideal S1x256x256 .f32)

theorem score_512 (x : Fin 256) (c : Fin 512) :
    k0_pay89 (F := Ideal) k q (ix2 x c) = if c.val ≤ 256 + x.val then ∑ l : Fin 128, q (ix3 0 x l) * k (ix2 c l) else ⊥ := by
  unfold k0_pay89 k0_pay88
  pointwise [dot_S256x128_S512x128_S256x512_1_1_0_0_n_n]
  rw [mask_eq]
  refine if_congr ?_ rfl rfl
  have hx := x.isLt
  have hc := c.isLt
  refine (keep_iff 256 x.val c.val (by omega) (by omega) (by omega)).trans ?_
  omega

theorem max_512 (x : Fin 256) (l : Fin 128) :
    k0_pay91 (F := Ideal) k q mx (ix2 x l) = max (mx (ix3 0 x l)) (Finset.univ.fold max ⊥ fun c : Fin 512 => k0_pay89 (F := Ideal) k q (ix2 x c)) := by
  unfold k0_pay91 k0_pay90
  have hR := row_max (k0_pay89 (F := Ideal) k q) reduces_S256x512_S256 (.inl rfl) rfl
  generalize multiReduction (F := Ideal) .maximumf [1] S256 (k0_pay89 (F := Ideal) k q) 0xFF800000#32 reduces_S256x512_S256 (.inl rfl) rfl = R at hR ⊢
  pointwise
  rw [hR]
  rfl

theorem store_max_512 (N : FVec Ideal S256x128 .f32) (x : Fin 256) (l : Fin 128) : k0_pay94 (F := Ideal) N (ix3 0 x l) = N (ix2 x l) := by
  unfold k0_pay94
  pointwise

theorem rep_512 (N : FVec Ideal S256x128 .f32) (x : Fin 256) (M : EReal) (h : ∀ l, N (ix2 x l) = M) (c : Fin 512) :
    concatenate S256x512 1 [⟨S256x128, N⟩, ⟨S256x128, N⟩, ⟨S256x128, N⟩, ⟨S256x128, N⟩] concatenates_S256x128_S256x128_S256x128_S256x128_S256x512_d1 (ix2 x c) = M := by
  pointwise
  simp only [h, dite_eq_ite, ite_self]

theorem acc_512 (x : Fin 256) (M m0 : EReal) (hm : ∀ l, k0_pay91 (F := Ideal) k q mx (ix2 x l) = M) (l : Fin 256) (hl : ∀ l, mx (ix3 0 x l) = m0) :
    k0_pay93 (F := Ideal) (k0_pay92 (F := Ideal) k q mx v ac) (ix3 0 x l)
      = ac (ix3 0 x l) * Ideal.exp (m0 - M) + ∑ c : Fin 512, Ideal.exp (k0_pay89 (F := Ideal) k q (ix2 x c) - M) * (if h : l.val < 128 then v (ix2 c ⟨l.val, h⟩) else 1) := by
  unfold k0_pay93 k0_pay92 k0_pay90
  have hr := rep_512 (k0_pay91 (F := Ideal) k q mx) x M hm
  generalize k0_pay89 (F := Ideal) k q = T
  generalize k0_pay91 (F := Ideal) k q mx = N at hm hr ⊢
  generalize concatenate S256x512 1 [⟨S256x128, N⟩, ⟨S256x128, N⟩, ⟨S256x128, N⟩, ⟨S256x128, N⟩] concatenates_S256x128_S256x128_S256x128_S256x128_S256x512_d1 = C at hr ⊢
  pointwise [dot_S256x512_S512x256_S256x256_1_0_0_1_n_n]
  simp only [hm, hl, hr, dite_eq_ite, ite_self]

end Diag512

section Diag768

variable (k v : Vec Ideal S768x128 .bf16) (q : Vec Ideal S1x256x128 .bf16) (mx : Vec Ideal S1x256x128 .f32) (ac : Vec Ideal S1x256x256 .f32)

theorem score_768 (x : Fin 256) (c : Fin 768) :
    k0_pay101 (F := Ideal) k q (ix2 x c) = if c.val ≤ 512 + x.val then ∑ l : Fin 128, q (ix3 0 x l) * k (ix2 c l) else ⊥ := by
  unfold k0_pay101 k0_pay100
  pointwise [dot_S256x128_S768x128_S256x768_1_1_0_0_n_n]
  rw [mask_eq]
  refine if_congr ?_ rfl rfl
  have hx := x.isLt
  have hc := c.isLt
  refine (keep_iff 512 x.val c.val (by omega) (by omega) (by omega)).trans ?_
  omega

theorem max_768 (x : Fin 256) (l : Fin 128) :
    k0_pay103 (F := Ideal) k q mx (ix2 x l) = max (mx (ix3 0 x l)) (Finset.univ.fold max ⊥ fun c : Fin 768 => k0_pay101 (F := Ideal) k q (ix2 x c)) := by
  unfold k0_pay103 k0_pay102
  have hR := row_max (k0_pay101 (F := Ideal) k q) reduces_S256x768_S256 (.inl rfl) rfl
  generalize multiReduction (F := Ideal) .maximumf [1] S256 (k0_pay101 (F := Ideal) k q) 0xFF800000#32 reduces_S256x768_S256 (.inl rfl) rfl = R at hR ⊢
  pointwise
  rw [hR]
  rfl

theorem store_max_768 (N : FVec Ideal S256x128 .f32) (x : Fin 256) (l : Fin 128) : k0_pay106 (F := Ideal) N (ix3 0 x l) = N (ix2 x l) := by
  unfold k0_pay106
  pointwise

theorem rep_768 (N : FVec Ideal S256x128 .f32) (x : Fin 256) (M : EReal) (h : ∀ l, N (ix2 x l) = M) (c : Fin 768) :
    concatenate S256x768 1 [⟨S256x128, N⟩, ⟨S256x128, N⟩, ⟨S256x128, N⟩, ⟨S256x128, N⟩, ⟨S256x128, N⟩, ⟨S256x128, N⟩] concatenates_S256x128_S256x128_S256x128_S256x128_S256x128_S256x128_S256x768_d1 (ix2 x c) = M := by
  pointwise
  simp only [h, dite_eq_ite, ite_self]

theorem acc_768 (x : Fin 256) (M m0 : EReal) (hm : ∀ l, k0_pay103 (F := Ideal) k q mx (ix2 x l) = M) (l : Fin 256) (hl : ∀ l, mx (ix3 0 x l) = m0) :
    k0_pay105 (F := Ideal) (k0_pay104 (F := Ideal) k q mx v ac) (ix3 0 x l)
      = ac (ix3 0 x l) * Ideal.exp (m0 - M) + ∑ c : Fin 768, Ideal.exp (k0_pay101 (F := Ideal) k q (ix2 x c) - M) * (if h : l.val < 128 then v (ix2 c ⟨l.val, h⟩) else 1) := by
  unfold k0_pay105 k0_pay104 k0_pay102
  have hr := rep_768 (k0_pay103 (F := Ideal) k q mx) x M hm
  generalize k0_pay101 (F := Ideal) k q = T
  generalize k0_pay103 (F := Ideal) k q mx = N at hm hr ⊢
  generalize concatenate S256x768 1 [⟨S256x128, N⟩, ⟨S256x128, N⟩, ⟨S256x128, N⟩, ⟨S256x128, N⟩, ⟨S256x128, N⟩, ⟨S256x128, N⟩] concatenates_S256x128_S256x128_S256x128_S256x128_S256x128_S256x128_S256x768_d1 = C at hr ⊢
  pointwise [dot_S256x768_S768x256_S256x256_1_0_0_1_n_n]
  simp only [hm, hl, hr, dite_eq_ite, ite_self]

end Diag768

end Cert.KernelIdeal.Attn

end
-- ==== Proof.AttnStep.lean ====
/-
  What one grid point does to the attention's running maxima and sums, as functions of the whole scratch arrays: the new
  maximum and the new sums of every row from the block of keys and values at hand, and each stored block as a part of them.
-/
module

public import proofs.«01_k».proof.Proof.Gen.KernelIdeal.Flash
public import proofs.«01_k».proof.Proof.AttnBlk
public import Idealize.ShloMosaic.Lib.Pipeline.ReadBack

@[expose] public section

set_option maxRecDepth 16384

noncomputable section

namespace Cert.KernelIdeal.Attn

open Cert.KernelIdeal Cert.KernelIdeal.Gen
open Idealize.ShloMosaic
open scoped BigOperators

/-- Lane `l` of head `h` among the 1024 columns. -/
abbrev col (h : Fin 8) (l : Fin 128) : Fin 1024 := ⟨128 * h.val + l.val, by omega⟩

/-- Row `r`'s score against key `c` of the block, −∞ where the diagonal block (`d`) cuts it off. -/
def T (d : Bool) (Q : S8x1536x128.Idx → EReal) (K : S768x1024.Idx → EReal) (h : Fin 8) (r : Fin 1536) (c : Fin 768) : EReal :=
  if d = false ∨ c.val ≤ r.val % 768 then ∑ l : Fin 128, Q (ix3 h r l) * K (ix2 c (col h l)) else ⊥

/-- The new maximum. -/
def GM (d : Bool) (Q : S8x1536x128.Idx → EReal) (K : S768x1024.Idx → EReal) (M0 : Fin 8 → Fin 1536 → EReal) (h : Fin 8) (r : Fin 1536) : EReal :=
  max (M0 h r) (Finset.univ.fold max ⊥ (T d Q K h r))

/-- What the sums weigh: the value's lane, or one in the upper half. -/
def W (V : S768x1024.Idx → EReal) (h : Fin 8) (l : Fin 256) (c : Fin 768) : EReal :=
  if hl : l.val < 128 then V (ix2 c (col h ⟨l.val, hl⟩)) else 1

/-- The new sums. -/
def GA (d : Bool) (Q : S8x1536x128.Idx → EReal) (K V : S768x1024.Idx → EReal) (M0 : Fin 8 → Fin 1536 → EReal) (A0 : S8x1536x256.Idx → EReal)
    (h : Fin 8) (r : Fin 1536) (l : Fin 256) : EReal :=
  A0 (ix3 h r l) * Ideal.exp (M0 h r - GM d Q K M0 h r) + ∑ c : Fin 768, Ideal.exp (T d Q K h r c - GM d Q K M0 h r) * W V h l c

/-- The new maxima as an array. -/
def GMa (d : Bool) (Q : S8x1536x128.Idx → EReal) (K : S768x1024.Idx → EReal) (M0 : Fin 8 → Fin 1536 → EReal) : S8x1536x128.Idx → EReal :=
  fun y => GM d Q K M0 (y 0) (y 1)

/-- The new sums as an array. -/
def GAa (d : Bool) (Q : S8x1536x128.Idx → EReal) (K V : S768x1024.Idx → EReal) (M0 : Fin 8 → Fin 1536 → EReal) (A0 : S8x1536x256.Idx → EReal) :
    S8x1536x256.Idx → EReal :=
  fun y => GA d Q K V M0 A0 (y 0) (y 1) (y 2)

/-- A sum whose tail vanishes is the sum of its head. -/
theorem sum_head {a b : ℕ} (hab : a ≤ b) (f : Fin b → EReal) (hz : ∀ c, a ≤ c.val → f c = 0) : ∑ c : Fin a, f (Fin.castLE hab c) = ∑ c : Fin b, f c := by
  refine Finset.sum_of_injOn (Fin.castLE hab) (fun x _ y _ e => Fin.castLE_injective hab e) (fun _ _ => Finset.mem_coe.mpr (Finset.mem_univ _)) (fun c _ hc => hz c ?_) (fun _ _ => rfl)
  by_contra hlt
  exact hc ⟨⟨c.val, by omega⟩, Finset.mem_coe.mpr (Finset.mem_univ _), rfl⟩

/-- A maximum whose tail is −∞ is the maximum of its head. -/
theorem max_head {a b : ℕ} (hab : a ≤ b) (f : Fin b → EReal) (hz : ∀ c, a ≤ c.val → f c = ⊥) :
    (Finset.univ.fold max ⊥ fun c : Fin a => f (Fin.castLE hab c)) = Finset.univ.fold max ⊥ f := by
  refine le_antisymm ?_ ?_
  · refine (Finset.fold_max_le _).mpr ⟨bot_le, fun c _ => AttnMath.le_fold_max _ _ (Finset.mem_univ _)⟩
  · refine (Finset.fold_max_le _).mpr ⟨bot_le, fun c _ => ?_⟩
    by_cases h : a ≤ c.val
    · rw [hz c h]; exact bot_le
    · exact AttnMath.le_fold_max _ (fun c : Fin a => f (Fin.castLE hab c)) (Finset.mem_univ ⟨c.val, by omega⟩)

theorem ix3_eta {a b c : ℕ} (x : (⟨3, ![a, b, c]⟩ : Shape).Idx) : x = ix3 (x 0) (x 1) (x 2) := by
  funext i
  match i with
  | ⟨0, _⟩ => rfl
  | ⟨1, _⟩ => rfl
  | ⟨2, _⟩ => rfl

theorem emb3 {a b c n w : ℕ} {o r0 : ℕ} (inb) (x : Fin n) (l : Fin w) (h : Fin a) (r : Fin b) (l' : Fin c) (ho : o = h.val) (hr : r.val = r0 + x.val) (hl : l'.val = l.val) :
    (Rect.unit (s := ⟨3, ![a, b, c]⟩) ![o, r0, 0] ![1, n, w] inb).emb (ix3 0 x l) = ix3 h r l' := by
  funext i
  refine Fin.ext ?_
  match i with
  | ⟨0, _⟩ => show o + 1 * 0 = h.val; omega
  | ⟨1, _⟩ => show r0 + 1 * x.val = r.val; omega
  | ⟨2, _⟩ => show 0 + 1 * l.val = l'.val; omega

/-- A full block's maxima. -/
theorem piece_m_full {o : ℕ} (h : Fin 8) (ho : o = h.val) {Q : S8x1536x128.Idx → EReal} {K : S768x1024.Idx → EReal} {M0 : Fin 8 → Fin 1536 → EReal}
    {k : Vec Ideal S768x128 .bf16} {q : Vec Ideal S1x1536x128 .bf16} {mx : Vec Ideal S1x1536x128 .f32}
    (hk : ∀ c l, k (ix2 c l) = K (ix2 c (col h l))) (hq : ∀ x l, q (ix3 0 x l) = Q (ix3 h x l)) (hm : ∀ x l, mx (ix3 0 x l) = M0 h x)
    (inb : ∀ a, (![o, 0, 0] : Fin 3 → ℕ) a + S1x1536x128.size a ≤ S8x1536x128.size a) (x : S1x1536x128.Idx) :
    k0_pay38 (F := Ideal) k q mx x = GMa false Q K M0 ((Rect.unit (s := S8x1536x128) ![o, 0, 0] S1x1536x128.size inb).emb x) := by
  obtain ⟨r, l, rfl⟩ : ∃ (r : Fin 1536) (l : Fin 128), x = ix3 0 r l := ⟨x 1, x 2, by rw [ix3_eta x]; congr 1; exact Subsingleton.elim (α := Fin 1) _ _⟩
  refine Eq.trans ?_ (congrArg (GMa false Q K M0) (emb3 inb r l h r l ho (by omega) rfl)).symm
  show _ = GM false Q K M0 h r
  rw [store_max_full, max_full, hm]
  unfold GM T
  simp only [score_full, hq, hk, true_or, if_true]

/-- A full block's sums. -/
theorem piece_a_full {o : ℕ} (h : Fin 8) (ho : o = h.val) {Q : S8x1536x128.Idx → EReal} {K V : S768x1024.Idx → EReal} {M0 : Fin 8 → Fin 1536 → EReal}
    {A0 : S8x1536x256.Idx → EReal} {k v : Vec Ideal S768x128 .bf16} {q : Vec Ideal S1x1536x128 .bf16} {mx : Vec Ideal S1x1536x128 .f32}
    {ac : Vec Ideal S1x1536x256 .f32} (hk : ∀ c l, k (ix2 c l) = K (ix2 c (col h l))) (hv : ∀ c l, v (ix2 c l) = V (ix2 c (col h l)))
    (hq : ∀ x l, q (ix3 0 x l) = Q (ix3 h x l)) (hm : ∀ x l, mx (ix3 0 x l) = M0 h x) (ha : ∀ x l, ac (ix3 0 x l) = A0 (ix3 h x l))
    (inb : ∀ a, (![o, 0, 0] : Fin 3 → ℕ) a + S1x1536x256.size a ≤ S8x1536x256.size a) (x : S1x1536x256.Idx) :
    k0_pay37 (F := Ideal) k q mx v ac x = GAa false Q K V M0 A0 ((Rect.unit (s := S8x1536x256) ![o, 0, 0] S1x1536x256.size inb).emb x) := by
  obtain ⟨r, l, rfl⟩ : ∃ (r : Fin 1536) (l : Fin 256), x = ix3 0 r l := ⟨x 1, x 2, by rw [ix3_eta x]; congr 1; exact Subsingleton.elim (α := Fin 1) _ _⟩
  refine Eq.trans ?_ (congrArg (GAa false Q K V M0 A0) (emb3 inb r l h r l ho (by omega) rfl)).symm
  show _ = GA false Q K V M0 A0 h r l
  have hM : ∀ l, k0_pay36 (F := Ideal) k q mx (ix2 r l) = GM false Q K M0 h r := fun l => by
    rw [max_full, hm]
    unfold GM T
    simp only [score_full, hq, hk, true_or, if_true]
  rw [acc_full k v q mx ac r _ (M0 h r) hM l (fun l => hm r l), ha]
  unfold GA T W
  simp only [score_full, hq, hk, hv, true_or, if_true]

/-- A place in a slab of rows. -/
theorem mem_slab {a b c n w : ℕ} {o r0 : ℕ} (inb) (y : (⟨3, ![a, b, c]⟩ : Shape).Idx) (h0 : (y 0).val = o) (h1 : r0 ≤ (y 1).val) (h2 : (y 1).val < r0 + n) (hw : w = c) :
    y ∈ (Rect.unit (s := ⟨3, ![a, b, c]⟩) ![o, r0, 0] ![1, n, w] inb).set := by
  refine Rect.mem_set_unit.mpr fun i => ?_
  match i with
  | ⟨0, _⟩ => exact ⟨h0.ge, h0.trans_lt (Nat.lt_succ_self o)⟩
  | ⟨1, _⟩ => exact ⟨h1, h2⟩
  | ⟨2, _⟩ => exact ⟨Nat.zero_le _, by have := (y 2).isLt; show (y 2).val < 0 + w; subst hw; rw [Nat.zero_add]; exact this⟩

/-- What a list of stores leaves, from the stores of its head alone. -/
theorem canon_first {s : Shape} {e : EltTy} (G : s.Idx → Elt Ideal e) (n : ℕ) (L : List (View.Piece (Elt Ideal) s e))
    (h : ∀ p ∈ L.take n, ∀ x : p.1.shape.Idx, p.2 x = G (p.1.emb x)) (y : s.Idx) (hc : ∃ p ∈ L.take n, y ∈ p.1.set) : View.canon L y = G y := by
  conv_lhs => rw [← List.take_append_drop n L]
  exact View.canon_append_of_pieces G (L.drop n) (L.take n) h y hc

section Diag256

variable {Q : S8x1536x128.Idx → EReal} {K V : S768x1024.Idx → EReal} {M0 : Fin 8 → Fin 1536 → EReal}
  {A0 : S8x1536x256.Idx → EReal} {k v : Vec Ideal S256x128 .bf16} {q : Vec Ideal S1x256x128 .bf16} {mx : Vec Ideal S1x256x128 .f32} {ac : Vec Ideal S1x256x256 .f32}

theorem score_at_256 (h : Fin 8) (r : Fin 1536) (x : Fin 256) (hr : r.val % 768 = 0 + x.val)
    (hk : ∀ (c : Fin 256) l, k (ix2 c l) = K (ix2 (Fin.castLE (by omega : 256 ≤ 768) c) (col h l))) (hq : ∀ l, q (ix3 0 x l) = Q (ix3 h r l)) (c : Fin 256) :
    k0_pay78 (F := Ideal) k q (ix2 x c) = T true Q K h r (Fin.castLE (by omega : 256 ≤ 768) c) := by
  rw [score_256]
  unfold T
  refine if_congr ?_ (Finset.sum_congr rfl fun l _ => by rw [hq, hk]) rfl
  show c.val ≤ 0 + x.val ↔ _ ∨ c.val ≤ r.val % 768
  rw [hr]
  simp

theorem max_at_256 (h : Fin 8) (r : Fin 1536) (x : Fin 256) (hr : r.val % 768 = 0 + x.val)
    (hk : ∀ (c : Fin 256) l, k (ix2 c l) = K (ix2 (Fin.castLE (by omega : 256 ≤ 768) c) (col h l))) (hq : ∀ l, q (ix3 0 x l) = Q (ix3 h r l))
    (hm : ∀ l, mx (ix3 0 x l) = M0 h r) (l : Fin 128) :
    k0_pay80 (F := Ideal) k q mx (ix2 x l) = GM true Q K M0 h r := by
  rw [max_256, hm]
  unfold GM
  rw [← max_head (by omega : 256 ≤ 768) (T true Q K h r) (fun c hc => by
    have hx := x.isLt
    unfold T; rw [if_neg]; simp only [Bool.true_eq_false, false_or, hr]; omega)]
  simp only [score_at_256 h r x hr hk hq]

/-- The maxima of a block of rows on the diagonal. -/
theorem piece_m_256 {o r0 : ℕ} (h : Fin 8) (ho : o = h.val) (h0 : r0 % 768 = 0) (h1 : r0 + 256 ≤ 1536)
    (hk : ∀ (c : Fin 256) l, k (ix2 c l) = K (ix2 (Fin.castLE (by omega : 256 ≤ 768) c) (col h l)))
    (hq : ∀ (x : Fin 256) l, q (ix3 0 x l) = Q (ix3 h ⟨r0 + x.val, by omega⟩ l)) (hm : ∀ (x : Fin 256) l, mx (ix3 0 x l) = M0 h ⟨r0 + x.val, by omega⟩)
    (inb : ∀ a, (![o, r0, 0] : Fin 3 → ℕ) a + S1x256x128.size a ≤ S8x1536x128.size a) (x : S1x256x128.Idx) :
    k0_pay82 (F := Ideal) (k0_pay80 (F := Ideal) k q mx) x = GMa true Q K M0 ((Rect.unit (s := S8x1536x128) ![o, r0, 0] S1x256x128.size inb).emb x) := by
  obtain ⟨r, l, rfl⟩ : ∃ (r : Fin 256) (l : Fin 128), x = ix3 0 r l := ⟨x 1, x 2, by rw [ix3_eta x]; congr 1; exact Subsingleton.elim (α := Fin 1) _ _⟩
  refine Eq.trans ?_ (congrArg (GMa true Q K M0) (emb3 inb r l h ⟨r0 + r.val, by omega⟩ l ho rfl rfl)).symm
  show _ = GM true Q K M0 h ⟨r0 + r.val, by omega⟩
  rw [store_max_256]
  exact max_at_256 h _ r (by show (r0 + r.val) % 768 = _; have := r.isLt; omega) hk (hq r) (hm r) l

/-- The sums of a block of rows on the diagonal. -/
theorem piece_a_256 {o r0 : ℕ} (h : Fin 8) (ho : o = h.val) (h0 : r0 % 768 = 0) (h1 : r0 + 256 ≤ 1536)
    (hk : ∀ (c : Fin 256) l, k (ix2 c l) = K (ix2 (Fin.castLE (by omega : 256 ≤ 768) c) (col h l)))
    (hv : ∀ (c : Fin 256) l, v (ix2 c l) = V (ix2 (Fin.castLE (by omega : 256 ≤ 768) c) (col h l)))
    (hq : ∀ (x : Fin 256) l, q (ix3 0 x l) = Q (ix3 h ⟨r0 + x.val, by omega⟩ l)) (hm : ∀ (x : Fin 256) l, mx (ix3 0 x l) = M0 h ⟨r0 + x.val, by omega⟩)
    (ha : ∀ (x : Fin 256) l, ac (ix3 0 x l) = A0 (ix3 h ⟨r0 + x.val, by omega⟩ l))
    (inb : ∀ a, (![o, r0, 0] : Fin 3 → ℕ) a + S1x256x256.size a ≤ S8x1536x256.size a) (x : S1x256x256.Idx) :
    k0_pay81 (F := Ideal) k q mx v ac x = GAa true Q K V M0 A0 ((Rect.unit (s := S8x1536x256) ![o, r0, 0] S1x256x256.size inb).emb x) := by
  obtain ⟨r, l, rfl⟩ : ∃ (r : Fin 256) (l : Fin 256), x = ix3 0 r l := ⟨x 1, x 2, by rw [ix3_eta x]; congr 1; exact Subsingleton.elim (α := Fin 1) _ _⟩
  refine Eq.trans ?_ (congrArg (GAa true Q K V M0 A0) (emb3 inb r l h ⟨r0 + r.val, by omega⟩ l ho rfl rfl)).symm
  have hr : (r0 + r.val) % 768 = 0 + r.val := by have := r.isLt; omega
  show _ = GA true Q K V M0 A0 h ⟨r0 + r.val, by omega⟩ l
  rw [acc_256 k v q mx ac r _ (M0 h ⟨r0 + r.val, by omega⟩) (max_at_256 h _ r hr hk (hq r) (hm r)) l (hm r), ha]
  unfold GA
  refine congrArg _ (Eq.trans (Finset.sum_congr rfl fun c _ => ?_) (sum_head (by omega : 256 ≤ 768)
    (fun c : Fin 768 => Ideal.exp (T true Q K h ⟨r0 + r.val, by omega⟩ c - GM true Q K M0 h ⟨r0 + r.val, by omega⟩) * W V h l c) fun c hc => ?_))
  · rw [score_at_256 h ⟨r0 + r.val, by omega⟩ r hr hk (hq r)]
    unfold W
    simp only [hv]
  · have hx := r.isLt
    show Ideal.exp (T true Q K h ⟨r0 + r.val, _⟩ c - _) * _ = _
    unfold T
    rw [if_neg (by simp only [Bool.true_eq_false, false_or, hr]; omega), EReal.bot_sub]
    exact zero_mul _

end Diag256

section Diag512

variable {Q : S8x1536x128.Idx → EReal} {K V : S768x1024.Idx → EReal} {M0 : Fin 8 → Fin 1536 → EReal}
  {A0 : S8x1536x256.Idx → EReal} {k v : Vec Ideal S512x128 .bf16} {q : Vec Ideal S1x256x128 .bf16} {mx : Vec Ideal S1x256x128 .f32} {ac : Vec Ideal S1x256x256 .f32}

theorem score_at_512 (h : Fin 8) (r : Fin 1536) (x : Fin 256) (hr : r.val % 768 = 256 + x.val)
    (hk : ∀ (c : Fin 512) l, k (ix2 c l) = K (ix2 (Fin.castLE (by omega : 512 ≤ 768) c) (col h l))) (hq : ∀ l, q (ix3 0 x l) = Q (ix3 h r l)) (c : Fin 512) :
    k0_pay89 (F := Ideal) k q (ix2 x c) = T true Q K h r (Fin.castLE (by omega : 512 ≤ 768) c) := by
  rw [score_512]
  unfold T
  refine if_congr ?_ (Finset.sum_congr rfl fun l _ => by rw [hq, hk]) rfl
  show c.val ≤ 256 + x.val ↔ _ ∨ c.val ≤ r.val % 768
  rw [hr]
  simp

theorem max_at_512 (h : Fin 8) (r : Fin 1536) (x : Fin 256) (hr : r.val % 768 = 256 + x.val)
    (hk : ∀ (c : Fin 512) l, k (ix2 c l) = K (ix2 (Fin.castLE (by omega : 512 ≤ 768) c) (col h l))) (hq : ∀ l, q (ix3 0 x l) = Q (ix3 h r l))
    (hm : ∀ l, mx (ix3 0 x l) = M0 h r) (l : Fin 128) :
    k0_pay91 (F := Ideal) k q mx (ix2 x l) = GM true Q K M0 h r := by
  rw [max_512, hm]
  unfold GM
  rw [← max_head (by omega : 512 ≤ 768) (T true Q K h r) (fun c hc => by
    have hx := x.isLt
    unfold T; rw [if_neg]; simp only [Bool.true_eq_false, false_or, hr]; omega)]
  simp only [score_at_512 h r x hr hk hq]

/-- The maxima of a block of rows on the diagonal. -/
theorem piece_m_512 {o r0 : ℕ} (h : Fin 8) (ho : o = h.val) (h0 : r0 % 768 = 256) (h1 : r0 + 256 ≤ 1536)
    (hk : ∀ (c : Fin 512) l, k (ix2 c l) = K (ix2 (Fin.castLE (by omega : 512 ≤ 768) c) (col h l)))
    (hq : ∀ (x : Fin 256) l, q (ix3 0 x l) = Q (ix3 h ⟨r0 + x.val, by omega⟩ l)) (hm : ∀ (x : Fin 256) l, mx (ix3 0 x l) = M0 h ⟨r0 + x.val, by omega⟩)
    (inb : ∀ a, (![o, r0, 0] : Fin 3 → ℕ) a + S1x256x128.size a ≤ S8x1536x128.size a) (x : S1x256x128.Idx) :
    k0_pay94 (F := Ideal) (k0_pay91 (F := Ideal) k q mx) x = GMa true Q K M0 ((Rect.unit (s := S8x1536x128) ![o, r0, 0] S1x256x128.size inb).emb x) := by
  obtain ⟨r, l, rfl⟩ : ∃ (r : Fin 256) (l : Fin 128), x = ix3 0 r l := ⟨x 1, x 2, by rw [ix3_eta x]; congr 1; exact Subsingleton.elim (α := Fin 1) _ _⟩
  refine Eq.trans ?_ (congrArg (GMa true Q K M0) (emb3 inb r l h ⟨r0 + r.val, by omega⟩ l ho rfl rfl)).symm
  show _ = GM true Q K M0 h ⟨r0 + r.val, by omega⟩
  rw [store_max_512]
  exact max_at_512 h _ r (by show (r0 + r.val) % 768 = _; have := r.isLt; omega) hk (hq r) (hm r) l

/-- The sums of a block of rows on the diagonal. -/
theorem piece_a_512 {o r0 : ℕ} (h : Fin 8) (ho : o = h.val) (h0 : r0 % 768 = 256) (h1 : r0 + 256 ≤ 1536)
    (hk : ∀ (c : Fin 512) l, k (ix2 c l) = K (ix2 (Fin.castLE (by omega : 512 ≤ 768) c) (col h l)))
    (hv : ∀ (c : Fin 512) l, v (ix2 c l) = V (ix2 (Fin.castLE (by omega : 512 ≤ 768) c) (col h l)))
    (hq : ∀ (x : Fin 256) l, q (ix3 0 x l) = Q (ix3 h ⟨r0 + x.val, by omega⟩ l)) (hm : ∀ (x : Fin 256) l, mx (ix3 0 x l) = M0 h ⟨r0 + x.val, by omega⟩)
    (ha : ∀ (x : Fin 256) l, ac (ix3 0 x l) = A0 (ix3 h ⟨r0 + x.val, by omega⟩ l))
    (inb : ∀ a, (![o, r0, 0] : Fin 3 → ℕ) a + S1x256x256.size a ≤ S8x1536x256.size a) (x : S1x256x256.Idx) :
    k0_pay93 (F := Ideal) (k0_pay92 (F := Ideal) k q mx v ac) x = GAa true Q K V M0 A0 ((Rect.unit (s := S8x1536x256) ![o, r0, 0] S1x256x256.size inb).emb x) := by
  obtain ⟨r, l, rfl⟩ : ∃ (r : Fin 256) (l : Fin 256), x = ix3 0 r l := ⟨x 1, x 2, by rw [ix3_eta x]; congr 1; exact Subsingleton.elim (α := Fin 1) _ _⟩
  refine Eq.trans ?_ (congrArg (GAa true Q K V M0 A0) (emb3 inb r l h ⟨r0 + r.val, by omega⟩ l ho rfl rfl)).symm
  have hr : (r0 + r.val) % 768 = 256 + r.val := by have := r.isLt; omega
  show _ = GA true Q K V M0 A0 h ⟨r0 + r.val, by omega⟩ l
  rw [acc_512 k v q mx ac r _ (M0 h ⟨r0 + r.val, by omega⟩) (max_at_512 h _ r hr hk (hq r) (hm r)) l (hm r), ha]
  unfold GA
  refine congrArg _ (Eq.trans (Finset.sum_congr rfl fun c _ => ?_) (sum_head (by omega : 512 ≤ 768)
    (fun c : Fin 768 => Ideal.exp (T true Q K h ⟨r0 + r.val, by omega⟩ c - GM true Q K M0 h ⟨r0 + r.val, by omega⟩) * W V h l c) fun c hc => ?_))
  · rw [score_at_512 h ⟨r0 + r.val, by omega⟩ r hr hk (hq r)]
    unfold W
    simp only [hv]
  · have hx := r.isLt
    show Ideal.exp (T true Q K h ⟨r0 + r.val, _⟩ c - _) * _ = _
    unfold T
    rw [if_neg (by simp only [Bool.true_eq_false, false_or, hr]; omega), EReal.bot_sub]
    exact zero_mul _

end Diag512

section Diag768

variable {Q : S8x1536x128.Idx → EReal} {K V : S768x1024.Idx → EReal} {M0 : Fin 8 → Fin 1536 → EReal}
  {A0 : S8x1536x256.Idx → EReal} {k v : Vec Ideal S768x128 .bf16} {q : Vec Ideal S1x256x128 .bf16} {mx : Vec Ideal S1x256x128 .f32} {ac : Vec Ideal S1x256x256 .f32}

theorem score_at_768 (h : Fin 8) (r : Fin 1536) (x : Fin 256) (hr : r.val % 768 = 512 + x.val)
    (hk : ∀ (c : Fin 768) l, k (ix2 c l) = K (ix2 (Fin.castLE (by omega : 768 ≤ 768) c) (col h l))) (hq : ∀ l, q (ix3 0 x l) = Q (ix3 h r l)) (c : Fin 768) :
    k0_pay101 (F := Ideal) k q (ix2 x c) = T true Q K h r (Fin.castLE (by omega : 768 ≤ 768) c) := by
  rw [score_768]
  unfold T
  refine if_congr ?_ (Finset.sum_congr rfl fun l _ => by rw [hq, hk]) rfl
  show c.val ≤ 512 + x.val ↔ _ ∨ c.val ≤ r.val % 768
  rw [hr]
  simp

theorem max_at_768 (h : Fin 8) (r : Fin 1536) (x : Fin 256) (hr : r.val % 768 = 512 + x.val)
    (hk : ∀ (c : Fin 768) l, k (ix2 c l) = K (ix2 (Fin.castLE (by omega : 768 ≤ 768) c) (col h l))) (hq : ∀ l, q (ix3 0 x l) = Q (ix3 h r l))
    (hm : ∀ l, mx (ix3 0 x l) = M0 h r) (l : Fin 128) :
    k0_pay103 (F := Ideal) k q mx (ix2 x l) = GM true Q K M0 h r := by
  rw [max_768, hm]
  unfold GM
  rw [← max_head (by omega : 768 ≤ 768) (T true Q K h r) (fun c hc => by
    have hx := x.isLt
    unfold T; rw [if_neg]; simp only [Bool.true_eq_false, false_or, hr]; omega)]
  simp only [score_at_768 h r x hr hk hq]

/-- The maxima of a block of rows on the diagonal. -/
theorem piece_m_768 {o r0 : ℕ} (h : Fin 8) (ho : o = h.val) (h0 : r0 % 768 = 512) (h1 : r0 + 256 ≤ 1536)
    (hk : ∀ (c : Fin 768) l, k (ix2 c l) = K (ix2 (Fin.castLE (by omega : 768 ≤ 768) c) (col h l)))
    (hq : ∀ (x : Fin 256) l, q (ix3 0 x l) = Q (ix3 h ⟨r0 + x.val, by omega⟩ l)) (hm : ∀ (x : Fin 256) l, mx (ix3 0 x l) = M0 h ⟨r0 + x.val, by omega⟩)
    (inb : ∀ a, (![o, r0, 0] : Fin 3 → ℕ) a + S1x256x128.size a ≤ S8x1536x128.size a) (x : S1x256x128.Idx) :
    k0_pay106 (F := Ideal) (k0_pay103 (F := Ideal) k q mx) x = GMa true Q K M0 ((Rect.unit (s := S8x1536x128) ![o, r0, 0] S1x256x128.size inb).emb x) := by
  obtain ⟨r, l, rfl⟩ : ∃ (r : Fin 256) (l : Fin 128), x = ix3 0 r l := ⟨x 1, x 2, by rw [ix3_eta x]; congr 1; exact Subsingleton.elim (α := Fin 1) _ _⟩
  refine Eq.trans ?_ (congrArg (GMa true Q K M0) (emb3 inb r l h ⟨r0 + r.val, by omega⟩ l ho rfl rfl)).symm
  show _ = GM true Q K M0 h ⟨r0 + r.val, by omega⟩
  rw [store_max_768]
  exact max_at_768 h _ r (by show (r0 + r.val) % 768 = _; have := r.isLt; omega) hk (hq r) (hm r) l

/-- The sums of a block of rows on the diagonal. -/
theorem piece_a_768 {o r0 : ℕ} (h : Fin 8) (ho : o = h.val) (h0 : r0 % 768 = 512) (h1 : r0 + 256 ≤ 1536)
    (hk : ∀ (c : Fin 768) l, k (ix2 c l) = K (ix2 (Fin.castLE (by omega : 768 ≤ 768) c) (col h l)))
    (hv : ∀ (c : Fin 768) l, v (ix2 c l) = V (ix2 (Fin.castLE (by omega : 768 ≤ 768) c) (col h l)))
    (hq : ∀ (x : Fin 256) l, q (ix3 0 x l) = Q (ix3 h ⟨r0 + x.val, by omega⟩ l)) (hm : ∀ (x : Fin 256) l, mx (ix3 0 x l) = M0 h ⟨r0 + x.val, by omega⟩)
    (ha : ∀ (x : Fin 256) l, ac (ix3 0 x l) = A0 (ix3 h ⟨r0 + x.val, by omega⟩ l))
    (inb : ∀ a, (![o, r0, 0] : Fin 3 → ℕ) a + S1x256x256.size a ≤ S8x1536x256.size a) (x : S1x256x256.Idx) :
    k0_pay105 (F := Ideal) (k0_pay104 (F := Ideal) k q mx v ac) x = GAa true Q K V M0 A0 ((Rect.unit (s := S8x1536x256) ![o, r0, 0] S1x256x256.size inb).emb x) := by
  obtain ⟨r, l, rfl⟩ : ∃ (r : Fin 256) (l : Fin 256), x = ix3 0 r l := ⟨x 1, x 2, by rw [ix3_eta x]; congr 1; exact Subsingleton.elim (α := Fin 1) _ _⟩
  refine Eq.trans ?_ (congrArg (GAa true Q K V M0 A0) (emb3 inb r l h ⟨r0 + r.val, by omega⟩ l ho rfl rfl)).symm
  have hr : (r0 + r.val) % 768 = 512 + r.val := by have := r.isLt; omega
  show _ = GA true Q K V M0 A0 h ⟨r0 + r.val, by omega⟩ l
  rw [acc_768 k v q mx ac r _ (M0 h ⟨r0 + r.val, by omega⟩) (max_at_768 h _ r hr hk (hq r) (hm r)) l (hm r), ha]
  unfold GA
  refine congrArg _ (Eq.trans (Finset.sum_congr rfl fun c _ => ?_) (sum_head (by omega : 768 ≤ 768)
    (fun c : Fin 768 => Ideal.exp (T true Q K h ⟨r0 + r.val, by omega⟩ c - GM true Q K M0 h ⟨r0 + r.val, by omega⟩) * W V h l c) fun c hc => ?_))
  · rw [score_at_768 h ⟨r0 + r.val, by omega⟩ r hr hk (hq r)]
    unfold W
    simp only [hv]
  · have hx := r.isLt
    show Ideal.exp (T true Q K h ⟨r0 + r.val, _⟩ c - _) * _ = _
    unfold T
    rw [if_neg (by simp only [Bool.true_eq_false, false_or, hr]; omega), EReal.bot_sub]
    exact zero_mul _

end Diag768

/-- A load of a slab reads the array there. -/
theorem ld3 {sp : Space} {a b c n w : ℕ} {o r0 : ℕ} {e : EltTy} {kd : _} (v : View sig kd sp ⟨3, ![a, b, c]⟩ e) (f : v.ty.Contents (Elt Ideal))
    (inb : ∀ i, (![o, r0, 0] : Fin 3 → ℕ) i + (![1, n, w] : Fin 3 → ℕ) i ≤ (![a, b, c] : Fin 3 → ℕ) i)
    (x : Fin n) (l : Fin w) (h : Fin a) (r : Fin b) (l' : Fin c) (ho : o = h.val) (hr : r.val = r0 + x.val) (hl : l'.val = l.val) :
    v.readAt (Elt Ideal) (Rect.unit (s := ⟨3, ![a, b, c]⟩) ![o, r0, 0] ![1, n, w] inb).toLoadRect f (ix3 0 x l) = v.read (Elt Ideal) f (ix3 h r l') :=
  (View.readAt_apply (v := v) _ f _).trans (congrArg (v.read (Elt Ideal) f) (emb3 inb x l h r l' ho hr hl))

/-- A load of a slab after stores reads what the stores left there. -/
theorem ldc3 {sp : Space} {a b c n w : ℕ} {o r0 : ℕ} {e : EltTy} {kd : _} (v : View sig kd sp ⟨3, ![a, b, c]⟩ e) (L : List (View.Piece (Elt Ideal) ⟨3, ![a, b, c]⟩ e))
    (inb : ∀ i, (![o, r0, 0] : Fin 3 → ℕ) i + (![1, n, w] : Fin 3 → ℕ) i ≤ (![a, b, c] : Fin 3 → ℕ) i)
    (x : Fin n) (l : Fin w) (h : Fin a) (r : Fin b) (l' : Fin c) (ho : o = h.val) (hr : r.val = r0 + x.val) (hl : l'.val = l.val) :
    v.readCov L (Rect.unit (s := ⟨3, ![a, b, c]⟩) ![o, r0, 0] ![1, n, w] inb).toLoadRect (ix3 0 x l) = View.canon L (ix3 h r l') :=
  (congrFun (View.readCov_eq_canon' v L _) _).trans (congrArg (View.canon L) (emb3 inb x l h r l' ho hr hl))

/-- A load of columns of a block. -/
theorem ld2 {sp : Space} {a b n w : ℕ} {o : ℕ} {e : EltTy} {kd : _} (v : View sig kd sp ⟨2, ![a, b]⟩ e) (X : (⟨2, ![a, b]⟩ : Shape).Idx → Elt Ideal e)
    (inb : ∀ i, (![0, o] : Fin 2 → ℕ) i + (![n, w] : Fin 2 → ℕ) i ≤ (![a, b] : Fin 2 → ℕ) i)
    (x : Fin n) (l : Fin w) (r : Fin a) (l' : Fin b) (hr : r.val = x.val) (hl : l'.val = o + l.val) :
    v.readAt (Elt Ideal) (Rect.unit (s := ⟨2, ![a, b]⟩) ![0, o] ![n, w] inb).toLoadRect (v.rep X) (ix2 x l) = X (ix2 r l') := by
  rw [View.readAt_apply, View.read_rep]
  refine congrArg X (funext fun i => Fin.ext ?_)
  match i with
  | ⟨0, _⟩ => show 0 + 1 * x.val = r.val; omega
  | ⟨1, _⟩ => show o + 1 * l.val = l'.val; omega

/-- The rectangle of a piece is the slab of `n` rows that starts at `p`. -/
def IsSlab {e : EltTy} (W : ℕ) (n : ℕ) (p : ℕ × ℕ) (q : View.Piece (Elt Ideal) (⟨3, ![8, 1536, W]⟩ : Shape) e) : Prop :=
  ∀ inb, q.1 = Rect.unit (s := ⟨3, ![8, 1536, W]⟩) ![p.1, p.2, 0] ![1, n, W] inb

/-- Slabs that take in every head and every block of `n` rows cover the array. -/
theorem cover_slabs {e : EltTy} {W n : ℕ} (hn : 0 < n) (ps : List (ℕ × ℕ)) (L : List (View.Piece (Elt Ideal) (⟨3, ![8, 1536, W]⟩ : Shape) e))
    (hL : List.Forall₂ (IsSlab W n) ps L) (hp : ∀ h : Fin 8, ∀ b : Fin (1536 / n + 1), n * b.val < 1536 → (h.val, n * b.val) ∈ ps)
    (hin : ∀ p ∈ ps, p.1 + 1 ≤ 8 ∧ p.2 + n ≤ 1536)
    (y : (⟨3, ![8, 1536, W]⟩ : Shape).Idx) : ∃ p ∈ L, y ∈ p.1.set := by
  have h1 : (y 1).val < 1536 := (y 1).isLt
  have hb : (y 1).val / n < 1536 / n + 1 := Nat.lt_succ_of_le (Nat.div_le_div_right h1.le)
  have hle : n * ((y 1).val / n) ≤ (y 1).val := Nat.mul_div_le _ _
  have hmem := hp (y 0) ⟨(y 1).val / n, hb⟩ (lt_of_le_of_lt hle h1)
  obtain ⟨i, hi, ei⟩ := List.getElem_of_mem hmem
  have hi' : i < L.length := hL.length_eq ▸ hi
  have hb' := hin _ (List.get_mem ps ⟨i, hi⟩)
  have inb : ∀ a, (![(ps.get ⟨i, hi⟩).1, (ps.get ⟨i, hi⟩).2, 0] : Fin 3 → ℕ) a + (![1, n, W] : Fin 3 → ℕ) a ≤ (![8, 1536, W] : Fin 3 → ℕ) a := fun a => by
    match a with
    | ⟨0, _⟩ => exact hb'.1
    | ⟨1, _⟩ => exact hb'.2
    | ⟨2, _⟩ => exact (Nat.zero_add W).le
  have hq := hL.get hi hi' inb
  refine ⟨L[i], List.getElem_mem hi', ?_⟩
  have e' : ps.get ⟨i, hi⟩ = _ := ei
  have hq' : (L[i]).1 = Rect.unit (s := ⟨3, ![8, 1536, W]⟩) ![(ps.get ⟨i, hi⟩).1, (ps.get ⟨i, hi⟩).2, 0] ![1, n, W] inb := hq
  rw [hq']
  exact mem_slab inb y (by rw [e']) (by rw [e']; exact hle) (by rw [e']; exact Nat.lt_mul_div_succ _ hn) rfl

/-- The heads' slabs, last first. -/
def heads : List (ℕ × ℕ) := [(7, 0), (6, 0), (5, 0), (4, 0), (3, 0), (2, 0), (1, 0), (0, 0)]

theorem heads_all : ∀ h : Fin 8, ∀ b : Fin (1536 / 1536 + 1), 1536 * b.val < 1536 → (h.val, 1536 * b.val) ∈ heads := by decide

theorem heads_in : ∀ p ∈ heads, p.1 + 1 ≤ 8 ∧ p.2 + 1536 ≤ 1536 := by decide

/-- The blocks' slabs, last first. -/
def blocks : List (ℕ × ℕ) := [(7, 1280), (7, 512), (7, 1024), (7, 256), (7, 768), (7, 0),
  (6, 1280), (6, 512), (6, 1024), (6, 256), (6, 768), (6, 0),
  (5, 1280), (5, 512), (5, 1024), (5, 256), (5, 768), (5, 0),
  (4, 1280), (4, 512), (4, 1024), (4, 256), (4, 768), (4, 0),
  (3, 1280), (3, 512), (3, 1024), (3, 256), (3, 768), (3, 0),
  (2, 1280), (2, 512), (2, 1024), (2, 256), (2, 768), (2, 0),
  (1, 1280), (1, 512), (1, 1024), (1, 256), (1, 768), (1, 0),
  (0, 1280), (0, 512), (0, 1024), (0, 256), (0, 768), (0, 0)]

theorem blocks_all : ∀ h : Fin 8, ∀ b : Fin (1536 / 256 + 1), 256 * b.val < 1536 → (h.val, 256 * b.val) ∈ blocks := by decide

theorem blocks_in : ∀ p ∈ blocks, p.1 + 1 ≤ 8 ∧ p.2 + 256 ≤ 1536 := by decide

/-- Stores elsewhere leave a place as it was. -/
theorem canon_elsewhere {W n : ℕ} (L' : List (View.Piece (Elt Ideal) (⟨3, ![8, 1536, W]⟩ : Shape) .f32)) (y : (⟨3, ![8, 1536, W]⟩ : Shape).Idx) :
    ∀ (ps : List (ℕ × ℕ)) (L : List (View.Piece (Elt Ideal) (⟨3, ![8, 1536, W]⟩ : Shape) .f32)), List.Forall₂ (IsSlab W n) ps L →
      (∀ p ∈ ps, p.1 + 1 ≤ 8 ∧ p.2 + n ≤ 1536) → (∀ p ∈ ps, (y 0).val = p.1 → p.2 ≤ (y 1).val → (y 1).val < p.2 + n → False) →
      View.canon (L ++ L') y = View.canon L' y
  | [], _, h, _, _ => by cases h; rfl
  | p :: ps, _, h, hin, hy => by
    cases h with
    | @cons _ q _ L hq hL =>
      have hb' := hin p (List.mem_cons_self ..)
      have inb : ∀ a, (![p.1, p.2, 0] : Fin 3 → ℕ) a + (![1, n, W] : Fin 3 → ℕ) a ≤ (![8, 1536, W] : Fin 3 → ℕ) a := fun a => by
        match a with
        | ⟨0, _⟩ => exact hb'.1
        | ⟨1, _⟩ => exact hb'.2
        | ⟨2, _⟩ => exact (Nat.zero_add W).le
      have hm : y ∉ q.1.set := fun hm => by
        rw [hq inb] at hm
        have h0 := Rect.mem_set_unit.mp hm ⟨0, Nat.zero_lt_succ _⟩
        have h1 := Rect.mem_set_unit.mp hm ⟨1, Nat.succ_lt_succ (Nat.zero_lt_succ _)⟩
        have h0' : p.1 ≤ (y 0).val ∧ (y 0).val < p.1 + 1 := h0
        have h1' : p.2 ≤ (y 1).val ∧ (y 1).val < p.2 + n := h1
        exact hy p (List.mem_cons_self ..) (by omega) h1'.1 h1'.2
      rw [List.cons_append, View.canon_cons_of_not_mem q _ hm]
      exact canon_elsewhere L' y ps L hL (fun p hp => hin p (List.mem_cons_of_mem _ hp)) (fun p hp => hy p (List.mem_cons_of_mem _ hp))

/-- A slab loaded before its own store still holds what was there before all the stores. -/
theorem fresh {W n : ℕ} (ps : List (ℕ × ℕ)) (L : List (View.Piece (Elt Ideal) (⟨3, ![8, 1536, W]⟩ : Shape) .f32))
    (hL : List.Forall₂ (IsSlab W n) ps (L.take ps.length)) (hin : ∀ p ∈ ps, p.1 + 1 ≤ 8 ∧ p.2 + n ≤ 1536) (hal : ∀ p ∈ ps, n ∣ p.2) (hnd : ps.Nodup)
    (Z : EReal) (hz : ∀ y, View.canon (L.drop ps.length) y = Z) {sp : Space} {kd : _} (v : View sig kd sp ⟨3, ![8, 1536, W]⟩ .f32)
    (j : ℕ) (hj : j < ps.length) (h : Fin 8) (o r0 : ℕ) (he : ps[j] = (o, r0)) (ho : o = h.val)
    (inb : ∀ i, (![o, r0, 0] : Fin 3 → ℕ) i + (![1, n, W] : Fin 3 → ℕ) i ≤ (![8, 1536, W] : Fin 3 → ℕ) i) (x : Fin n) (l : Fin W) :
    v.readCov (L.drop (j + 1)) (Rect.unit (s := ⟨3, ![8, 1536, W]⟩) ![o, r0, 0] ![1, n, W] inb).toLoadRect (ix3 0 x l) = Z := by
  have hr : r0 + n ≤ 1536 := inb ⟨1, Nat.succ_lt_succ (Nat.zero_lt_succ _)⟩
  have hx := x.isLt
  rw [ldc3 v _ inb x l h ⟨r0 + x.val, by omega⟩ l ho rfl rfl]
  have hlen : ps.length = (L.take ps.length).length := hL.length_eq
  have hs : L.drop (j + 1) = (L.take ps.length).drop (j + 1) ++ L.drop ps.length := by
    rw [← List.drop_append_of_le_length (by omega), List.take_append_drop]
  rw [hs, canon_elsewhere (n := n) _ _ (ps.drop (j + 1)) _ (List.forall₂_drop (j + 1) hL) (fun p hp => hin p (List.mem_of_mem_drop hp)), hz]
  intro p hp h0 h1 h2
  have h0' : h.val = p.1 := h0
  have h1' : p.2 ≤ r0 + x.val := h1
  have h2' : r0 + x.val < p.2 + n := h2
  obtain ⟨a, ha⟩ := hal p (List.mem_of_mem_drop hp)
  obtain ⟨b, hb⟩ := hal (ps[j]) (List.getElem_mem hj)
  rw [he] at hb
  have hb : r0 = n * b := hb
  have hab : a = b := by
    have e1 : n * a < n * (b + 1) := by rw [Nat.mul_add, Nat.mul_one]; omega
    have e2 : n * b < n * (a + 1) := by rw [Nat.mul_add, Nat.mul_one]; omega
    have := Nat.lt_of_mul_lt_mul_left e1
    have := Nat.lt_of_mul_lt_mul_left e2
    omega
  obtain ⟨i, hi, e⟩ := List.getElem_of_mem hp
  rw [List.getElem_drop] at e
  have hpe : p = ps[j] := by
    rw [he]; exact Prod.ext (by show p.1 = o; omega) (by show p.2 = r0; rw [ha, hb, hab])
  rw [hpe] at e
  have := (hnd.getElem_inj_iff).mp e
  omega

theorem heads_al : ∀ p ∈ heads, 1536 ∣ p.2 := by decide

theorem heads_nd : heads.Nodup := by decide

theorem blocks_al : ∀ p ∈ blocks, 256 ∣ p.2 := by decide

theorem blocks_nd : blocks.Nodup := by decide

end Cert.KernelIdeal.Attn

end
-- ==== Proof.AttnInit.lean ====
/-
  The attention at the first point of a row of blocks: the masked copies of the queries, and the starting maxima and sums.
-/
module

public import proofs.«01_k».proof.Proof.AttnStep

@[expose] public section

set_option maxRecDepth 65536

noncomputable section

namespace Cert.KernelIdeal.Attn

open Cert.KernelIdeal Cert.KernelIdeal.Gen
open Idealize.ShloMosaic Idealize.ShloMosaic.TcCoe
open scoped BigOperators

/-- The queries' slabs, last first. -/
def maps : List (ℕ × ℕ) := [(7, 768), (7, 0), (6, 768), (6, 0), (5, 768), (5, 0), (4, 768), (4, 0), (3, 768), (3, 0), (2, 768), (2, 0), (1, 768), (1, 0), (0, 768), (0, 0)]

theorem maps_all : ∀ h : Fin 8, ∀ b : Fin (1536 / 768 + 1), 768 * b.val < 1536 → (h.val, 768 * b.val) ∈ maps := by decide

theorem maps_in : ∀ p ∈ maps, p.1 + 1 ≤ 8 ∧ p.2 + 768 ≤ 1536 := by decide

/-- A head's queries, twice: with the lanes of the first map, then with those of the second. -/
def QG (x0 : S768x1024.Idx → EReal) (h : Fin 8) (r : Fin 1536) (l : Fin 128) : EReal :=
  if r.val < 768 ↔ l.val < 64 then x0 (ix2 ⟨r.val % 768, Nat.mod_lt _ (by omega)⟩ (col h l)) else 0

/-- The same as an array. -/
def QGa (x0 : S768x1024.Idx → EReal) : S8x1536x128.Idx → EReal := fun y => QG x0 (y 0) (y 1) (y 2)

theorem sge_iff (n : ℕ) (h : n < 4096) : (IntOp.cmpi .sge (BitVec.ofNat 32 n) 64#32 = 1) ↔ 64 ≤ n := by
  show (BitVec.ofBool (BitVec.sle (BitVec.ofNat 32 64) (BitVec.ofNat 32 n)) = 1#1) ↔ _
  rw [BitVec.sle, toInt_small n h, toInt_small 64 (by omega)]
  by_cases h : 64 ≤ n
  · simp only [h, iff_true]
    rw [decide_eq_true (by omega)]
    rfl
  · simp only [h, iff_false]
    rw [decide_eq_false (by omega)]
    decide

theorem slt_iff (n : ℕ) (h : n < 4096) : (IntOp.cmpi .slt (BitVec.ofNat 32 n) 64#32 = 1) ↔ n < 64 := by
  show (BitVec.ofBool (BitVec.slt (BitVec.ofNat 32 n) (BitVec.ofNat 32 64)) = 1#1) ↔ _
  rw [BitVec.slt, toInt_small n h, toInt_small 64 (by omega)]
  by_cases h : n < 64
  · simp only [h, iff_true]
    rw [decide_eq_true (by omega)]
    rfl
  · simp only [h, iff_false]
    rw [decide_eq_false (by omega)]
    decide

theorem map0_at (X : Vec Ideal S768x128 .bf16) (x : Fin 768) (l : Fin 128) :
    k0_pay3 (F := Ideal) (iota .tc S768x128 32 [1] iota_S768x128_d1_w32) X (ix3 0 x l) = if l.val < 64 then X (ix2 x l) else 0 := by
  unfold_payloads
  pointwise
  exact if_congr (slt_iff l.val (by have := l.isLt; omega)) rfl rfl

theorem map1_at (X : Vec Ideal S768x128 .bf16) (x : Fin 768) (l : Fin 128) :
    k0_pay4 (F := Ideal) (iota .tc S768x128 32 [1] iota_S768x128_d1_w32) X (ix3 0 x l) = if 64 ≤ l.val then X (ix2 x l) else 0 := by
  unfold_payloads
  pointwise
  exact if_congr (sge_iff l.val (by have := l.isLt; omega)) rfl rfl

theorem piece_q0 {o : ℕ} (h : Fin 8) (ho : o = h.val) {x0 : S768x1024.Idx → EReal} {X : Vec Ideal S768x128 .bf16}
    (hX : ∀ (x : Fin 768) l, X (ix2 x l) = x0 (ix2 x (col h l)))
    (inb : ∀ a, (![o, 0, 0] : Fin 3 → ℕ) a + S1x768x128.size a ≤ S8x1536x128.size a) (x : S1x768x128.Idx) :
    k0_pay3 (F := Ideal) (iota .tc S768x128 32 [1] iota_S768x128_d1_w32) X x = QGa x0 ((Rect.unit (s := S8x1536x128) ![o, 0, 0] S1x768x128.size inb).emb x) := by
  obtain ⟨r, l, rfl⟩ : ∃ (r : Fin 768) (l : Fin 128), x = ix3 0 r l := ⟨x 1, x 2, by rw [ix3_eta x]; congr 1; exact Subsingleton.elim (α := Fin 1) _ _⟩
  refine Eq.trans ?_ (congrArg (QGa x0) (emb3 inb r l h ⟨r.val, by omega⟩ l ho (Nat.zero_add _).symm rfl)).symm
  show _ = QG x0 h ⟨r.val, _⟩ l
  rw [map0_at, hX]
  unfold QG
  have hr := r.isLt
  refine if_congr (by simp [hr]) ?_ rfl
  congr 2
  exact Fin.ext (Nat.mod_eq_of_lt hr).symm

theorem piece_q1 {o : ℕ} (h : Fin 8) (ho : o = h.val) {x0 : S768x1024.Idx → EReal} {X : Vec Ideal S768x128 .bf16}
    (hX : ∀ (x : Fin 768) l, X (ix2 x l) = x0 (ix2 x (col h l)))
    (inb : ∀ a, (![o, 768, 0] : Fin 3 → ℕ) a + S1x768x128.size a ≤ S8x1536x128.size a) (x : S1x768x128.Idx) :
    k0_pay4 (F := Ideal) (iota .tc S768x128 32 [1] iota_S768x128_d1_w32) X x = QGa x0 ((Rect.unit (s := S8x1536x128) ![o, 768, 0] S1x768x128.size inb).emb x) := by
  obtain ⟨r, l, rfl⟩ : ∃ (r : Fin 768) (l : Fin 128), x = ix3 0 r l := ⟨x 1, x 2, by rw [ix3_eta x]; congr 1; exact Subsingleton.elim (α := Fin 1) _ _⟩
  refine Eq.trans ?_ (congrArg (QGa x0) (emb3 inb r l h ⟨768 + r.val, by omega⟩ l ho rfl rfl)).symm
  show _ = QG x0 h ⟨768 + r.val, _⟩ l
  rw [map1_at, hX]
  unfold QG
  have hr := r.isLt
  refine if_congr (by simp) ?_ rfl
  congr 2
  exact Fin.ext (by show r.val = (768 + r.val) % 768; omega)

theorem start_m (inb) (y : S8x1536x128.Idx) :
    View.canon (Val := Elt Ideal) (e := .f32) [⟨Rect.unit (s := S8x1536x128) ![0, 0, 0] S8x1536x128.size inb, k0_pay9 (F := Ideal)⟩] y = ⊥ := by
  rw [View.canon_cons_unit_lit inb _ _ (by decide)]
  unfold k0_pay9
  rw [ix3_eta y]
  pointwise
  exact mask_eq

theorem start_a (inb) (y : S8x1536x256.Idx) :
    View.canon (Val := Elt Ideal) (e := .f32) [⟨Rect.unit (s := S8x1536x256) ![0, 0, 0] S8x1536x256.size inb, k0_pay10 (F := Ideal)⟩] y = 0 := by
  rw [View.canon_cons_unit_lit inb _ _ (by decide)]
  unfold k0_pay10
  rw [ix3_eta y]
  pointwise

theorem canon_qA (arg3 : Memref sig .tc .vmem S768x1024 .bf16) (x0 : Vec Ideal S768x1024 .bf16) (y : S8x1536x128.Idx) :
    View.canon (kernelRun0_A.sl.HS0_16 arg3 x0) y = QGa x0 y := by
  refine canon_first (e := .bf16) (QGa x0) 16 _ ?_ y (cover_slabs (by omega : 0 < 768) maps _ ?_ maps_all maps_in y)
  · exact List.forall_mem_cons.2 ⟨piece_q1 (X := View.readAt (Elt Ideal) arg3.view (Rect.unit (s := S768x1024) ![0, 896] S768x128.size inb_S768x1024_S768x128_0_896).toLoadRect (arg3.view.rep x0)) (o := 7) 7 rfl (fun x l => ld2 _ _ _ x l x (col 7 l) rfl rfl) inb_S8x1536x128_S1x768x128_7_768_0,
    List.forall_mem_cons.2 ⟨piece_q0 (X := View.readAt (Elt Ideal) arg3.view (Rect.unit (s := S768x1024) ![0, 896] S768x128.size inb_S768x1024_S768x128_0_896).toLoadRect (arg3.view.rep x0)) (o := 7) 7 rfl (fun x l => ld2 _ _ _ x l x (col 7 l) rfl rfl) inb_S8x1536x128_S1x768x128_7_0_0,
    List.forall_mem_cons.2 ⟨piece_q1 (X := View.readAt (Elt Ideal) arg3.view (Rect.unit (s := S768x1024) ![0, 768] S768x128.size inb_S768x1024_S768x128_0_768).toLoadRect (arg3.view.rep x0)) (o := 6) 6 rfl (fun x l => ld2 _ _ _ x l x (col 6 l) rfl rfl) inb_S8x1536x128_S1x768x128_6_768_0,
    List.forall_mem_cons.2 ⟨piece_q0 (X := View.readAt (Elt Ideal) arg3.view (Rect.unit (s := S768x1024) ![0, 768] S768x128.size inb_S768x1024_S768x128_0_768).toLoadRect (arg3.view.rep x0)) (o := 6) 6 rfl (fun x l => ld2 _ _ _ x l x (col 6 l) rfl rfl) inb_S8x1536x128_S1x768x128_6_0_0,
    List.forall_mem_cons.2 ⟨piece_q1 (X := View.readAt (Elt Ideal) arg3.view (Rect.unit (s := S768x1024) ![0, 640] S768x128.size inb_S768x1024_S768x128_0_640).toLoadRect (arg3.view.rep x0)) (o := 5) 5 rfl (fun x l => ld2 _ _ _ x l x (col 5 l) rfl rfl) inb_S8x1536x128_S1x768x128_5_768_0,
    List.forall_mem_cons.2 ⟨piece_q0 (X := View.readAt (Elt Ideal) arg3.view (Rect.unit (s := S768x1024) ![0, 640] S768x128.size inb_S768x1024_S768x128_0_640).toLoadRect (arg3.view.rep x0)) (o := 5) 5 rfl (fun x l => ld2 _ _ _ x l x (col 5 l) rfl rfl) inb_S8x1536x128_S1x768x128_5_0_0,
    List.forall_mem_cons.2 ⟨piece_q1 (X := View.readAt (Elt Ideal) arg3.view (Rect.unit (s := S768x1024) ![0, 512] S768x128.size inb_S768x1024_S768x128_0_512).toLoadRect (arg3.view.rep x0)) (o := 4) 4 rfl (fun x l => ld2 _ _ _ x l x (col 4 l) rfl rfl) inb_S8x1536x128_S1x768x128_4_768_0,
    List.forall_mem_cons.2 ⟨piece_q0 (X := View.readAt (Elt Ideal) arg3.view (Rect.unit (s := S768x1024) ![0, 512] S768x128.size inb_S768x1024_S768x128_0_512).toLoadRect (arg3.view.rep x0)) (o := 4) 4 rfl (fun x l => ld2 _ _ _ x l x (col 4 l) rfl rfl) inb_S8x1536x128_S1x768x128_4_0_0,
    List.forall_mem_cons.2 ⟨piece_q1 (X := View.readAt (Elt Ideal) arg3.view (Rect.unit (s := S768x1024) ![0, 384] S768x128.size inb_S768x1024_S768x128_0_384).toLoadRect (arg3.view.rep x0)) (o := 3) 3 rfl (fun x l => ld2 _ _ _ x l x (col 3 l) rfl rfl) inb_S8x1536x128_S1x768x128_3_768_0,
    List.forall_mem_cons.2 ⟨piece_q0 (X := View.readAt (Elt Ideal) arg3.view (Rect.unit (s := S768x1024) ![0, 384] S768x128.size inb_S768x1024_S768x128_0_384).toLoadRect (arg3.view.rep x0)) (o := 3) 3 rfl (fun x l => ld2 _ _ _ x l x (col 3 l) rfl rfl) inb_S8x1536x128_S1x768x128_3_0_0,
    List.forall_mem_cons.2 ⟨piece_q1 (X := View.readAt (Elt Ideal) arg3.view (Rect.unit (s := S768x1024) ![0, 256] S768x128.size inb_S768x1024_S768x128_0_256).toLoadRect (arg3.view.rep x0)) (o := 2) 2 rfl (fun x l => ld2 _ _ _ x l x (col 2 l) rfl rfl) inb_S8x1536x128_S1x768x128_2_768_0,
    List.forall_mem_cons.2 ⟨piece_q0 (X := View.readAt (Elt Ideal) arg3.view (Rect.unit (s := S768x1024) ![0, 256] S768x128.size inb_S768x1024_S768x128_0_256).toLoadRect (arg3.view.rep x0)) (o := 2) 2 rfl (fun x l => ld2 _ _ _ x l x (col 2 l) rfl rfl) inb_S8x1536x128_S1x768x128_2_0_0,
    List.forall_mem_cons.2 ⟨piece_q1 (X := View.readAt (Elt Ideal) arg3.view (Rect.unit (s := S768x1024) ![0, 128] S768x128.size inb_S768x1024_S768x128_0_128).toLoadRect (arg3.view.rep x0)) (o := 1) 1 rfl (fun x l => ld2 _ _ _ x l x (col 1 l) rfl rfl) inb_S8x1536x128_S1x768x128_1_768_0,
    List.forall_mem_cons.2 ⟨piece_q0 (X := View.readAt (Elt Ideal) arg3.view (Rect.unit (s := S768x1024) ![0, 128] S768x128.size inb_S768x1024_S768x128_0_128).toLoadRect (arg3.view.rep x0)) (o := 1) 1 rfl (fun x l => ld2 _ _ _ x l x (col 1 l) rfl rfl) inb_S8x1536x128_S1x768x128_1_0_0,
    List.forall_mem_cons.2 ⟨piece_q1 (X := View.readAt (Elt Ideal) arg3.view (Rect.unit (s := S768x1024) ![0, 0] S768x128.size inb_S768x1024_S768x128_0_0).toLoadRect (arg3.view.rep x0)) (o := 0) 0 rfl (fun x l => ld2 _ _ _ x l x (col 0 l) rfl rfl) inb_S8x1536x128_S1x768x128_0_768_0,
    List.forall_mem_cons.2 ⟨piece_q0 (X := View.readAt (Elt Ideal) arg3.view (Rect.unit (s := S768x1024) ![0, 0] S768x128.size inb_S768x1024_S768x128_0_0).toLoadRect (arg3.view.rep x0)) (o := 0) 0 rfl (fun x l => ld2 _ _ _ x l x (col 0 l) rfl rfl) inb_S8x1536x128_S1x768x128_0_0_0,
    List.forall_mem_nil _⟩⟩⟩⟩⟩⟩⟩⟩⟩⟩⟩⟩⟩⟩⟩⟩
  · exact .cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.nil))))))))))))))))

theorem canon_qB (arg3 : Memref sig .tc .vmem S768x1024 .bf16) (x0 : Vec Ideal S768x1024 .bf16) (y : S8x1536x128.Idx) :
    View.canon (kernelRun0_B.sl.HS0_16 arg3 x0) y = QGa x0 y := by
  refine canon_first (e := .bf16) (QGa x0) 16 _ ?_ y (cover_slabs (by omega : 0 < 768) maps _ ?_ maps_all maps_in y)
  · exact List.forall_mem_cons.2 ⟨piece_q1 (X := View.readAt (Elt Ideal) arg3.view (Rect.unit (s := S768x1024) ![0, 896] S768x128.size inb_S768x1024_S768x128_0_896).toLoadRect (arg3.view.rep x0)) (o := 7) 7 rfl (fun x l => ld2 _ _ _ x l x (col 7 l) rfl rfl) inb_S8x1536x128_S1x768x128_7_768_0,
    List.forall_mem_cons.2 ⟨piece_q0 (X := View.readAt (Elt Ideal) arg3.view (Rect.unit (s := S768x1024) ![0, 896] S768x128.size inb_S768x1024_S768x128_0_896).toLoadRect (arg3.view.rep x0)) (o := 7) 7 rfl (fun x l => ld2 _ _ _ x l x (col 7 l) rfl rfl) inb_S8x1536x128_S1x768x128_7_0_0,
    List.forall_mem_cons.2 ⟨piece_q1 (X := View.readAt (Elt Ideal) arg3.view (Rect.unit (s := S768x1024) ![0, 768] S768x128.size inb_S768x1024_S768x128_0_768).toLoadRect (arg3.view.rep x0)) (o := 6) 6 rfl (fun x l => ld2 _ _ _ x l x (col 6 l) rfl rfl) inb_S8x1536x128_S1x768x128_6_768_0,
    List.forall_mem_cons.2 ⟨piece_q0 (X := View.readAt (Elt Ideal) arg3.view (Rect.unit (s := S768x1024) ![0, 768] S768x128.size inb_S768x1024_S768x128_0_768).toLoadRect (arg3.view.rep x0)) (o := 6) 6 rfl (fun x l => ld2 _ _ _ x l x (col 6 l) rfl rfl) inb_S8x1536x128_S1x768x128_6_0_0,
    List.forall_mem_cons.2 ⟨piece_q1 (X := View.readAt (Elt Ideal) arg3.view (Rect.unit (s := S768x1024) ![0, 640] S768x128.size inb_S768x1024_S768x128_0_640).toLoadRect (arg3.view.rep x0)) (o := 5) 5 rfl (fun x l => ld2 _ _ _ x l x (col 5 l) rfl rfl) inb_S8x1536x128_S1x768x128_5_768_0,
    List.forall_mem_cons.2 ⟨piece_q0 (X := View.readAt (Elt Ideal) arg3.view (Rect.unit (s := S768x1024) ![0, 640] S768x128.size inb_S768x1024_S768x128_0_640).toLoadRect (arg3.view.rep x0)) (o := 5) 5 rfl (fun x l => ld2 _ _ _ x l x (col 5 l) rfl rfl) inb_S8x1536x128_S1x768x128_5_0_0,
    List.forall_mem_cons.2 ⟨piece_q1 (X := View.readAt (Elt Ideal) arg3.view (Rect.unit (s := S768x1024) ![0, 512] S768x128.size inb_S768x1024_S768x128_0_512).toLoadRect (arg3.view.rep x0)) (o := 4) 4 rfl (fun x l => ld2 _ _ _ x l x (col 4 l) rfl rfl) inb_S8x1536x128_S1x768x128_4_768_0,
    List.forall_mem_cons.2 ⟨piece_q0 (X := View.readAt (Elt Ideal) arg3.view (Rect.unit (s := S768x1024) ![0, 512] S768x128.size inb_S768x1024_S768x128_0_512).toLoadRect (arg3.view.rep x0)) (o := 4) 4 rfl (fun x l => ld2 _ _ _ x l x (col 4 l) rfl rfl) inb_S8x1536x128_S1x768x128_4_0_0,
    List.forall_mem_cons.2 ⟨piece_q1 (X := View.readAt (Elt Ideal) arg3.view (Rect.unit (s := S768x1024) ![0, 384] S768x128.size inb_S768x1024_S768x128_0_384).toLoadRect (arg3.view.rep x0)) (o := 3) 3 rfl (fun x l => ld2 _ _ _ x l x (col 3 l) rfl rfl) inb_S8x1536x128_S1x768x128_3_768_0,
    List.forall_mem_cons.2 ⟨piece_q0 (X := View.readAt (Elt Ideal) arg3.view (Rect.unit (s := S768x1024) ![0, 384] S768x128.size inb_S768x1024_S768x128_0_384).toLoadRect (arg3.view.rep x0)) (o := 3) 3 rfl (fun x l => ld2 _ _ _ x l x (col 3 l) rfl rfl) inb_S8x1536x128_S1x768x128_3_0_0,
    List.forall_mem_cons.2 ⟨piece_q1 (X := View.readAt (Elt Ideal) arg3.view (Rect.unit (s := S768x1024) ![0, 256] S768x128.size inb_S768x1024_S768x128_0_256).toLoadRect (arg3.view.rep x0)) (o := 2) 2 rfl (fun x l => ld2 _ _ _ x l x (col 2 l) rfl rfl) inb_S8x1536x128_S1x768x128_2_768_0,
    List.forall_mem_cons.2 ⟨piece_q0 (X := View.readAt (Elt Ideal) arg3.view (Rect.unit (s := S768x1024) ![0, 256] S768x128.size inb_S768x1024_S768x128_0_256).toLoadRect (arg3.view.rep x0)) (o := 2) 2 rfl (fun x l => ld2 _ _ _ x l x (col 2 l) rfl rfl) inb_S8x1536x128_S1x768x128_2_0_0,
    List.forall_mem_cons.2 ⟨piece_q1 (X := View.readAt (Elt Ideal) arg3.view (Rect.unit (s := S768x1024) ![0, 128] S768x128.size inb_S768x1024_S768x128_0_128).toLoadRect (arg3.view.rep x0)) (o := 1) 1 rfl (fun x l => ld2 _ _ _ x l x (col 1 l) rfl rfl) inb_S8x1536x128_S1x768x128_1_768_0,
    List.forall_mem_cons.2 ⟨piece_q0 (X := View.readAt (Elt Ideal) arg3.view (Rect.unit (s := S768x1024) ![0, 128] S768x128.size inb_S768x1024_S768x128_0_128).toLoadRect (arg3.view.rep x0)) (o := 1) 1 rfl (fun x l => ld2 _ _ _ x l x (col 1 l) rfl rfl) inb_S8x1536x128_S1x768x128_1_0_0,
    List.forall_mem_cons.2 ⟨piece_q1 (X := View.readAt (Elt Ideal) arg3.view (Rect.unit (s := S768x1024) ![0, 0] S768x128.size inb_S768x1024_S768x128_0_0).toLoadRect (arg3.view.rep x0)) (o := 0) 0 rfl (fun x l => ld2 _ _ _ x l x (col 0 l) rfl rfl) inb_S8x1536x128_S1x768x128_0_768_0,
    List.forall_mem_cons.2 ⟨piece_q0 (X := View.readAt (Elt Ideal) arg3.view (Rect.unit (s := S768x1024) ![0, 0] S768x128.size inb_S768x1024_S768x128_0_0).toLoadRect (arg3.view.rep x0)) (o := 0) 0 rfl (fun x l => ld2 _ _ _ x l x (col 0 l) rfl rfl) inb_S8x1536x128_S1x768x128_0_0_0,
    List.forall_mem_nil _⟩⟩⟩⟩⟩⟩⟩⟩⟩⟩⟩⟩⟩⟩⟩⟩
  · exact .cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.nil))))))))))))))))

end Cert.KernelIdeal.Attn

end
-- ==== Proof.AttnC.lean ====
/-
  The attention at a point on the diagonal, after the first of its row of blocks: what the scratch arrays hold afterwards.
-/
module

public import proofs.«01_k».proof.Proof.AttnStep

@[expose] public section

set_option maxRecDepth 65536

noncomputable section

namespace Cert.KernelIdeal.Attn

open Cert.KernelIdeal Cert.KernelIdeal.Gen
open Idealize.ShloMosaic Idealize.ShloMosaic.TcCoe
open scoped BigOperators

/-- Columns of the first 256 rows of a block. -/
abbrev kb256 (a : Memref sig .tc .vmem S768x1024 .bf16) (x : Vec Ideal S768x1024 .bf16) (o : ℕ) (inb : ∀ i, (![0, o] : Fin 2 → ℕ) i + S256x128.size i ≤ S768x1024.size i) :
    Vec Ideal S256x128 .bf16 :=
  View.readAt (Elt Ideal) a.view (Rect.unit (s := S768x1024) ![0, o] S256x128.size inb).toLoadRect (a.view.rep x)

theorem kb256_at (a : Memref sig .tc .vmem S768x1024 .bf16) (x : Vec Ideal S768x1024 .bf16) {o : ℕ} (inb) (h : Fin 8) (ho : o = 128 * h.val) (c : Fin 256) (l : Fin 128) :
    kb256 a x o inb (ix2 c l) = x (ix2 (Fin.castLE (by omega : 256 ≤ 768) c) (col h l)) :=
  ld2 _ _ _ c l _ (col h l) rfl (by rw [ho])

/-- Columns of the first 512 rows of a block. -/
abbrev kb512 (a : Memref sig .tc .vmem S768x1024 .bf16) (x : Vec Ideal S768x1024 .bf16) (o : ℕ) (inb : ∀ i, (![0, o] : Fin 2 → ℕ) i + S512x128.size i ≤ S768x1024.size i) :
    Vec Ideal S512x128 .bf16 :=
  View.readAt (Elt Ideal) a.view (Rect.unit (s := S768x1024) ![0, o] S512x128.size inb).toLoadRect (a.view.rep x)

theorem kb512_at (a : Memref sig .tc .vmem S768x1024 .bf16) (x : Vec Ideal S768x1024 .bf16) {o : ℕ} (inb) (h : Fin 8) (ho : o = 128 * h.val) (c : Fin 512) (l : Fin 128) :
    kb512 a x o inb (ix2 c l) = x (ix2 (Fin.castLE (by omega : 512 ≤ 768) c) (col h l)) :=
  ld2 _ _ _ c l _ (col h l) rfl (by rw [ho])

/-- Columns of the first 768 rows of a block. -/
abbrev kb768 (a : Memref sig .tc .vmem S768x1024 .bf16) (x : Vec Ideal S768x1024 .bf16) (o : ℕ) (inb : ∀ i, (![0, o] : Fin 2 → ℕ) i + S768x128.size i ≤ S768x1024.size i) :
    Vec Ideal S768x128 .bf16 :=
  View.readAt (Elt Ideal) a.view (Rect.unit (s := S768x1024) ![0, o] S768x128.size inb).toLoadRect (a.view.rep x)

theorem kb768_at (a : Memref sig .tc .vmem S768x1024 .bf16) (x : Vec Ideal S768x1024 .bf16) {o : ℕ} (inb) (h : Fin 8) (ho : o = 128 * h.val) (c : Fin 768) (l : Fin 128) :
    kb768 a x o inb (ix2 c l) = x (ix2 (Fin.castLE (by omega : 768 ≤ 768) c) (col h l)) :=
  ld2 _ _ _ c l _ (col h l) rfl (by rw [ho])

variable (c : Dev nD) (arg4 arg5 : Memref sig .tc .vmem S768x1024 .bf16) (x1 x2 : Vec Ideal S768x1024 .bf16)
  (xa0 : Buf (Elt Ideal) ((c : Thread nD τ).loc cc0_scratch0)) (xa1 : Buf (Elt Ideal) ((c : Thread nD τ).loc cc0_scratch1))
  (xa2 : Buf (Elt Ideal) ((c : Thread nD τ).loc cc0_scratch2)) (M0 : Fin 8 → Fin 1536 → EReal)

/-- 256 rows of one head of scratch 0. -/
abbrev qs (xa : Buf (Elt Ideal) ((c : Thread nD τ).loc cc0_scratch0)) (o r0 : ℕ) (inb : ∀ i, (![o, r0, 0] : Fin 3 → ℕ) i + S1x256x128.size i ≤ S8x1536x128.size i) :
    Vec Ideal S1x256x128 .bf16 :=
  View.readAt (Elt Ideal) scM0_0.view (Rect.unit (s := S8x1536x128) ![o, r0, 0] S1x256x128.size inb).toLoadRect xa

theorem qs_at (xa : Buf (Elt Ideal) ((c : Thread nD τ).loc cc0_scratch0)) {o r0 : ℕ} (inb) (h : Fin 8) (ho : o = h.val) (h1 : r0 + 256 ≤ 1536) (x : Fin 256) (l : Fin 128) :
    qs c xa o r0 inb (ix3 0 x l) = scM0_0.view.read (Elt Ideal) xa (ix3 h ⟨r0 + x.val, by omega⟩ l) :=
  ld3 _ _ _ x l h _ l ho rfl rfl

/-- 256 rows of one head of scratch 1. -/
abbrev ms (xa : Buf (Elt Ideal) ((c : Thread nD τ).loc cc0_scratch1)) (o r0 : ℕ) (inb : ∀ i, (![o, r0, 0] : Fin 3 → ℕ) i + S1x256x128.size i ≤ S8x1536x128.size i) :
    Vec Ideal S1x256x128 .f32 :=
  View.readAt (Elt Ideal) scM0_1.view (Rect.unit (s := S8x1536x128) ![o, r0, 0] S1x256x128.size inb).toLoadRect xa

theorem ms_at (xa : Buf (Elt Ideal) ((c : Thread nD τ).loc cc0_scratch1)) {o r0 : ℕ} (inb) (h : Fin 8) (ho : o = h.val) (h1 : r0 + 256 ≤ 1536) (x : Fin 256) (l : Fin 128) :
    ms c xa o r0 inb (ix3 0 x l) = scM0_1.view.read (Elt Ideal) xa (ix3 h ⟨r0 + x.val, by omega⟩ l) :=
  ld3 _ _ _ x l h _ l ho rfl rfl

/-- 256 rows of one head of scratch 2. -/
abbrev sums (xa : Buf (Elt Ideal) ((c : Thread nD τ).loc cc0_scratch2)) (o r0 : ℕ) (inb : ∀ i, (![o, r0, 0] : Fin 3 → ℕ) i + S1x256x256.size i ≤ S8x1536x256.size i) :
    Vec Ideal S1x256x256 .f32 :=
  View.readAt (Elt Ideal) scM0_2.view (Rect.unit (s := S8x1536x256) ![o, r0, 0] S1x256x256.size inb).toLoadRect xa

theorem sums_at (xa : Buf (Elt Ideal) ((c : Thread nD τ).loc cc0_scratch2)) {o r0 : ℕ} (inb) (h : Fin 8) (ho : o = h.val) (h1 : r0 + 256 ≤ 1536) (x : Fin 256) (l : Fin 256) :
    sums c xa o r0 inb (ix3 0 x l) = scM0_2.view.read (Elt Ideal) xa (ix3 h ⟨r0 + x.val, by omega⟩ l) :=
  ld3 _ _ _ x l h _ l ho rfl rfl

set_option maxHeartbeats 2000000

include c in
theorem canon_mC (hM : ∀ h r l, scM0_1.view.read (Elt Ideal) xa1 (ix3 h r l) = M0 h r) (y : S8x1536x128.Idx) :
    View.canon (kernelRun0_C.sl.HS1_48 c arg4 x1 xa0 xa1) y = GMa true (scM0_0.view.read (Elt Ideal) xa0) x1 M0 y := by
  refine canon_first (e := .f32) (GMa true (scM0_0.view.read (Elt Ideal) xa0) x1 M0) 48 _ ?_ y (cover_slabs (by omega : 0 < 256) blocks _ ?_ blocks_all blocks_in y)
  · exact List.forall_mem_cons.2 ⟨piece_m_768 (k := kb768 arg4 x1 896 inb_S768x1024_S768x128_0_896) (q := qs c xa0 7 1280 inb_S8x1536x128_S1x256x128_7_1280_0) (mx := ms c xa1 7 1280 inb_S8x1536x128_S1x256x128_7_1280_0) (o := 7) (r0 := 1280) 7 rfl rfl (by omega) (kb768_at _ _ _ 7 rfl) (qs_at c _ _ 7 rfl (by omega)) (fun x l => (ms_at c _ _ 7 rfl (by omega) x l).trans (hM _ _ _)) inb_S8x1536x128_S1x256x128_7_1280_0,
    List.forall_mem_cons.2 ⟨piece_m_768 (k := kb768 arg4 x1 896 inb_S768x1024_S768x128_0_896) (q := qs c xa0 7 512 inb_S8x1536x128_S1x256x128_7_512_0) (mx := ms c xa1 7 512 inb_S8x1536x128_S1x256x128_7_512_0) (o := 7) (r0 := 512) 7 rfl rfl (by omega) (kb768_at _ _ _ 7 rfl) (qs_at c _ _ 7 rfl (by omega)) (fun x l => (ms_at c _ _ 7 rfl (by omega) x l).trans (hM _ _ _)) inb_S8x1536x128_S1x256x128_7_512_0,
    List.forall_mem_cons.2 ⟨piece_m_512 (k := kb512 arg4 x1 896 inb_S768x1024_S512x128_0_896) (q := qs c xa0 7 1024 inb_S8x1536x128_S1x256x128_7_1024_0) (mx := ms c xa1 7 1024 inb_S8x1536x128_S1x256x128_7_1024_0) (o := 7) (r0 := 1024) 7 rfl rfl (by omega) (kb512_at _ _ _ 7 rfl) (qs_at c _ _ 7 rfl (by omega)) (fun x l => (ms_at c _ _ 7 rfl (by omega) x l).trans (hM _ _ _)) inb_S8x1536x128_S1x256x128_7_1024_0,
    List.forall_mem_cons.2 ⟨piece_m_512 (k := kb512 arg4 x1 896 inb_S768x1024_S512x128_0_896) (q := qs c xa0 7 256 inb_S8x1536x128_S1x256x128_7_256_0) (mx := ms c xa1 7 256 inb_S8x1536x128_S1x256x128_7_256_0) (o := 7) (r0 := 256) 7 rfl rfl (by omega) (kb512_at _ _ _ 7 rfl) (qs_at c _ _ 7 rfl (by omega)) (fun x l => (ms_at c _ _ 7 rfl (by omega) x l).trans (hM _ _ _)) inb_S8x1536x128_S1x256x128_7_256_0,
    List.forall_mem_cons.2 ⟨piece_m_256 (k := kb256 arg4 x1 896 inb_S768x1024_S256x128_0_896) (q := qs c xa0 7 768 inb_S8x1536x128_S1x256x128_7_768_0) (mx := ms c xa1 7 768 inb_S8x1536x128_S1x256x128_7_768_0) (o := 7) (r0 := 768) 7 rfl rfl (by omega) (kb256_at _ _ _ 7 rfl) (qs_at c _ _ 7 rfl (by omega)) (fun x l => (ms_at c _ _ 7 rfl (by omega) x l).trans (hM _ _ _)) inb_S8x1536x128_S1x256x128_7_768_0,
    List.forall_mem_cons.2 ⟨piece_m_256 (k := kb256 arg4 x1 896 inb_S768x1024_S256x128_0_896) (q := qs c xa0 7 0 inb_S8x1536x128_S1x256x128_7_0_0) (mx := ms c xa1 7 0 inb_S8x1536x128_S1x256x128_7_0_0) (o := 7) (r0 := 0) 7 rfl rfl (by omega) (kb256_at _ _ _ 7 rfl) (qs_at c _ _ 7 rfl (by omega)) (fun x l => (ms_at c _ _ 7 rfl (by omega) x l).trans (hM _ _ _)) inb_S8x1536x128_S1x256x128_7_0_0,
    List.forall_mem_cons.2 ⟨piece_m_768 (k := kb768 arg4 x1 768 inb_S768x1024_S768x128_0_768) (q := qs c xa0 6 1280 inb_S8x1536x128_S1x256x128_6_1280_0) (mx := ms c xa1 6 1280 inb_S8x1536x128_S1x256x128_6_1280_0) (o := 6) (r0 := 1280) 6 rfl rfl (by omega) (kb768_at _ _ _ 6 rfl) (qs_at c _ _ 6 rfl (by omega)) (fun x l => (ms_at c _ _ 6 rfl (by omega) x l).trans (hM _ _ _)) inb_S8x1536x128_S1x256x128_6_1280_0,
    List.forall_mem_cons.2 ⟨piece_m_768 (k := kb768 arg4 x1 768 inb_S768x1024_S768x128_0_768) (q := qs c xa0 6 512 inb_S8x1536x128_S1x256x128_6_512_0) (mx := ms c xa1 6 512 inb_S8x1536x128_S1x256x128_6_512_0) (o := 6) (r0 := 512) 6 rfl rfl (by omega) (kb768_at _ _ _ 6 rfl) (qs_at c _ _ 6 rfl (by omega)) (fun x l => (ms_at c _ _ 6 rfl (by omega) x l).trans (hM _ _ _)) inb_S8x1536x128_S1x256x128_6_512_0,
    List.forall_mem_cons.2 ⟨piece_m_512 (k := kb512 arg4 x1 768 inb_S768x1024_S512x128_0_768) (q := qs c xa0 6 1024 inb_S8x1536x128_S1x256x128_6_1024_0) (mx := ms c xa1 6 1024 inb_S8x1536x128_S1x256x128_6_1024_0) (o := 6) (r0 := 1024) 6 rfl rfl (by omega) (kb512_at _ _ _ 6 rfl) (qs_at c _ _ 6 rfl (by omega)) (fun x l => (ms_at c _ _ 6 rfl (by omega) x l).trans (hM _ _ _)) inb_S8x1536x128_S1x256x128_6_1024_0,
    List.forall_mem_cons.2 ⟨piece_m_512 (k := kb512 arg4 x1 768 inb_S768x1024_S512x128_0_768) (q := qs c xa0 6 256 inb_S8x1536x128_S1x256x128_6_256_0) (mx := ms c xa1 6 256 inb_S8x1536x128_S1x256x128_6_256_0) (o := 6) (r0 := 256) 6 rfl rfl (by omega) (kb512_at _ _ _ 6 rfl) (qs_at c _ _ 6 rfl (by omega)) (fun x l => (ms_at c _ _ 6 rfl (by omega) x l).trans (hM _ _ _)) inb_S8x1536x128_S1x256x128_6_256_0,
    List.forall_mem_cons.2 ⟨piece_m_256 (k := kb256 arg4 x1 768 inb_S768x1024_S256x128_0_768) (q := qs c xa0 6 768 inb_S8x1536x128_S1x256x128_6_768_0) (mx := ms c xa1 6 768 inb_S8x1536x128_S1x256x128_6_768_0) (o := 6) (r0 := 768) 6 rfl rfl (by omega) (kb256_at _ _ _ 6 rfl) (qs_at c _ _ 6 rfl (by omega)) (fun x l => (ms_at c _ _ 6 rfl (by omega) x l).trans (hM _ _ _)) inb_S8x1536x128_S1x256x128_6_768_0,
    List.forall_mem_cons.2 ⟨piece_m_256 (k := kb256 arg4 x1 768 inb_S768x1024_S256x128_0_768) (q := qs c xa0 6 0 inb_S8x1536x128_S1x256x128_6_0_0) (mx := ms c xa1 6 0 inb_S8x1536x128_S1x256x128_6_0_0) (o := 6) (r0 := 0) 6 rfl rfl (by omega) (kb256_at _ _ _ 6 rfl) (qs_at c _ _ 6 rfl (by omega)) (fun x l => (ms_at c _ _ 6 rfl (by omega) x l).trans (hM _ _ _)) inb_S8x1536x128_S1x256x128_6_0_0,
    List.forall_mem_cons.2 ⟨piece_m_768 (k := kb768 arg4 x1 640 inb_S768x1024_S768x128_0_640) (q := qs c xa0 5 1280 inb_S8x1536x128_S1x256x128_5_1280_0) (mx := ms c xa1 5 1280 inb_S8x1536x128_S1x256x128_5_1280_0) (o := 5) (r0 := 1280) 5 rfl rfl (by omega) (kb768_at _ _ _ 5 rfl) (qs_at c _ _ 5 rfl (by omega)) (fun x l => (ms_at c _ _ 5 rfl (by omega) x l).trans (hM _ _ _)) inb_S8x1536x128_S1x256x128_5_1280_0,
    List.forall_mem_cons.2 ⟨piece_m_768 (k := kb768 arg4 x1 640 inb_S768x1024_S768x128_0_640) (q := qs c xa0 5 512 inb_S8x1536x128_S1x256x128_5_512_0) (mx := ms c xa1 5 512 inb_S8x1536x128_S1x256x128_5_512_0) (o := 5) (r0 := 512) 5 rfl rfl (by omega) (kb768_at _ _ _ 5 rfl) (qs_at c _ _ 5 rfl (by omega)) (fun x l => (ms_at c _ _ 5 rfl (by omega) x l).trans (hM _ _ _)) inb_S8x1536x128_S1x256x128_5_512_0,
    List.forall_mem_cons.2 ⟨piece_m_512 (k := kb512 arg4 x1 640 inb_S768x1024_S512x128_0_640) (q := qs c xa0 5 1024 inb_S8x1536x128_S1x256x128_5_1024_0) (mx := ms c xa1 5 1024 inb_S8x1536x128_S1x256x128_5_1024_0) (o := 5) (r0 := 1024) 5 rfl rfl (by omega) (kb512_at _ _ _ 5 rfl) (qs_at c _ _ 5 rfl (by omega)) (fun x l => (ms_at c _ _ 5 rfl (by omega) x l).trans (hM _ _ _)) inb_S8x1536x128_S1x256x128_5_1024_0,
    List.forall_mem_cons.2 ⟨piece_m_512 (k := kb512 arg4 x1 640 inb_S768x1024_S512x128_0_640) (q := qs c xa0 5 256 inb_S8x1536x128_S1x256x128_5_256_0) (mx := ms c xa1 5 256 inb_S8x1536x128_S1x256x128_5_256_0) (o := 5) (r0 := 256) 5 rfl rfl (by omega) (kb512_at _ _ _ 5 rfl) (qs_at c _ _ 5 rfl (by omega)) (fun x l => (ms_at c _ _ 5 rfl (by omega) x l).trans (hM _ _ _)) inb_S8x1536x128_S1x256x128_5_256_0,
    List.forall_mem_cons.2 ⟨piece_m_256 (k := kb256 arg4 x1 640 inb_S768x1024_S256x128_0_640) (q := qs c xa0 5 768 inb_S8x1536x128_S1x256x128_5_768_0) (mx := ms c xa1 5 768 inb_S8x1536x128_S1x256x128_5_768_0) (o := 5) (r0 := 768) 5 rfl rfl (by omega) (kb256_at _ _ _ 5 rfl) (qs_at c _ _ 5 rfl (by omega)) (fun x l => (ms_at c _ _ 5 rfl (by omega) x l).trans (hM _ _ _)) inb_S8x1536x128_S1x256x128_5_768_0,
    List.forall_mem_cons.2 ⟨piece_m_256 (k := kb256 arg4 x1 640 inb_S768x1024_S256x128_0_640) (q := qs c xa0 5 0 inb_S8x1536x128_S1x256x128_5_0_0) (mx := ms c xa1 5 0 inb_S8x1536x128_S1x256x128_5_0_0) (o := 5) (r0 := 0) 5 rfl rfl (by omega) (kb256_at _ _ _ 5 rfl) (qs_at c _ _ 5 rfl (by omega)) (fun x l => (ms_at c _ _ 5 rfl (by omega) x l).trans (hM _ _ _)) inb_S8x1536x128_S1x256x128_5_0_0,
    List.forall_mem_cons.2 ⟨piece_m_768 (k := kb768 arg4 x1 512 inb_S768x1024_S768x128_0_512) (q := qs c xa0 4 1280 inb_S8x1536x128_S1x256x128_4_1280_0) (mx := ms c xa1 4 1280 inb_S8x1536x128_S1x256x128_4_1280_0) (o := 4) (r0 := 1280) 4 rfl rfl (by omega) (kb768_at _ _ _ 4 rfl) (qs_at c _ _ 4 rfl (by omega)) (fun x l => (ms_at c _ _ 4 rfl (by omega) x l).trans (hM _ _ _)) inb_S8x1536x128_S1x256x128_4_1280_0,
    List.forall_mem_cons.2 ⟨piece_m_768 (k := kb768 arg4 x1 512 inb_S768x1024_S768x128_0_512) (q := qs c xa0 4 512 inb_S8x1536x128_S1x256x128_4_512_0) (mx := ms c xa1 4 512 inb_S8x1536x128_S1x256x128_4_512_0) (o := 4) (r0 := 512) 4 rfl rfl (by omega) (kb768_at _ _ _ 4 rfl) (qs_at c _ _ 4 rfl (by omega)) (fun x l => (ms_at c _ _ 4 rfl (by omega) x l).trans (hM _ _ _)) inb_S8x1536x128_S1x256x128_4_512_0,
    List.forall_mem_cons.2 ⟨piece_m_512 (k := kb512 arg4 x1 512 inb_S768x1024_S512x128_0_512) (q := qs c xa0 4 1024 inb_S8x1536x128_S1x256x128_4_1024_0) (mx := ms c xa1 4 1024 inb_S8x1536x128_S1x256x128_4_1024_0) (o := 4) (r0 := 1024) 4 rfl rfl (by omega) (kb512_at _ _ _ 4 rfl) (qs_at c _ _ 4 rfl (by omega)) (fun x l => (ms_at c _ _ 4 rfl (by omega) x l).trans (hM _ _ _)) inb_S8x1536x128_S1x256x128_4_1024_0,
    List.forall_mem_cons.2 ⟨piece_m_512 (k := kb512 arg4 x1 512 inb_S768x1024_S512x128_0_512) (q := qs c xa0 4 256 inb_S8x1536x128_S1x256x128_4_256_0) (mx := ms c xa1 4 256 inb_S8x1536x128_S1x256x128_4_256_0) (o := 4) (r0 := 256) 4 rfl rfl (by omega) (kb512_at _ _ _ 4 rfl) (qs_at c _ _ 4 rfl (by omega)) (fun x l => (ms_at c _ _ 4 rfl (by omega) x l).trans (hM _ _ _)) inb_S8x1536x128_S1x256x128_4_256_0,
    List.forall_mem_cons.2 ⟨piece_m_256 (k := kb256 arg4 x1 512 inb_S768x1024_S256x128_0_512) (q := qs c xa0 4 768 inb_S8x1536x128_S1x256x128_4_768_0) (mx := ms c xa1 4 768 inb_S8x1536x128_S1x256x128_4_768_0) (o := 4) (r0 := 768) 4 rfl rfl (by omega) (kb256_at _ _ _ 4 rfl) (qs_at c _ _ 4 rfl (by omega)) (fun x l => (ms_at c _ _ 4 rfl (by omega) x l).trans (hM _ _ _)) inb_S8x1536x128_S1x256x128_4_768_0,
    List.forall_mem_cons.2 ⟨piece_m_256 (k := kb256 arg4 x1 512 inb_S768x1024_S256x128_0_512) (q := qs c xa0 4 0 inb_S8x1536x128_S1x256x128_4_0_0) (mx := ms c xa1 4 0 inb_S8x1536x128_S1x256x128_4_0_0) (o := 4) (r0 := 0) 4 rfl rfl (by omega) (kb256_at _ _ _ 4 rfl) (qs_at c _ _ 4 rfl (by omega)) (fun x l => (ms_at c _ _ 4 rfl (by omega) x l).trans (hM _ _ _)) inb_S8x1536x128_S1x256x128_4_0_0,
    List.forall_mem_cons.2 ⟨piece_m_768 (k := kb768 arg4 x1 384 inb_S768x1024_S768x128_0_384) (q := qs c xa0 3 1280 inb_S8x1536x128_S1x256x128_3_1280_0) (mx := ms c xa1 3 1280 inb_S8x1536x128_S1x256x128_3_1280_0) (o := 3) (r0 := 1280) 3 rfl rfl (by omega) (kb768_at _ _ _ 3 rfl) (qs_at c _ _ 3 rfl (by omega)) (fun x l => (ms_at c _ _ 3 rfl (by omega) x l).trans (hM _ _ _)) inb_S8x1536x128_S1x256x128_3_1280_0,
    List.forall_mem_cons.2 ⟨piece_m_768 (k := kb768 arg4 x1 384 inb_S768x1024_S768x128_0_384) (q := qs c xa0 3 512 inb_S8x1536x128_S1x256x128_3_512_0) (mx := ms c xa1 3 512 inb_S8x1536x128_S1x256x128_3_512_0) (o := 3) (r0 := 512) 3 rfl rfl (by omega) (kb768_at _ _ _ 3 rfl) (qs_at c _ _ 3 rfl (by omega)) (fun x l => (ms_at c _ _ 3 rfl (by omega) x l).trans (hM _ _ _)) inb_S8x1536x128_S1x256x128_3_512_0,
    List.forall_mem_cons.2 ⟨piece_m_512 (k := kb512 arg4 x1 384 inb_S768x1024_S512x128_0_384) (q := qs c xa0 3 1024 inb_S8x1536x128_S1x256x128_3_1024_0) (mx := ms c xa1 3 1024 inb_S8x1536x128_S1x256x128_3_1024_0) (o := 3) (r0 := 1024) 3 rfl rfl (by omega) (kb512_at _ _ _ 3 rfl) (qs_at c _ _ 3 rfl (by omega)) (fun x l => (ms_at c _ _ 3 rfl (by omega) x l).trans (hM _ _ _)) inb_S8x1536x128_S1x256x128_3_1024_0,
    List.forall_mem_cons.2 ⟨piece_m_512 (k := kb512 arg4 x1 384 inb_S768x1024_S512x128_0_384) (q := qs c xa0 3 256 inb_S8x1536x128_S1x256x128_3_256_0) (mx := ms c xa1 3 256 inb_S8x1536x128_S1x256x128_3_256_0) (o := 3) (r0 := 256) 3 rfl rfl (by omega) (kb512_at _ _ _ 3 rfl) (qs_at c _ _ 3 rfl (by omega)) (fun x l => (ms_at c _ _ 3 rfl (by omega) x l).trans (hM _ _ _)) inb_S8x1536x128_S1x256x128_3_256_0,
    List.forall_mem_cons.2 ⟨piece_m_256 (k := kb256 arg4 x1 384 inb_S768x1024_S256x128_0_384) (q := qs c xa0 3 768 inb_S8x1536x128_S1x256x128_3_768_0) (mx := ms c xa1 3 768 inb_S8x1536x128_S1x256x128_3_768_0) (o := 3) (r0 := 768) 3 rfl rfl (by omega) (kb256_at _ _ _ 3 rfl) (qs_at c _ _ 3 rfl (by omega)) (fun x l => (ms_at c _ _ 3 rfl (by omega) x l).trans (hM _ _ _)) inb_S8x1536x128_S1x256x128_3_768_0,
    List.forall_mem_cons.2 ⟨piece_m_256 (k := kb256 arg4 x1 384 inb_S768x1024_S256x128_0_384) (q := qs c xa0 3 0 inb_S8x1536x128_S1x256x128_3_0_0) (mx := ms c xa1 3 0 inb_S8x1536x128_S1x256x128_3_0_0) (o := 3) (r0 := 0) 3 rfl rfl (by omega) (kb256_at _ _ _ 3 rfl) (qs_at c _ _ 3 rfl (by omega)) (fun x l => (ms_at c _ _ 3 rfl (by omega) x l).trans (hM _ _ _)) inb_S8x1536x128_S1x256x128_3_0_0,
    List.forall_mem_cons.2 ⟨piece_m_768 (k := kb768 arg4 x1 256 inb_S768x1024_S768x128_0_256) (q := qs c xa0 2 1280 inb_S8x1536x128_S1x256x128_2_1280_0) (mx := ms c xa1 2 1280 inb_S8x1536x128_S1x256x128_2_1280_0) (o := 2) (r0 := 1280) 2 rfl rfl (by omega) (kb768_at _ _ _ 2 rfl) (qs_at c _ _ 2 rfl (by omega)) (fun x l => (ms_at c _ _ 2 rfl (by omega) x l).trans (hM _ _ _)) inb_S8x1536x128_S1x256x128_2_1280_0,
    List.forall_mem_cons.2 ⟨piece_m_768 (k := kb768 arg4 x1 256 inb_S768x1024_S768x128_0_256) (q := qs c xa0 2 512 inb_S8x1536x128_S1x256x128_2_512_0) (mx := ms c xa1 2 512 inb_S8x1536x128_S1x256x128_2_512_0) (o := 2) (r0 := 512) 2 rfl rfl (by omega) (kb768_at _ _ _ 2 rfl) (qs_at c _ _ 2 rfl (by omega)) (fun x l => (ms_at c _ _ 2 rfl (by omega) x l).trans (hM _ _ _)) inb_S8x1536x128_S1x256x128_2_512_0,
    List.forall_mem_cons.2 ⟨piece_m_512 (k := kb512 arg4 x1 256 inb_S768x1024_S512x128_0_256) (q := qs c xa0 2 1024 inb_S8x1536x128_S1x256x128_2_1024_0) (mx := ms c xa1 2 1024 inb_S8x1536x128_S1x256x128_2_1024_0) (o := 2) (r0 := 1024) 2 rfl rfl (by omega) (kb512_at _ _ _ 2 rfl) (qs_at c _ _ 2 rfl (by omega)) (fun x l => (ms_at c _ _ 2 rfl (by omega) x l).trans (hM _ _ _)) inb_S8x1536x128_S1x256x128_2_1024_0,
    List.forall_mem_cons.2 ⟨piece_m_512 (k := kb512 arg4 x1 256 inb_S768x1024_S512x128_0_256) (q := qs c xa0 2 256 inb_S8x1536x128_S1x256x128_2_256_0) (mx := ms c xa1 2 256 inb_S8x1536x128_S1x256x128_2_256_0) (o := 2) (r0 := 256) 2 rfl rfl (by omega) (kb512_at _ _ _ 2 rfl) (qs_at c _ _ 2 rfl (by omega)) (fun x l => (ms_at c _ _ 2 rfl (by omega) x l).trans (hM _ _ _)) inb_S8x1536x128_S1x256x128_2_256_0,
    List.forall_mem_cons.2 ⟨piece_m_256 (k := kb256 arg4 x1 256 inb_S768x1024_S256x128_0_256) (q := qs c xa0 2 768 inb_S8x1536x128_S1x256x128_2_768_0) (mx := ms c xa1 2 768 inb_S8x1536x128_S1x256x128_2_768_0) (o := 2) (r0 := 768) 2 rfl rfl (by omega) (kb256_at _ _ _ 2 rfl) (qs_at c _ _ 2 rfl (by omega)) (fun x l => (ms_at c _ _ 2 rfl (by omega) x l).trans (hM _ _ _)) inb_S8x1536x128_S1x256x128_2_768_0,
    List.forall_mem_cons.2 ⟨piece_m_256 (k := kb256 arg4 x1 256 inb_S768x1024_S256x128_0_256) (q := qs c xa0 2 0 inb_S8x1536x128_S1x256x128_2_0_0) (mx := ms c xa1 2 0 inb_S8x1536x128_S1x256x128_2_0_0) (o := 2) (r0 := 0) 2 rfl rfl (by omega) (kb256_at _ _ _ 2 rfl) (qs_at c _ _ 2 rfl (by omega)) (fun x l => (ms_at c _ _ 2 rfl (by omega) x l).trans (hM _ _ _)) inb_S8x1536x128_S1x256x128_2_0_0,
    List.forall_mem_cons.2 ⟨piece_m_768 (k := kb768 arg4 x1 128 inb_S768x1024_S768x128_0_128) (q := qs c xa0 1 1280 inb_S8x1536x128_S1x256x128_1_1280_0) (mx := ms c xa1 1 1280 inb_S8x1536x128_S1x256x128_1_1280_0) (o := 1) (r0 := 1280) 1 rfl rfl (by omega) (kb768_at _ _ _ 1 rfl) (qs_at c _ _ 1 rfl (by omega)) (fun x l => (ms_at c _ _ 1 rfl (by omega) x l).trans (hM _ _ _)) inb_S8x1536x128_S1x256x128_1_1280_0,
    List.forall_mem_cons.2 ⟨piece_m_768 (k := kb768 arg4 x1 128 inb_S768x1024_S768x128_0_128) (q := qs c xa0 1 512 inb_S8x1536x128_S1x256x128_1_512_0) (mx := ms c xa1 1 512 inb_S8x1536x128_S1x256x128_1_512_0) (o := 1) (r0 := 512) 1 rfl rfl (by omega) (kb768_at _ _ _ 1 rfl) (qs_at c _ _ 1 rfl (by omega)) (fun x l => (ms_at c _ _ 1 rfl (by omega) x l).trans (hM _ _ _)) inb_S8x1536x128_S1x256x128_1_512_0,
    List.forall_mem_cons.2 ⟨piece_m_512 (k := kb512 arg4 x1 128 inb_S768x1024_S512x128_0_128) (q := qs c xa0 1 1024 inb_S8x1536x128_S1x256x128_1_1024_0) (mx := ms c xa1 1 1024 inb_S8x1536x128_S1x256x128_1_1024_0) (o := 1) (r0 := 1024) 1 rfl rfl (by omega) (kb512_at _ _ _ 1 rfl) (qs_at c _ _ 1 rfl (by omega)) (fun x l => (ms_at c _ _ 1 rfl (by omega) x l).trans (hM _ _ _)) inb_S8x1536x128_S1x256x128_1_1024_0,
    List.forall_mem_cons.2 ⟨piece_m_512 (k := kb512 arg4 x1 128 inb_S768x1024_S512x128_0_128) (q := qs c xa0 1 256 inb_S8x1536x128_S1x256x128_1_256_0) (mx := ms c xa1 1 256 inb_S8x1536x128_S1x256x128_1_256_0) (o := 1) (r0 := 256) 1 rfl rfl (by omega) (kb512_at _ _ _ 1 rfl) (qs_at c _ _ 1 rfl (by omega)) (fun x l => (ms_at c _ _ 1 rfl (by omega) x l).trans (hM _ _ _)) inb_S8x1536x128_S1x256x128_1_256_0,
    List.forall_mem_cons.2 ⟨piece_m_256 (k := kb256 arg4 x1 128 inb_S768x1024_S256x128_0_128) (q := qs c xa0 1 768 inb_S8x1536x128_S1x256x128_1_768_0) (mx := ms c xa1 1 768 inb_S8x1536x128_S1x256x128_1_768_0) (o := 1) (r0 := 768) 1 rfl rfl (by omega) (kb256_at _ _ _ 1 rfl) (qs_at c _ _ 1 rfl (by omega)) (fun x l => (ms_at c _ _ 1 rfl (by omega) x l).trans (hM _ _ _)) inb_S8x1536x128_S1x256x128_1_768_0,
    List.forall_mem_cons.2 ⟨piece_m_256 (k := kb256 arg4 x1 128 inb_S768x1024_S256x128_0_128) (q := qs c xa0 1 0 inb_S8x1536x128_S1x256x128_1_0_0) (mx := ms c xa1 1 0 inb_S8x1536x128_S1x256x128_1_0_0) (o := 1) (r0 := 0) 1 rfl rfl (by omega) (kb256_at _ _ _ 1 rfl) (qs_at c _ _ 1 rfl (by omega)) (fun x l => (ms_at c _ _ 1 rfl (by omega) x l).trans (hM _ _ _)) inb_S8x1536x128_S1x256x128_1_0_0,
    List.forall_mem_cons.2 ⟨piece_m_768 (k := kb768 arg4 x1 0 inb_S768x1024_S768x128_0_0) (q := qs c xa0 0 1280 inb_S8x1536x128_S1x256x128_0_1280_0) (mx := ms c xa1 0 1280 inb_S8x1536x128_S1x256x128_0_1280_0) (o := 0) (r0 := 1280) 0 rfl rfl (by omega) (kb768_at _ _ _ 0 rfl) (qs_at c _ _ 0 rfl (by omega)) (fun x l => (ms_at c _ _ 0 rfl (by omega) x l).trans (hM _ _ _)) inb_S8x1536x128_S1x256x128_0_1280_0,
    List.forall_mem_cons.2 ⟨piece_m_768 (k := kb768 arg4 x1 0 inb_S768x1024_S768x128_0_0) (q := qs c xa0 0 512 inb_S8x1536x128_S1x256x128_0_512_0) (mx := ms c xa1 0 512 inb_S8x1536x128_S1x256x128_0_512_0) (o := 0) (r0 := 512) 0 rfl rfl (by omega) (kb768_at _ _ _ 0 rfl) (qs_at c _ _ 0 rfl (by omega)) (fun x l => (ms_at c _ _ 0 rfl (by omega) x l).trans (hM _ _ _)) inb_S8x1536x128_S1x256x128_0_512_0,
    List.forall_mem_cons.2 ⟨piece_m_512 (k := kb512 arg4 x1 0 inb_S768x1024_S512x128_0_0) (q := qs c xa0 0 1024 inb_S8x1536x128_S1x256x128_0_1024_0) (mx := ms c xa1 0 1024 inb_S8x1536x128_S1x256x128_0_1024_0) (o := 0) (r0 := 1024) 0 rfl rfl (by omega) (kb512_at _ _ _ 0 rfl) (qs_at c _ _ 0 rfl (by omega)) (fun x l => (ms_at c _ _ 0 rfl (by omega) x l).trans (hM _ _ _)) inb_S8x1536x128_S1x256x128_0_1024_0,
    List.forall_mem_cons.2 ⟨piece_m_512 (k := kb512 arg4 x1 0 inb_S768x1024_S512x128_0_0) (q := qs c xa0 0 256 inb_S8x1536x128_S1x256x128_0_256_0) (mx := ms c xa1 0 256 inb_S8x1536x128_S1x256x128_0_256_0) (o := 0) (r0 := 256) 0 rfl rfl (by omega) (kb512_at _ _ _ 0 rfl) (qs_at c _ _ 0 rfl (by omega)) (fun x l => (ms_at c _ _ 0 rfl (by omega) x l).trans (hM _ _ _)) inb_S8x1536x128_S1x256x128_0_256_0,
    List.forall_mem_cons.2 ⟨piece_m_256 (k := kb256 arg4 x1 0 inb_S768x1024_S256x128_0_0) (q := qs c xa0 0 768 inb_S8x1536x128_S1x256x128_0_768_0) (mx := ms c xa1 0 768 inb_S8x1536x128_S1x256x128_0_768_0) (o := 0) (r0 := 768) 0 rfl rfl (by omega) (kb256_at _ _ _ 0 rfl) (qs_at c _ _ 0 rfl (by omega)) (fun x l => (ms_at c _ _ 0 rfl (by omega) x l).trans (hM _ _ _)) inb_S8x1536x128_S1x256x128_0_768_0,
    List.forall_mem_cons.2 ⟨piece_m_256 (k := kb256 arg4 x1 0 inb_S768x1024_S256x128_0_0) (q := qs c xa0 0 0 inb_S8x1536x128_S1x256x128_0_0_0) (mx := ms c xa1 0 0 inb_S8x1536x128_S1x256x128_0_0_0) (o := 0) (r0 := 0) 0 rfl rfl (by omega) (kb256_at _ _ _ 0 rfl) (qs_at c _ _ 0 rfl (by omega)) (fun x l => (ms_at c _ _ 0 rfl (by omega) x l).trans (hM _ _ _)) inb_S8x1536x128_S1x256x128_0_0_0,
    List.forall_mem_nil _⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩
  · exact .cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.nil))))))))))))))))))))))))))))))))))))))))))))))))

include c in
theorem canon_aC (hM : ∀ h r l, scM0_1.view.read (Elt Ideal) xa1 (ix3 h r l) = M0 h r) (y : S8x1536x256.Idx) :
    View.canon (kernelRun0_C.sl.HS2_48 c arg4 arg5 x1 x2 xa0 xa1 xa2) y = GAa true (scM0_0.view.read (Elt Ideal) xa0) x1 x2 M0 (scM0_2.view.read (Elt Ideal) xa2) y := by
  refine canon_first (e := .f32) (GAa true (scM0_0.view.read (Elt Ideal) xa0) x1 x2 M0 (scM0_2.view.read (Elt Ideal) xa2)) 48 _ ?_ y (cover_slabs (by omega : 0 < 256) blocks _ ?_ blocks_all blocks_in y)
  · exact List.forall_mem_cons.2 ⟨piece_a_768 (k := kb768 arg4 x1 896 inb_S768x1024_S768x128_0_896) (v := kb768 arg5 x2 896 inb_S768x1024_S768x128_0_896) (q := qs c xa0 7 1280 inb_S8x1536x128_S1x256x128_7_1280_0) (mx := ms c xa1 7 1280 inb_S8x1536x128_S1x256x128_7_1280_0) (ac := sums c xa2 7 1280 inb_S8x1536x256_S1x256x256_7_1280_0) (o := 7) (r0 := 1280) 7 rfl rfl (by omega) (kb768_at _ _ _ 7 rfl) (kb768_at _ _ _ 7 rfl) (qs_at c _ _ 7 rfl (by omega)) (fun x l => (ms_at c _ _ 7 rfl (by omega) x l).trans (hM _ _ _)) (sums_at c _ _ 7 rfl (by omega)) inb_S8x1536x256_S1x256x256_7_1280_0,
    List.forall_mem_cons.2 ⟨piece_a_768 (k := kb768 arg4 x1 896 inb_S768x1024_S768x128_0_896) (v := kb768 arg5 x2 896 inb_S768x1024_S768x128_0_896) (q := qs c xa0 7 512 inb_S8x1536x128_S1x256x128_7_512_0) (mx := ms c xa1 7 512 inb_S8x1536x128_S1x256x128_7_512_0) (ac := sums c xa2 7 512 inb_S8x1536x256_S1x256x256_7_512_0) (o := 7) (r0 := 512) 7 rfl rfl (by omega) (kb768_at _ _ _ 7 rfl) (kb768_at _ _ _ 7 rfl) (qs_at c _ _ 7 rfl (by omega)) (fun x l => (ms_at c _ _ 7 rfl (by omega) x l).trans (hM _ _ _)) (sums_at c _ _ 7 rfl (by omega)) inb_S8x1536x256_S1x256x256_7_512_0,
    List.forall_mem_cons.2 ⟨piece_a_512 (k := kb512 arg4 x1 896 inb_S768x1024_S512x128_0_896) (v := kb512 arg5 x2 896 inb_S768x1024_S512x128_0_896) (q := qs c xa0 7 1024 inb_S8x1536x128_S1x256x128_7_1024_0) (mx := ms c xa1 7 1024 inb_S8x1536x128_S1x256x128_7_1024_0) (ac := sums c xa2 7 1024 inb_S8x1536x256_S1x256x256_7_1024_0) (o := 7) (r0 := 1024) 7 rfl rfl (by omega) (kb512_at _ _ _ 7 rfl) (kb512_at _ _ _ 7 rfl) (qs_at c _ _ 7 rfl (by omega)) (fun x l => (ms_at c _ _ 7 rfl (by omega) x l).trans (hM _ _ _)) (sums_at c _ _ 7 rfl (by omega)) inb_S8x1536x256_S1x256x256_7_1024_0,
    List.forall_mem_cons.2 ⟨piece_a_512 (k := kb512 arg4 x1 896 inb_S768x1024_S512x128_0_896) (v := kb512 arg5 x2 896 inb_S768x1024_S512x128_0_896) (q := qs c xa0 7 256 inb_S8x1536x128_S1x256x128_7_256_0) (mx := ms c xa1 7 256 inb_S8x1536x128_S1x256x128_7_256_0) (ac := sums c xa2 7 256 inb_S8x1536x256_S1x256x256_7_256_0) (o := 7) (r0 := 256) 7 rfl rfl (by omega) (kb512_at _ _ _ 7 rfl) (kb512_at _ _ _ 7 rfl) (qs_at c _ _ 7 rfl (by omega)) (fun x l => (ms_at c _ _ 7 rfl (by omega) x l).trans (hM _ _ _)) (sums_at c _ _ 7 rfl (by omega)) inb_S8x1536x256_S1x256x256_7_256_0,
    List.forall_mem_cons.2 ⟨piece_a_256 (k := kb256 arg4 x1 896 inb_S768x1024_S256x128_0_896) (v := kb256 arg5 x2 896 inb_S768x1024_S256x128_0_896) (q := qs c xa0 7 768 inb_S8x1536x128_S1x256x128_7_768_0) (mx := ms c xa1 7 768 inb_S8x1536x128_S1x256x128_7_768_0) (ac := sums c xa2 7 768 inb_S8x1536x256_S1x256x256_7_768_0) (o := 7) (r0 := 768) 7 rfl rfl (by omega) (kb256_at _ _ _ 7 rfl) (kb256_at _ _ _ 7 rfl) (qs_at c _ _ 7 rfl (by omega)) (fun x l => (ms_at c _ _ 7 rfl (by omega) x l).trans (hM _ _ _)) (sums_at c _ _ 7 rfl (by omega)) inb_S8x1536x256_S1x256x256_7_768_0,
    List.forall_mem_cons.2 ⟨piece_a_256 (k := kb256 arg4 x1 896 inb_S768x1024_S256x128_0_896) (v := kb256 arg5 x2 896 inb_S768x1024_S256x128_0_896) (q := qs c xa0 7 0 inb_S8x1536x128_S1x256x128_7_0_0) (mx := ms c xa1 7 0 inb_S8x1536x128_S1x256x128_7_0_0) (ac := sums c xa2 7 0 inb_S8x1536x256_S1x256x256_7_0_0) (o := 7) (r0 := 0) 7 rfl rfl (by omega) (kb256_at _ _ _ 7 rfl) (kb256_at _ _ _ 7 rfl) (qs_at c _ _ 7 rfl (by omega)) (fun x l => (ms_at c _ _ 7 rfl (by omega) x l).trans (hM _ _ _)) (sums_at c _ _ 7 rfl (by omega)) inb_S8x1536x256_S1x256x256_7_0_0,
    List.forall_mem_cons.2 ⟨piece_a_768 (k := kb768 arg4 x1 768 inb_S768x1024_S768x128_0_768) (v := kb768 arg5 x2 768 inb_S768x1024_S768x128_0_768) (q := qs c xa0 6 1280 inb_S8x1536x128_S1x256x128_6_1280_0) (mx := ms c xa1 6 1280 inb_S8x1536x128_S1x256x128_6_1280_0) (ac := sums c xa2 6 1280 inb_S8x1536x256_S1x256x256_6_1280_0) (o := 6) (r0 := 1280) 6 rfl rfl (by omega) (kb768_at _ _ _ 6 rfl) (kb768_at _ _ _ 6 rfl) (qs_at c _ _ 6 rfl (by omega)) (fun x l => (ms_at c _ _ 6 rfl (by omega) x l).trans (hM _ _ _)) (sums_at c _ _ 6 rfl (by omega)) inb_S8x1536x256_S1x256x256_6_1280_0,
    List.forall_mem_cons.2 ⟨piece_a_768 (k := kb768 arg4 x1 768 inb_S768x1024_S768x128_0_768) (v := kb768 arg5 x2 768 inb_S768x1024_S768x128_0_768) (q := qs c xa0 6 512 inb_S8x1536x128_S1x256x128_6_512_0) (mx := ms c xa1 6 512 inb_S8x1536x128_S1x256x128_6_512_0) (ac := sums c xa2 6 512 inb_S8x1536x256_S1x256x256_6_512_0) (o := 6) (r0 := 512) 6 rfl rfl (by omega) (kb768_at _ _ _ 6 rfl) (kb768_at _ _ _ 6 rfl) (qs_at c _ _ 6 rfl (by omega)) (fun x l => (ms_at c _ _ 6 rfl (by omega) x l).trans (hM _ _ _)) (sums_at c _ _ 6 rfl (by omega)) inb_S8x1536x256_S1x256x256_6_512_0,
    List.forall_mem_cons.2 ⟨piece_a_512 (k := kb512 arg4 x1 768 inb_S768x1024_S512x128_0_768) (v := kb512 arg5 x2 768 inb_S768x1024_S512x128_0_768) (q := qs c xa0 6 1024 inb_S8x1536x128_S1x256x128_6_1024_0) (mx := ms c xa1 6 1024 inb_S8x1536x128_S1x256x128_6_1024_0) (ac := sums c xa2 6 1024 inb_S8x1536x256_S1x256x256_6_1024_0) (o := 6) (r0 := 1024) 6 rfl rfl (by omega) (kb512_at _ _ _ 6 rfl) (kb512_at _ _ _ 6 rfl) (qs_at c _ _ 6 rfl (by omega)) (fun x l => (ms_at c _ _ 6 rfl (by omega) x l).trans (hM _ _ _)) (sums_at c _ _ 6 rfl (by omega)) inb_S8x1536x256_S1x256x256_6_1024_0,
    List.forall_mem_cons.2 ⟨piece_a_512 (k := kb512 arg4 x1 768 inb_S768x1024_S512x128_0_768) (v := kb512 arg5 x2 768 inb_S768x1024_S512x128_0_768) (q := qs c xa0 6 256 inb_S8x1536x128_S1x256x128_6_256_0) (mx := ms c xa1 6 256 inb_S8x1536x128_S1x256x128_6_256_0) (ac := sums c xa2 6 256 inb_S8x1536x256_S1x256x256_6_256_0) (o := 6) (r0 := 256) 6 rfl rfl (by omega) (kb512_at _ _ _ 6 rfl) (kb512_at _ _ _ 6 rfl) (qs_at c _ _ 6 rfl (by omega)) (fun x l => (ms_at c _ _ 6 rfl (by omega) x l).trans (hM _ _ _)) (sums_at c _ _ 6 rfl (by omega)) inb_S8x1536x256_S1x256x256_6_256_0,
    List.forall_mem_cons.2 ⟨piece_a_256 (k := kb256 arg4 x1 768 inb_S768x1024_S256x128_0_768) (v := kb256 arg5 x2 768 inb_S768x1024_S256x128_0_768) (q := qs c xa0 6 768 inb_S8x1536x128_S1x256x128_6_768_0) (mx := ms c xa1 6 768 inb_S8x1536x128_S1x256x128_6_768_0) (ac := sums c xa2 6 768 inb_S8x1536x256_S1x256x256_6_768_0) (o := 6) (r0 := 768) 6 rfl rfl (by omega) (kb256_at _ _ _ 6 rfl) (kb256_at _ _ _ 6 rfl) (qs_at c _ _ 6 rfl (by omega)) (fun x l => (ms_at c _ _ 6 rfl (by omega) x l).trans (hM _ _ _)) (sums_at c _ _ 6 rfl (by omega)) inb_S8x1536x256_S1x256x256_6_768_0,
    List.forall_mem_cons.2 ⟨piece_a_256 (k := kb256 arg4 x1 768 inb_S768x1024_S256x128_0_768) (v := kb256 arg5 x2 768 inb_S768x1024_S256x128_0_768) (q := qs c xa0 6 0 inb_S8x1536x128_S1x256x128_6_0_0) (mx := ms c xa1 6 0 inb_S8x1536x128_S1x256x128_6_0_0) (ac := sums c xa2 6 0 inb_S8x1536x256_S1x256x256_6_0_0) (o := 6) (r0 := 0) 6 rfl rfl (by omega) (kb256_at _ _ _ 6 rfl) (kb256_at _ _ _ 6 rfl) (qs_at c _ _ 6 rfl (by omega)) (fun x l => (ms_at c _ _ 6 rfl (by omega) x l).trans (hM _ _ _)) (sums_at c _ _ 6 rfl (by omega)) inb_S8x1536x256_S1x256x256_6_0_0,
    List.forall_mem_cons.2 ⟨piece_a_768 (k := kb768 arg4 x1 640 inb_S768x1024_S768x128_0_640) (v := kb768 arg5 x2 640 inb_S768x1024_S768x128_0_640) (q := qs c xa0 5 1280 inb_S8x1536x128_S1x256x128_5_1280_0) (mx := ms c xa1 5 1280 inb_S8x1536x128_S1x256x128_5_1280_0) (ac := sums c xa2 5 1280 inb_S8x1536x256_S1x256x256_5_1280_0) (o := 5) (r0 := 1280) 5 rfl rfl (by omega) (kb768_at _ _ _ 5 rfl) (kb768_at _ _ _ 5 rfl) (qs_at c _ _ 5 rfl (by omega)) (fun x l => (ms_at c _ _ 5 rfl (by omega) x l).trans (hM _ _ _)) (sums_at c _ _ 5 rfl (by omega)) inb_S8x1536x256_S1x256x256_5_1280_0,
    List.forall_mem_cons.2 ⟨piece_a_768 (k := kb768 arg4 x1 640 inb_S768x1024_S768x128_0_640) (v := kb768 arg5 x2 640 inb_S768x1024_S768x128_0_640) (q := qs c xa0 5 512 inb_S8x1536x128_S1x256x128_5_512_0) (mx := ms c xa1 5 512 inb_S8x1536x128_S1x256x128_5_512_0) (ac := sums c xa2 5 512 inb_S8x1536x256_S1x256x256_5_512_0) (o := 5) (r0 := 512) 5 rfl rfl (by omega) (kb768_at _ _ _ 5 rfl) (kb768_at _ _ _ 5 rfl) (qs_at c _ _ 5 rfl (by omega)) (fun x l => (ms_at c _ _ 5 rfl (by omega) x l).trans (hM _ _ _)) (sums_at c _ _ 5 rfl (by omega)) inb_S8x1536x256_S1x256x256_5_512_0,
    List.forall_mem_cons.2 ⟨piece_a_512 (k := kb512 arg4 x1 640 inb_S768x1024_S512x128_0_640) (v := kb512 arg5 x2 640 inb_S768x1024_S512x128_0_640) (q := qs c xa0 5 1024 inb_S8x1536x128_S1x256x128_5_1024_0) (mx := ms c xa1 5 1024 inb_S8x1536x128_S1x256x128_5_1024_0) (ac := sums c xa2 5 1024 inb_S8x1536x256_S1x256x256_5_1024_0) (o := 5) (r0 := 1024) 5 rfl rfl (by omega) (kb512_at _ _ _ 5 rfl) (kb512_at _ _ _ 5 rfl) (qs_at c _ _ 5 rfl (by omega)) (fun x l => (ms_at c _ _ 5 rfl (by omega) x l).trans (hM _ _ _)) (sums_at c _ _ 5 rfl (by omega)) inb_S8x1536x256_S1x256x256_5_1024_0,
    List.forall_mem_cons.2 ⟨piece_a_512 (k := kb512 arg4 x1 640 inb_S768x1024_S512x128_0_640) (v := kb512 arg5 x2 640 inb_S768x1024_S512x128_0_640) (q := qs c xa0 5 256 inb_S8x1536x128_S1x256x128_5_256_0) (mx := ms c xa1 5 256 inb_S8x1536x128_S1x256x128_5_256_0) (ac := sums c xa2 5 256 inb_S8x1536x256_S1x256x256_5_256_0) (o := 5) (r0 := 256) 5 rfl rfl (by omega) (kb512_at _ _ _ 5 rfl) (kb512_at _ _ _ 5 rfl) (qs_at c _ _ 5 rfl (by omega)) (fun x l => (ms_at c _ _ 5 rfl (by omega) x l).trans (hM _ _ _)) (sums_at c _ _ 5 rfl (by omega)) inb_S8x1536x256_S1x256x256_5_256_0,
    List.forall_mem_cons.2 ⟨piece_a_256 (k := kb256 arg4 x1 640 inb_S768x1024_S256x128_0_640) (v := kb256 arg5 x2 640 inb_S768x1024_S256x128_0_640) (q := qs c xa0 5 768 inb_S8x1536x128_S1x256x128_5_768_0) (mx := ms c xa1 5 768 inb_S8x1536x128_S1x256x128_5_768_0) (ac := sums c xa2 5 768 inb_S8x1536x256_S1x256x256_5_768_0) (o := 5) (r0 := 768) 5 rfl rfl (by omega) (kb256_at _ _ _ 5 rfl) (kb256_at _ _ _ 5 rfl) (qs_at c _ _ 5 rfl (by omega)) (fun x l => (ms_at c _ _ 5 rfl (by omega) x l).trans (hM _ _ _)) (sums_at c _ _ 5 rfl (by omega)) inb_S8x1536x256_S1x256x256_5_768_0,
    List.forall_mem_cons.2 ⟨piece_a_256 (k := kb256 arg4 x1 640 inb_S768x1024_S256x128_0_640) (v := kb256 arg5 x2 640 inb_S768x1024_S256x128_0_640) (q := qs c xa0 5 0 inb_S8x1536x128_S1x256x128_5_0_0) (mx := ms c xa1 5 0 inb_S8x1536x128_S1x256x128_5_0_0) (ac := sums c xa2 5 0 inb_S8x1536x256_S1x256x256_5_0_0) (o := 5) (r0 := 0) 5 rfl rfl (by omega) (kb256_at _ _ _ 5 rfl) (kb256_at _ _ _ 5 rfl) (qs_at c _ _ 5 rfl (by omega)) (fun x l => (ms_at c _ _ 5 rfl (by omega) x l).trans (hM _ _ _)) (sums_at c _ _ 5 rfl (by omega)) inb_S8x1536x256_S1x256x256_5_0_0,
    List.forall_mem_cons.2 ⟨piece_a_768 (k := kb768 arg4 x1 512 inb_S768x1024_S768x128_0_512) (v := kb768 arg5 x2 512 inb_S768x1024_S768x128_0_512) (q := qs c xa0 4 1280 inb_S8x1536x128_S1x256x128_4_1280_0) (mx := ms c xa1 4 1280 inb_S8x1536x128_S1x256x128_4_1280_0) (ac := sums c xa2 4 1280 inb_S8x1536x256_S1x256x256_4_1280_0) (o := 4) (r0 := 1280) 4 rfl rfl (by omega) (kb768_at _ _ _ 4 rfl) (kb768_at _ _ _ 4 rfl) (qs_at c _ _ 4 rfl (by omega)) (fun x l => (ms_at c _ _ 4 rfl (by omega) x l).trans (hM _ _ _)) (sums_at c _ _ 4 rfl (by omega)) inb_S8x1536x256_S1x256x256_4_1280_0,
    List.forall_mem_cons.2 ⟨piece_a_768 (k := kb768 arg4 x1 512 inb_S768x1024_S768x128_0_512) (v := kb768 arg5 x2 512 inb_S768x1024_S768x128_0_512) (q := qs c xa0 4 512 inb_S8x1536x128_S1x256x128_4_512_0) (mx := ms c xa1 4 512 inb_S8x1536x128_S1x256x128_4_512_0) (ac := sums c xa2 4 512 inb_S8x1536x256_S1x256x256_4_512_0) (o := 4) (r0 := 512) 4 rfl rfl (by omega) (kb768_at _ _ _ 4 rfl) (kb768_at _ _ _ 4 rfl) (qs_at c _ _ 4 rfl (by omega)) (fun x l => (ms_at c _ _ 4 rfl (by omega) x l).trans (hM _ _ _)) (sums_at c _ _ 4 rfl (by omega)) inb_S8x1536x256_S1x256x256_4_512_0,
    List.forall_mem_cons.2 ⟨piece_a_512 (k := kb512 arg4 x1 512 inb_S768x1024_S512x128_0_512) (v := kb512 arg5 x2 512 inb_S768x1024_S512x128_0_512) (q := qs c xa0 4 1024 inb_S8x1536x128_S1x256x128_4_1024_0) (mx := ms c xa1 4 1024 inb_S8x1536x128_S1x256x128_4_1024_0) (ac := sums c xa2 4 1024 inb_S8x1536x256_S1x256x256_4_1024_0) (o := 4) (r0 := 1024) 4 rfl rfl (by omega) (kb512_at _ _ _ 4 rfl) (kb512_at _ _ _ 4 rfl) (qs_at c _ _ 4 rfl (by omega)) (fun x l => (ms_at c _ _ 4 rfl (by omega) x l).trans (hM _ _ _)) (sums_at c _ _ 4 rfl (by omega)) inb_S8x1536x256_S1x256x256_4_1024_0,
    List.forall_mem_cons.2 ⟨piece_a_512 (k := kb512 arg4 x1 512 inb_S768x1024_S512x128_0_512) (v := kb512 arg5 x2 512 inb_S768x1024_S512x128_0_512) (q := qs c xa0 4 256 inb_S8x1536x128_S1x256x128_4_256_0) (mx := ms c xa1 4 256 inb_S8x1536x128_S1x256x128_4_256_0) (ac := sums c xa2 4 256 inb_S8x1536x256_S1x256x256_4_256_0) (o := 4) (r0 := 256) 4 rfl rfl (by omega) (kb512_at _ _ _ 4 rfl) (kb512_at _ _ _ 4 rfl) (qs_at c _ _ 4 rfl (by omega)) (fun x l => (ms_at c _ _ 4 rfl (by omega) x l).trans (hM _ _ _)) (sums_at c _ _ 4 rfl (by omega)) inb_S8x1536x256_S1x256x256_4_256_0,
    List.forall_mem_cons.2 ⟨piece_a_256 (k := kb256 arg4 x1 512 inb_S768x1024_S256x128_0_512) (v := kb256 arg5 x2 512 inb_S768x1024_S256x128_0_512) (q := qs c xa0 4 768 inb_S8x1536x128_S1x256x128_4_768_0) (mx := ms c xa1 4 768 inb_S8x1536x128_S1x256x128_4_768_0) (ac := sums c xa2 4 768 inb_S8x1536x256_S1x256x256_4_768_0) (o := 4) (r0 := 768) 4 rfl rfl (by omega) (kb256_at _ _ _ 4 rfl) (kb256_at _ _ _ 4 rfl) (qs_at c _ _ 4 rfl (by omega)) (fun x l => (ms_at c _ _ 4 rfl (by omega) x l).trans (hM _ _ _)) (sums_at c _ _ 4 rfl (by omega)) inb_S8x1536x256_S1x256x256_4_768_0,
    List.forall_mem_cons.2 ⟨piece_a_256 (k := kb256 arg4 x1 512 inb_S768x1024_S256x128_0_512) (v := kb256 arg5 x2 512 inb_S768x1024_S256x128_0_512) (q := qs c xa0 4 0 inb_S8x1536x128_S1x256x128_4_0_0) (mx := ms c xa1 4 0 inb_S8x1536x128_S1x256x128_4_0_0) (ac := sums c xa2 4 0 inb_S8x1536x256_S1x256x256_4_0_0) (o := 4) (r0 := 0) 4 rfl rfl (by omega) (kb256_at _ _ _ 4 rfl) (kb256_at _ _ _ 4 rfl) (qs_at c _ _ 4 rfl (by omega)) (fun x l => (ms_at c _ _ 4 rfl (by omega) x l).trans (hM _ _ _)) (sums_at c _ _ 4 rfl (by omega)) inb_S8x1536x256_S1x256x256_4_0_0,
    List.forall_mem_cons.2 ⟨piece_a_768 (k := kb768 arg4 x1 384 inb_S768x1024_S768x128_0_384) (v := kb768 arg5 x2 384 inb_S768x1024_S768x128_0_384) (q := qs c xa0 3 1280 inb_S8x1536x128_S1x256x128_3_1280_0) (mx := ms c xa1 3 1280 inb_S8x1536x128_S1x256x128_3_1280_0) (ac := sums c xa2 3 1280 inb_S8x1536x256_S1x256x256_3_1280_0) (o := 3) (r0 := 1280) 3 rfl rfl (by omega) (kb768_at _ _ _ 3 rfl) (kb768_at _ _ _ 3 rfl) (qs_at c _ _ 3 rfl (by omega)) (fun x l => (ms_at c _ _ 3 rfl (by omega) x l).trans (hM _ _ _)) (sums_at c _ _ 3 rfl (by omega)) inb_S8x1536x256_S1x256x256_3_1280_0,
    List.forall_mem_cons.2 ⟨piece_a_768 (k := kb768 arg4 x1 384 inb_S768x1024_S768x128_0_384) (v := kb768 arg5 x2 384 inb_S768x1024_S768x128_0_384) (q := qs c xa0 3 512 inb_S8x1536x128_S1x256x128_3_512_0) (mx := ms c xa1 3 512 inb_S8x1536x128_S1x256x128_3_512_0) (ac := sums c xa2 3 512 inb_S8x1536x256_S1x256x256_3_512_0) (o := 3) (r0 := 512) 3 rfl rfl (by omega) (kb768_at _ _ _ 3 rfl) (kb768_at _ _ _ 3 rfl) (qs_at c _ _ 3 rfl (by omega)) (fun x l => (ms_at c _ _ 3 rfl (by omega) x l).trans (hM _ _ _)) (sums_at c _ _ 3 rfl (by omega)) inb_S8x1536x256_S1x256x256_3_512_0,
    List.forall_mem_cons.2 ⟨piece_a_512 (k := kb512 arg4 x1 384 inb_S768x1024_S512x128_0_384) (v := kb512 arg5 x2 384 inb_S768x1024_S512x128_0_384) (q := qs c xa0 3 1024 inb_S8x1536x128_S1x256x128_3_1024_0) (mx := ms c xa1 3 1024 inb_S8x1536x128_S1x256x128_3_1024_0) (ac := sums c xa2 3 1024 inb_S8x1536x256_S1x256x256_3_1024_0) (o := 3) (r0 := 1024) 3 rfl rfl (by omega) (kb512_at _ _ _ 3 rfl) (kb512_at _ _ _ 3 rfl) (qs_at c _ _ 3 rfl (by omega)) (fun x l => (ms_at c _ _ 3 rfl (by omega) x l).trans (hM _ _ _)) (sums_at c _ _ 3 rfl (by omega)) inb_S8x1536x256_S1x256x256_3_1024_0,
    List.forall_mem_cons.2 ⟨piece_a_512 (k := kb512 arg4 x1 384 inb_S768x1024_S512x128_0_384) (v := kb512 arg5 x2 384 inb_S768x1024_S512x128_0_384) (q := qs c xa0 3 256 inb_S8x1536x128_S1x256x128_3_256_0) (mx := ms c xa1 3 256 inb_S8x1536x128_S1x256x128_3_256_0) (ac := sums c xa2 3 256 inb_S8x1536x256_S1x256x256_3_256_0) (o := 3) (r0 := 256) 3 rfl rfl (by omega) (kb512_at _ _ _ 3 rfl) (kb512_at _ _ _ 3 rfl) (qs_at c _ _ 3 rfl (by omega)) (fun x l => (ms_at c _ _ 3 rfl (by omega) x l).trans (hM _ _ _)) (sums_at c _ _ 3 rfl (by omega)) inb_S8x1536x256_S1x256x256_3_256_0,
    List.forall_mem_cons.2 ⟨piece_a_256 (k := kb256 arg4 x1 384 inb_S768x1024_S256x128_0_384) (v := kb256 arg5 x2 384 inb_S768x1024_S256x128_0_384) (q := qs c xa0 3 768 inb_S8x1536x128_S1x256x128_3_768_0) (mx := ms c xa1 3 768 inb_S8x1536x128_S1x256x128_3_768_0) (ac := sums c xa2 3 768 inb_S8x1536x256_S1x256x256_3_768_0) (o := 3) (r0 := 768) 3 rfl rfl (by omega) (kb256_at _ _ _ 3 rfl) (kb256_at _ _ _ 3 rfl) (qs_at c _ _ 3 rfl (by omega)) (fun x l => (ms_at c _ _ 3 rfl (by omega) x l).trans (hM _ _ _)) (sums_at c _ _ 3 rfl (by omega)) inb_S8x1536x256_S1x256x256_3_768_0,
    List.forall_mem_cons.2 ⟨piece_a_256 (k := kb256 arg4 x1 384 inb_S768x1024_S256x128_0_384) (v := kb256 arg5 x2 384 inb_S768x1024_S256x128_0_384) (q := qs c xa0 3 0 inb_S8x1536x128_S1x256x128_3_0_0) (mx := ms c xa1 3 0 inb_S8x1536x128_S1x256x128_3_0_0) (ac := sums c xa2 3 0 inb_S8x1536x256_S1x256x256_3_0_0) (o := 3) (r0 := 0) 3 rfl rfl (by omega) (kb256_at _ _ _ 3 rfl) (kb256_at _ _ _ 3 rfl) (qs_at c _ _ 3 rfl (by omega)) (fun x l => (ms_at c _ _ 3 rfl (by omega) x l).trans (hM _ _ _)) (sums_at c _ _ 3 rfl (by omega)) inb_S8x1536x256_S1x256x256_3_0_0,
    List.forall_mem_cons.2 ⟨piece_a_768 (k := kb768 arg4 x1 256 inb_S768x1024_S768x128_0_256) (v := kb768 arg5 x2 256 inb_S768x1024_S768x128_0_256) (q := qs c xa0 2 1280 inb_S8x1536x128_S1x256x128_2_1280_0) (mx := ms c xa1 2 1280 inb_S8x1536x128_S1x256x128_2_1280_0) (ac := sums c xa2 2 1280 inb_S8x1536x256_S1x256x256_2_1280_0) (o := 2) (r0 := 1280) 2 rfl rfl (by omega) (kb768_at _ _ _ 2 rfl) (kb768_at _ _ _ 2 rfl) (qs_at c _ _ 2 rfl (by omega)) (fun x l => (ms_at c _ _ 2 rfl (by omega) x l).trans (hM _ _ _)) (sums_at c _ _ 2 rfl (by omega)) inb_S8x1536x256_S1x256x256_2_1280_0,
    List.forall_mem_cons.2 ⟨piece_a_768 (k := kb768 arg4 x1 256 inb_S768x1024_S768x128_0_256) (v := kb768 arg5 x2 256 inb_S768x1024_S768x128_0_256) (q := qs c xa0 2 512 inb_S8x1536x128_S1x256x128_2_512_0) (mx := ms c xa1 2 512 inb_S8x1536x128_S1x256x128_2_512_0) (ac := sums c xa2 2 512 inb_S8x1536x256_S1x256x256_2_512_0) (o := 2) (r0 := 512) 2 rfl rfl (by omega) (kb768_at _ _ _ 2 rfl) (kb768_at _ _ _ 2 rfl) (qs_at c _ _ 2 rfl (by omega)) (fun x l => (ms_at c _ _ 2 rfl (by omega) x l).trans (hM _ _ _)) (sums_at c _ _ 2 rfl (by omega)) inb_S8x1536x256_S1x256x256_2_512_0,
    List.forall_mem_cons.2 ⟨piece_a_512 (k := kb512 arg4 x1 256 inb_S768x1024_S512x128_0_256) (v := kb512 arg5 x2 256 inb_S768x1024_S512x128_0_256) (q := qs c xa0 2 1024 inb_S8x1536x128_S1x256x128_2_1024_0) (mx := ms c xa1 2 1024 inb_S8x1536x128_S1x256x128_2_1024_0) (ac := sums c xa2 2 1024 inb_S8x1536x256_S1x256x256_2_1024_0) (o := 2) (r0 := 1024) 2 rfl rfl (by omega) (kb512_at _ _ _ 2 rfl) (kb512_at _ _ _ 2 rfl) (qs_at c _ _ 2 rfl (by omega)) (fun x l => (ms_at c _ _ 2 rfl (by omega) x l).trans (hM _ _ _)) (sums_at c _ _ 2 rfl (by omega)) inb_S8x1536x256_S1x256x256_2_1024_0,
    List.forall_mem_cons.2 ⟨piece_a_512 (k := kb512 arg4 x1 256 inb_S768x1024_S512x128_0_256) (v := kb512 arg5 x2 256 inb_S768x1024_S512x128_0_256) (q := qs c xa0 2 256 inb_S8x1536x128_S1x256x128_2_256_0) (mx := ms c xa1 2 256 inb_S8x1536x128_S1x256x128_2_256_0) (ac := sums c xa2 2 256 inb_S8x1536x256_S1x256x256_2_256_0) (o := 2) (r0 := 256) 2 rfl rfl (by omega) (kb512_at _ _ _ 2 rfl) (kb512_at _ _ _ 2 rfl) (qs_at c _ _ 2 rfl (by omega)) (fun x l => (ms_at c _ _ 2 rfl (by omega) x l).trans (hM _ _ _)) (sums_at c _ _ 2 rfl (by omega)) inb_S8x1536x256_S1x256x256_2_256_0,
    List.forall_mem_cons.2 ⟨piece_a_256 (k := kb256 arg4 x1 256 inb_S768x1024_S256x128_0_256) (v := kb256 arg5 x2 256 inb_S768x1024_S256x128_0_256) (q := qs c xa0 2 768 inb_S8x1536x128_S1x256x128_2_768_0) (mx := ms c xa1 2 768 inb_S8x1536x128_S1x256x128_2_768_0) (ac := sums c xa2 2 768 inb_S8x1536x256_S1x256x256_2_768_0) (o := 2) (r0 := 768) 2 rfl rfl (by omega) (kb256_at _ _ _ 2 rfl) (kb256_at _ _ _ 2 rfl) (qs_at c _ _ 2 rfl (by omega)) (fun x l => (ms_at c _ _ 2 rfl (by omega) x l).trans (hM _ _ _)) (sums_at c _ _ 2 rfl (by omega)) inb_S8x1536x256_S1x256x256_2_768_0,
    List.forall_mem_cons.2 ⟨piece_a_256 (k := kb256 arg4 x1 256 inb_S768x1024_S256x128_0_256) (v := kb256 arg5 x2 256 inb_S768x1024_S256x128_0_256) (q := qs c xa0 2 0 inb_S8x1536x128_S1x256x128_2_0_0) (mx := ms c xa1 2 0 inb_S8x1536x128_S1x256x128_2_0_0) (ac := sums c xa2 2 0 inb_S8x1536x256_S1x256x256_2_0_0) (o := 2) (r0 := 0) 2 rfl rfl (by omega) (kb256_at _ _ _ 2 rfl) (kb256_at _ _ _ 2 rfl) (qs_at c _ _ 2 rfl (by omega)) (fun x l => (ms_at c _ _ 2 rfl (by omega) x l).trans (hM _ _ _)) (sums_at c _ _ 2 rfl (by omega)) inb_S8x1536x256_S1x256x256_2_0_0,
    List.forall_mem_cons.2 ⟨piece_a_768 (k := kb768 arg4 x1 128 inb_S768x1024_S768x128_0_128) (v := kb768 arg5 x2 128 inb_S768x1024_S768x128_0_128) (q := qs c xa0 1 1280 inb_S8x1536x128_S1x256x128_1_1280_0) (mx := ms c xa1 1 1280 inb_S8x1536x128_S1x256x128_1_1280_0) (ac := sums c xa2 1 1280 inb_S8x1536x256_S1x256x256_1_1280_0) (o := 1) (r0 := 1280) 1 rfl rfl (by omega) (kb768_at _ _ _ 1 rfl) (kb768_at _ _ _ 1 rfl) (qs_at c _ _ 1 rfl (by omega)) (fun x l => (ms_at c _ _ 1 rfl (by omega) x l).trans (hM _ _ _)) (sums_at c _ _ 1 rfl (by omega)) inb_S8x1536x256_S1x256x256_1_1280_0,
    List.forall_mem_cons.2 ⟨piece_a_768 (k := kb768 arg4 x1 128 inb_S768x1024_S768x128_0_128) (v := kb768 arg5 x2 128 inb_S768x1024_S768x128_0_128) (q := qs c xa0 1 512 inb_S8x1536x128_S1x256x128_1_512_0) (mx := ms c xa1 1 512 inb_S8x1536x128_S1x256x128_1_512_0) (ac := sums c xa2 1 512 inb_S8x1536x256_S1x256x256_1_512_0) (o := 1) (r0 := 512) 1 rfl rfl (by omega) (kb768_at _ _ _ 1 rfl) (kb768_at _ _ _ 1 rfl) (qs_at c _ _ 1 rfl (by omega)) (fun x l => (ms_at c _ _ 1 rfl (by omega) x l).trans (hM _ _ _)) (sums_at c _ _ 1 rfl (by omega)) inb_S8x1536x256_S1x256x256_1_512_0,
    List.forall_mem_cons.2 ⟨piece_a_512 (k := kb512 arg4 x1 128 inb_S768x1024_S512x128_0_128) (v := kb512 arg5 x2 128 inb_S768x1024_S512x128_0_128) (q := qs c xa0 1 1024 inb_S8x1536x128_S1x256x128_1_1024_0) (mx := ms c xa1 1 1024 inb_S8x1536x128_S1x256x128_1_1024_0) (ac := sums c xa2 1 1024 inb_S8x1536x256_S1x256x256_1_1024_0) (o := 1) (r0 := 1024) 1 rfl rfl (by omega) (kb512_at _ _ _ 1 rfl) (kb512_at _ _ _ 1 rfl) (qs_at c _ _ 1 rfl (by omega)) (fun x l => (ms_at c _ _ 1 rfl (by omega) x l).trans (hM _ _ _)) (sums_at c _ _ 1 rfl (by omega)) inb_S8x1536x256_S1x256x256_1_1024_0,
    List.forall_mem_cons.2 ⟨piece_a_512 (k := kb512 arg4 x1 128 inb_S768x1024_S512x128_0_128) (v := kb512 arg5 x2 128 inb_S768x1024_S512x128_0_128) (q := qs c xa0 1 256 inb_S8x1536x128_S1x256x128_1_256_0) (mx := ms c xa1 1 256 inb_S8x1536x128_S1x256x128_1_256_0) (ac := sums c xa2 1 256 inb_S8x1536x256_S1x256x256_1_256_0) (o := 1) (r0 := 256) 1 rfl rfl (by omega) (kb512_at _ _ _ 1 rfl) (kb512_at _ _ _ 1 rfl) (qs_at c _ _ 1 rfl (by omega)) (fun x l => (ms_at c _ _ 1 rfl (by omega) x l).trans (hM _ _ _)) (sums_at c _ _ 1 rfl (by omega)) inb_S8x1536x256_S1x256x256_1_256_0,
    List.forall_mem_cons.2 ⟨piece_a_256 (k := kb256 arg4 x1 128 inb_S768x1024_S256x128_0_128) (v := kb256 arg5 x2 128 inb_S768x1024_S256x128_0_128) (q := qs c xa0 1 768 inb_S8x1536x128_S1x256x128_1_768_0) (mx := ms c xa1 1 768 inb_S8x1536x128_S1x256x128_1_768_0) (ac := sums c xa2 1 768 inb_S8x1536x256_S1x256x256_1_768_0) (o := 1) (r0 := 768) 1 rfl rfl (by omega) (kb256_at _ _ _ 1 rfl) (kb256_at _ _ _ 1 rfl) (qs_at c _ _ 1 rfl (by omega)) (fun x l => (ms_at c _ _ 1 rfl (by omega) x l).trans (hM _ _ _)) (sums_at c _ _ 1 rfl (by omega)) inb_S8x1536x256_S1x256x256_1_768_0,
    List.forall_mem_cons.2 ⟨piece_a_256 (k := kb256 arg4 x1 128 inb_S768x1024_S256x128_0_128) (v := kb256 arg5 x2 128 inb_S768x1024_S256x128_0_128) (q := qs c xa0 1 0 inb_S8x1536x128_S1x256x128_1_0_0) (mx := ms c xa1 1 0 inb_S8x1536x128_S1x256x128_1_0_0) (ac := sums c xa2 1 0 inb_S8x1536x256_S1x256x256_1_0_0) (o := 1) (r0 := 0) 1 rfl rfl (by omega) (kb256_at _ _ _ 1 rfl) (kb256_at _ _ _ 1 rfl) (qs_at c _ _ 1 rfl (by omega)) (fun x l => (ms_at c _ _ 1 rfl (by omega) x l).trans (hM _ _ _)) (sums_at c _ _ 1 rfl (by omega)) inb_S8x1536x256_S1x256x256_1_0_0,
    List.forall_mem_cons.2 ⟨piece_a_768 (k := kb768 arg4 x1 0 inb_S768x1024_S768x128_0_0) (v := kb768 arg5 x2 0 inb_S768x1024_S768x128_0_0) (q := qs c xa0 0 1280 inb_S8x1536x128_S1x256x128_0_1280_0) (mx := ms c xa1 0 1280 inb_S8x1536x128_S1x256x128_0_1280_0) (ac := sums c xa2 0 1280 inb_S8x1536x256_S1x256x256_0_1280_0) (o := 0) (r0 := 1280) 0 rfl rfl (by omega) (kb768_at _ _ _ 0 rfl) (kb768_at _ _ _ 0 rfl) (qs_at c _ _ 0 rfl (by omega)) (fun x l => (ms_at c _ _ 0 rfl (by omega) x l).trans (hM _ _ _)) (sums_at c _ _ 0 rfl (by omega)) inb_S8x1536x256_S1x256x256_0_1280_0,
    List.forall_mem_cons.2 ⟨piece_a_768 (k := kb768 arg4 x1 0 inb_S768x1024_S768x128_0_0) (v := kb768 arg5 x2 0 inb_S768x1024_S768x128_0_0) (q := qs c xa0 0 512 inb_S8x1536x128_S1x256x128_0_512_0) (mx := ms c xa1 0 512 inb_S8x1536x128_S1x256x128_0_512_0) (ac := sums c xa2 0 512 inb_S8x1536x256_S1x256x256_0_512_0) (o := 0) (r0 := 512) 0 rfl rfl (by omega) (kb768_at _ _ _ 0 rfl) (kb768_at _ _ _ 0 rfl) (qs_at c _ _ 0 rfl (by omega)) (fun x l => (ms_at c _ _ 0 rfl (by omega) x l).trans (hM _ _ _)) (sums_at c _ _ 0 rfl (by omega)) inb_S8x1536x256_S1x256x256_0_512_0,
    List.forall_mem_cons.2 ⟨piece_a_512 (k := kb512 arg4 x1 0 inb_S768x1024_S512x128_0_0) (v := kb512 arg5 x2 0 inb_S768x1024_S512x128_0_0) (q := qs c xa0 0 1024 inb_S8x1536x128_S1x256x128_0_1024_0) (mx := ms c xa1 0 1024 inb_S8x1536x128_S1x256x128_0_1024_0) (ac := sums c xa2 0 1024 inb_S8x1536x256_S1x256x256_0_1024_0) (o := 0) (r0 := 1024) 0 rfl rfl (by omega) (kb512_at _ _ _ 0 rfl) (kb512_at _ _ _ 0 rfl) (qs_at c _ _ 0 rfl (by omega)) (fun x l => (ms_at c _ _ 0 rfl (by omega) x l).trans (hM _ _ _)) (sums_at c _ _ 0 rfl (by omega)) inb_S8x1536x256_S1x256x256_0_1024_0,
    List.forall_mem_cons.2 ⟨piece_a_512 (k := kb512 arg4 x1 0 inb_S768x1024_S512x128_0_0) (v := kb512 arg5 x2 0 inb_S768x1024_S512x128_0_0) (q := qs c xa0 0 256 inb_S8x1536x128_S1x256x128_0_256_0) (mx := ms c xa1 0 256 inb_S8x1536x128_S1x256x128_0_256_0) (ac := sums c xa2 0 256 inb_S8x1536x256_S1x256x256_0_256_0) (o := 0) (r0 := 256) 0 rfl rfl (by omega) (kb512_at _ _ _ 0 rfl) (kb512_at _ _ _ 0 rfl) (qs_at c _ _ 0 rfl (by omega)) (fun x l => (ms_at c _ _ 0 rfl (by omega) x l).trans (hM _ _ _)) (sums_at c _ _ 0 rfl (by omega)) inb_S8x1536x256_S1x256x256_0_256_0,
    List.forall_mem_cons.2 ⟨piece_a_256 (k := kb256 arg4 x1 0 inb_S768x1024_S256x128_0_0) (v := kb256 arg5 x2 0 inb_S768x1024_S256x128_0_0) (q := qs c xa0 0 768 inb_S8x1536x128_S1x256x128_0_768_0) (mx := ms c xa1 0 768 inb_S8x1536x128_S1x256x128_0_768_0) (ac := sums c xa2 0 768 inb_S8x1536x256_S1x256x256_0_768_0) (o := 0) (r0 := 768) 0 rfl rfl (by omega) (kb256_at _ _ _ 0 rfl) (kb256_at _ _ _ 0 rfl) (qs_at c _ _ 0 rfl (by omega)) (fun x l => (ms_at c _ _ 0 rfl (by omega) x l).trans (hM _ _ _)) (sums_at c _ _ 0 rfl (by omega)) inb_S8x1536x256_S1x256x256_0_768_0,
    List.forall_mem_cons.2 ⟨piece_a_256 (k := kb256 arg4 x1 0 inb_S768x1024_S256x128_0_0) (v := kb256 arg5 x2 0 inb_S768x1024_S256x128_0_0) (q := qs c xa0 0 0 inb_S8x1536x128_S1x256x128_0_0_0) (mx := ms c xa1 0 0 inb_S8x1536x128_S1x256x128_0_0_0) (ac := sums c xa2 0 0 inb_S8x1536x256_S1x256x256_0_0_0) (o := 0) (r0 := 0) 0 rfl rfl (by omega) (kb256_at _ _ _ 0 rfl) (kb256_at _ _ _ 0 rfl) (qs_at c _ _ 0 rfl (by omega)) (fun x l => (ms_at c _ _ 0 rfl (by omega) x l).trans (hM _ _ _)) (sums_at c _ _ 0 rfl (by omega)) inb_S8x1536x256_S1x256x256_0_0_0,
    List.forall_mem_nil _⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩
  · exact .cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.nil))))))))))))))))))))))))))))))))))))))))))))))))

end Cert.KernelIdeal.Attn

end
-- ==== Proof.AttnA.lean ====
/-
  The attention at a point on the diagonal that is the first of its row of blocks: what the scratch arrays hold afterwards.
-/
module

public import proofs.«01_k».proof.Proof.AttnInit
public import proofs.«01_k».proof.Proof.AttnC

@[expose] public section

set_option maxRecDepth 65536

noncomputable section

namespace Cert.KernelIdeal.Attn

open Cert.KernelIdeal Cert.KernelIdeal.Gen
open Idealize.ShloMosaic Idealize.ShloMosaic.TcCoe
open scoped BigOperators

namespace A

variable (arg3 arg4 arg5 : Memref sig .tc .vmem S768x1024 .bf16) (x0 x1 x2 : Vec Ideal S768x1024 .bf16)

set_option maxHeartbeats 4000000

theorem slabs_m : List.Forall₂ (IsSlab 128 256) blocks ((kernelRun0_A.sl.HS1_49 arg3 arg4 x0 x1).take blocks.length) :=
  .cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.nil))))))))))))))))))))))))))))))))))))))))))))))))

theorem slabs_a : List.Forall₂ (IsSlab 256 256) blocks ((kernelRun0_A.sl.HS2_49 arg3 arg4 arg5 x0 x1 x2).take blocks.length) :=
  .cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.cons (fun _ => rfl) (.nil))))))))))))))))))))))))))))))))))))))))))))))))

theorem m0 (j : ℕ) (hj : j < blocks.length) (h : Fin 8) (o r0 : ℕ) (he : blocks[j] = (o, r0)) (ho : o = h.val) (inb) (x : Fin 256) (l : Fin 128) :
    scM0_1.view.readCov ((kernelRun0_A.sl.HS1_49 arg3 arg4 x0 x1).drop (j + 1)) (Rect.unit (s := S8x1536x128) ![o, r0, 0] S1x256x128.size inb).toLoadRect (ix3 0 x l) = ⊥ :=
  fresh blocks _ (slabs_m arg3 arg4 x0 x1) blocks_in blocks_al blocks_nd ⊥ (start_m _) _ j hj h o r0 he ho inb x l

theorem a0 (j : ℕ) (hj : j < blocks.length) (h : Fin 8) (o r0 : ℕ) (he : blocks[j] = (o, r0)) (ho : o = h.val) (inb) (x : Fin 256) (l : Fin 256) :
    scM0_2.view.readCov ((kernelRun0_A.sl.HS2_49 arg3 arg4 arg5 x0 x1 x2).drop (j + 1)) (Rect.unit (s := S8x1536x256) ![o, r0, 0] S1x256x256.size inb).toLoadRect (ix3 0 x l) = 0 :=
  fresh blocks _ (slabs_a arg3 arg4 arg5 x0 x1 x2) blocks_in blocks_al blocks_nd 0 (start_a _) _ j hj h o r0 he ho inb x l

/-- 256 rows of one head of the queries. -/
abbrev qs (o r0 : ℕ) (inb : ∀ i, (![o, r0, 0] : Fin 3 → ℕ) i + S1x256x128.size i ≤ S8x1536x128.size i) : Vec Ideal S1x256x128 .bf16 :=
  scM0_0.view.readCov (kernelRun0_A.sl.HS0_16 arg3 x0) (Rect.unit (s := S8x1536x128) ![o, r0, 0] S1x256x128.size inb).toLoadRect

theorem qs_at {o r0 : ℕ} (inb) (h : Fin 8) (ho : o = h.val) (h1 : r0 + 256 ≤ 1536) (x : Fin 256) (l : Fin 128) (r : Fin 1536) (hr : r.val = r0 + x.val) :
    qs arg3 x0 o r0 inb (ix3 0 x l) = QGa x0 (ix3 h r l) :=
  (ldc3 _ _ _ x l h r l ho hr rfl).trans (canon_qA arg3 x0 _)

theorem canon_m (y : S8x1536x128.Idx) :
    View.canon (kernelRun0_A.sl.HS1_49 arg3 arg4 x0 x1) y = GMa true (QGa x0) x1 (fun _ _ => ⊥) y := by
  refine canon_first (e := .f32) (GMa true (QGa x0) x1 (fun _ _ => ⊥)) blocks.length _ ?_ y (cover_slabs (by omega : 0 < 256) blocks _ (slabs_m arg3 arg4 x0 x1) blocks_all blocks_in y)
  exact List.forall_mem_cons.2 ⟨piece_m_768 (M0 := fun _ _ => ⊥) (k := kb768 arg4 x1 896 inb_S768x1024_S768x128_0_896) (q := qs arg3 x0 7 1280 inb_S8x1536x128_S1x256x128_7_1280_0) (mx := scM0_1.view.readCov (kernelRun0_A.sl.HS1_48 arg3 arg4 x0 x1) (Rect.unit (s := S8x1536x128) ![7, 1280, 0] S1x256x128.size inb_S8x1536x128_S1x256x128_7_1280_0).toLoadRect) (o := 7) (r0 := 1280) 7 rfl rfl (by omega) (kb768_at _ _ _ 7 rfl) (fun x l => qs_at arg3 x0 _ 7 rfl (by omega) x l _ rfl) (m0 arg3 arg4 x0 x1 0 (by decide) 7 7 1280 rfl rfl _) inb_S8x1536x128_S1x256x128_7_1280_0,
    List.forall_mem_cons.2 ⟨piece_m_768 (M0 := fun _ _ => ⊥) (k := kb768 arg4 x1 896 inb_S768x1024_S768x128_0_896) (q := qs arg3 x0 7 512 inb_S8x1536x128_S1x256x128_7_512_0) (mx := scM0_1.view.readCov (kernelRun0_A.sl.HS1_47 arg3 arg4 x0 x1) (Rect.unit (s := S8x1536x128) ![7, 512, 0] S1x256x128.size inb_S8x1536x128_S1x256x128_7_512_0).toLoadRect) (o := 7) (r0 := 512) 7 rfl rfl (by omega) (kb768_at _ _ _ 7 rfl) (fun x l => qs_at arg3 x0 _ 7 rfl (by omega) x l _ rfl) (m0 arg3 arg4 x0 x1 1 (by decide) 7 7 512 rfl rfl _) inb_S8x1536x128_S1x256x128_7_512_0,
    List.forall_mem_cons.2 ⟨piece_m_512 (M0 := fun _ _ => ⊥) (k := kb512 arg4 x1 896 inb_S768x1024_S512x128_0_896) (q := qs arg3 x0 7 1024 inb_S8x1536x128_S1x256x128_7_1024_0) (mx := scM0_1.view.readCov (kernelRun0_A.sl.HS1_46 arg3 arg4 x0 x1) (Rect.unit (s := S8x1536x128) ![7, 1024, 0] S1x256x128.size inb_S8x1536x128_S1x256x128_7_1024_0).toLoadRect) (o := 7) (r0 := 1024) 7 rfl rfl (by omega) (kb512_at _ _ _ 7 rfl) (fun x l => qs_at arg3 x0 _ 7 rfl (by omega) x l _ rfl) (m0 arg3 arg4 x0 x1 2 (by decide) 7 7 1024 rfl rfl _) inb_S8x1536x128_S1x256x128_7_1024_0,
    List.forall_mem_cons.2 ⟨piece_m_512 (M0 := fun _ _ => ⊥) (k := kb512 arg4 x1 896 inb_S768x1024_S512x128_0_896) (q := qs arg3 x0 7 256 inb_S8x1536x128_S1x256x128_7_256_0) (mx := scM0_1.view.readCov (kernelRun0_A.sl.HS1_45 arg3 arg4 x0 x1) (Rect.unit (s := S8x1536x128) ![7, 256, 0] S1x256x128.size inb_S8x1536x128_S1x256x128_7_256_0).toLoadRect) (o := 7) (r0 := 256) 7 rfl rfl (by omega) (kb512_at _ _ _ 7 rfl) (fun x l => qs_at arg3 x0 _ 7 rfl (by omega) x l _ rfl) (m0 arg3 arg4 x0 x1 3 (by decide) 7 7 256 rfl rfl _) inb_S8x1536x128_S1x256x128_7_256_0,
    List.forall_mem_cons.2 ⟨piece_m_256 (M0 := fun _ _ => ⊥) (k := kb256 arg4 x1 896 inb_S768x1024_S256x128_0_896) (q := qs arg3 x0 7 768 inb_S8x1536x128_S1x256x128_7_768_0) (mx := scM0_1.view.readCov (kernelRun0_A.sl.HS1_44 arg3 arg4 x0 x1) (Rect.unit (s := S8x1536x128) ![7, 768, 0] S1x256x128.size inb_S8x1536x128_S1x256x128_7_768_0).toLoadRect) (o := 7) (r0 := 768) 7 rfl rfl (by omega) (kb256_at _ _ _ 7 rfl) (fun x l => qs_at arg3 x0 _ 7 rfl (by omega) x l _ rfl) (m0 arg3 arg4 x0 x1 4 (by decide) 7 7 768 rfl rfl _) inb_S8x1536x128_S1x256x128_7_768_0,
    List.forall_mem_cons.2 ⟨piece_m_256 (M0 := fun _ _ => ⊥) (k := kb256 arg4 x1 896 inb_S768x1024_S256x128_0_896) (q := qs arg3 x0 7 0 inb_S8x1536x128_S1x256x128_7_0_0) (mx := scM0_1.view.readCov (kernelRun0_A.sl.HS1_43 arg3 arg4 x0 x1) (Rect.unit (s := S8x1536x128) ![7, 0, 0] S1x256x128.size inb_S8x1536x128_S1x256x128_7_0_0).toLoadRect) (o := 7) (r0 := 0) 7 rfl rfl (by omega) (kb256_at _ _ _ 7 rfl) (fun x l => qs_at arg3 x0 _ 7 rfl (by omega) x l _ rfl) (m0 arg3 arg4 x0 x1 5 (by decide) 7 7 0 rfl rfl _) inb_S8x1536x128_S1x256x128_7_0_0,
    List.forall_mem_cons.2 ⟨piece_m_768 (M0 := fun _ _ => ⊥) (k := kb768 arg4 x1 768 inb_S768x1024_S768x128_0_768) (q := qs arg3 x0 6 1280 inb_S8x1536x128_S1x256x128_6_1280_0) (mx := scM0_1.view.readCov (kernelRun0_A.sl.HS1_42 arg3 arg4 x0 x1) (Rect.unit (s := S8x1536x128) ![6, 1280, 0] S1x256x128.size inb_S8x1536x128_S1x256x128_6_1280_0).toLoadRect) (o := 6) (r0 := 1280) 6 rfl rfl (by omega) (kb768_at _ _ _ 6 rfl) (fun x l => qs_at arg3 x0 _ 6 rfl (by omega) x l _ rfl) (m0 arg3 arg4 x0 x1 6 (by decide) 6 6 1280 rfl rfl _) inb_S8x1536x128_S1x256x128_6_1280_0,
    List.forall_mem_cons.2 ⟨piece_m_768 (M0 := fun _ _ => ⊥) (k := kb768 arg4 x1 768 inb_S768x1024_S768x128_0_768) (q := qs arg3 x0 6 512 inb_S8x1536x128_S1x256x128_6_512_0) (mx := scM0_1.view.readCov (kernelRun0_A.sl.HS1_41 arg3 arg4 x0 x1) (Rect.unit (s := S8x1536x128) ![6, 512, 0] S1x256x128.size inb_S8x1536x128_S1x256x128_6_512_0).toLoadRect) (o := 6) (r0 := 512) 6 rfl rfl (by omega) (kb768_at _ _ _ 6 rfl) (fun x l => qs_at arg3 x0 _ 6 rfl (by omega) x l _ rfl) (m0 arg3 arg4 x0 x1 7 (by decide) 6 6 512 rfl rfl _) inb_S8x1536x128_S1x256x128_6_512_0,
    List.forall_mem_cons.2 ⟨piece_m_512 (M0 := fun _ _ => ⊥) (k := kb512 arg4 x1 768 inb_S768x1024_S512x128_0_768) (q := qs arg3 x0 6 1024 inb_S8x1536x128_S1x256x128_6_1024_0) (mx := scM0_1.view.readCov (kernelRun0_A.sl.HS1_40 arg3 arg4 x0 x1) (Rect.unit (s := S8x1536x128) ![6, 1024, 0] S1x256x128.size inb_S8x1536x128_S1x256x128_6_1024_0).toLoadRect) (o := 6) (r0 := 1024) 6 rfl rfl (by omega) (kb512_at _ _ _ 6 rfl) (fun x l => qs_at arg3 x0 _ 6 rfl (by omega) x l _ rfl) (m0 arg3 arg4 x0 x1 8 (by decide) 6 6 1024 rfl rfl _) inb_S8x1536x128_S1x256x128_6_1024_0,
    List.forall_mem_cons.2 ⟨piece_m_512 (M0 := fun _ _ => ⊥) (k := kb512 arg4 x1 768 inb_S768x1024_S512x128_0_768) (q := qs arg3 x0 6 256 inb_S8x1536x128_S1x256x128_6_256_0) (mx := scM0_1.view.readCov (kernelRun0_A.sl.HS1_39 arg3 arg4 x0 x1) (Rect.unit (s := S8x1536x128) ![6, 256, 0] S1x256x128.size inb_S8x1536x128_S1x256x128_6_256_0).toLoadRect) (o := 6) (r0 := 256) 6 rfl rfl (by omega) (kb512_at _ _ _ 6 rfl) (fun x l => qs_at arg3 x0 _ 6 rfl (by omega) x l _ rfl) (m0 arg3 arg4 x0 x1 9 (by decide) 6 6 256 rfl rfl _) inb_S8x1536x128_S1x256x128_6_256_0,
    List.forall_mem_cons.2 ⟨piece_m_256 (M0 := fun _ _ => ⊥) (k := kb256 arg4 x1 768 inb_S768x1024_S256x128_0_768) (q := qs arg3 x0 6 768 inb_S8x1536x128_S1x256x128_6_768_0) (mx := scM0_1.view.readCov (kernelRun0_A.sl.HS1_38 arg3 arg4 x0 x1) (Rect.unit (s := S8x1536x128) ![6, 768, 0] S1x256x128.size inb_S8x1536x128_S1x256x128_6_768_0).toLoadRect) (o := 6) (r0 := 768) 6 rfl rfl (by omega) (kb256_at _ _ _ 6 rfl) (fun x l => qs_at arg3 x0 _ 6 rfl (by omega) x l _ rfl) (m0 arg3 arg4 x0 x1 10 (by decide) 6 6 768 rfl rfl _) inb_S8x1536x128_S1x256x128_6_768_0,
    List.forall_mem_cons.2 ⟨piece_m_256 (M0 := fun _ _ => ⊥) (k := kb256 arg4 x1 768 inb_S768x1024_S256x128_0_768) (q := qs arg3 x0 6 0 inb_S8x1536x128_S1x256x128_6_0_0) (mx := scM0_1.view.readCov (kernelRun0_A.sl.HS1_37 arg3 arg4 x0 x1) (Rect.unit (s := S8x1536x128) ![6, 0, 0] S1x256x128.size inb_S8x1536x128_S1x256x128_6_0_0).toLoadRect) (o := 6) (r0 := 0) 6 rfl rfl (by omega) (kb256_at _ _ _ 6 rfl) (fun x l => qs_at arg3 x0 _ 6 rfl (by omega) x l _ rfl) (m0 arg3 arg4 x0 x1 11 (by decide) 6 6 0 rfl rfl _) inb_S8x1536x128_S1x256x128_6_0_0,
    List.forall_mem_cons.2 ⟨piece_m_768 (M0 := fun _ _ => ⊥) (k := kb768 arg4 x1 640 inb_S768x1024_S768x128_0_640) (q := qs arg3 x0 5 1280 inb_S8x1536x128_S1x256x128_5_1280_0) (mx := scM0_1.view.readCov (kernelRun0_A.sl.HS1_36 arg3 arg4 x0 x1) (Rect.unit (s := S8x1536x128) ![5, 1280, 0] S1x256x128.size inb_S8x1536x128_S1x256x128_5_1280_0).toLoadRect) (o := 5) (r0 := 1280) 5 rfl rfl (by omega) (kb768_at _ _ _ 5 rfl) (fun x l => qs_at arg3 x0 _ 5 rfl (by omega) x l _ rfl) (m0 arg3 arg4 x0 x1 12 (by decide) 5 5 1280 rfl rfl _) inb_S8x1536x128_S1x256x128_5_1280_0,
    List.forall_mem_cons.2 ⟨piece_m_768 (M0 := fun _ _ => ⊥) (k := kb768 arg4 x1 640 inb_S768x1024_S768x128_0_640) (q := qs arg3 x0 5 512 inb_S8x1536x128_S1x256x128_5_512_0) (mx := scM0_1.view.readCov (kernelRun0_A.sl.HS1_35 arg3 arg4 x0 x1) (Rect.unit (s := S8x1536x128) ![5, 512, 0] S1x256x128.size inb_S8x1536x128_S1x256x128_5_512_0).toLoadRect) (o := 5) (r0 := 512) 5 rfl rfl (by omega) (kb768_at _ _ _ 5 rfl) (fun x l => qs_at arg3 x0 _ 5 rfl (by omega) x l _ rfl) (m0 arg3 arg4 x0 x1 13 (by decide) 5 5 512 rfl rfl _) inb_S8x1536x128_S1x256x128_5_512_0,
    List.forall_mem_cons.2 ⟨piece_m_512 (M0 := fun _ _ => ⊥) (k := kb512 arg4 x1 640 inb_S768x1024_S512x128_0_640) (q := qs arg3 x0 5 1024 inb_S8x1536x128_S1x256x128_5_1024_0) (mx := scM0_1.view.readCov (kernelRun0_A.sl.HS1_34 arg3 arg4 x0 x1) (Rect.unit (s := S8x1536x128) ![5, 1024, 0] S1x256x128.size inb_S8x1536x128_S1x256x128_5_1024_0).toLoadRect) (o := 5) (r0 := 1024) 5 rfl rfl (by omega) (kb512_at _ _ _ 5 rfl) (fun x l => qs_at arg3 x0 _ 5 rfl (by omega) x l _ rfl) (m0 arg3 arg4 x0 x1 14 (by decide) 5 5 1024 rfl rfl _) inb_S8x1536x128_S1x256x128_5_1024_0,
    List.forall_mem_cons.2 ⟨piece_m_512 (M0 := fun _ _ => ⊥) (k := kb512 arg4 x1 640 inb_S768x1024_S512x128_0_640) (q := qs arg3 x0 5 256 inb_S8x1536x128_S1x256x128_5_256_0) (mx := scM0_1.view.readCov (kernelRun0_A.sl.HS1_33 arg3 arg4 x0 x1) (Rect.unit (s := S8x1536x128) ![5, 256, 0] S1x256x128.size inb_S8x1536x128_S1x256x128_5_256_0).toLoadRect) (o := 5) (r0 := 256) 5 rfl rfl (by omega) (kb512_at _ _ _ 5 rfl) (fun x l => qs_at arg3 x0 _ 5 rfl (by omega) x l _ rfl) (m0 arg3 arg4 x0 x1 15 (by decide) 5 5 256 rfl rfl _) inb_S8x1536x128_S1x256x128_5_256_0,
    List.forall_mem_cons.2 ⟨piece_m_256 (M0 := fun _ _ => ⊥) (k := kb256 arg4 x1 640 inb_S768x1024_S256x128_0_640) (q := qs arg3 x0 5 768 inb_S8x1536x128_S1x256x128_5_768_0) (mx := scM0_1.view.readCov (kernelRun0_A.sl.HS1_32 arg3 arg4 x0 x1) (Rect.unit (s := S8x1536x128) ![5, 768, 0] S1x256x128.size inb_S8x1536x128_S1x256x128_5_768_0).toLoadRect) (o := 5) (r0 := 768) 5 rfl rfl (by omega) (kb256_at _ _ _ 5 rfl) (fun x l => qs_at arg3 x0 _ 5 rfl (by omega) x l _ rfl) (m0 arg3 arg4 x0 x1 16 (by decide) 5 5 768 rfl rfl _) inb_S8x1536x128_S1x256x128_5_768_0,
    List.forall_mem_cons.2 ⟨piece_m_256 (M0 := fun _ _ => ⊥) (k := kb256 arg4 x1 640 inb_S768x1024_S256x128_0_640) (q := qs arg3 x0 5 0 inb_S8x1536x128_S1x256x128_5_0_0) (mx := scM0_1.view.readCov (kernelRun0_A.sl.HS1_31 arg3 arg4 x0 x1) (Rect.unit (s := S8x1536x128) ![5, 0, 0] S1x256x128.size inb_S8x1536x128_S1x256x128_5_0_0).toLoadRect) (o := 5) (r0 := 0) 5 rfl rfl (by omega) (kb256_at _ _ _ 5 rfl) (fun x l => qs_at arg3 x0 _ 5 rfl (by omega) x l _ rfl) (m0 arg3 arg4 x0 x1 17 (by decide) 5 5 0 rfl rfl _) inb_S8x1536x128_S1x256x128_5_0_0,
    List.forall_mem_cons.2 ⟨piece_m_768 (M0 := fun _ _ => ⊥) (k := kb768 arg4 x1 512 inb_S768x1024_S768x128_0_512) (q := qs arg3 x0 4 1280 inb_S8x1536x128_S1x256x128_4_1280_0) (mx := scM0_1.view.readCov (kernelRun0_A.sl.HS1_30 arg3 arg4 x0 x1) (Rect.unit (s := S8x1536x128) ![4, 1280, 0] S1x256x128.size inb_S8x1536x128_S1x256x128_4_1280_0).toLoadRect) (o := 4) (r0 := 1280) 4 rfl rfl (by omega) (kb768_at _ _ _ 4 rfl) (fun x l => qs_at arg3 x0 _ 4 rfl (by omega) x l _ rfl) (m0 arg3 arg4 x0 x1 18 (by decide) 4 4 1280 rfl rfl _) inb_S8x1536x128_S1x256x128_4_1280_0,
    List.forall_mem_cons.2 ⟨piece_m_768 (M0 := fun _ _ => ⊥) (k := kb768 arg4 x1 512 inb_S768x1024_S768x128_0_512) (q := qs arg3 x0 4 512 inb_S8x1536x128_S1x256x128_4_512_0) (mx := scM0_1.view.readCov (kernelRun0_A.sl.HS1_29 arg3 arg4 x0 x1) (Rect.unit (s := S8x1536x128) ![4, 512, 0] S1x256x128.size inb_S8x1536x128_S1x256x128_4_512_0).toLoadRect) (o := 4) (r0 := 512) 4 rfl rfl (by omega) (kb768_at _ _ _ 4 rfl) (fun x l => qs_at arg3 x0 _ 4 rfl (by omega) x l _ rfl) (m0 arg3 arg4 x0 x1 19 (by decide) 4 4 512 rfl rfl _) inb_S8x1536x128_S1x256x128_4_512_0,
    List.forall_mem_cons.2 ⟨piece_m_512 (M0 := fun _ _ => ⊥) (k := kb512 arg4 x1 512 inb_S768x1024_S512x128_0_512) (q := qs arg3 x0 4 1024 inb_S8x1536x128_S1x256x128_4_1024_0) (mx := scM0_1.view.readCov (kernelRun0_A.sl.HS1_28 arg3 arg4 x0 x1) (Rect.unit (s := S8x1536x128) ![4, 1024, 0] S1x256x128.size inb_S8x1536x128_S1x256x128_4_1024_0).toLoadRect) (o := 4) (r0 := 1024) 4 rfl rfl (by omega) (kb512_at _ _ _ 4 rfl) (fun x l => qs_at arg3 x0 _ 4 rfl (by omega) x l _ rfl) (m0 arg3 arg4 x0 x1 20 (by decide) 4 4 1024 rfl rfl _) inb_S8x1536x128_S1x256x128_4_1024_0,
    List.forall_mem_cons.2 ⟨piece_m_512 (M0 := fun _ _ => ⊥) (k := kb512 arg4 x1 512 inb_S768x1024_S512x128_0_512) (q := qs arg3 x0 4 256 inb_S8x1536x128_S1x256x128_4_256_0) (mx := scM0_1.view.readCov (kernelRun0_A.sl.HS1_27 arg3 arg4 x0 x1) (Rect.unit (s := S8x1536x128) ![4, 256, 0] S1x256x128.size inb_S8x1536x128_S1x256x128_4_256_0).toLoadRect) (o := 4) (r0 := 256) 4 rfl rfl (by omega) (kb512_at _ _ _ 4 rfl) (fun x l => qs_at arg3 x0 _ 4 rfl (by omega) x l _ rfl) (m0 arg3 arg4 x0 x1 21 (by decide) 4 4 256 rfl rfl _) inb_S8x1536x128_S1x256x128_4_256_0,
    List.forall_mem_cons.2 ⟨piece_m_256 (M0 := fun _ _ => ⊥) (k := kb256 arg4 x1 512 inb_S768x1024_S256x128_0_512) (q := qs arg3 x0 4 768 inb_S8x1536x128_S1x256x128_4_768_0) (mx := scM0_1.view.readCov (kernelRun0_A.sl.HS1_26 arg3 arg4 x0 x1) (Rect.unit (s := S8x1536x128) ![4, 768, 0] S1x256x128.size inb_S8x1536x128_S1x256x128_4_768_0).toLoadRect) (o := 4) (r0 := 768) 4 rfl rfl (by omega) (kb256_at _ _ _ 4 rfl) (fun x l => qs_at arg3 x0 _ 4 rfl (by omega) x l _ rfl) (m0 arg3 arg4 x0 x1 22 (by decide) 4 4 768 rfl rfl _) inb_S8x1536x128_S1x256x128_4_768_0,
    List.forall_mem_cons.2 ⟨piece_m_256 (M0 := fun _ _ => ⊥) (k := kb256 arg4 x1 512 inb_S768x1024_S256x128_0_512) (q := qs arg3 x0 4 0 inb_S8x1536x128_S1x256x128_4_0_0) (mx := scM0_1.view.readCov (kernelRun0_A.sl.HS1_25 arg3 arg4 x0 x1) (Rect.unit (s := S8x1536x128) ![4, 0, 0] S1x256x128.size inb_S8x1536x128_S1x256x128_4_0_0).toLoadRect) (o := 4) (r0 := 0) 4 rfl rfl (by omega) (kb256_at _ _ _ 4 rfl) (fun x l => qs_at arg3 x0 _ 4 rfl (by omega) x l _ rfl) (m0 arg3 arg4 x0 x1 23 (by decide) 4 4 0 rfl rfl _) inb_S8x1536x128_S1x256x128_4_0_0,
    List.forall_mem_cons.2 ⟨piece_m_768 (M0 := fun _ _ => ⊥) (k := kb768 arg4 x1 384 inb_S768x1024_S768x128_0_384) (q := qs arg3 x0 3 1280 inb_S8x1536x128_S1x256x128_3_1280_0) (mx := scM0_1.view.readCov (kernelRun0_A.sl.HS1_24 arg3 arg4 x0 x1) (Rect.unit (s := S8x1536x128) ![3, 1280, 0] S1x256x128.size inb_S8x1536x128_S1x256x128_3_1280_0).toLoadRect) (o := 3) (r0 := 1280) 3 rfl rfl (by omega) (kb768_at _ _ _ 3 rfl) (fun x l => qs_at arg3 x0 _ 3 rfl (by omega) x l _ rfl) (m0 arg3 arg4 x0 x1 24 (by decide) 3 3 1280 rfl rfl _) inb_S8x1536x128_S1x256x128_3_1280_0,
    List.forall_mem_cons.2 ⟨piece_m_768 (M0 := fun _ _ => ⊥) (k := kb768 arg4 x1 384 inb_S768x1024_S768x128_0_384) (q := qs arg3 x0 3 512 inb_S8x1536x128_S1x256x128_3_512_0) (mx := scM0_1.view.readCov (kernelRun0_A.sl.HS1_23 arg3 arg4 x0 x1) (Rect.unit (s := S8x1536x128) ![3, 512, 0] S1x256x128.size inb_S8x1536x128_S1x256x128_3_512_0).toLoadRect) (o := 3) (r0 := 512) 3 rfl rfl (by omega) (kb768_at _ _ _ 3 rfl) (fun x l => qs_at arg3 x0 _ 3 rfl (by omega) x l _ rfl) (m0 arg3 arg4 x0 x1 25 (by decide) 3 3 512 rfl rfl _) inb_S8x1536x128_S1x256x128_3_512_0,
    List.forall_mem_cons.2 ⟨piece_m_512 (M0 := fun _ _ => ⊥) (k := kb512 arg4 x1 384 inb_S768x1024_S512x128_0_384) (q := qs arg3 x0 3 1024 inb_S8x1536x128_S1x256x128_3_1024_0) (mx := scM0_1.view.readCov (kernelRun0_A.sl.HS1_22 arg3 arg4 x0 x1) (Rect.unit (s := S8x1536x128) ![3, 1024, 0] S1x256x128.size inb_S8x1536x128_S1x256x128_3_1024_0).toLoadRect) (o := 3) (r0 := 1024) 3 rfl rfl (by omega) (kb512_at _ _ _ 3 rfl) (fun x l => qs_at arg3 x0 _ 3 rfl (by omega) x l _ rfl) (m0 arg3 arg4 x0 x1 26 (by decide) 3 3 1024 rfl rfl _) inb_S8x1536x128_S1x256x128_3_1024_0,
    List.forall_mem_cons.2 ⟨piece_m_512 (M0 := fun _ _ => ⊥) (k := kb512 arg4 x1 384 inb_S768x1024_S512x128_0_384) (q := qs arg3 x0 3 256 inb_S8x1536x128_S1x256x128_3_256_0) (mx := scM0_1.view.readCov (kernelRun0_A.sl.HS1_21 arg3 arg4 x0 x1) (Rect.unit (s := S8x1536x128) ![3, 256, 0] S1x256x128.size inb_S8x1536x128_S1x256x128_3_256_0).toLoadRect) (o := 3) (r0 := 256) 3 rfl rfl (by omega) (kb512_at _ _ _ 3 rfl) (fun x l => qs_at arg3 x0 _ 3 rfl (by omega) x l _ rfl) (m0 arg3 arg4 x0 x1 27 (by decide) 3 3 256 rfl rfl _) inb_S8x1536x128_S1x256x128_3_256_0,
    List.forall_mem_cons.2 ⟨piece_m_256 (M0 := fun _ _ => ⊥) (k := kb256 arg4 x1 384 inb_S768x1024_S256x128_0_384) (q := qs arg3 x0 3 768 inb_S8x1536x128_S1x256x128_3_768_0) (mx := scM0_1.view.readCov (kernelRun0_A.sl.HS1_20 arg3 arg4 x0 x1) (Rect.unit (s := S8x1536x128) ![3, 768, 0] S1x256x128.size inb_S8x1536x128_S1x256x128_3_768_0).toLoadRect) (o := 3) (r0 := 768) 3 rfl rfl (by omega) (kb256_at _ _ _ 3 rfl) (fun x l => qs_at arg3 x0 _ 3 rfl (by omega) x l _ rfl) (m0 arg3 arg4 x0 x1 28 (by decide) 3 3 768 rfl rfl _) inb_S8x1536x128_S1x256x128_3_768_0,
    List.forall_mem_cons.2 ⟨piece_m_256 (M0 := fun _ _ => ⊥) (k := kb256 arg4 x1 384 inb_S768x1024_S256x128_0_384) (q := qs arg3 x0 3 0 inb_S8x1536x128_S1x256x128_3_0_0) (mx := scM0_1.view.readCov (kernelRun0_A.sl.HS1_19 arg3 arg4 x0 x1) (Rect.unit (s := S8x1536x128) ![3, 0, 0] S1x256x128.size inb_S8x1536x128_S1x256x128_3_0_0).toLoadRect) (o := 3) (r0 := 0) 3 rfl rfl (by omega) (kb256_at _ _ _ 3 rfl) (fun x l => qs_at arg3 x0 _ 3 rfl (by omega) x l _ rfl) (m0 arg3 arg4 x0 x1 29 (by decide) 3 3 0 rfl rfl _) inb_S8x1536x128_S1x256x128_3_0_0,
    List.forall_mem_cons.2 ⟨piece_m_768 (M0 := fun _ _ => ⊥) (k := kb768 arg4 x1 256 inb_S768x1024_S768x128_0_256) (q := qs arg3 x0 2 1280 inb_S8x1536x128_S1x256x128_2_1280_0) (mx := scM0_1.view.readCov (kernelRun0_A.sl.HS1_18 arg3 arg4 x0 x1) (Rect.unit (s := S8x1536x128) ![2, 1280, 0] S1x256x128.size inb_S8x1536x128_S1x256x128_2_1280_0).toLoadRect) (o := 2) (r0 := 1280) 2 rfl rfl (by omega) (kb768_at _ _ _ 2 rfl) (fun x l => qs_at arg3 x0 _ 2 rfl (by omega) x l _ rfl) (m0 arg3 arg4 x0 x1 30 (by decide) 2 2 1280 rfl rfl _) inb_S8x1536x128_S1x256x128_2_1280_0,
    List.forall_mem_cons.2 ⟨piece_m_768 (M0 := fun _ _ => ⊥) (k := kb768 arg4 x1 256 inb_S768x1024_S768x128_0_256) (q := qs arg3 x0 2 512 inb_S8x1536x128_S1x256x128_2_512_0) (mx := scM0_1.view.readCov (kernelRun0_A.sl.HS1_17 arg3 arg4 x0 x1) (Rect.unit (s := S8x1536x128) ![2, 512, 0] S1x256x128.size inb_S8x1536x128_S1x256x128_2_512_0).toLoadRect) (o := 2) (r0 := 512) 2 rfl rfl (by omega) (kb768_at _ _ _ 2 rfl) (fun x l => qs_at arg3 x0 _ 2 rfl (by omega) x l _ rfl) (m0 arg3 arg4 x0 x1 31 (by decide) 2 2 512 rfl rfl _) inb_S8x1536x128_S1x256x128_2_512_0,
    List.forall_mem_cons.2 ⟨piece_m_512 (M0 := fun _ _ => ⊥) (k := kb512 arg4 x1 256 inb_S768x1024_S512x128_0_256) (q := qs arg3 x0 2 1024 inb_S8x1536x128_S1x256x128_2_1024_0) (mx := scM0_1.view.readCov (kernelRun0_A.sl.HS1_16 arg3 arg4 x0 x1) (Rect.unit (s := S8x1536x128) ![2, 1024, 0] S1x256x128.size inb_S8x1536x128_S1x256x128_2_1024_0).toLoadRect) (o := 2) (r0 := 1024) 2 rfl rfl (by omega) (kb512_at _ _ _ 2 rfl) (fun x l => qs_at arg3 x0 _ 2 rfl (by omega) x l _ rfl) (m0 arg3 arg4 x0 x1 32 (by decide) 2 2 1024 rfl rfl _) inb_S8x1536x128_S1x256x128_2_1024_0,
    List.forall_mem_cons.2 ⟨piece_m_512 (M0 := fun _ _ => ⊥) (k := kb512 arg4 x1 256 inb_S768x1024_S512x128_0_256) (q := qs arg3 x0 2 256 inb_S8x1536x128_S1x256x128_2_256_0) (mx := scM0_1.view.readCov (kernelRun0_A.sl.HS1_15 arg3 arg4 x0 x1) (Rect.unit (s := S8x1536x128) ![2, 256, 0] S1x256x128.size inb_S8x1536x128_S1x256x128_2_256_0).toLoadRect) (o := 2) (r0 := 256) 2 rfl rfl (by omega) (kb512_at _ _ _ 2 rfl) (fun x l => qs_at arg3 x0 _ 2 rfl (by omega) x l _ rfl) (m0 arg3 arg4 x0 x1 33 (by decide) 2 2 256 rfl rfl _) inb_S8x1536x128_S1x256x128_2_256_0,
    List.forall_mem_cons.2 ⟨piece_m_256 (M0 := fun _ _ => ⊥) (k := kb256 arg4 x1 256 inb_S768x1024_S256x128_0_256) (q := qs arg3 x0 2 768 inb_S8x1536x128_S1x256x128_2_768_0) (mx := scM0_1.view.readCov (kernelRun0_A.sl.HS1_14 arg3 arg4 x0 x1) (Rect.unit (s := S8x1536x128) ![2, 768, 0] S1x256x128.size inb_S8x1536x128_S1x256x128_2_768_0).toLoadRect) (o := 2) (r0 := 768) 2 rfl rfl (by omega) (kb256_at _ _ _ 2 rfl) (fun x l => qs_at arg3 x0 _ 2 rfl (by omega) x l _ rfl) (m0 arg3 arg4 x0 x1 34 (by decide) 2 2 768 rfl rfl _) inb_S8x1536x128_S1x256x128_2_768_0,
    List.forall_mem_cons.2 ⟨piece_m_256 (M0 := fun _ _ => ⊥) (k := kb256 arg4 x1 256 inb_S768x1024_S256x128_0_256) (q := qs arg3 x0 2 0 inb_S8x1536x128_S1x256x128_2_0_0) (mx := scM0_1.view.readCov (kernelRun0_A.sl.HS1_13 arg3 arg4 x0 x1) (Rect.unit (s := S8x1536x128) ![2, 0, 0] S1x256x128.size inb_S8x1536x128_S1x256x128_2_0_0).toLoadRect) (o := 2) (r0 := 0) 2 rfl rfl (by omega) (kb256_at _ _ _ 2 rfl) (fun x l => qs_at arg3 x0 _ 2 rfl (by omega) x l _ rfl) (m0 arg3 arg4 x0 x1 35 (by decide) 2 2 0 rfl rfl _) inb_S8x1536x128_S1x256x128_2_0_0,
    List.forall_mem_cons.2 ⟨piece_m_768 (M0 := fun _ _ => ⊥) (k := kb768 arg4 x1 128 inb_S768x1024_S768x128_0_128) (q := qs arg3 x0 1 1280 inb_S8x1536x128_S1x256x128_1_1280_0) (mx := scM0_1.view.readCov (kernelRun0_A.sl.HS1_12 arg3 arg4 x0 x1) (Rect.unit (s := S8x1536x128) ![1, 1280, 0] S1x256x128.size inb_S8x1536x128_S1x256x128_1_1280_0).toLoadRect) (o := 1) (r0 := 1280) 1 rfl rfl (by omega) (kb768_at _ _ _ 1 rfl) (fun x l => qs_at arg3 x0 _ 1 rfl (by omega) x l _ rfl) (m0 arg3 arg4 x0 x1 36 (by decide) 1 1 1280 rfl rfl _) inb_S8x1536x128_S1x256x128_1_1280_0,
    List.forall_mem_cons.2 ⟨piece_m_768 (M0 := fun _ _ => ⊥) (k := kb768 arg4 x1 128 inb_S768x1024_S768x128_0_128) (q := qs arg3 x0 1 512 inb_S8x1536x128_S1x256x128_1_512_0) (mx := scM0_1.view.readCov (kernelRun0_A.sl.HS1_11 arg3 arg4 x0 x1) (Rect.unit (s := S8x1536x128) ![1, 512, 0] S1x256x128.size inb_S8x1536x128_S1x256x128_1_512_0).toLoadRect) (o := 1) (r0 := 512) 1 rfl rfl (by omega) (kb768_at _ _ _ 1 rfl) (fun x l => qs_at arg3 x0 _ 1 rfl (by omega) x l _ rfl) (m0 arg3 arg4 x0 x1 37 (by decide) 1 1 512 rfl rfl _) inb_S8x1536x128_S1x256x128_1_512_0,
    List.forall_mem_cons.2 ⟨piece_m_512 (M0 := fun _ _ => ⊥) (k := kb512 arg4 x1 128 inb_S768x1024_S512x128_0_128) (q := qs arg3 x0 1 1024 inb_S8x1536x128_S1x256x128_1_1024_0) (mx := scM0_1.view.readCov (kernelRun0_A.sl.HS1_10 arg3 arg4 x0 x1) (Rect.unit (s := S8x1536x128) ![1, 1024, 0] S1x256x128.size inb_S8x1536x128_S1x256x128_1_1024_0).toLoadRect) (o := 1) (r0 := 1024) 1 rfl rfl (by omega) (kb512_at _ _ _ 1 rfl) (fun x l => qs_at arg3 x0 _ 1 rfl (by omega) x l _ rfl) (m0 arg3 arg4 x0 x1 38 (by decide) 1 1 1024 rfl rfl _) inb_S8x1536x128_S1x256x128_1_1024_0,
    List.forall_mem_cons.2 ⟨piece_m_512 (M0 := fun _ _ => ⊥) (k := kb512 arg4 x1 128 inb_S768x1024_S512x128_0_128) (q := qs arg3 x0 1 256 inb_S8x1536x128_S1x256x128_1_256_0) (mx := scM0_1.view.readCov (kernelRun0_A.sl.HS1_9 arg3 arg4 x0 x1) (Rect.unit (s := S8x1536x128) ![1, 256, 0] S1x256x128.size inb_S8x1536x128_S1x256x128_1_256_0).toLoadRect) (o := 1) (r0 := 256) 1 rfl rfl (by omega) (kb512_at _ _ _ 1 rfl) (fun x l => qs_at arg3 x0 _ 1 rfl (by omega) x l _ rfl) (m0 arg3 arg4 x0 x1 39 (by decide) 1 1 256 rfl rfl _) inb_S8x1536x128_S1x256x128_1_256_0,
    List.forall_mem_cons.2 ⟨piece_m_256 (M0 := fun _ _ => ⊥) (k := kb256 arg4 x1 128 inb_S768x1024_S256x128_0_128) (q := qs arg3 x0 1 768 inb_S8x1536x128_S1x256x128_1_768_0) (mx := scM0_1.view.readCov (kernelRun0_A.sl.HS1_8 arg3 arg4 x0 x1) (Rect.unit (s := S8x1536x128) ![1, 768, 0] S1x256x128.size inb_S8x1536x128_S1x256x128_1_768_0).toLoadRect) (o := 1) (r0 := 768) 1 rfl rfl (by omega) (kb256_at _ _ _ 1 rfl) (fun x l => qs_at arg3 x0 _ 1 rfl (by omega) x l _ rfl) (m0 arg3 arg4 x0 x1 40 (by decide) 1 1 768 rfl rfl _) inb_S8x1536x128_S1x256x128_1_768_0,
    List.forall_mem_cons.2 ⟨piece_m_256 (M0 := fun _ _ => ⊥) (k := kb256 arg4 x1 128 inb_S768x1024_S256x128_0_128) (q := qs arg3 x0 1 0 inb_S8x1536x128_S1x256x128_1_0_0) (mx := scM0_1.view.readCov (kernelRun0_A.sl.HS1_7 arg3 arg4 x0 x1) (Rect.unit (s := S8x1536x128) ![1, 0, 0] S1x256x128.size inb_S8x1536x128_S1x256x128_1_0_0).toLoadRect) (o := 1) (r0 := 0) 1 rfl rfl (by omega) (kb256_at _ _ _ 1 rfl) (fun x l => qs_at arg3 x0 _ 1 rfl (by omega) x l _ rfl) (m0 arg3 arg4 x0 x1 41 (by decide) 1 1 0 rfl rfl _) inb_S8x1536x128_S1x256x128_1_0_0,
    List.forall_mem_cons.2 ⟨piece_m_768 (M0 := fun _ _ => ⊥) (k := kb768 arg4 x1 0 inb_S768x1024_S768x128_0_0) (q := qs arg3 x0 0 1280 inb_S8x1536x128_S1x256x128_0_1280_0) (mx := scM0_1.view.readCov (kernelRun0_A.sl.HS1_6 arg3 arg4 x0 x1) (Rect.unit (s := S8x1536x128) ![0, 1280, 0] S1x256x128.size inb_S8x1536x128_S1x256x128_0_1280_0).toLoadRect) (o := 0) (r0 := 1280) 0 rfl rfl (by omega) (kb768_at _ _ _ 0 rfl) (fun x l => qs_at arg3 x0 _ 0 rfl (by omega) x l _ rfl) (m0 arg3 arg4 x0 x1 42 (by decide) 0 0 1280 rfl rfl _) inb_S8x1536x128_S1x256x128_0_1280_0,
    List.forall_mem_cons.2 ⟨piece_m_768 (M0 := fun _ _ => ⊥) (k := kb768 arg4 x1 0 inb_S768x1024_S768x128_0_0) (q := qs arg3 x0 0 512 inb_S8x1536x128_S1x256x128_0_512_0) (mx := scM0_1.view.readCov (kernelRun0_A.sl.HS1_5 arg3 arg4 x0 x1) (Rect.unit (s := S8x1536x128) ![0, 512, 0] S1x256x128.size inb_S8x1536x128_S1x256x128_0_512_0).toLoadRect) (o := 0) (r0 := 512) 0 rfl rfl (by omega) (kb768_at _ _ _ 0 rfl) (fun x l => qs_at arg3 x0 _ 0 rfl (by omega) x l _ rfl) (m0 arg3 arg4 x0 x1 43 (by decide) 0 0 512 rfl rfl _) inb_S8x1536x128_S1x256x128_0_512_0,
    List.forall_mem_cons.2 ⟨piece_m_512 (M0 := fun _ _ => ⊥) (k := kb512 arg4 x1 0 inb_S768x1024_S512x128_0_0) (q := qs arg3 x0 0 1024 inb_S8x1536x128_S1x256x128_0_1024_0) (mx := scM0_1.view.readCov (kernelRun0_A.sl.HS1_4 arg3 arg4 x0 x1) (Rect.unit (s := S8x1536x128) ![0, 1024, 0] S1x256x128.size inb_S8x1536x128_S1x256x128_0_1024_0).toLoadRect) (o := 0) (r0 := 1024) 0 rfl rfl (by omega) (kb512_at _ _ _ 0 rfl) (fun x l => qs_at arg3 x0 _ 0 rfl (by omega) x l _ rfl) (m0 arg3 arg4 x0 x1 44 (by decide) 0 0 1024 rfl rfl _) inb_S8x1536x128_S1x256x128_0_1024_0,
    List.forall_mem_cons.2 ⟨piece_m_512 (M0 := fun _ _ => ⊥) (k := kb512 arg4 x1 0 inb_S768x1024_S512x128_0_0) (q := qs arg3 x0 0 256 inb_S8x1536x128_S1x256x128_0_256_0) (mx := scM0_1.view.readCov (kernelRun0_A.sl.HS1_3 arg3 arg4 x0 x1) (Rect.unit (s := S8x1536x128) ![0, 256, 0] S1x256x128.size inb_S8x1536x128_S1x256x128_0_256_0).toLoadRect) (o := 0) (r0 := 256) 0 rfl rfl (by omega) (kb512_at _ _ _ 0 rfl) (fun x l => qs_at arg3 x0 _ 0 rfl (by omega) x l _ rfl) (m0 arg3 arg4 x0 x1 45 (by decide) 0 0 256 rfl rfl _) inb_S8x1536x128_S1x256x128_0_256_0,
    List.forall_mem_cons.2 ⟨piece_m_256 (M0 := fun _ _ => ⊥) (k := kb256 arg4 x1 0 inb_S768x1024_S256x128_0_0) (q := qs arg3 x0 0 768 inb_S8x1536x128_S1x256x128_0_768_0) (mx := scM0_1.view.readCov (kernelRun0_A.sl.HS1_2 arg3 arg4 x0 x1) (Rect.unit (s := S8x1536x128) ![0, 768, 0] S1x256x128.size inb_S8x1536x128_S1x256x128_0_768_0).toLoadRect) (o := 0) (r0 := 768) 0 rfl rfl (by omega) (kb256_at _ _ _ 0 rfl) (fun x l => qs_at arg3 x0 _ 0 rfl (by omega) x l _ rfl) (m0 arg3 arg4 x0 x1 46 (by decide) 0 0 768 rfl rfl _) inb_S8x1536x128_S1x256x128_0_768_0,
    List.forall_mem_cons.2 ⟨piece_m_256 (M0 := fun _ _ => ⊥) (k := kb256 arg4 x1 0 inb_S768x1024_S256x128_0_0) (q := qs arg3 x0 0 0 inb_S8x1536x128_S1x256x128_0_0_0) (mx := scM0_1.view.readCov (kernelRun0_A.sl.HS1_1) (Rect.unit (s := S8x1536x128) ![0, 0, 0] S1x256x128.size inb_S8x1536x128_S1x256x128_0_0_0).toLoadRect) (o := 0) (r0 := 0) 0 rfl rfl (by omega) (kb256_at _ _ _ 0 rfl) (fun x l => qs_at arg3 x0 _ 0 rfl (by omega) x l _ rfl) (m0 arg3 arg4 x0 x1 47 (by decide) 0 0 0 rfl rfl _) inb_S8x1536x128_S1x256x128_0_0_0,
    List.forall_mem_nil _⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

theorem canon_a (y : S8x1536x256.Idx) :
    View.canon (kernelRun0_A.sl.HS2_49 arg3 arg4 arg5 x0 x1 x2) y = GAa true (QGa x0) x1 x2 (fun _ _ => ⊥) (fun _ => 0) y := by
  refine canon_first (e := .f32) (GAa true (QGa x0) x1 x2 (fun _ _ => ⊥) (fun _ => 0)) blocks.length _ ?_ y (cover_slabs (by omega : 0 < 256) blocks _ (slabs_a arg3 arg4 arg5 x0 x1 x2) blocks_all blocks_in y)
  exact List.forall_mem_cons.2 ⟨piece_a_768 (M0 := fun _ _ => ⊥) (A0 := fun _ => 0) (k := kb768 arg4 x1 896 inb_S768x1024_S768x128_0_896) (v := kb768 arg5 x2 896 inb_S768x1024_S768x128_0_896) (q := qs arg3 x0 7 1280 inb_S8x1536x128_S1x256x128_7_1280_0) (mx := scM0_1.view.readCov (kernelRun0_A.sl.HS1_48 arg3 arg4 x0 x1) (Rect.unit (s := S8x1536x128) ![7, 1280, 0] S1x256x128.size inb_S8x1536x128_S1x256x128_7_1280_0).toLoadRect) (ac := scM0_2.view.readCov (kernelRun0_A.sl.HS2_48 arg3 arg4 arg5 x0 x1 x2) (Rect.unit (s := S8x1536x256) ![7, 1280, 0] S1x256x256.size inb_S8x1536x256_S1x256x256_7_1280_0).toLoadRect) (o := 7) (r0 := 1280) 7 rfl rfl (by omega) (kb768_at _ _ _ 7 rfl) (kb768_at _ _ _ 7 rfl) (fun x l => qs_at arg3 x0 _ 7 rfl (by omega) x l _ rfl) (m0 arg3 arg4 x0 x1 0 (by decide) 7 7 1280 rfl rfl _) (a0 arg3 arg4 arg5 x0 x1 x2 0 (by decide) 7 7 1280 rfl rfl _) inb_S8x1536x256_S1x256x256_7_1280_0,
    List.forall_mem_cons.2 ⟨piece_a_768 (M0 := fun _ _ => ⊥) (A0 := fun _ => 0) (k := kb768 arg4 x1 896 inb_S768x1024_S768x128_0_896) (v := kb768 arg5 x2 896 inb_S768x1024_S768x128_0_896) (q := qs arg3 x0 7 512 inb_S8x1536x128_S1x256x128_7_512_0) (mx := scM0_1.view.readCov (kernelRun0_A.sl.HS1_47 arg3 arg4 x0 x1) (Rect.unit (s := S8x1536x128) ![7, 512, 0] S1x256x128.size inb_S8x1536x128_S1x256x128_7_512_0).toLoadRect) (ac := scM0_2.view.readCov (kernelRun0_A.sl.HS2_47 arg3 arg4 arg5 x0 x1 x2) (Rect.unit (s := S8x1536x256) ![7, 512, 0] S1x256x256.size inb_S8x1536x256_S1x256x256_7_512_0).toLoadRect) (o := 7) (r0 := 512) 7 rfl rfl (by omega) (kb768_at _ _ _ 7 rfl) (kb768_at _ _ _ 7 rfl) (fun x l => qs_at arg3 x0 _ 7 rfl (by omega) x l _ rfl) (m0 arg3 arg4 x0 x1 1 (by decide) 7 7 512 rfl rfl _) (a0 arg3 arg4 arg5 x0 x1 x2 1 (by decide) 7 7 512 rfl rfl _) inb_S8x1536x256_S1x256x256_7_512_0,
    List.forall_mem_cons.2 ⟨piece_a_512 (M0 := fun _ _ => ⊥) (A0 := fun _ => 0) (k := kb512 arg4 x1 896 inb_S768x1024_S512x128_0_896) (v := kb512 arg5 x2 896 inb_S768x1024_S512x128_0_896) (q := qs arg3 x0 7 1024 inb_S8x1536x128_S1x256x128_7_1024_0) (mx := scM0_1.view.readCov (kernelRun0_A.sl.HS1_46 arg3 arg4 x0 x1) (Rect.unit (s := S8x1536x128) ![7, 1024, 0] S1x256x128.size inb_S8x1536x128_S1x256x128_7_1024_0).toLoadRect) (ac := scM0_2.view.readCov (kernelRun0_A.sl.HS2_46 arg3 arg4 arg5 x0 x1 x2) (Rect.unit (s := S8x1536x256) ![7, 1024, 0] S1x256x256.size inb_S8x1536x256_S1x256x256_7_1024_0).toLoadRect) (o := 7) (r0 := 1024) 7 rfl rfl (by omega) (kb512_at _ _ _ 7 rfl) (kb512_at _ _ _ 7 rfl) (fun x l => qs_at arg3 x0 _ 7 rfl (by omega) x l _ rfl) (m0 arg3 arg4 x0 x1 2 (by decide) 7 7 1024 rfl rfl _) (a0 arg3 arg4 arg5 x0 x1 x2 2 (by decide) 7 7 1024 rfl rfl _) inb_S8x1536x256_S1x256x256_7_1024_0,
    List.forall_mem_cons.2 ⟨piece_a_512 (M0 := fun _ _ => ⊥) (A0 := fun _ => 0) (k := kb512 arg4 x1 896 inb_S768x1024_S512x128_0_896) (v := kb512 arg5 x2 896 inb_S768x1024_S512x128_0_896) (q := qs arg3 x0 7 256 inb_S8x1536x128_S1x256x128_7_256_0) (mx := scM0_1.view.readCov (kernelRun0_A.sl.HS1_45 arg3 arg4 x0 x1) (Rect.unit (s := S8x1536x128) ![7, 256, 0] S1x256x128.size inb_S8x1536x128_S1x256x128_7_256_0).toLoadRect) (ac := scM0_2.view.readCov (kernelRun0_A.sl.HS2_45 arg3 arg4 arg5 x0 x1 x2) (Rect.unit (s := S8x1536x256) ![7, 256, 0] S1x256x256.size inb_S8x1536x256_S1x256x256_7_256_0).toLoadRect) (o := 7) (r0 := 256) 7 rfl rfl (by omega) (kb512_at _ _ _ 7 rfl) (kb512_at _ _ _ 7 rfl) (fun x l => qs_at arg3 x0 _ 7 rfl (by omega) x l _ rfl) (m0 arg3 arg4 x0 x1 3 (by decide) 7 7 256 rfl rfl _) (a0 arg3 arg4 arg5 x0 x1 x2 3 (by decide) 7 7 256 rfl rfl _) inb_S8x1536x256_S1x256x256_7_256_0,
    List.forall_mem_cons.2 ⟨piece_a_256 (M0 := fun _ _ => ⊥) (A0 := fun _ => 0) (k := kb256 arg4 x1 896 inb_S768x1024_S256x128_0_896) (v := kb256 arg5 x2 896 inb_S768x1024_S256x128_0_896) (q := qs arg3 x0 7 768 inb_S8x1536x128_S1x256x128_7_768_0) (mx := scM0_1.view.readCov (kernelRun0_A.sl.HS1_44 arg3 arg4 x0 x1) (Rect.unit (s := S8x1536x128) ![7, 768, 0] S1x256x128.size inb_S8x1536x128_S1x256x128_7_768_0).toLoadRect) (ac := scM0_2.view.readCov (kernelRun0_A.sl.HS2_44 arg3 arg4 arg5 x0 x1 x2) (Rect.unit (s := S8x1536x256) ![7, 768, 0] S1x256x256.size inb_S8x1536x256_S1x256x256_7_768_0).toLoadRect) (o := 7) (r0 := 768) 7 rfl rfl (by omega) (kb256_at _ _ _ 7 rfl) (kb256_at _ _ _ 7 rfl) (fun x l => qs_at arg3 x0 _ 7 rfl (by omega) x l _ rfl) (m0 arg3 arg4 x0 x1 4 (by decide) 7 7 768 rfl rfl _) (a0 arg3 arg4 arg5 x0 x1 x2 4 (by decide) 7 7 768 rfl rfl _) inb_S8x1536x256_S1x256x256_7_768_0,
    List.forall_mem_cons.2 ⟨piece_a_256 (M0 := fun _ _ => ⊥) (A0 := fun _ => 0) (k := kb256 arg4 x1 896 inb_S768x1024_S256x128_0_896) (v := kb256 arg5 x2 896 inb_S768x1024_S256x128_0_896) (q := qs arg3 x0 7 0 inb_S8x1536x128_S1x256x128_7_0_0) (mx := scM0_1.view.readCov (kernelRun0_A.sl.HS1_43 arg3 arg4 x0 x1) (Rect.unit (s := S8x1536x128) ![7, 0, 0] S1x256x128.size inb_S8x1536x128_S1x256x128_7_0_0).toLoadRect) (ac := scM0_2.view.readCov (kernelRun0_A.sl.HS2_43 arg3 arg4 arg5 x0 x1 x2) (Rect.unit (s := S8x1536x256) ![7, 0, 0] S1x256x256.size inb_S8x1536x256_S1x256x256_7_0_0).toLoadRect) (o := 7) (r0 := 0) 7 rfl rfl (by omega) (kb256_at _ _ _ 7 rfl) (kb256_at _ _ _ 7 rfl) (fun x l => qs_at arg3 x0 _ 7 rfl (by omega) x l _ rfl) (m0 arg3 arg4 x0 x1 5 (by decide) 7 7 0 rfl rfl _) (a0 arg3 arg4 arg5 x0 x1 x2 5 (by decide) 7 7 0 rfl rfl _) inb_S8x1536x256_S1x256x256_7_0_0,
    List.forall_mem_cons.2 ⟨piece_a_768 (M0 := fun _ _ => ⊥) (A0 := fun _ => 0) (k := kb768 arg4 x1 768 inb_S768x1024_S768x128_0_768) (v := kb768 arg5 x2 768 inb_S768x1024_S768x128_0_768) (q := qs arg3 x0 6 1280 inb_S8x1536x128_S1x256x128_6_1280_0) (mx := scM0_1.view.readCov (kernelRun0_A.sl.HS1_42 arg3 arg4 x0 x1) (Rect.unit (s := S8x1536x128) ![6, 1280, 0] S1x256x128.size inb_S8x1536x128_S1x256x128_6_1280_0).toLoadRect) (ac := scM0_2.view.readCov (kernelRun0_A.sl.HS2_42 arg3 arg4 arg5 x0 x1 x2) (Rect.unit (s := S8x1536x256) ![6, 1280, 0] S1x256x256.size inb_S8x1536x256_S1x256x256_6_1280_0).toLoadRect) (o := 6) (r0 := 1280) 6 rfl rfl (by omega) (kb768_at _ _ _ 6 rfl) (kb768_at _ _ _ 6 rfl) (fun x l => qs_at arg3 x0 _ 6 rfl (by omega) x l _ rfl) (m0 arg3 arg4 x0 x1 6 (by decide) 6 6 1280 rfl rfl _) (a0 arg3 arg4 arg5 x0 x1 x2 6 (by decide) 6 6 1280 rfl rfl _) inb_S8x1536x256_S1x256x256_6_1280_0,
    List.forall_mem_cons.2 ⟨piece_a_768 (M0 := fun _ _ => ⊥) (A0 := fun _ => 0) (k := kb768 arg4 x1 768 inb_S768x1024_S768x128_0_768) (v := kb768 arg5 x2 768 inb_S768x1024_S768x128_0_768) (q := qs arg3 x0 6 512 inb_S8x1536x128_S1x256x128_6_512_0) (mx := scM0_1.view.readCov (kernelRun0_A.sl.HS1_41 arg3 arg4 x0 x1) (Rect.unit (s := S8x1536x128) ![6, 512, 0] S1x256x128.size inb_S8x1536x128_S1x256x128_6_512_0).toLoadRect) (ac := scM0_2.view.readCov (kernelRun0_A.sl.HS2_41 arg3 arg4 arg5 x0 x1 x2) (Rect.unit (s := S8x1536x256) ![6, 512, 0] S1x256x256.size inb_S8x1536x256_S1x256x256_6_512_0).toLoadRect) (o := 6) (r0 := 512) 6 rfl rfl (by omega) (kb768_at _ _ _ 6 rfl) (kb768_at _ _ _ 6 rfl) (fun x l => qs_at arg3 x0 _ 6 rfl (by omega) x l _ rfl) (m0 arg3 arg4 x0 x1 7 (by decide) 6 6 512 rfl rfl _) (a0 arg3 arg4 arg5 x0 x1 x2 7 (by decide) 6 6 512 rfl rfl _) inb_S8x1536x256_S1x256x256_6_512_0,
    List.forall_mem_cons.2 ⟨piece_a_512 (M0 := fun _ _ => ⊥) (A0 := fun _ => 0) (k := kb512 arg4 x1 768 inb_S768x1024_S512x128_0_768) (v := kb512 arg5 x2 768 inb_S768x1024_S512x128_0_768) (q := qs arg3 x0 6 1024 inb_S8x1536x128_S1x256x128_6_1024_0) (mx := scM0_1.view.readCov (kernelRun0_A.sl.HS1_40 arg3 arg4 x0 x1) (Rect.unit (s := S8x1536x128) ![6, 1024, 0] S1x256x128.size inb_S8x1536x128_S1x256x128_6_1024_0).toLoadRect) (ac := scM0_2.view.readCov (kernelRun0_A.sl.HS2_40 arg3 arg4 arg5 x0 x1 x2) (Rect.unit (s := S8x1536x256) ![6, 1024, 0] S1x256x256.size inb_S8x1536x256_S1x256x256_6_1024_0).toLoadRect) (o := 6) (r0 := 1024) 6 rfl rfl (by omega) (kb512_at _ _ _ 6 rfl) (kb512_at _ _ _ 6 rfl) (fun x l => qs_at arg3 x0 _ 6 rfl (by omega) x l _ rfl) (m0 arg3 arg4 x0 x1 8 (by decide) 6 6 1024 rfl rfl _) (a0 arg3 arg4 arg5 x0 x1 x2 8 (by decide) 6 6 1024 rfl rfl _) inb_S8x1536x256_S1x256x256_6_1024_0,
    List.forall_mem_cons.2 ⟨piece_a_512 (M0 := fun _ _ => ⊥) (A0 := fun _ => 0) (k := kb512 arg4 x1 768 inb_S768x1024_S512x128_0_768) (v := kb512 arg5 x2 768 inb_S768x1024_S512x128_0_768) (q := qs arg3 x0 6 256 inb_S8x1536x128_S1x256x128_6_256_0) (mx := scM0_1.view.readCov (kernelRun0_A.sl.HS1_39 arg3 arg4 x0 x1) (Rect.unit (s := S8x1536x128) ![6, 256, 0] S1x256x128.size inb_S8x1536x128_S1x256x128_6_256_0).toLoadRect) (ac := scM0_2.view.readCov (kernelRun0_A.sl.HS2_39 arg3 arg4 arg5 x0 x1 x2) (Rect.unit (s := S8x1536x256) ![6, 256, 0] S1x256x256.size inb_S8x1536x256_S1x256x256_6_256_0).toLoadRect) (o := 6) (r0 := 256) 6 rfl rfl (by omega) (kb512_at _ _ _ 6 rfl) (kb512_at _ _ _ 6 rfl) (fun x l => qs_at arg3 x0 _ 6 rfl (by omega) x l _ rfl) (m0 arg3 arg4 x0 x1 9 (by decide) 6 6 256 rfl rfl _) (a0 arg3 arg4 arg5 x0 x1 x2 9 (by decide) 6 6 256 rfl rfl _) inb_S8x1536x256_S1x256x256_6_256_0,
    List.forall_mem_cons.2 ⟨piece_a_256 (M0 := fun _ _ => ⊥) (A0 := fun _ => 0) (k := kb256 arg4 x1 768 inb_S768x1024_S256x128_0_768) (v := kb256 arg5 x2 768 inb_S768x1024_S256x128_0_768) (q := qs arg3 x0 6 768 inb_S8x1536x128_S1x256x128_6_768_0) (mx := scM0_1.view.readCov (kernelRun0_A.sl.HS1_38 arg3 arg4 x0 x1) (Rect.unit (s := S8x1536x128) ![6, 768, 0] S1x256x128.size inb_S8x1536x128_S1x256x128_6_768_0).toLoadRect) (ac := scM0_2.view.readCov (kernelRun0_A.sl.HS2_38 arg3 arg4 arg5 x0 x1 x2) (Rect.unit (s := S8x1536x256) ![6, 768, 0] S1x256x256.size inb_S8x1536x256_S1x256x256_6_768_0).toLoadRect) (o := 6) (r0 := 768) 6 rfl rfl (by omega) (kb256_at _ _ _ 6 rfl) (kb256_at _ _ _ 6 rfl) (fun x l => qs_at arg3 x0 _ 6 rfl (by omega) x l _ rfl) (m0 arg3 arg4 x0 x1 10 (by decide) 6 6 768 rfl rfl _) (a0 arg3 arg4 arg5 x0 x1 x2 10 (by decide) 6 6 768 rfl rfl _) inb_S8x1536x256_S1x256x256_6_768_0,
    List.forall_mem_cons.2 ⟨piece_a_256 (M0 := fun _ _ => ⊥) (A0 := fun _ => 0) (k := kb256 arg4 x1 768 inb_S768x1024_S256x128_0_768) (v := kb256 arg5 x2 768 inb_S768x1024_S256x128_0_768) (q := qs arg3 x0 6 0 inb_S8x1536x128_S1x256x128_6_0_0) (mx := scM0_1.view.readCov (kernelRun0_A.sl.HS1_37 arg3 arg4 x0 x1) (Rect.unit (s := S8x1536x128) ![6, 0, 0] S1x256x128.size inb_S8x1536x128_S1x256x128_6_0_0).toLoadRect) (ac := scM0_2.view.readCov (kernelRun0_A.sl.HS2_37 arg3 arg4 arg5 x0 x1 x2) (Rect.unit (s := S8x1536x256) ![6, 0, 0] S1x256x256.size inb_S8x1536x256_S1x256x256_6_0_0).toLoadRect) (o := 6) (r0 := 0) 6 rfl rfl (by omega) (kb256_at _ _ _ 6 rfl) (kb256_at _ _ _ 6 rfl) (fun x l => qs_at arg3 x0 _ 6 rfl (by omega) x l _ rfl) (m0 arg3 arg4 x0 x1 11 (by decide) 6 6 0 rfl rfl _) (a0 arg3 arg4 arg5 x0 x1 x2 11 (by decide) 6 6 0 rfl rfl _) inb_S8x1536x256_S1x256x256_6_0_0,
    List.forall_mem_cons.2 ⟨piece_a_768 (M0 := fun _ _ => ⊥) (A0 := fun _ => 0) (k := kb768 arg4 x1 640 inb_S768x1024_S768x128_0_640) (v := kb768 arg5 x2 640 inb_S768x1024_S768x128_0_640) (q := qs arg3 x0 5 1280 inb_S8x1536x128_S1x256x128_5_1280_0) (mx := scM0_1.view.readCov (kernelRun0_A.sl.HS1_36 arg3 arg4 x0 x1) (Rect.unit (s := S8x1536x128) ![5, 1280, 0] S1x256x128.size inb_S8x1536x128_S1x256x128_5_1280_0).toLoadRect) (ac := scM0_2.view.readCov (kernelRun0_A.sl.HS2_36 arg3 arg4 arg5 x0 x1 x2) (Rect.unit (s := S8x1536x256) ![5, 1280, 0] S1x256x256.size inb_S8x1536x256_S1x256x256_5_1280_0).toLoadRect) (o := 5) (r0 := 1280) 5 rfl rfl (by omega) (kb768_at _ _ _ 5 rfl) (kb768_at _ _ _ 5 rfl) (fun x l => qs_at arg3 x0 _ 5 rfl (by omega) x l _ rfl) (m0 arg3 arg4 x0 x1 12 (by decide) 5 5 1280 rfl rfl _) (a0 arg3 arg4 arg5 x0 x1 x2 12 (by decide) 5 5 1280 rfl rfl _) inb_S8x1536x256_S1x256x256_5_1280_0,
    List.forall_mem_cons.2 ⟨piece_a_768 (M0 := fun _ _ => ⊥) (A0 := fun _ => 0) (k := kb768 arg4 x1 640 inb_S768x1024_S768x128_0_640) (v := kb768 arg5 x2 640 inb_S768x1024_S768x128_0_640) (q := qs arg3 x0 5 512 inb_S8x1536x128_S1x256x128_5_512_0) (mx := scM0_1.view.readCov (kernelRun0_A.sl.HS1_35 arg3 arg4 x0 x1) (Rect.unit (s := S8x1536x128) ![5, 512, 0] S1x256x128.size inb_S8x1536x128_S1x256x128_5_512_0).toLoadRect) (ac := scM0_2.view.readCov (kernelRun0_A.sl.HS2_35 arg3 arg4 arg5 x0 x1 x2) (Rect.unit (s := S8x1536x256) ![5, 512, 0] S1x256x256.size inb_S8x1536x256_S1x256x256_5_512_0).toLoadRect) (o := 5) (r0 := 512) 5 rfl rfl (by omega) (kb768_at _ _ _ 5 rfl) (kb768_at _ _ _ 5 rfl) (fun x l => qs_at arg3 x0 _ 5 rfl (by omega) x l _ rfl) (m0 arg3 arg4 x0 x1 13 (by decide) 5 5 512 rfl rfl _) (a0 arg3 arg4 arg5 x0 x1 x2 13 (by decide) 5 5 512 rfl rfl _) inb_S8x1536x256_S1x256x256_5_512_0,
    List.forall_mem_cons.2 ⟨piece_a_512 (M0 := fun _ _ => ⊥) (A0 := fun _ => 0) (k := kb512 arg4 x1 640 inb_S768x1024_S512x128_0_640) (v := kb512 arg5 x2 640 inb_S768x1024_S512x128_0_640) (q := qs arg3 x0 5 1024 inb_S8x1536x128_S1x256x128_5_1024_0) (mx := scM0_1.view.readCov (kernelRun0_A.sl.HS1_34 arg3 arg4 x0 x1) (Rect.unit (s := S8x1536x128) ![5, 1024, 0] S1x256x128.size inb_S8x1536x128_S1x256x128_5_1024_0).toLoadRect) (ac := scM0_2.view.readCov (kernelRun0_A.sl.HS2_34 arg3 arg4 arg5 x0 x1 x2) (Rect.unit (s := S8x1536x256) ![5, 1024, 0] S1x256x256.size inb_S8x1536x256_S1x256x256_5_1024_0).toLoadRect) (o := 5) (r0 := 1024) 5 rfl rfl (by omega) (kb512_at _ _ _ 5 rfl) (kb512_at _ _ _ 5 rfl) (fun x l => qs_at arg3 x0 _ 5 rfl (by omega) x l _ rfl) (m0 arg3 arg4 x0 x1 14 (by decide) 5 5 1024 rfl rfl _) (a0 arg3 arg4 arg5 x0 x1 x2 14 (by decide) 5 5 1024 rfl rfl _) inb_S8x1536x256_S1x256x256_5_1024_0,
    List.forall_mem_cons.2 ⟨piece_a_512 (M0 := fun _ _ => ⊥) (A0 := fun _ => 0) (k := kb512 arg4 x1 640 inb_S768x1024_S512x128_0_640) (v := kb512 arg5 x2 640 inb_S768x1024_S512x128_0_640) (q := qs arg3 x0 5 256 inb_S8x1536x128_S1x256x128_5_256_0) (mx := scM0_1.view.readCov (kernelRun0_A.sl.HS1_33 arg3 arg4 x0 x1) (Rect.unit (s := S8x1536x128) ![5, 256, 0] S1x256x128.size inb_S8x1536x128_S1x256x128_5_256_0).toLoadRect) (ac := scM0_2.view.readCov (kernelRun0_A.sl.HS2_33 arg3 arg4 arg5 x0 x1 x2) (Rect.unit (s := S8x1536x256) ![5, 256, 0] S1x256x256.size inb_S8x1536x256_S1x256x256_5_256_0).toLoadRect) (o := 5) (r0 := 256) 5 rfl rfl (by omega) (kb512_at _ _ _ 5 rfl) (kb512_at _ _ _ 5 rfl) (fun x l => qs_at arg3 x0 _ 5 rfl (by omega) x l _ rfl) (m0 arg3 arg4 x0 x1 15 (by decide) 5 5 256 rfl rfl _) (a0 arg3 arg4 arg5 x0 x1 x2 15 (by decide) 5 5 256 rfl rfl _) inb_S8x1536x256_S1x256x256_5_256_0,
    List.forall_mem_cons.2 ⟨piece_a_256 (M0 := fun _ _ => ⊥) (A0 := fun _ => 0) (k := kb256 arg4 x1 640 inb_S768x1024_S256x128_0_640) (v := kb256 arg5 x2 640 inb_S768x1024_S256x128_0_640) (q := qs arg3 x0 5 768 inb_S8x1536x128_S1x256x128_5_768_0) (mx := scM0_1.view.readCov (kernelRun0_A.sl.HS1_32 arg3 arg4 x0 x1) (Rect.unit (s := S8x1536x128) ![5, 768, 0] S1x256x128.size inb_S8x1536x128_S1x256x128_5_768_0).toLoadRect) (ac := scM0_2.view.readCov (kernelRun0_A.sl.HS2_32 arg3 arg4 arg5 x0 x1 x2) (Rect.unit (s := S8x1536x256) ![5, 768, 0] S1x256x256.size inb_S8x1536x256_S1x256x256_5_768_0).toLoadRect) (o := 5) (r0 := 768) 5 rfl rfl (by omega) (kb256_at _ _ _ 5 rfl) (kb256_at _ _ _ 5 rfl) (fun x l => qs_at arg3 x0 _ 5 rfl (by omega) x l _ rfl) (m0 arg3 arg4 x0 x1 16 (by decide) 5 5 768 rfl rfl _) (a0 arg3 arg4 arg5 x0 x1 x2 16 (by decide) 5 5 768 rfl rfl _) inb_S8x1536x256_S1x256x256_5_768_0,
    List.forall_mem_cons.2 ⟨piece_a_256 (M0 := fun _ _ => ⊥) (A0 := fun _ => 0) (k := kb256 arg4 x1 640 inb_S768x1024_S256x128_0_640) (v := kb256 arg5 x2 640 inb_S768x1024_S256x128_0_640) (q := qs arg3 x0 5 0 inb_S8x1536x128_S1x256x128_5_0_0) (mx := scM0_1.view.readCov (kernelRun0_A.sl.HS1_31 arg3 arg4 x0 x1) (Rect.unit (s := S8x1536x128) ![5, 0, 0] S1x256x128.size inb_S8x1536x128_S1x256x128_5_0_0).toLoadRect) (ac := scM0_2.view.readCov (kernelRun0_A.sl.HS2_31 arg3 arg4 arg5 x0 x1 x2) (Rect.unit (s := S8x1536x256) ![5, 0, 0] S1x256x256.size inb_S8x1536x256_S1x256x256_5_0_0).toLoadRect) (o := 5) (r0 := 0) 5 rfl rfl (by omega) (kb256_at _ _ _ 5 rfl) (kb256_at _ _ _ 5 rfl) (fun x l => qs_at arg3 x0 _ 5 rfl (by omega) x l _ rfl) (m0 arg3 arg4 x0 x1 17 (by decide) 5 5 0 rfl rfl _) (a0 arg3 arg4 arg5 x0 x1 x2 17 (by decide) 5 5 0 rfl rfl _) inb_S8x1536x256_S1x256x256_5_0_0,
    List.forall_mem_cons.2 ⟨piece_a_768 (M0 := fun _ _ => ⊥) (A0 := fun _ => 0) (k := kb768 arg4 x1 512 inb_S768x1024_S768x128_0_512) (v := kb768 arg5 x2 512 inb_S768x1024_S768x128_0_512) (q := qs arg3 x0 4 1280 inb_S8x1536x128_S1x256x128_4_1280_0) (mx := scM0_1.view.readCov (kernelRun0_A.sl.HS1_30 arg3 arg4 x0 x1) (Rect.unit (s := S8x1536x128) ![4, 1280, 0] S1x256x128.size inb_S8x1536x128_S1x256x128_4_1280_0).toLoadRect) (ac := scM0_2.view.readCov (kernelRun0_A.sl.HS2_30 arg3 arg4 arg5 x0 x1 x2) (Rect.unit (s := S8x1536x256) ![4, 1280, 0] S1x256x256.size inb_S8x1536x256_S1x256x256_4_1280_0).toLoadRect) (o := 4) (r0 := 1280) 4 rfl rfl (by omega) (kb768_at _ _ _ 4 rfl) (kb768_at _ _ _ 4 rfl) (fun x l => qs_at arg3 x0 _ 4 rfl (by omega) x l _ rfl) (m0 arg3 arg4 x0 x1 18 (by decide) 4 4 1280 rfl rfl _) (a0 arg3 arg4 arg5 x0 x1 x2 18 (by decide) 4 4 1280 rfl rfl _) inb_S8x1536x256_S1x256x256_4_1280_0,
    List.forall_mem_cons.2 ⟨piece_a_768 (M0 := fun _ _ => ⊥) (A0 := fun _ => 0) (k := kb768 arg4 x1 512 inb_S768x1024_S768x128_0_512) (v := kb768 arg5 x2 512 inb_S768x1024_S768x128_0_512) (q := qs arg3 x0 4 512 inb_S8x1536x128_S1x256x128_4_512_0) (mx := scM0_1.view.readCov (kernelRun0_A.sl.HS1_29 arg3 arg4 x0 x1) (Rect.unit (s := S8x1536x128) ![4, 512, 0] S1x256x128.size inb_S8x1536x128_S1x256x128_4_512_0).toLoadRect) (ac := scM0_2.view.readCov (kernelRun0_A.sl.HS2_29 arg3 arg4 arg5 x0 x1 x2) (Rect.unit (s := S8x1536x256) ![4, 512, 0] S1x256x256.size inb_S8x1536x256_S1x256x256_4_512_0).toLoadRect) (o := 4) (r0 := 512) 4 rfl rfl (by omega) (kb768_at _ _ _ 4 rfl) (kb768_at _ _ _ 4 rfl) (fun x l => qs_at arg3 x0 _ 4 rfl (by omega) x l _ rfl) (m0 arg3 arg4 x0 x1 19 (by decide) 4 4 512 rfl rfl _) (a0 arg3 arg4 arg5 x0 x1 x2 19 (by decide) 4 4 512 rfl rfl _) inb_S8x1536x256_S1x256x256_4_512_0,
    List.forall_mem_cons.2 ⟨piece_a_512 (M0 := fun _ _ => ⊥) (A0 := fun _ => 0) (k := kb512 arg4 x1 512 inb_S768x1024_S512x128_0_512) (v := kb512 arg5 x2 512 inb_S768x1024_S512x128_0_512) (q := qs arg3 x0 4 1024 inb_S8x1536x128_S1x256x128_4_1024_0) (mx := scM0_1.view.readCov (kernelRun0_A.sl.HS1_28 arg3 arg4 x0 x1) (Rect.unit (s := S8x1536x128) ![4, 1024, 0] S1x256x128.size inb_S8x1536x128_S1x256x128_4_1024_0).toLoadRect) (ac := scM0_2.view.readCov (kernelRun0_A.sl.HS2_28 arg3 arg4 arg5 x0 x1 x2) (Rect.unit (s := S8x1536x256) ![4, 1024, 0] S1x256x256.size inb_S8x1536x256_S1x256x256_4_1024_0).toLoadRect) (o := 4) (r0 := 1024) 4 rfl rfl (by omega) (kb512_at _ _ _ 4 rfl) (kb512_at _ _ _ 4 rfl) (fun x l => qs_at arg3 x0 _ 4 rfl (by omega) x l _ rfl) (m0 arg3 arg4 x0 x1 20 (by decide) 4 4 1024 rfl rfl _) (a0 arg3 arg4 arg5 x0 x1 x2 20 (by decide) 4 4 1024 rfl rfl _) inb_S8x1536x256_S1x256x256_4_1024_0,
    List.forall_mem_cons.2 ⟨piece_a_512 (M0 := fun _ _ => ⊥) (A0 := fun _ => 0) (k := kb512 arg4 x1 512 inb_S768x1024_S512x128_0_512) (v := kb512 arg5 x2 512 inb_S768x1024_S512x128_0_512) (q := qs arg3 x0 4 256 inb_S8x1536x128_S1x256x128_4_256_0) (mx := scM0_1.view.readCov (kernelRun0_A.sl.HS1_27 arg3 arg4 x0 x1) (Rect.unit (s := S8x1536x128) ![4, 256, 0] S1x256x128.size inb_S8x1536x128_S1x256x128_4_256_0).toLoadRect) (ac := scM0_2.view.readCov (kernelRun0_A.sl.HS2_27 arg3 arg4 arg5 x0 x1 x2) (Rect.unit (s := S8x1536x256) ![4, 256, 0] S1x256x256.size inb_S8x1536x256_S1x256x256_4_256_0).toLoadRect) (o := 4) (r0 := 256) 4 rfl rfl (by omega) (kb512_at _ _ _ 4 rfl) (kb512_at _ _ _ 4 rfl) (fun x l => qs_at arg3 x0 _ 4 rfl (by omega) x l _ rfl) (m0 arg3 arg4 x0 x1 21 (by decide) 4 4 256 rfl rfl _) (a0 arg3 arg4 arg5 x0 x1 x2 21 (by decide) 4 4 256 rfl rfl _) inb_S8x1536x256_S1x256x256_4_256_0,
    List.forall_mem_cons.2 ⟨piece_a_256 (M0 := fun _ _ => ⊥) (A0 := fun _ => 0) (k := kb256 arg4 x1 512 inb_S768x1024_S256x128_0_512) (v := kb256 arg5 x2 512 inb_S768x1024_S256x128_0_512) (q := qs arg3 x0 4 768 inb_S8x1536x128_S1x256x128_4_768_0) (mx := scM0_1.view.readCov (kernelRun0_A.sl.HS1_26 arg3 arg4 x0 x1) (Rect.unit (s := S8x1536x128) ![4, 768, 0] S1x256x128.size inb_S8x1536x128_S1x256x128_4_768_0).toLoadRect) (ac := scM0_2.view.readCov (kernelRun0_A.sl.HS2_26 arg3 arg4 arg5 x0 x1 x2) (Rect.unit (s := S8x1536x256) ![4, 768, 0] S1x256x256.size inb_S8x1536x256_S1x256x256_4_768_0).toLoadRect) (o := 4) (r0 := 768) 4 rfl rfl (by omega) (kb256_at _ _ _ 4 rfl) (kb256_at _ _ _ 4 rfl) (fun x l => qs_at arg3 x0 _ 4 rfl (by omega) x l _ rfl) (m0 arg3 arg4 x0 x1 22 (by decide) 4 4 768 rfl rfl _) (a0 arg3 arg4 arg5 x0 x1 x2 22 (by decide) 4 4 768 rfl rfl _) inb_S8x1536x256_S1x256x256_4_768_0,
    List.forall_mem_cons.2 ⟨piece_a_256 (M0 := fun _ _ => ⊥) (A0 := fun _ => 0) (k := kb256 arg4 x1 512 inb_S768x1024_S256x128_0_512) (v := kb256 arg5 x2 512 inb_S768x1024_S256x128_0_512) (q := qs arg3 x0 4 0 inb_S8x1536x128_S1x256x128_4_0_0) (mx := scM0_1.view.readCov (kernelRun0_A.sl.HS1_25 arg3 arg4 x0 x1) (Rect.unit (s := S8x1536x128) ![4, 0, 0] S1x256x128.size inb_S8x1536x128_S1x256x128_4_0_0).toLoadRect) (ac := scM0_2.view.readCov (kernelRun0_A.sl.HS2_25 arg3 arg4 arg5 x0 x1 x2) (Rect.unit (s := S8x1536x256) ![4, 0, 0] S1x256x256.size inb_S8x1536x256_S1x256x256_4_0_0).toLoadRect) (o := 4) (r0 := 0) 4 rfl rfl (by omega) (kb256_at _ _ _ 4 rfl) (kb256_at _ _ _ 4 rfl) (fun x l => qs_at arg3 x0 _ 4 rfl (by omega) x l _ rfl) (m0 arg3 arg4 x0 x1 23 (by decide) 4 4 0 rfl rfl _) (a0 arg3 arg4 arg5 x0 x1 x2 23 (by decide) 4 4 0 rfl rfl _) inb_S8x1536x256_S1x256x256_4_0_0,
    List.forall_mem_cons.2 ⟨piece_a_768 (M0 := fun _ _ => ⊥) (A0 := fun _ => 0) (k := kb768 arg4 x1 384 inb_S768x1024_S768x128_0_384) (v := kb768 arg5 x2 384 inb_S768x1024_S768x128_0_384) (q := qs arg3 x0 3 1280 inb_S8x1536x128_S1x256x128_3_1280_0) (mx := scM0_1.view.readCov (kernelRun0_A.sl.HS1_24 arg3 arg4 x0 x1) (Rect.unit (s := S8x1536x128) ![3, 1280, 0] S1x256x128.size inb_S8x1536x128_S1x256x128_3_1280_0).toLoadRect) (ac := scM0_2.view.readCov (kernelRun0_A.sl.HS2_24 arg3 arg4 arg5 x0 x1 x2) (Rect.unit (s := S8x1536x256) ![3, 1280, 0] S1x256x256.size inb_S8x1536x256_S1x256x256_3_1280_0).toLoadRect) (o := 3) (r0 := 1280) 3 rfl rfl (by omega) (kb768_at _ _ _ 3 rfl) (kb768_at _ _ _ 3 rfl) (fun x l => qs_at arg3 x0 _ 3 rfl (by omega) x l _ rfl) (m0 arg3 arg4 x0 x1 24 (by decide) 3 3 1280 rfl rfl _) (a0 arg3 arg4 arg5 x0 x1 x2 24 (by decide) 3 3 1280 rfl rfl _) inb_S8x1536x256_S1x256x256_3_1280_0,
    List.forall_mem_cons.2 ⟨piece_a_768 (M0 := fun _ _ => ⊥) (A0 := fun _ => 0) (k := kb768 arg4 x1 384 inb_S768x1024_S768x128_0_384) (v := kb768 arg5 x2 384 inb_S768x1024_S768x128_0_384) (q := qs arg3 x0 3 512 inb_S8x1536x128_S1x256x128_3_512_0) (mx := scM0_1.view.readCov (kernelRun0_A.sl.HS1_23 arg3 arg4 x0 x1) (Rect.unit (s := S8x1536x128) ![3, 512, 0] S1x256x128.size inb_S8x1536x128_S1x256x128_3_512_0).toLoadRect) (ac := scM0_2.view.readCov (kernelRun0_A.sl.HS2_23 arg3 arg4 arg5 x0 x1 x2) (Rect.unit (s := S8x1536x256) ![3, 512, 0] S1x256x256.size inb_S8x1536x256_S1x256x256_3_512_0).toLoadRect) (o := 3) (r0 := 512) 3 rfl rfl (by omega) (kb768_at _ _ _ 3 rfl) (kb768_at _ _ _ 3 rfl) (fun x l => qs_at arg3 x0 _ 3 rfl (by omega) x l _ rfl) (m0 arg3 arg4 x0 x1 25 (by decide) 3 3 512 rfl rfl _) (a0 arg3 arg4 arg5 x0 x1 x2 25 (by decide) 3 3 512 rfl rfl _) inb_S8x1536x256_S1x256x256_3_512_0,
    List.forall_mem_cons.2 ⟨piece_a_512 (M0 := fun _ _ => ⊥) (A0 := fun _ => 0) (k := kb512 arg4 x1 384 inb_S768x1024_S512x128_0_384) (v := kb512 arg5 x2 384 inb_S768x1024_S512x128_0_384) (q := qs arg3 x0 3 1024 inb_S8x1536x128_S1x256x128_3_1024_0) (mx := scM0_1.view.readCov (kernelRun0_A.sl.HS1_22 arg3 arg4 x0 x1) (Rect.unit (s := S8x1536x128) ![3, 1024, 0] S1x256x128.size inb_S8x1536x128_S1x256x128_3_1024_0).toLoadRect) (ac := scM0_2.view.readCov (kernelRun0_A.sl.HS2_22 arg3 arg4 arg5 x0 x1 x2) (Rect.unit (s := S8x1536x256) ![3, 1024, 0] S1x256x256.size inb_S8x1536x256_S1x256x256_3_1024_0).toLoadRect) (o := 3) (r0 := 1024) 3 rfl rfl (by omega) (kb512_at _ _ _ 3 rfl) (kb512_at _ _ _ 3 rfl) (fun x l => qs_at arg3 x0 _ 3 rfl (by omega) x l _ rfl) (m0 arg3 arg4 x0 x1 26 (by decide) 3 3 1024 rfl rfl _) (a0 arg3 arg4 arg5 x0 x1 x2 26 (by decide) 3 3 1024 rfl rfl _) inb_S8x1536x256_S1x256x256_3_1024_0,
    List.forall_mem_cons.2 ⟨piece_a_512 (M0 := fun _ _ => ⊥) (A0 := fun _ => 0) (k := kb512 arg4 x1 384 inb_S768x1024_S512x128_0_384) (v := kb512 arg5 x2 384 inb_S768x1024_S512x128_0_384) (q := qs arg3 x0 3 256 inb_S8x1536x128_S1x256x128_3_256_0) (mx := scM0_1.view.readCov (kernelRun0_A.sl.HS1_21 arg3 arg4 x0 x1) (Rect.unit (s := S8x1536x128) ![3, 256, 0] S1x256x128.size inb_S8x1536x128_S1x256x128_3_256_0).toLoadRect) (ac := scM0_2.view.readCov (kernelRun0_A.sl.HS2_21 arg3 arg4 arg5 x0 x1 x2) (Rect.unit (s := S8x1536x256) ![3, 256, 0] S1x256x256.size inb_S8x1536x256_S1x256x256_3_256_0).toLoadRect) (o := 3) (r0 := 256) 3 rfl rfl (by omega) (kb512_at _ _ _ 3 rfl) (kb512_at _ _ _ 3 rfl) (fun x l => qs_at arg3 x0 _ 3 rfl (by omega) x l _ rfl) (m0 arg3 arg4 x0 x1 27 (by decide) 3 3 256 rfl rfl _) (a0 arg3 arg4 arg5 x0 x1 x2 27 (by decide) 3 3 256 rfl rfl _) inb_S8x1536x256_S1x256x256_3_256_0,
    List.forall_mem_cons.2 ⟨piece_a_256 (M0 := fun _ _ => ⊥) (A0 := fun _ => 0) (k := kb256 arg4 x1 384 inb_S768x1024_S256x128_0_384) (v := kb256 arg5 x2 384 inb_S768x1024_S256x128_0_384) (q := qs arg3 x0 3 768 inb_S8x1536x128_S1x256x128_3_768_0) (mx := scM0_1.view.readCov (kernelRun0_A.sl.HS1_20 arg3 arg4 x0 x1) (Rect.unit (s := S8x1536x128) ![3, 768, 0] S1x256x128.size inb_S8x1536x128_S1x256x128_3_768_0).toLoadRect) (ac := scM0_2.view.readCov (kernelRun0_A.sl.HS2_20 arg3 arg4 arg5 x0 x1 x2) (Rect.unit (s := S8x1536x256) ![3, 768, 0] S1x256x256.size inb_S8x1536x256_S1x256x256_3_768_0).toLoadRect) (o := 3) (r0 := 768) 3 rfl rfl (by omega) (kb256_at _ _ _ 3 rfl) (kb256_at _ _ _ 3 rfl) (fun x l => qs_at arg3 x0 _ 3 rfl (by omega) x l _ rfl) (m0 arg3 arg4 x0 x1 28 (by decide) 3 3 768 rfl rfl _) (a0 arg3 arg4 arg5 x0 x1 x2 28 (by decide) 3 3 768 rfl rfl _) inb_S8x1536x256_S1x256x256_3_768_0,
    List.forall_mem_cons.2 ⟨piece_a_256 (M0 := fun _ _ => ⊥) (A0 := fun _ => 0) (k := kb256 arg4 x1 384 inb_S768x1024_S256x128_0_384) (v := kb256 arg5 x2 384 inb_S768x1024_S256x128_0_384) (q := qs arg3 x0 3 0 inb_S8x1536x128_S1x256x128_3_0_0) (mx := scM0_1.view.readCov (kernelRun0_A.sl.HS1_19 arg3 arg4 x0 x1) (Rect.unit (s := S8x1536x128) ![3, 0, 0] S1x256x128.size inb_S8x1536x128_S1x256x128_3_0_0).toLoadRect) (ac := scM0_2.view.readCov (kernelRun0_A.sl.HS2_19 arg3 arg4 arg5 x0 x1 x2) (Rect.unit (s := S8x1536x256) ![3, 0, 0] S1x256x256.size inb_S8x1536x256_S1x256x256_3_0_0).toLoadRect) (o := 3) (r0 := 0) 3 rfl rfl (by omega) (kb256_at _ _ _ 3 rfl) (kb256_at _ _ _ 3 rfl) (fun x l => qs_at arg3 x0 _ 3 rfl (by omega) x l _ rfl) (m0 arg3 arg4 x0 x1 29 (by decide) 3 3 0 rfl rfl _) (a0 arg3 arg4 arg5 x0 x1 x2 29 (by decide) 3 3 0 rfl rfl _) inb_S8x1536x256_S1x256x256_3_0_0,
    List.forall_mem_cons.2 ⟨piece_a_768 (M0 := fun _ _ => ⊥) (A0 := fun _ => 0) (k := kb768 arg4 x1 256 inb_S768x1024_S768x128_0_256) (v := kb768 arg5 x2 256 inb_S768x1024_S768x128_0_256) (q := qs arg3 x0 2 1280 inb_S8x1536x128_S1x256x128_2_1280_0) (mx := scM0_1.view.readCov (kernelRun0_A.sl.HS1_18 arg3 arg4 x0 x1) (Rect.unit (s := S8x1536x128) ![2, 1280, 0] S1x256x128.size inb_S8x1536x128_S1x256x128_2_1280_0).toLoadRect) (ac := scM0_2.view.readCov (kernelRun0_A.sl.HS2_18 arg3 arg4 arg5 x0 x1 x2) (Rect.unit (s := S8x1536x256) ![2, 1280, 0] S1x256x256.size inb_S8x1536x256_S1x256x256_2_1280_0).toLoadRect) (o := 2) (r0 := 1280) 2 rfl rfl (by omega) (kb768_at _ _ _ 2 rfl) (kb768_at _ _ _ 2 rfl) (fun x l => qs_at arg3 x0 _ 2 rfl (by omega) x l _ rfl) (m0 arg3 arg4 x0 x1 30 (by decide) 2 2 1280 rfl rfl _) (a0 arg3 arg4 arg5 x0 x1 x2 30 (by decide) 2 2 1280 rfl rfl _) inb_S8x1536x256_S1x256x256_2_1280_0,
    List.forall_mem_cons.2 ⟨piece_a_768 (M0 := fun _ _ => ⊥) (A0 := fun _ => 0) (k := kb768 arg4 x1 256 inb_S768x1024_S768x128_0_256) (v := kb768 arg5 x2 256 inb_S768x1024_S768x128_0_256) (q := qs arg3 x0 2 512 inb_S8x1536x128_S1x256x128_2_512_0) (mx := scM0_1.view.readCov (kernelRun0_A.sl.HS1_17 arg3 arg4 x0 x1) (Rect.unit (s := S8x1536x128) ![2, 512, 0] S1x256x128.size inb_S8x1536x128_S1x256x128_2_512_0).toLoadRect) (ac := scM0_2.view.readCov (kernelRun0_A.sl.HS2_17 arg3 arg4 arg5 x0 x1 x2) (Rect.unit (s := S8x1536x256) ![2, 512, 0] S1x256x256.size inb_S8x1536x256_S1x256x256_2_512_0).toLoadRect) (o := 2) (r0 := 512) 2 rfl rfl (by omega) (kb768_at _ _ _ 2 rfl) (kb768_at _ _ _ 2 rfl) (fun x l => qs_at arg3 x0 _ 2 rfl (by omega) x l _ rfl) (m0 arg3 arg4 x0 x1 31 (by decide) 2 2 512 rfl rfl _) (a0 arg3 arg4 arg5 x0 x1 x2 31 (by decide) 2 2 512 rfl rfl _) inb_S8x1536x256_S1x256x256_2_512_0,
    List.forall_mem_cons.2 ⟨piece_a_512 (M0 := fun _ _ => ⊥) (A0 := fun _ => 0) (k := kb512 arg4 x1 256 inb_S768x1024_S512x128_0_256) (v := kb512 arg5 x2 256 inb_S768x1024_S512x128_0_256) (q := qs arg3 x0 2 1024 inb_S8x1536x128_S1x256x128_2_1024_0) (mx := scM0_1.view.readCov (kernelRun0_A.sl.HS1_16 arg3 arg4 x0 x1) (Rect.unit (s := S8x1536x128) ![2, 1024, 0] S1x256x128.size inb_S8x1536x128_S1x256x128_2_1024_0).toLoadRect) (ac := scM0_2.view.readCov (kernelRun0_A.sl.HS2_16 arg3 arg4 arg5 x0 x1 x2) (Rect.unit (s := S8x1536x256) ![2, 1024, 0] S1x256x256.size inb_S8x1536x256_S1x256x256_2_1024_0).toLoadRect) (o := 2) (r0 := 1024) 2 rfl rfl (by omega) (kb512_at _ _ _ 2 rfl) (kb512_at _ _ _ 2 rfl) (fun x l => qs_at arg3 x0 _ 2 rfl (by omega) x l _ rfl) (m0 arg3 arg4 x0 x1 32 (by decide) 2 2 1024 rfl rfl _) (a0 arg3 arg4 arg5 x0 x1 x2 32 (by decide) 2 2 1024 rfl rfl _) inb_S8x1536x256_S1x256x256_2_1024_0,
    List.forall_mem_cons.2 ⟨piece_a_512 (M0 := fun _ _ => ⊥) (A0 := fun _ => 0) (k := kb512 arg4 x1 256 inb_S768x1024_S512x128_0_256) (v := kb512 arg5 x2 256 inb_S768x1024_S512x128_0_256) (q := qs arg3 x0 2 256 inb_S8x1536x128_S1x256x128_2_256_0) (mx := scM0_1.view.readCov (kernelRun0_A.sl.HS1_15 arg3 arg4 x0 x1) (Rect.unit (s := S8x1536x128) ![2, 256, 0] S1x256x128.size inb_S8x1536x128_S1x256x128_2_256_0).toLoadRect) (ac := scM0_2.view.readCov (kernelRun0_A.sl.HS2_15 arg3 arg4 arg5 x0 x1 x2) (Rect.unit (s := S8x1536x256) ![2, 256, 0] S1x256x256.size inb_S8x1536x256_S1x256x256_2_256_0).toLoadRect) (o := 2) (r0 := 256) 2 rfl rfl (by omega) (kb512_at _ _ _ 2 rfl) (kb512_at _ _ _ 2 rfl) (fun x l => qs_at arg3 x0 _ 2 rfl (by omega) x l _ rfl) (m0 arg3 arg4 x0 x1 33 (by decide) 2 2 256 rfl rfl _) (a0 arg3 arg4 arg5 x0 x1 x2 33 (by decide) 2 2 256 rfl rfl _) inb_S8x1536x256_S1x256x256_2_256_0,
    List.forall_mem_cons.2 ⟨piece_a_256 (M0 := fun _ _ => ⊥) (A0 := fun _ => 0) (k := kb256 arg4 x1 256 inb_S768x1024_S256x128_0_256) (v := kb256 arg5 x2 256 inb_S768x1024_S256x128_0_256) (q := qs arg3 x0 2 768 inb_S8x1536x128_S1x256x128_2_768_0) (mx := scM0_1.view.readCov (kernelRun0_A.sl.HS1_14 arg3 arg4 x0 x1) (Rect.unit (s := S8x1536x128) ![2, 768, 0] S1x256x128.size inb_S8x1536x128_S1x256x128_2_768_0).toLoadRect) (ac := scM0_2.view.readCov (kernelRun0_A.sl.HS2_14 arg3 arg4 arg5 x0 x1 x2) (Rect.unit (s := S8x1536x256) ![2, 768, 0] S1x256x256.size inb_S8x1536x256_S1x256x256_2_768_0).toLoadRect) (o := 2) (r0 := 768) 2 rfl rfl (by omega) (kb256_at _ _ _ 2 rfl) (kb256_at _ _ _ 2 rfl) (fun x l => qs_at arg3 x0 _ 2 rfl (by omega) x l _ rfl) (m0 arg3 arg4 x0 x1 34 (by decide) 2 2 768 rfl rfl _) (a0 arg3 arg4 arg5 x0 x1 x2 34 (by decide) 2 2 768 rfl rfl _) inb_S8x1536x256_S1x256x256_2_768_0,
    List.forall_mem_cons.2 ⟨piece_a_256 (M0 := fun _ _ => ⊥) (A0 := fun _ => 0) (k := kb256 arg4 x1 256 inb_S768x1024_S256x128_0_256) (v := kb256 arg5 x2 256 inb_S768x1024_S256x128_0_256) (q := qs arg3 x0 2 0 inb_S8x1536x128_S1x256x128_2_0_0) (mx := scM0_1.view.readCov (kernelRun0_A.sl.HS1_13 arg3 arg4 x0 x1) (Rect.unit (s := S8x1536x128) ![2, 0, 0] S1x256x128.size inb_S8x1536x128_S1x256x128_2_0_0).toLoadRect) (ac := scM0_2.view.readCov (kernelRun0_A.sl.HS2_13 arg3 arg4 arg5 x0 x1 x2) (Rect.unit (s := S8x1536x256) ![2, 0, 0] S1x256x256.size inb_S8x1536x256_S1x256x256_2_0_0).toLoadRect) (o := 2) (r0 := 0) 2 rfl rfl (by omega) (kb256_at _ _ _ 2 rfl) (kb256_at _ _ _ 2 rfl) (fun x l => qs_at arg3 x0 _ 2 rfl (by omega) x l _ rfl) (m0 arg3 arg4 x0 x1 35 (by decide) 2 2 0 rfl rfl _) (a0 arg3 arg4 arg5 x0 x1 x2 35 (by decide) 2 2 0 rfl rfl _) inb_S8x1536x256_S1x256x256_2_0_0,
    List.forall_mem_cons.2 ⟨piece_a_768 (M0 := fun _ _ => ⊥) (A0 := fun _ => 0) (k := kb768 arg4 x1 128 inb_S768x1024_S768x128_0_128) (v := kb768 arg5 x2 128 inb_S768x1024_S768x128_0_128) (q := qs arg3 x0 1 1280 inb_S8x1536x128_S1x256x128_1_1280_0) (mx := scM0_1.view.readCov (kernelRun0_A.sl.HS1_12 arg3 arg4 x0 x1) (Rect.unit (s := S8x1536x128) ![1, 1280, 0] S1x256x128.size inb_S8x1536x128_S1x256x128_1_1280_0).toLoadRect) (ac := scM0_2.view.readCov (kernelRun0_A.sl.HS2_12 arg3 arg4 arg5 x0 x1 x2) (Rect.unit (s := S8x1536x256) ![1, 1280, 0] S1x256x256.size inb_S8x1536x256_S1x256x256_1_1280_0).toLoadRect) (o := 1) (r0 := 1280) 1 rfl rfl (by omega) (kb768_at _ _ _ 1 rfl) (kb768_at _ _ _ 1 rfl) (fun x l => qs_at arg3 x0 _ 1 rfl (by omega) x l _ rfl) (m0 arg3 arg4 x0 x1 36 (by decide) 1 1 1280 rfl rfl _) (a0 arg3 arg4 arg5 x0 x1 x2 36 (by decide) 1 1 1280 rfl rfl _) inb_S8x1536x256_S1x256x256_1_1280_0,
    List.forall_mem_cons.2 ⟨piece_a_768 (M0 := fun _ _ => ⊥) (A0 := fun _ => 0) (k := kb768 arg4 x1 128 inb_S768x1024_S768x128_0_128) (v := kb768 arg5 x2 128 inb_S768x1024_S768x128_0_128) (q := qs arg3 x0 1 512 inb_S8x1536x128_S1x256x128_1_512_0) (mx := scM0_1.view.readCov (kernelRun0_A.sl.HS1_11 arg3 arg4 x0 x1) (Rect.unit (s := S8x1536x128) ![1, 512, 0] S1x256x128.size inb_S8x1536x128_S1x256x128_1_512_0).toLoadRect) (ac := scM0_2.view.readCov (kernelRun0_A.sl.HS2_11 arg3 arg4 arg5 x0 x1 x2) (Rect.unit (s := S8x1536x256) ![1, 512, 0] S1x256x256.size inb_S8x1536x256_S1x256x256_1_512_0).toLoadRect) (o := 1) (r0 := 512) 1 rfl rfl (by omega) (kb768_at _ _ _ 1 rfl) (kb768_at _ _ _ 1 rfl) (fun x l => qs_at arg3 x0 _ 1 rfl (by omega) x l _ rfl) (m0 arg3 arg4 x0 x1 37 (by decide) 1 1 512 rfl rfl _) (a0 arg3 arg4 arg5 x0 x1 x2 37 (by decide) 1 1 512 rfl rfl _) inb_S8x1536x256_S1x256x256_1_512_0,
    List.forall_mem_cons.2 ⟨piece_a_512 (M0 := fun _ _ => ⊥) (A0 := fun _ => 0) (k := kb512 arg4 x1 128 inb_S768x1024_S512x128_0_128) (v := kb512 arg5 x2 128 inb_S768x1024_S512x128_0_128) (q := qs arg3 x0 1 1024 inb_S8x1536x128_S1x256x128_1_1024_0) (mx := scM0_1.view.readCov (kernelRun0_A.sl.HS1_10 arg3 arg4 x0 x1) (Rect.unit (s := S8x1536x128) ![1, 1024, 0] S1x256x128.size inb_S8x1536x128_S1x256x128_1_1024_0).toLoadRect) (ac := scM0_2.view.readCov (kernelRun0_A.sl.HS2_10 arg3 arg4 arg5 x0 x1 x2) (Rect.unit (s := S8x1536x256) ![1, 1024, 0] S1x256x256.size inb_S8x1536x256_S1x256x256_1_1024_0).toLoadRect) (o := 1) (r0 := 1024) 1 rfl rfl (by omega) (kb512_at _ _ _ 1 rfl) (kb512_at _ _ _ 1 rfl) (fun x l => qs_at arg3 x0 _ 1 rfl (by omega) x l _ rfl) (m0 arg3 arg4 x0 x1 38 (by decide) 1 1 1024 rfl rfl _) (a0 arg3 arg4 arg5 x0 x1 x2 38 (by decide) 1 1 1024 rfl rfl _) inb_S8x1536x256_S1x256x256_1_1024_0,
    List.forall_mem_cons.2 ⟨piece_a_512 (M0 := fun _ _ => ⊥) (A0 := fun _ => 0) (k := kb512 arg4 x1 128 inb_S768x1024_S512x128_0_128) (v := kb512 arg5 x2 128 inb_S768x1024_S512x128_0_128) (q := qs arg3 x0 1 256 inb_S8x1536x128_S1x256x128_1_256_0) (mx := scM0_1.view.readCov (kernelRun0_A.sl.HS1_9 arg3 arg4 x0 x1) (Rect.unit (s := S8x1536x128) ![1, 256, 0] S1x256x128.size inb_S8x1536x128_S1x256x128_1_256_0).toLoadRect) (ac := scM0_2.view.readCov (kernelRun0_A.sl.HS2_9 arg3 arg4 arg5 x0 x1 x2) (Rect.unit (s := S8x1536x256) ![1, 256, 0] S1x256x256.size inb_S8x1536x256_S1x256x256_1_256_0).toLoadRect) (o := 1) (r0 := 256) 1 rfl rfl (by omega) (kb512_at _ _ _ 1 rfl) (kb512_at _ _ _ 1 rfl) (fun x l => qs_at arg3 x0 _ 1 rfl (by omega) x l _ rfl) (m0 arg3 arg4 x0 x1 39 (by decide) 1 1 256 rfl rfl _) (a0 arg3 arg4 arg5 x0 x1 x2 39 (by decide) 1 1 256 rfl rfl _) inb_S8x1536x256_S1x256x256_1_256_0,
    List.forall_mem_cons.2 ⟨piece_a_256 (M0 := fun _ _ => ⊥) (A0 := fun _ => 0) (k := kb256 arg4 x1 128 inb_S768x1024_S256x128_0_128) (v := kb256 arg5 x2 128 inb_S768x1024_S256x128_0_128) (q := qs arg3 x0 1 768 inb_S8x1536x128_S1x256x128_1_768_0) (mx := scM0_1.view.readCov (kernelRun0_A.sl.HS1_8 arg3 arg4 x0 x1) (Rect.unit (s := S8x1536x128) ![1, 768, 0] S1x256x128.size inb_S8x1536x128_S1x256x128_1_768_0).toLoadRect) (ac := scM0_2.view.readCov (kernelRun0_A.sl.HS2_8 arg3 arg4 arg5 x0 x1 x2) (Rect.unit (s := S8x1536x256) ![1, 768, 0] S1x256x256.size inb_S8x1536x256_S1x256x256_1_768_0).toLoadRect) (o := 1) (r0 := 768) 1 rfl rfl (by omega) (kb256_at _ _ _ 1 rfl) (kb256_at _ _ _ 1 rfl) (fun x l => qs_at arg3 x0 _ 1 rfl (by omega) x l _ rfl) (m0 arg3 arg4 x0 x1 40 (by decide) 1 1 768 rfl rfl _) (a0 arg3 arg4 arg5 x0 x1 x2 40 (by decide) 1 1 768 rfl rfl _) inb_S8x1536x256_S1x256x256_1_768_0,
    List.forall_mem_cons.2 ⟨piece_a_256 (M0 := fun _ _ => ⊥) (A0 := fun _ => 0) (k := kb256 arg4 x1 128 inb_S768x1024_S256x128_0_128) (v := kb256 arg5 x2 128 inb_S768x1024_S256x128_0_128) (q := qs arg3 x0 1 0 inb_S8x1536x128_S1x256x128_1_0_0) (mx := scM0_1.view.readCov (kernelRun0_A.sl.HS1_7 arg3 arg4 x0 x1) (Rect.unit (s := S8x1536x128) ![1, 0, 0] S1x256x128.size inb_S8x1536x128_S1x256x128_1_0_0).toLoadRect) (ac := scM0_2.view.readCov (kernelRun0_A.sl.HS2_7 arg3 arg4 arg5 x0 x1 x2) (Rect.unit (s := S8x1536x256) ![1, 0, 0] S1x256x256.size inb_S8x1536x256_S1x256x256_1_0_0).toLoadRect) (o := 1) (r0 := 0) 1 rfl rfl (by omega) (kb256_at _ _ _ 1 rfl) (kb256_at _ _ _ 1 rfl) (fun x l => qs_at arg3 x0 _ 1 rfl (by omega) x l _ rfl) (m0 arg3 arg4 x0 x1 41 (by decide) 1 1 0 rfl rfl _) (a0 arg3 arg4 arg5 x0 x1 x2 41 (by decide) 1 1 0 rfl rfl _) inb_S8x1536x256_S1x256x256_1_0_0,
    List.forall_mem_cons.2 ⟨piece_a_768 (M0 := fun _ _ => ⊥) (A0 := fun _ => 0) (k := kb768 arg4 x1 0 inb_S768x1024_S768x128_0_0) (v := kb768 arg5 x2 0 inb_S768x1024_S768x128_0_0) (q := qs arg3 x0 0 1280 inb_S8x1536x128_S1x256x128_0_1280_0) (mx := scM0_1.view.readCov (kernelRun0_A.sl.HS1_6 arg3 arg4 x0 x1) (Rect.unit (s := S8x1536x128) ![0, 1280, 0] S1x256x128.size inb_S8x1536x128_S1x256x128_0_1280_0).toLoadRect) (ac := scM0_2.view.readCov (kernelRun0_A.sl.HS2_6 arg3 arg4 arg5 x0 x1 x2) (Rect.unit (s := S8x1536x256) ![0, 1280, 0] S1x256x256.size inb_S8x1536x256_S1x256x256_0_1280_0).toLoadRect) (o := 0) (r0 := 1280) 0 rfl rfl (by omega) (kb768_at _ _ _ 0 rfl) (kb768_at _ _ _ 0 rfl) (fun x l => qs_at arg3 x0 _ 0 rfl (by omega) x l _ rfl) (m0 arg3 arg4 x0 x1 42 (by decide) 0 0 1280 rfl rfl _) (a0 arg3 arg4 arg5 x0 x1 x2 42 (by decide) 0 0 1280 rfl rfl _) inb_S8x1536x256_S1x256x256_0_1280_0,
    List.forall_mem_cons.2 ⟨piece_a_768 (M0 := fun _ _ => ⊥) (A0 := fun _ => 0) (k := kb768 arg4 x1 0 inb_S768x1024_S768x128_0_0) (v := kb768 arg5 x2 0 inb_S768x1024_S768x128_0_0) (q := qs arg3 x0 0 512 inb_S8x1536x128_S1x256x128_0_512_0) (mx := scM0_1.view.readCov (kernelRun0_A.sl.HS1_5 arg3 arg4 x0 x1) (Rect.unit (s := S8x1536x128) ![0, 512, 0] S1x256x128.size inb_S8x1536x128_S1x256x128_0_512_0).toLoadRect) (ac := scM0_2.view.readCov (kernelRun0_A.sl.HS2_5 arg3 arg4 arg5 x0 x1 x2) (Rect.unit (s := S8x1536x256) ![0, 512, 0] S1x256x256.size inb_S8x1536x256_S1x256x256_0_512_0).toLoadRect) (o := 0) (r0 := 512) 0 rfl rfl (by omega) (kb768_at _ _ _ 0 rfl) (kb768_at _ _ _ 0 rfl) (fun x l => qs_at arg3 x0 _ 0 rfl (by omega) x l _ rfl) (m0 arg3 arg4 x0 x1 43 (by decide) 0 0 512 rfl rfl _) (a0 arg3 arg4 arg5 x0 x1 x2 43 (by decide) 0 0 512 rfl rfl _) inb_S8x1536x256_S1x256x256_0_512_0,
    List.forall_mem_cons.2 ⟨piece_a_512 (M0 := fun _ _ => ⊥) (A0 := fun _ => 0) (k := kb512 arg4 x1 0 inb_S768x1024_S512x128_0_0) (v := kb512 arg5 x2 0 inb_S768x1024_S512x128_0_0) (q := qs arg3 x0 0 1024 inb_S8x1536x128_S1x256x128_0_1024_0) (mx := scM0_1.view.readCov (kernelRun0_A.sl.HS1_4 arg3 arg4 x0 x1) (Rect.unit (s := S8x1536x128) ![0, 1024, 0] S1x256x128.size inb_S8x1536x128_S1x256x128_0_1024_0).toLoadRect) (ac := scM0_2.view.readCov (kernelRun0_A.sl.HS2_4 arg3 arg4 arg5 x0 x1 x2) (Rect.unit (s := S8x1536x256) ![0, 1024, 0] S1x256x256.size inb_S8x1536x256_S1x256x256_0_1024_0).toLoadRect) (o := 0) (r0 := 1024) 0 rfl rfl (by omega) (kb512_at _ _ _ 0 rfl) (kb512_at _ _ _ 0 rfl) (fun x l => qs_at arg3 x0 _ 0 rfl (by omega) x l _ rfl) (m0 arg3 arg4 x0 x1 44 (by decide) 0 0 1024 rfl rfl _) (a0 arg3 arg4 arg5 x0 x1 x2 44 (by decide) 0 0 1024 rfl rfl _) inb_S8x1536x256_S1x256x256_0_1024_0,
    List.forall_mem_cons.2 ⟨piece_a_512 (M0 := fun _ _ => ⊥) (A0 := fun _ => 0) (k := kb512 arg4 x1 0 inb_S768x1024_S512x128_0_0) (v := kb512 arg5 x2 0 inb_S768x1024_S512x128_0_0) (q := qs arg3 x0 0 256 inb_S8x1536x128_S1x256x128_0_256_0) (mx := scM0_1.view.readCov (kernelRun0_A.sl.HS1_3 arg3 arg4 x0 x1) (Rect.unit (s := S8x1536x128) ![0, 256, 0] S1x256x128.size inb_S8x1536x128_S1x256x128_0_256_0).toLoadRect) (ac := scM0_2.view.readCov (kernelRun0_A.sl.HS2_3 arg3 arg4 arg5 x0 x1 x2) (Rect.unit (s := S8x1536x256) ![0, 256, 0] S1x256x256.size inb_S8x1536x256_S1x256x256_0_256_0).toLoadRect) (o := 0) (r0 := 256) 0 rfl rfl (by omega) (kb512_at _ _ _ 0 rfl) (kb512_at _ _ _ 0 rfl) (fun x l => qs_at arg3 x0 _ 0 rfl (by omega) x l _ rfl) (m0 arg3 arg4 x0 x1 45 (by decide) 0 0 256 rfl rfl _) (a0 arg3 arg4 arg5 x0 x1 x2 45 (by decide) 0 0 256 rfl rfl _) inb_S8x1536x256_S1x256x256_0_256_0,
    List.forall_mem_cons.2 ⟨piece_a_256 (M0 := fun _ _ => ⊥) (A0 := fun _ => 0) (k := kb256 arg4 x1 0 inb_S768x1024_S256x128_0_0) (v := kb256 arg5 x2 0 inb_S768x1024_S256x128_0_0) (q := qs arg3 x0 0 768 inb_S8x1536x128_S1x256x128_0_768_0) (mx := scM0_1.view.readCov (kernelRun0_A.sl.HS1_2 arg3 arg4 x0 x1) (Rect.unit (s := S8x1536x128) ![0, 768, 0] S1x256x128.size inb_S8x1536x128_S1x256x128_0_768_0).toLoadRect) (ac := scM0_2.view.readCov (kernelRun0_A.sl.HS2_2 arg3 arg4 arg5 x0 x1 x2) (Rect.unit (s := S8x1536x256) ![0, 768, 0] S1x256x256.size inb_S8x1536x256_S1x256x256_0_768_0).toLoadRect) (o := 0) (r0 := 768) 0 rfl rfl (by omega) (kb256_at _ _ _ 0 rfl) (kb256_at _ _ _ 0 rfl) (fun x l => qs_at arg3 x0 _ 0 rfl (by omega) x l _ rfl) (m0 arg3 arg4 x0 x1 46 (by decide) 0 0 768 rfl rfl _) (a0 arg3 arg4 arg5 x0 x1 x2 46 (by decide) 0 0 768 rfl rfl _) inb_S8x1536x256_S1x256x256_0_768_0,
    List.forall_mem_cons.2 ⟨piece_a_256 (M0 := fun _ _ => ⊥) (A0 := fun _ => 0) (k := kb256 arg4 x1 0 inb_S768x1024_S256x128_0_0) (v := kb256 arg5 x2 0 inb_S768x1024_S256x128_0_0) (q := qs arg3 x0 0 0 inb_S8x1536x128_S1x256x128_0_0_0) (mx := scM0_1.view.readCov (kernelRun0_A.sl.HS1_1) (Rect.unit (s := S8x1536x128) ![0, 0, 0] S1x256x128.size inb_S8x1536x128_S1x256x128_0_0_0).toLoadRect) (ac := scM0_2.view.readCov (kernelRun0_A.sl.HS2_1) (Rect.unit (s := S8x1536x256) ![0, 0, 0] S1x256x256.size inb_S8x1536x256_S1x256x256_0_0_0).toLoadRect) (o := 0) (r0 := 0) 0 rfl rfl (by omega) (kb256_at _ _ _ 0 rfl) (kb256_at _ _ _ 0 rfl) (fun x l => qs_at arg3 x0 _ 0 rfl (by omega) x l _ rfl) (m0 arg3 arg4 x0 x1 47 (by decide) 0 0 0 rfl rfl _) (a0 arg3 arg4 arg5 x0 x1 x2 47 (by decide) 0 0 0 rfl rfl _) inb_S8x1536x256_S1x256x256_0_0_0,
    List.forall_mem_nil _⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

end A

end Cert.KernelIdeal.Attn

end
-- ==== Proof.AttnB.lean ====
/-
  The attention at a point off the diagonal that is the first of its row of blocks: what the scratch arrays hold afterwards.
-/
module

public import proofs.«01_k».proof.Proof.AttnInit
public import proofs.«01_k».proof.Proof.AttnC

@[expose] public section

set_option maxRecDepth 65536

noncomputable section

namespace Cert.KernelIdeal.Attn

open Cert.KernelIdeal Cert.KernelIdeal.Gen
open Idealize.ShloMosaic Idealize.ShloMosaic.TcCoe
open scoped BigOperators

namespace B

variable (arg3 arg4 arg5 : Memref sig .tc .vmem S768x1024 .bf16) (x0 x1 x2 : Vec Ideal S768x1024 .bf16)

set_option maxHeartbeats 4000000

theorem slabs_m : List.Forall₂ (IsSlab 128 1536) heads ((kernelRun0_B.sl.HS1_9 arg3 arg4 x0 x1).take heads.length) :=
  .cons (fun _ => rfl) (.cons (fun _ => rfl) (.cons (fun _ => rfl) (.cons (fun _ => rfl) (.cons (fun _ => rfl) (.cons (fun _ => rfl) (.cons (fun _ => rfl) (.cons (fun _ => rfl) (.nil))))))))

theorem slabs_a : List.Forall₂ (IsSlab 256 1536) heads ((kernelRun0_B.sl.HS2_9 arg3 arg4 arg5 x0 x1 x2).take heads.length) :=
  .cons (fun _ => rfl) (.cons (fun _ => rfl) (.cons (fun _ => rfl) (.cons (fun _ => rfl) (.cons (fun _ => rfl) (.cons (fun _ => rfl) (.cons (fun _ => rfl) (.cons (fun _ => rfl) (.nil))))))))

theorem m0 (j : ℕ) (hj : j < heads.length) (h : Fin 8) (o r0 : ℕ) (he : heads[j] = (o, r0)) (ho : o = h.val) (inb) (x : Fin 1536) (l : Fin 128) :
    scM0_1.view.readCov ((kernelRun0_B.sl.HS1_9 arg3 arg4 x0 x1).drop (j + 1)) (Rect.unit (s := S8x1536x128) ![o, r0, 0] S1x1536x128.size inb).toLoadRect (ix3 0 x l) = ⊥ :=
  fresh heads _ (slabs_m arg3 arg4 x0 x1) heads_in heads_al heads_nd ⊥ (start_m _) _ j hj h o r0 he ho inb x l

theorem a0 (j : ℕ) (hj : j < heads.length) (h : Fin 8) (o r0 : ℕ) (he : heads[j] = (o, r0)) (ho : o = h.val) (inb) (x : Fin 1536) (l : Fin 256) :
    scM0_2.view.readCov ((kernelRun0_B.sl.HS2_9 arg3 arg4 arg5 x0 x1 x2).drop (j + 1)) (Rect.unit (s := S8x1536x256) ![o, r0, 0] S1x1536x256.size inb).toLoadRect (ix3 0 x l) = 0 :=
  fresh heads _ (slabs_a arg3 arg4 arg5 x0 x1 x2) heads_in heads_al heads_nd 0 (start_a _) _ j hj h o r0 he ho inb x l

/-- 1536 rows of one head of the queries. -/
abbrev qs (o r0 : ℕ) (inb : ∀ i, (![o, r0, 0] : Fin 3 → ℕ) i + S1x1536x128.size i ≤ S8x1536x128.size i) : Vec Ideal S1x1536x128 .bf16 :=
  scM0_0.view.readCov (kernelRun0_B.sl.HS0_16 arg3 x0) (Rect.unit (s := S8x1536x128) ![o, r0, 0] S1x1536x128.size inb).toLoadRect

theorem qs_at {o r0 : ℕ} (inb) (h : Fin 8) (ho : o = h.val) (h1 : r0 + 1536 ≤ 1536) (x : Fin 1536) (l : Fin 128) (r : Fin 1536) (hr : r.val = r0 + x.val) :
    qs arg3 x0 o r0 inb (ix3 0 x l) = QGa x0 (ix3 h r l) :=
  (ldc3 _ _ _ x l h r l ho hr rfl).trans (canon_qB arg3 x0 _)

theorem canon_m (y : S8x1536x128.Idx) :
    View.canon (kernelRun0_B.sl.HS1_9 arg3 arg4 x0 x1) y = GMa false (QGa x0) x1 (fun _ _ => ⊥) y := by
  refine canon_first (e := .f32) (GMa false (QGa x0) x1 (fun _ _ => ⊥)) heads.length _ ?_ y (cover_slabs (by omega : 0 < 1536) heads _ (slabs_m arg3 arg4 x0 x1) heads_all heads_in y)
  exact List.forall_mem_cons.2 ⟨piece_m_full (M0 := fun _ _ => ⊥) (k := kb768 arg4 x1 896 inb_S768x1024_S768x128_0_896) (q := qs arg3 x0 7 0 inb_S8x1536x128_S1x1536x128_7_0_0) (mx := scM0_1.view.readCov (kernelRun0_B.sl.HS1_8 arg3 arg4 x0 x1) (Rect.unit (s := S8x1536x128) ![7, 0, 0] S1x1536x128.size inb_S8x1536x128_S1x1536x128_7_0_0).toLoadRect) (o := 7) 7 rfl (kb768_at _ _ _ 7 rfl) (fun x l => qs_at arg3 x0 _ 7 rfl (by omega) x l x (Nat.zero_add _).symm) (m0 arg3 arg4 x0 x1 0 (by decide) 7 7 0 rfl rfl _) inb_S8x1536x128_S1x1536x128_7_0_0,
    List.forall_mem_cons.2 ⟨piece_m_full (M0 := fun _ _ => ⊥) (k := kb768 arg4 x1 768 inb_S768x1024_S768x128_0_768) (q := qs arg3 x0 6 0 inb_S8x1536x128_S1x1536x128_6_0_0) (mx := scM0_1.view.readCov (kernelRun0_B.sl.HS1_7 arg3 arg4 x0 x1) (Rect.unit (s := S8x1536x128) ![6, 0, 0] S1x1536x128.size inb_S8x1536x128_S1x1536x128_6_0_0).toLoadRect) (o := 6) 6 rfl (kb768_at _ _ _ 6 rfl) (fun x l => qs_at arg3 x0 _ 6 rfl (by omega) x l x (Nat.zero_add _).symm) (m0 arg3 arg4 x0 x1 1 (by decide) 6 6 0 rfl rfl _) inb_S8x1536x128_S1x1536x128_6_0_0,
    List.forall_mem_cons.2 ⟨piece_m_full (M0 := fun _ _ => ⊥) (k := kb768 arg4 x1 640 inb_S768x1024_S768x128_0_640) (q := qs arg3 x0 5 0 inb_S8x1536x128_S1x1536x128_5_0_0) (mx := scM0_1.view.readCov (kernelRun0_B.sl.HS1_6 arg3 arg4 x0 x1) (Rect.unit (s := S8x1536x128) ![5, 0, 0] S1x1536x128.size inb_S8x1536x128_S1x1536x128_5_0_0).toLoadRect) (o := 5) 5 rfl (kb768_at _ _ _ 5 rfl) (fun x l => qs_at arg3 x0 _ 5 rfl (by omega) x l x (Nat.zero_add _).symm) (m0 arg3 arg4 x0 x1 2 (by decide) 5 5 0 rfl rfl _) inb_S8x1536x128_S1x1536x128_5_0_0,
    List.forall_mem_cons.2 ⟨piece_m_full (M0 := fun _ _ => ⊥) (k := kb768 arg4 x1 512 inb_S768x1024_S768x128_0_512) (q := qs arg3 x0 4 0 inb_S8x1536x128_S1x1536x128_4_0_0) (mx := scM0_1.view.readCov (kernelRun0_B.sl.HS1_5 arg3 arg4 x0 x1) (Rect.unit (s := S8x1536x128) ![4, 0, 0] S1x1536x128.size inb_S8x1536x128_S1x1536x128_4_0_0).toLoadRect) (o := 4) 4 rfl (kb768_at _ _ _ 4 rfl) (fun x l => qs_at arg3 x0 _ 4 rfl (by omega) x l x (Nat.zero_add _).symm) (m0 arg3 arg4 x0 x1 3 (by decide) 4 4 0 rfl rfl _) inb_S8x1536x128_S1x1536x128_4_0_0,
    List.forall_mem_cons.2 ⟨piece_m_full (M0 := fun _ _ => ⊥) (k := kb768 arg4 x1 384 inb_S768x1024_S768x128_0_384) (q := qs arg3 x0 3 0 inb_S8x1536x128_S1x1536x128_3_0_0) (mx := scM0_1.view.readCov (kernelRun0_B.sl.HS1_4 arg3 arg4 x0 x1) (Rect.unit (s := S8x1536x128) ![3, 0, 0] S1x1536x128.size inb_S8x1536x128_S1x1536x128_3_0_0).toLoadRect) (o := 3) 3 rfl (kb768_at _ _ _ 3 rfl) (fun x l => qs_at arg3 x0 _ 3 rfl (by omega) x l x (Nat.zero_add _).symm) (m0 arg3 arg4 x0 x1 4 (by decide) 3 3 0 rfl rfl _) inb_S8x1536x128_S1x1536x128_3_0_0,
    List.forall_mem_cons.2 ⟨piece_m_full (M0 := fun _ _ => ⊥) (k := kb768 arg4 x1 256 inb_S768x1024_S768x128_0_256) (q := qs arg3 x0 2 0 inb_S8x1536x128_S1x1536x128_2_0_0) (mx := scM0_1.view.readCov (kernelRun0_B.sl.HS1_3 arg3 arg4 x0 x1) (Rect.unit (s := S8x1536x128) ![2, 0, 0] S1x1536x128.size inb_S8x1536x128_S1x1536x128_2_0_0).toLoadRect) (o := 2) 2 rfl (kb768_at _ _ _ 2 rfl) (fun x l => qs_at arg3 x0 _ 2 rfl (by omega) x l x (Nat.zero_add _).symm) (m0 arg3 arg4 x0 x1 5 (by decide) 2 2 0 rfl rfl _) inb_S8x1536x128_S1x1536x128_2_0_0,
    List.forall_mem_cons.2 ⟨piece_m_full (M0 := fun _ _ => ⊥) (k := kb768 arg4 x1 128 inb_S768x1024_S768x128_0_128) (q := qs arg3 x0 1 0 inb_S8x1536x128_S1x1536x128_1_0_0) (mx := scM0_1.view.readCov (kernelRun0_B.sl.HS1_2 arg3 arg4 x0 x1) (Rect.unit (s := S8x1536x128) ![1, 0, 0] S1x1536x128.size inb_S8x1536x128_S1x1536x128_1_0_0).toLoadRect) (o := 1) 1 rfl (kb768_at _ _ _ 1 rfl) (fun x l => qs_at arg3 x0 _ 1 rfl (by omega) x l x (Nat.zero_add _).symm) (m0 arg3 arg4 x0 x1 6 (by decide) 1 1 0 rfl rfl _) inb_S8x1536x128_S1x1536x128_1_0_0,
    List.forall_mem_cons.2 ⟨piece_m_full (M0 := fun _ _ => ⊥) (k := kb768 arg4 x1 0 inb_S768x1024_S768x128_0_0) (q := qs arg3 x0 0 0 inb_S8x1536x128_S1x1536x128_0_0_0) (mx := scM0_1.view.readCov (kernelRun0_B.sl.HS1_1) (Rect.unit (s := S8x1536x128) ![0, 0, 0] S1x1536x128.size inb_S8x1536x128_S1x1536x128_0_0_0).toLoadRect) (o := 0) 0 rfl (kb768_at _ _ _ 0 rfl) (fun x l => qs_at arg3 x0 _ 0 rfl (by omega) x l x (Nat.zero_add _).symm) (m0 arg3 arg4 x0 x1 7 (by decide) 0 0 0 rfl rfl _) inb_S8x1536x128_S1x1536x128_0_0_0,
    List.forall_mem_nil _⟩⟩⟩⟩⟩⟩⟩⟩

theorem canon_a (y : S8x1536x256.Idx) :
    View.canon (kernelRun0_B.sl.HS2_9 arg3 arg4 arg5 x0 x1 x2) y = GAa false (QGa x0) x1 x2 (fun _ _ => ⊥) (fun _ => 0) y := by
  refine canon_first (e := .f32) (GAa false (QGa x0) x1 x2 (fun _ _ => ⊥) (fun _ => 0)) heads.length _ ?_ y (cover_slabs (by omega : 0 < 1536) heads _ (slabs_a arg3 arg4 arg5 x0 x1 x2) heads_all heads_in y)
  exact List.forall_mem_cons.2 ⟨piece_a_full (M0 := fun _ _ => ⊥) (A0 := fun _ => 0) (k := kb768 arg4 x1 896 inb_S768x1024_S768x128_0_896) (v := kb768 arg5 x2 896 inb_S768x1024_S768x128_0_896) (q := qs arg3 x0 7 0 inb_S8x1536x128_S1x1536x128_7_0_0) (mx := scM0_1.view.readCov (kernelRun0_B.sl.HS1_8 arg3 arg4 x0 x1) (Rect.unit (s := S8x1536x128) ![7, 0, 0] S1x1536x128.size inb_S8x1536x128_S1x1536x128_7_0_0).toLoadRect) (ac := scM0_2.view.readCov (kernelRun0_B.sl.HS2_8 arg3 arg4 arg5 x0 x1 x2) (Rect.unit (s := S8x1536x256) ![7, 0, 0] S1x1536x256.size inb_S8x1536x256_S1x1536x256_7_0_0).toLoadRect) (o := 7) 7 rfl (kb768_at _ _ _ 7 rfl) (kb768_at _ _ _ 7 rfl) (fun x l => qs_at arg3 x0 _ 7 rfl (by omega) x l x (Nat.zero_add _).symm) (m0 arg3 arg4 x0 x1 0 (by decide) 7 7 0 rfl rfl _) (a0 arg3 arg4 arg5 x0 x1 x2 0 (by decide) 7 7 0 rfl rfl _) inb_S8x1536x256_S1x1536x256_7_0_0,
    List.forall_mem_cons.2 ⟨piece_a_full (M0 := fun _ _ => ⊥) (A0 := fun _ => 0) (k := kb768 arg4 x1 768 inb_S768x1024_S768x128_0_768) (v := kb768 arg5 x2 768 inb_S768x1024_S768x128_0_768) (q := qs arg3 x0 6 0 inb_S8x1536x128_S1x1536x128_6_0_0) (mx := scM0_1.view.readCov (kernelRun0_B.sl.HS1_7 arg3 arg4 x0 x1) (Rect.unit (s := S8x1536x128) ![6, 0, 0] S1x1536x128.size inb_S8x1536x128_S1x1536x128_6_0_0).toLoadRect) (ac := scM0_2.view.readCov (kernelRun0_B.sl.HS2_7 arg3 arg4 arg5 x0 x1 x2) (Rect.unit (s := S8x1536x256) ![6, 0, 0] S1x1536x256.size inb_S8x1536x256_S1x1536x256_6_0_0).toLoadRect) (o := 6) 6 rfl (kb768_at _ _ _ 6 rfl) (kb768_at _ _ _ 6 rfl) (fun x l => qs_at arg3 x0 _ 6 rfl (by omega) x l x (Nat.zero_add _).symm) (m0 arg3 arg4 x0 x1 1 (by decide) 6 6 0 rfl rfl _) (a0 arg3 arg4 arg5 x0 x1 x2 1 (by decide) 6 6 0 rfl rfl _) inb_S8x1536x256_S1x1536x256_6_0_0,
    List.forall_mem_cons.2 ⟨piece_a_full (M0 := fun _ _ => ⊥) (A0 := fun _ => 0) (k := kb768 arg4 x1 640 inb_S768x1024_S768x128_0_640) (v := kb768 arg5 x2 640 inb_S768x1024_S768x128_0_640) (q := qs arg3 x0 5 0 inb_S8x1536x128_S1x1536x128_5_0_0) (mx := scM0_1.view.readCov (kernelRun0_B.sl.HS1_6 arg3 arg4 x0 x1) (Rect.unit (s := S8x1536x128) ![5, 0, 0] S1x1536x128.size inb_S8x1536x128_S1x1536x128_5_0_0).toLoadRect) (ac := scM0_2.view.readCov (kernelRun0_B.sl.HS2_6 arg3 arg4 arg5 x0 x1 x2) (Rect.unit (s := S8x1536x256) ![5, 0, 0] S1x1536x256.size inb_S8x1536x256_S1x1536x256_5_0_0).toLoadRect) (o := 5) 5 rfl (kb768_at _ _ _ 5 rfl) (kb768_at _ _ _ 5 rfl) (fun x l => qs_at arg3 x0 _ 5 rfl (by omega) x l x (Nat.zero_add _).symm) (m0 arg3 arg4 x0 x1 2 (by decide) 5 5 0 rfl rfl _) (a0 arg3 arg4 arg5 x0 x1 x2 2 (by decide) 5 5 0 rfl rfl _) inb_S8x1536x256_S1x1536x256_5_0_0,
    List.forall_mem_cons.2 ⟨piece_a_full (M0 := fun _ _ => ⊥) (A0 := fun _ => 0) (k := kb768 arg4 x1 512 inb_S768x1024_S768x128_0_512) (v := kb768 arg5 x2 512 inb_S768x1024_S768x128_0_512) (q := qs arg3 x0 4 0 inb_S8x1536x128_S1x1536x128_4_0_0) (mx := scM0_1.view.readCov (kernelRun0_B.sl.HS1_5 arg3 arg4 x0 x1) (Rect.unit (s := S8x1536x128) ![4, 0, 0] S1x1536x128.size inb_S8x1536x128_S1x1536x128_4_0_0).toLoadRect) (ac := scM0_2.view.readCov (kernelRun0_B.sl.HS2_5 arg3 arg4 arg5 x0 x1 x2) (Rect.unit (s := S8x1536x256) ![4, 0, 0] S1x1536x256.size inb_S8x1536x256_S1x1536x256_4_0_0).toLoadRect) (o := 4) 4 rfl (kb768_at _ _ _ 4 rfl) (kb768_at _ _ _ 4 rfl) (fun x l => qs_at arg3 x0 _ 4 rfl (by omega) x l x (Nat.zero_add _).symm) (m0 arg3 arg4 x0 x1 3 (by decide) 4 4 0 rfl rfl _) (a0 arg3 arg4 arg5 x0 x1 x2 3 (by decide) 4 4 0 rfl rfl _) inb_S8x1536x256_S1x1536x256_4_0_0,
    List.forall_mem_cons.2 ⟨piece_a_full (M0 := fun _ _ => ⊥) (A0 := fun _ => 0) (k := kb768 arg4 x1 384 inb_S768x1024_S768x128_0_384) (v := kb768 arg5 x2 384 inb_S768x1024_S768x128_0_384) (q := qs arg3 x0 3 0 inb_S8x1536x128_S1x1536x128_3_0_0) (mx := scM0_1.view.readCov (kernelRun0_B.sl.HS1_4 arg3 arg4 x0 x1) (Rect.unit (s := S8x1536x128) ![3, 0, 0] S1x1536x128.size inb_S8x1536x128_S1x1536x128_3_0_0).toLoadRect) (ac := scM0_2.view.readCov (kernelRun0_B.sl.HS2_4 arg3 arg4 arg5 x0 x1 x2) (Rect.unit (s := S8x1536x256) ![3, 0, 0] S1x1536x256.size inb_S8x1536x256_S1x1536x256_3_0_0).toLoadRect) (o := 3) 3 rfl (kb768_at _ _ _ 3 rfl) (kb768_at _ _ _ 3 rfl) (fun x l => qs_at arg3 x0 _ 3 rfl (by omega) x l x (Nat.zero_add _).symm) (m0 arg3 arg4 x0 x1 4 (by decide) 3 3 0 rfl rfl _) (a0 arg3 arg4 arg5 x0 x1 x2 4 (by decide) 3 3 0 rfl rfl _) inb_S8x1536x256_S1x1536x256_3_0_0,
    List.forall_mem_cons.2 ⟨piece_a_full (M0 := fun _ _ => ⊥) (A0 := fun _ => 0) (k := kb768 arg4 x1 256 inb_S768x1024_S768x128_0_256) (v := kb768 arg5 x2 256 inb_S768x1024_S768x128_0_256) (q := qs arg3 x0 2 0 inb_S8x1536x128_S1x1536x128_2_0_0) (mx := scM0_1.view.readCov (kernelRun0_B.sl.HS1_3 arg3 arg4 x0 x1) (Rect.unit (s := S8x1536x128) ![2, 0, 0] S1x1536x128.size inb_S8x1536x128_S1x1536x128_2_0_0).toLoadRect) (ac := scM0_2.view.readCov (kernelRun0_B.sl.HS2_3 arg3 arg4 arg5 x0 x1 x2) (Rect.unit (s := S8x1536x256) ![2, 0, 0] S1x1536x256.size inb_S8x1536x256_S1x1536x256_2_0_0).toLoadRect) (o := 2) 2 rfl (kb768_at _ _ _ 2 rfl) (kb768_at _ _ _ 2 rfl) (fun x l => qs_at arg3 x0 _ 2 rfl (by omega) x l x (Nat.zero_add _).symm) (m0 arg3 arg4 x0 x1 5 (by decide) 2 2 0 rfl rfl _) (a0 arg3 arg4 arg5 x0 x1 x2 5 (by decide) 2 2 0 rfl rfl _) inb_S8x1536x256_S1x1536x256_2_0_0,
    List.forall_mem_cons.2 ⟨piece_a_full (M0 := fun _ _ => ⊥) (A0 := fun _ => 0) (k := kb768 arg4 x1 128 inb_S768x1024_S768x128_0_128) (v := kb768 arg5 x2 128 inb_S768x1024_S768x128_0_128) (q := qs arg3 x0 1 0 inb_S8x1536x128_S1x1536x128_1_0_0) (mx := scM0_1.view.readCov (kernelRun0_B.sl.HS1_2 arg3 arg4 x0 x1) (Rect.unit (s := S8x1536x128) ![1, 0, 0] S1x1536x128.size inb_S8x1536x128_S1x1536x128_1_0_0).toLoadRect) (ac := scM0_2.view.readCov (kernelRun0_B.sl.HS2_2 arg3 arg4 arg5 x0 x1 x2) (Rect.unit (s := S8x1536x256) ![1, 0, 0] S1x1536x256.size inb_S8x1536x256_S1x1536x256_1_0_0).toLoadRect) (o := 1) 1 rfl (kb768_at _ _ _ 1 rfl) (kb768_at _ _ _ 1 rfl) (fun x l => qs_at arg3 x0 _ 1 rfl (by omega) x l x (Nat.zero_add _).symm) (m0 arg3 arg4 x0 x1 6 (by decide) 1 1 0 rfl rfl _) (a0 arg3 arg4 arg5 x0 x1 x2 6 (by decide) 1 1 0 rfl rfl _) inb_S8x1536x256_S1x1536x256_1_0_0,
    List.forall_mem_cons.2 ⟨piece_a_full (M0 := fun _ _ => ⊥) (A0 := fun _ => 0) (k := kb768 arg4 x1 0 inb_S768x1024_S768x128_0_0) (v := kb768 arg5 x2 0 inb_S768x1024_S768x128_0_0) (q := qs arg3 x0 0 0 inb_S8x1536x128_S1x1536x128_0_0_0) (mx := scM0_1.view.readCov (kernelRun0_B.sl.HS1_1) (Rect.unit (s := S8x1536x128) ![0, 0, 0] S1x1536x128.size inb_S8x1536x128_S1x1536x128_0_0_0).toLoadRect) (ac := scM0_2.view.readCov (kernelRun0_B.sl.HS2_1) (Rect.unit (s := S8x1536x256) ![0, 0, 0] S1x1536x256.size inb_S8x1536x256_S1x1536x256_0_0_0).toLoadRect) (o := 0) 0 rfl (kb768_at _ _ _ 0 rfl) (kb768_at _ _ _ 0 rfl) (fun x l => qs_at arg3 x0 _ 0 rfl (by omega) x l x (Nat.zero_add _).symm) (m0 arg3 arg4 x0 x1 7 (by decide) 0 0 0 rfl rfl _) (a0 arg3 arg4 arg5 x0 x1 x2 7 (by decide) 0 0 0 rfl rfl _) inb_S8x1536x256_S1x1536x256_0_0_0,
    List.forall_mem_nil _⟩⟩⟩⟩⟩⟩⟩⟩

end B

end Cert.KernelIdeal.Attn

end
-- ==== Proof.AttnD.lean ====
/-
  The attention at a point off the diagonal, after the first of its row of blocks: what the scratch arrays hold afterwards.
-/
module

public import proofs.«01_k».proof.Proof.AttnStep

@[expose] public section

set_option maxRecDepth 65536

noncomputable section

namespace Cert.KernelIdeal.Attn

open Cert.KernelIdeal Cert.KernelIdeal.Gen
open Idealize.ShloMosaic Idealize.ShloMosaic.TcCoe
open scoped BigOperators

variable (c : Dev nD) (arg4 arg5 : Memref sig .tc .vmem S768x1024 .bf16) (x1 x2 : Vec Ideal S768x1024 .bf16)
  (xa0 : Buf (Elt Ideal) ((c : Thread nD τ).loc cc0_scratch0)) (xa1 : Buf (Elt Ideal) ((c : Thread nD τ).loc cc0_scratch1))
  (xa2 : Buf (Elt Ideal) ((c : Thread nD τ).loc cc0_scratch2)) (M0 : Fin 8 → Fin 1536 → EReal)

include c in
theorem canon_mD (hM : ∀ h r l, scM0_1.view.read (Elt Ideal) xa1 (ix3 h r l) = M0 h r) (y : S8x1536x128.Idx) :
    View.canon (kernelRun0_D.sl.HS1_8 c arg4 x1 xa0 xa1) y = GMa false (scM0_0.view.read (Elt Ideal) xa0) x1 M0 y := by
  refine canon_first (e := .f32) (GMa false (scM0_0.view.read (Elt Ideal) xa0) x1 M0) 8 _ ?_ y (cover_slabs (by omega : 0 < 1536) heads _ ?_ heads_all heads_in y)
  · exact List.forall_mem_cons.2 ⟨piece_m_full (k := (View.readAt (Elt Ideal) arg4.view (Rect.unit (s := S768x1024) ![0, 896] S768x128.size inb_S768x1024_S768x128_0_896).toLoadRect (arg4.view.rep x1))) (q := (View.readAt (Elt Ideal) scM0_0.view (Rect.unit (s := S8x1536x128) ![7, 0, 0] S1x1536x128.size inb_S8x1536x128_S1x1536x128_7_0_0).toLoadRect xa0)) (mx := (View.readAt (Elt Ideal) scM0_1.view (Rect.unit (s := S8x1536x128) ![7, 0, 0] S1x1536x128.size inb_S8x1536x128_S1x1536x128_7_0_0).toLoadRect xa1)) (o := 7) 7 rfl (fun x l => ld2 _ _ _ x l x (col 7 l) rfl rfl) (fun x l => ld3 _ _ _ x l 7 x l rfl (Nat.zero_add _).symm rfl) (fun x l => (ld3 _ _ _ x l 7 x l rfl (Nat.zero_add _).symm rfl).trans (hM _ _ _)) inb_S8x1536x128_S1x1536x128_7_0_0,
    List.forall_mem_cons.2 ⟨piece_m_full (k := (View.readAt (Elt Ideal) arg4.view (Rect.unit (s := S768x1024) ![0, 768] S768x128.size inb_S768x1024_S768x128_0_768).toLoadRect (arg4.view.rep x1))) (q := (View.readAt (Elt Ideal) scM0_0.view (Rect.unit (s := S8x1536x128) ![6, 0, 0] S1x1536x128.size inb_S8x1536x128_S1x1536x128_6_0_0).toLoadRect xa0)) (mx := (View.readAt (Elt Ideal) scM0_1.view (Rect.unit (s := S8x1536x128) ![6, 0, 0] S1x1536x128.size inb_S8x1536x128_S1x1536x128_6_0_0).toLoadRect xa1)) (o := 6) 6 rfl (fun x l => ld2 _ _ _ x l x (col 6 l) rfl rfl) (fun x l => ld3 _ _ _ x l 6 x l rfl (Nat.zero_add _).symm rfl) (fun x l => (ld3 _ _ _ x l 6 x l rfl (Nat.zero_add _).symm rfl).trans (hM _ _ _)) inb_S8x1536x128_S1x1536x128_6_0_0,
    List.forall_mem_cons.2 ⟨piece_m_full (k := (View.readAt (Elt Ideal) arg4.view (Rect.unit (s := S768x1024) ![0, 640] S768x128.size inb_S768x1024_S768x128_0_640).toLoadRect (arg4.view.rep x1))) (q := (View.readAt (Elt Ideal) scM0_0.view (Rect.unit (s := S8x1536x128) ![5, 0, 0] S1x1536x128.size inb_S8x1536x128_S1x1536x128_5_0_0).toLoadRect xa0)) (mx := (View.readAt (Elt Ideal) scM0_1.view (Rect.unit (s := S8x1536x128) ![5, 0, 0] S1x1536x128.size inb_S8x1536x128_S1x1536x128_5_0_0).toLoadRect xa1)) (o := 5) 5 rfl (fun x l => ld2 _ _ _ x l x (col 5 l) rfl rfl) (fun x l => ld3 _ _ _ x l 5 x l rfl (Nat.zero_add _).symm rfl) (fun x l => (ld3 _ _ _ x l 5 x l rfl (Nat.zero_add _).symm rfl).trans (hM _ _ _)) inb_S8x1536x128_S1x1536x128_5_0_0,
    List.forall_mem_cons.2 ⟨piece_m_full (k := (View.readAt (Elt Ideal) arg4.view (Rect.unit (s := S768x1024) ![0, 512] S768x128.size inb_S768x1024_S768x128_0_512).toLoadRect (arg4.view.rep x1))) (q := (View.readAt (Elt Ideal) scM0_0.view (Rect.unit (s := S8x1536x128) ![4, 0, 0] S1x1536x128.size inb_S8x1536x128_S1x1536x128_4_0_0).toLoadRect xa0)) (mx := (View.readAt (Elt Ideal) scM0_1.view (Rect.unit (s := S8x1536x128) ![4, 0, 0] S1x1536x128.size inb_S8x1536x128_S1x1536x128_4_0_0).toLoadRect xa1)) (o := 4) 4 rfl (fun x l => ld2 _ _ _ x l x (col 4 l) rfl rfl) (fun x l => ld3 _ _ _ x l 4 x l rfl (Nat.zero_add _).symm rfl) (fun x l => (ld3 _ _ _ x l 4 x l rfl (Nat.zero_add _).symm rfl).trans (hM _ _ _)) inb_S8x1536x128_S1x1536x128_4_0_0,
    List.forall_mem_cons.2 ⟨piece_m_full (k := (View.readAt (Elt Ideal) arg4.view (Rect.unit (s := S768x1024) ![0, 384] S768x128.size inb_S768x1024_S768x128_0_384).toLoadRect (arg4.view.rep x1))) (q := (View.readAt (Elt Ideal) scM0_0.view (Rect.unit (s := S8x1536x128) ![3, 0, 0] S1x1536x128.size inb_S8x1536x128_S1x1536x128_3_0_0).toLoadRect xa0)) (mx := (View.readAt (Elt Ideal) scM0_1.view (Rect.unit (s := S8x1536x128) ![3, 0, 0] S1x1536x128.size inb_S8x1536x128_S1x1536x128_3_0_0).toLoadRect xa1)) (o := 3) 3 rfl (fun x l => ld2 _ _ _ x l x (col 3 l) rfl rfl) (fun x l => ld3 _ _ _ x l 3 x l rfl (Nat.zero_add _).symm rfl) (fun x l => (ld3 _ _ _ x l 3 x l rfl (Nat.zero_add _).symm rfl).trans (hM _ _ _)) inb_S8x1536x128_S1x1536x128_3_0_0,
    List.forall_mem_cons.2 ⟨piece_m_full (k := (View.readAt (Elt Ideal) arg4.view (Rect.unit (s := S768x1024) ![0, 256] S768x128.size inb_S768x1024_S768x128_0_256).toLoadRect (arg4.view.rep x1))) (q := (View.readAt (Elt Ideal) scM0_0.view (Rect.unit (s := S8x1536x128) ![2, 0, 0] S1x1536x128.size inb_S8x1536x128_S1x1536x128_2_0_0).toLoadRect xa0)) (mx := (View.readAt (Elt Ideal) scM0_1.view (Rect.unit (s := S8x1536x128) ![2, 0, 0] S1x1536x128.size inb_S8x1536x128_S1x1536x128_2_0_0).toLoadRect xa1)) (o := 2) 2 rfl (fun x l => ld2 _ _ _ x l x (col 2 l) rfl rfl) (fun x l => ld3 _ _ _ x l 2 x l rfl (Nat.zero_add _).symm rfl) (fun x l => (ld3 _ _ _ x l 2 x l rfl (Nat.zero_add _).symm rfl).trans (hM _ _ _)) inb_S8x1536x128_S1x1536x128_2_0_0,
    List.forall_mem_cons.2 ⟨piece_m_full (k := (View.readAt (Elt Ideal) arg4.view (Rect.unit (s := S768x1024) ![0, 128] S768x128.size inb_S768x1024_S768x128_0_128).toLoadRect (arg4.view.rep x1))) (q := (View.readAt (Elt Ideal) scM0_0.view (Rect.unit (s := S8x1536x128) ![1, 0, 0] S1x1536x128.size inb_S8x1536x128_S1x1536x128_1_0_0).toLoadRect xa0)) (mx := (View.readAt (Elt Ideal) scM0_1.view (Rect.unit (s := S8x1536x128) ![1, 0, 0] S1x1536x128.size inb_S8x1536x128_S1x1536x128_1_0_0).toLoadRect xa1)) (o := 1) 1 rfl (fun x l => ld2 _ _ _ x l x (col 1 l) rfl rfl) (fun x l => ld3 _ _ _ x l 1 x l rfl (Nat.zero_add _).symm rfl) (fun x l => (ld3 _ _ _ x l 1 x l rfl (Nat.zero_add _).symm rfl).trans (hM _ _ _)) inb_S8x1536x128_S1x1536x128_1_0_0,
    List.forall_mem_cons.2 ⟨piece_m_full (k := (View.readAt (Elt Ideal) arg4.view (Rect.unit (s := S768x1024) ![0, 0] S768x128.size inb_S768x1024_S768x128_0_0).toLoadRect (arg4.view.rep x1))) (q := (View.readAt (Elt Ideal) scM0_0.view (Rect.unit (s := S8x1536x128) ![0, 0, 0] S1x1536x128.size inb_S8x1536x128_S1x1536x128_0_0_0).toLoadRect xa0)) (mx := (View.readAt (Elt Ideal) scM0_1.view (Rect.unit (s := S8x1536x128) ![0, 0, 0] S1x1536x128.size inb_S8x1536x128_S1x1536x128_0_0_0).toLoadRect xa1)) (o := 0) 0 rfl (fun x l => ld2 _ _ _ x l x (col 0 l) rfl rfl) (fun x l => ld3 _ _ _ x l 0 x l rfl (Nat.zero_add _).symm rfl) (fun x l => (ld3 _ _ _ x l 0 x l rfl (Nat.zero_add _).symm rfl).trans (hM _ _ _)) inb_S8x1536x128_S1x1536x128_0_0_0,
    List.forall_mem_nil _⟩⟩⟩⟩⟩⟩⟩⟩
  · exact .cons (fun _ => rfl) (.cons (fun _ => rfl) (.cons (fun _ => rfl) (.cons (fun _ => rfl) (.cons (fun _ => rfl) (.cons (fun _ => rfl) (.cons (fun _ => rfl) (.cons (fun _ => rfl) (.nil))))))))

include c in
theorem canon_aD (hM : ∀ h r l, scM0_1.view.read (Elt Ideal) xa1 (ix3 h r l) = M0 h r) (y : S8x1536x256.Idx) :
    View.canon (kernelRun0_D.sl.HS2_8 c arg4 arg5 x1 x2 xa0 xa1 xa2) y = GAa false (scM0_0.view.read (Elt Ideal) xa0) x1 x2 M0 (scM0_2.view.read (Elt Ideal) xa2) y := by
  refine canon_first (e := .f32) (GAa false (scM0_0.view.read (Elt Ideal) xa0) x1 x2 M0 (scM0_2.view.read (Elt Ideal) xa2)) 8 _ ?_ y (cover_slabs (by omega : 0 < 1536) heads _ ?_ heads_all heads_in y)
  · exact List.forall_mem_cons.2 ⟨piece_a_full (k := (View.readAt (Elt Ideal) arg4.view (Rect.unit (s := S768x1024) ![0, 896] S768x128.size inb_S768x1024_S768x128_0_896).toLoadRect (arg4.view.rep x1))) (v := (View.readAt (Elt Ideal) arg5.view (Rect.unit (s := S768x1024) ![0, 896] S768x128.size inb_S768x1024_S768x128_0_896).toLoadRect (arg5.view.rep x2))) (q := (View.readAt (Elt Ideal) scM0_0.view (Rect.unit (s := S8x1536x128) ![7, 0, 0] S1x1536x128.size inb_S8x1536x128_S1x1536x128_7_0_0).toLoadRect xa0)) (mx := (View.readAt (Elt Ideal) scM0_1.view (Rect.unit (s := S8x1536x128) ![7, 0, 0] S1x1536x128.size inb_S8x1536x128_S1x1536x128_7_0_0).toLoadRect xa1)) (ac := (View.readAt (Elt Ideal) scM0_2.view (Rect.unit (s := S8x1536x256) ![7, 0, 0] S1x1536x256.size inb_S8x1536x256_S1x1536x256_7_0_0).toLoadRect xa2)) (o := 7) 7 rfl (fun x l => ld2 _ _ _ x l x (col 7 l) rfl rfl) (fun x l => ld2 _ _ _ x l x (col 7 l) rfl rfl) (fun x l => ld3 _ _ _ x l 7 x l rfl (Nat.zero_add _).symm rfl) (fun x l => (ld3 _ _ _ x l 7 x l rfl (Nat.zero_add _).symm rfl).trans (hM _ _ _)) (fun x l => ld3 _ _ _ x l 7 x l rfl (Nat.zero_add _).symm rfl) inb_S8x1536x256_S1x1536x256_7_0_0,
    List.forall_mem_cons.2 ⟨piece_a_full (k := (View.readAt (Elt Ideal) arg4.view (Rect.unit (s := S768x1024) ![0, 768] S768x128.size inb_S768x1024_S768x128_0_768).toLoadRect (arg4.view.rep x1))) (v := (View.readAt (Elt Ideal) arg5.view (Rect.unit (s := S768x1024) ![0, 768] S768x128.size inb_S768x1024_S768x128_0_768).toLoadRect (arg5.view.rep x2))) (q := (View.readAt (Elt Ideal) scM0_0.view (Rect.unit (s := S8x1536x128) ![6, 0, 0] S1x1536x128.size inb_S8x1536x128_S1x1536x128_6_0_0).toLoadRect xa0)) (mx := (View.readAt (Elt Ideal) scM0_1.view (Rect.unit (s := S8x1536x128) ![6, 0, 0] S1x1536x128.size inb_S8x1536x128_S1x1536x128_6_0_0).toLoadRect xa1)) (ac := (View.readAt (Elt Ideal) scM0_2.view (Rect.unit (s := S8x1536x256) ![6, 0, 0] S1x1536x256.size inb_S8x1536x256_S1x1536x256_6_0_0).toLoadRect xa2)) (o := 6) 6 rfl (fun x l => ld2 _ _ _ x l x (col 6 l) rfl rfl) (fun x l => ld2 _ _ _ x l x (col 6 l) rfl rfl) (fun x l => ld3 _ _ _ x l 6 x l rfl (Nat.zero_add _).symm rfl) (fun x l => (ld3 _ _ _ x l 6 x l rfl (Nat.zero_add _).symm rfl).trans (hM _ _ _)) (fun x l => ld3 _ _ _ x l 6 x l rfl (Nat.zero_add _).symm rfl) inb_S8x1536x256_S1x1536x256_6_0_0,
    List.forall_mem_cons.2 ⟨piece_a_full (k := (View.readAt (Elt Ideal) arg4.view (Rect.unit (s := S768x1024) ![0, 640] S768x128.size inb_S768x1024_S768x128_0_640).toLoadRect (arg4.view.rep x1))) (v := (View.readAt (Elt Ideal) arg5.view (Rect.unit (s := S768x1024) ![0, 640] S768x128.size inb_S768x1024_S768x128_0_640).toLoadRect (arg5.view.rep x2))) (q := (View.readAt (Elt Ideal) scM0_0.view (Rect.unit (s := S8x1536x128) ![5, 0, 0] S1x1536x128.size inb_S8x1536x128_S1x1536x128_5_0_0).toLoadRect xa0)) (mx := (View.readAt (Elt Ideal) scM0_1.view (Rect.unit (s := S8x1536x128) ![5, 0, 0] S1x1536x128.size inb_S8x1536x128_S1x1536x128_5_0_0).toLoadRect xa1)) (ac := (View.readAt (Elt Ideal) scM0_2.view (Rect.unit (s := S8x1536x256) ![5, 0, 0] S1x1536x256.size inb_S8x1536x256_S1x1536x256_5_0_0).toLoadRect xa2)) (o := 5) 5 rfl (fun x l => ld2 _ _ _ x l x (col 5 l) rfl rfl) (fun x l => ld2 _ _ _ x l x (col 5 l) rfl rfl) (fun x l => ld3 _ _ _ x l 5 x l rfl (Nat.zero_add _).symm rfl) (fun x l => (ld3 _ _ _ x l 5 x l rfl (Nat.zero_add _).symm rfl).trans (hM _ _ _)) (fun x l => ld3 _ _ _ x l 5 x l rfl (Nat.zero_add _).symm rfl) inb_S8x1536x256_S1x1536x256_5_0_0,
    List.forall_mem_cons.2 ⟨piece_a_full (k := (View.readAt (Elt Ideal) arg4.view (Rect.unit (s := S768x1024) ![0, 512] S768x128.size inb_S768x1024_S768x128_0_512).toLoadRect (arg4.view.rep x1))) (v := (View.readAt (Elt Ideal) arg5.view (Rect.unit (s := S768x1024) ![0, 512] S768x128.size inb_S768x1024_S768x128_0_512).toLoadRect (arg5.view.rep x2))) (q := (View.readAt (Elt Ideal) scM0_0.view (Rect.unit (s := S8x1536x128) ![4, 0, 0] S1x1536x128.size inb_S8x1536x128_S1x1536x128_4_0_0).toLoadRect xa0)) (mx := (View.readAt (Elt Ideal) scM0_1.view (Rect.unit (s := S8x1536x128) ![4, 0, 0] S1x1536x128.size inb_S8x1536x128_S1x1536x128_4_0_0).toLoadRect xa1)) (ac := (View.readAt (Elt Ideal) scM0_2.view (Rect.unit (s := S8x1536x256) ![4, 0, 0] S1x1536x256.size inb_S8x1536x256_S1x1536x256_4_0_0).toLoadRect xa2)) (o := 4) 4 rfl (fun x l => ld2 _ _ _ x l x (col 4 l) rfl rfl) (fun x l => ld2 _ _ _ x l x (col 4 l) rfl rfl) (fun x l => ld3 _ _ _ x l 4 x l rfl (Nat.zero_add _).symm rfl) (fun x l => (ld3 _ _ _ x l 4 x l rfl (Nat.zero_add _).symm rfl).trans (hM _ _ _)) (fun x l => ld3 _ _ _ x l 4 x l rfl (Nat.zero_add _).symm rfl) inb_S8x1536x256_S1x1536x256_4_0_0,
    List.forall_mem_cons.2 ⟨piece_a_full (k := (View.readAt (Elt Ideal) arg4.view (Rect.unit (s := S768x1024) ![0, 384] S768x128.size inb_S768x1024_S768x128_0_384).toLoadRect (arg4.view.rep x1))) (v := (View.readAt (Elt Ideal) arg5.view (Rect.unit (s := S768x1024) ![0, 384] S768x128.size inb_S768x1024_S768x128_0_384).toLoadRect (arg5.view.rep x2))) (q := (View.readAt (Elt Ideal) scM0_0.view (Rect.unit (s := S8x1536x128) ![3, 0, 0] S1x1536x128.size inb_S8x1536x128_S1x1536x128_3_0_0).toLoadRect xa0)) (mx := (View.readAt (Elt Ideal) scM0_1.view (Rect.unit (s := S8x1536x128) ![3, 0, 0] S1x1536x128.size inb_S8x1536x128_S1x1536x128_3_0_0).toLoadRect xa1)) (ac := (View.readAt (Elt Ideal) scM0_2.view (Rect.unit (s := S8x1536x256) ![3, 0, 0] S1x1536x256.size inb_S8x1536x256_S1x1536x256_3_0_0).toLoadRect xa2)) (o := 3) 3 rfl (fun x l => ld2 _ _ _ x l x (col 3 l) rfl rfl) (fun x l => ld2 _ _ _ x l x (col 3 l) rfl rfl) (fun x l => ld3 _ _ _ x l 3 x l rfl (Nat.zero_add _).symm rfl) (fun x l => (ld3 _ _ _ x l 3 x l rfl (Nat.zero_add _).symm rfl).trans (hM _ _ _)) (fun x l => ld3 _ _ _ x l 3 x l rfl (Nat.zero_add _).symm rfl) inb_S8x1536x256_S1x1536x256_3_0_0,
    List.forall_mem_cons.2 ⟨piece_a_full (k := (View.readAt (Elt Ideal) arg4.view (Rect.unit (s := S768x1024) ![0, 256] S768x128.size inb_S768x1024_S768x128_0_256).toLoadRect (arg4.view.rep x1))) (v := (View.readAt (Elt Ideal) arg5.view (Rect.unit (s := S768x1024) ![0, 256] S768x128.size inb_S768x1024_S768x128_0_256).toLoadRect (arg5.view.rep x2))) (q := (View.readAt (Elt Ideal) scM0_0.view (Rect.unit (s := S8x1536x128) ![2, 0, 0] S1x1536x128.size inb_S8x1536x128_S1x1536x128_2_0_0).toLoadRect xa0)) (mx := (View.readAt (Elt Ideal) scM0_1.view (Rect.unit (s := S8x1536x128) ![2, 0, 0] S1x1536x128.size inb_S8x1536x128_S1x1536x128_2_0_0).toLoadRect xa1)) (ac := (View.readAt (Elt Ideal) scM0_2.view (Rect.unit (s := S8x1536x256) ![2, 0, 0] S1x1536x256.size inb_S8x1536x256_S1x1536x256_2_0_0).toLoadRect xa2)) (o := 2) 2 rfl (fun x l => ld2 _ _ _ x l x (col 2 l) rfl rfl) (fun x l => ld2 _ _ _ x l x (col 2 l) rfl rfl) (fun x l => ld3 _ _ _ x l 2 x l rfl (Nat.zero_add _).symm rfl) (fun x l => (ld3 _ _ _ x l 2 x l rfl (Nat.zero_add _).symm rfl).trans (hM _ _ _)) (fun x l => ld3 _ _ _ x l 2 x l rfl (Nat.zero_add _).symm rfl) inb_S8x1536x256_S1x1536x256_2_0_0,
    List.forall_mem_cons.2 ⟨piece_a_full (k := (View.readAt (Elt Ideal) arg4.view (Rect.unit (s := S768x1024) ![0, 128] S768x128.size inb_S768x1024_S768x128_0_128).toLoadRect (arg4.view.rep x1))) (v := (View.readAt (Elt Ideal) arg5.view (Rect.unit (s := S768x1024) ![0, 128] S768x128.size inb_S768x1024_S768x128_0_128).toLoadRect (arg5.view.rep x2))) (q := (View.readAt (Elt Ideal) scM0_0.view (Rect.unit (s := S8x1536x128) ![1, 0, 0] S1x1536x128.size inb_S8x1536x128_S1x1536x128_1_0_0).toLoadRect xa0)) (mx := (View.readAt (Elt Ideal) scM0_1.view (Rect.unit (s := S8x1536x128) ![1, 0, 0] S1x1536x128.size inb_S8x1536x128_S1x1536x128_1_0_0).toLoadRect xa1)) (ac := (View.readAt (Elt Ideal) scM0_2.view (Rect.unit (s := S8x1536x256) ![1, 0, 0] S1x1536x256.size inb_S8x1536x256_S1x1536x256_1_0_0).toLoadRect xa2)) (o := 1) 1 rfl (fun x l => ld2 _ _ _ x l x (col 1 l) rfl rfl) (fun x l => ld2 _ _ _ x l x (col 1 l) rfl rfl) (fun x l => ld3 _ _ _ x l 1 x l rfl (Nat.zero_add _).symm rfl) (fun x l => (ld3 _ _ _ x l 1 x l rfl (Nat.zero_add _).symm rfl).trans (hM _ _ _)) (fun x l => ld3 _ _ _ x l 1 x l rfl (Nat.zero_add _).symm rfl) inb_S8x1536x256_S1x1536x256_1_0_0,
    List.forall_mem_cons.2 ⟨piece_a_full (k := (View.readAt (Elt Ideal) arg4.view (Rect.unit (s := S768x1024) ![0, 0] S768x128.size inb_S768x1024_S768x128_0_0).toLoadRect (arg4.view.rep x1))) (v := (View.readAt (Elt Ideal) arg5.view (Rect.unit (s := S768x1024) ![0, 0] S768x128.size inb_S768x1024_S768x128_0_0).toLoadRect (arg5.view.rep x2))) (q := (View.readAt (Elt Ideal) scM0_0.view (Rect.unit (s := S8x1536x128) ![0, 0, 0] S1x1536x128.size inb_S8x1536x128_S1x1536x128_0_0_0).toLoadRect xa0)) (mx := (View.readAt (Elt Ideal) scM0_1.view (Rect.unit (s := S8x1536x128) ![0, 0, 0] S1x1536x128.size inb_S8x1536x128_S1x1536x128_0_0_0).toLoadRect xa1)) (ac := (View.readAt (Elt Ideal) scM0_2.view (Rect.unit (s := S8x1536x256) ![0, 0, 0] S1x1536x256.size inb_S8x1536x256_S1x1536x256_0_0_0).toLoadRect xa2)) (o := 0) 0 rfl (fun x l => ld2 _ _ _ x l x (col 0 l) rfl rfl) (fun x l => ld2 _ _ _ x l x (col 0 l) rfl rfl) (fun x l => ld3 _ _ _ x l 0 x l rfl (Nat.zero_add _).symm rfl) (fun x l => (ld3 _ _ _ x l 0 x l rfl (Nat.zero_add _).symm rfl).trans (hM _ _ _)) (fun x l => ld3 _ _ _ x l 0 x l rfl (Nat.zero_add _).symm rfl) inb_S8x1536x256_S1x1536x256_0_0_0,
    List.forall_mem_nil _⟩⟩⟩⟩⟩⟩⟩⟩
  · exact .cons (fun _ => rfl) (.cons (fun _ => rfl) (.cons (fun _ => rfl) (.cons (fun _ => rfl) (.cons (fun _ => rfl) (.cons (fun _ => rfl) (.cons (fun _ => rfl) (.cons (fun _ => rfl) (.nil))))))))

end Cert.KernelIdeal.Attn

end
-- ==== Proof.AttnFin.lean ====
/-
  The end of a row of blocks: the two averages, their difference, its normalisation, and the block of the result.
-/
module

public import proofs.«01_k».proof.Proof.AttnA
public import proofs.«01_k».proof.Proof.AttnB
public import proofs.«01_k».proof.Proof.AttnD

@[expose] public section

set_option maxRecDepth 65536

noncomputable section

namespace Cert.KernelIdeal.Attn

open Cert.KernelIdeal Cert.KernelIdeal.Gen
open Idealize.ShloMosaic Idealize.ShloMosaic.TcCoe
open scoped BigOperators

/-- The weight of the second map, from the parameters. -/
def LAM (x3 : S8x128.Idx → EReal) : EReal :=
  Ideal.exp (∑ l : Fin 128, x3 (ix2 0 l) * x3 (ix2 1 l)) - Ideal.exp (∑ l : Fin 128, x3 (ix2 2 l) * x3 (ix2 3 l)) + Ideal.ofBits .f32 0x3E4CCCCD#32

/-- The difference of the two averages. -/
def OD (lam : EReal) (A : S8x1536x256.Idx → EReal) (h : Fin 8) (r : Fin 768) (l : Fin 128) : EReal :=
  Ideal.div (A (ix3 h ⟨r.val, by omega⟩ ⟨l.val, by omega⟩)) (A (ix3 h ⟨r.val, by omega⟩ ⟨128 + l.val, by omega⟩))
    - lam * Ideal.div (A (ix3 h ⟨768 + r.val, by omega⟩ ⟨l.val, by omega⟩)) (A (ix3 h ⟨768 + r.val, by omega⟩ ⟨128 + l.val, by omega⟩))

/-- A row over its root mean square, times the gains and 0.8. -/
def NRM (od gn : Fin 128 → EReal) (l : Fin 128) : EReal :=
  od l * Ideal.rsqrt (Ideal.div (∑ k : Fin 128, od k * od k) (Ideal.ofBits .f32 0x43000000#32) + Ideal.ofBits .f32 0x3727C5AC#32) * gn l
    * Ideal.ofBits .f32 0x3F4CCCCD#32

/-- The block of the result. -/
def OUTa (x3 : S8x128.Idx → EReal) (x4 : S1x128.Idx → EReal) (A : S8x1536x256.Idx → EReal) : S768x1024.Idx → EReal :=
  fun y => NRM (OD (LAM x3) A ⟨(y 1).val / 128, by have h : (y 1).val < 1024 := (y 1).isLt; omega⟩ (y 0)) (fun l => x4 (ix2 0 l)) ⟨(y 1).val % 128, Nat.mod_lt _ (by omega)⟩

theorem lam_at (X : Vec Ideal S8x128 .f32) : k0_pay398 (F := Ideal) X (ix2 0 0) = LAM X := by
  unfold_payloads
  pointwise
  rfl

theorem fin_at (lam : FVec Ideal S1x1 .f32) (gn : Vec Ideal S1x128 .f32) (a : Vec Ideal S1x1536x256 .f32) (x : Fin 768) (l : Fin 128) (A : S8x1536x256.Idx → EReal)
    (h : Fin 8) (ha : ∀ x l, a (ix3 0 x l) = A (ix3 h x l)) (x4 : S1x128.Idx → EReal) (hg : ∀ l, gn (ix2 0 l) = x4 (ix2 0 l)) :
    k0_pay8 (F := Ideal) lam gn a (ix2 x l) = NRM (OD (lam (ix2 0 0)) A h x) (fun l => x4 (ix2 0 l)) l := by
  unfold_payloads
  pointwise
  simp only [ha, hg]
  rfl

/-- A head's part of the block. -/
theorem piece_o {o : ℕ} (h : Fin 8) (ho : o = 128 * h.val) {X : Vec Ideal S8x128 .f32} {gn : Vec Ideal S1x128 .f32} {a : Vec Ideal S1x1536x256 .f32}
    {A : S8x1536x256.Idx → EReal} {x3 : S8x128.Idx → EReal} {x4 : S1x128.Idx → EReal} (hX : X = x3) (hg : ∀ l, gn (ix2 0 l) = x4 (ix2 0 l))
    (ha : ∀ x l, a (ix3 0 x l) = A (ix3 h x l))
    (inb : ∀ a, (![0, o] : Fin 2 → ℕ) a + S768x128.size a ≤ S768x1024.size a) (x : S768x128.Idx) :
    k0_pay8 (F := Ideal) (k0_pay398 (F := Ideal) X) gn a x = OUTa x3 x4 A ((Rect.unit (s := S768x1024) ![0, o] S768x128.size inb).emb x) := by
  obtain ⟨r, l, rfl⟩ : ∃ (r : Fin 768) (l : Fin 128), x = ix2 r l := ⟨x 0, x 1, by
    funext i
    match i with
    | ⟨0, _⟩ => rfl
    | ⟨1, _⟩ => rfl⟩
  have e : (Rect.unit (s := S768x1024) ![0, o] S768x128.size inb).emb (ix2 r l) = ix2 r (col h l) := by
    funext i
    refine Fin.ext ?_
    match i with
    | ⟨0, _⟩ => show 0 + 1 * r.val = r.val; omega
    | ⟨1, _⟩ => show o + 1 * l.val = 128 * h.val + l.val; omega
  refine Eq.trans ?_ (congrArg (OUTa x3 x4 A) e).symm
  rw [fin_at _ gn a r l A h ha x4 hg, lam_at, hX]
  unfold OUTa
  have hl := l.isLt
  have e1 : (⟨(col h l).val / 128, by have := (col h l).isLt; omega⟩ : Fin 8) = h := Fin.ext (by show (128 * h.val + l.val) / 128 = h.val; omega)
  have e2 : (⟨(col h l).val % 128, Nat.mod_lt _ (by omega)⟩ : Fin 128) = l := Fin.ext (by show (128 * h.val + l.val) % 128 = l.val; omega)
  show _ = NRM (OD (LAM x3) A ⟨(col h l).val / 128, _⟩ r) _ ⟨(col h l).val % 128, _⟩
  rw [e1, e2]

theorem mem_cols {o : ℕ} (inb : ∀ a, (![0, o] : Fin 2 → ℕ) a + S768x128.size a ≤ S768x1024.size a) (y : S768x1024.Idx) (h1 : o ≤ (y 1).val) (h2 : (y 1).val < o + 128) :
    y ∈ (Rect.unit (s := S768x1024) ![0, o] S768x128.size inb).set := by
  refine Rect.mem_set_unit.mpr fun i => ?_
  match i with
  | ⟨0, _⟩ => exact ⟨Nat.zero_le _, by have h : (y 0).val < 768 := (y 0).isLt; show (y 0).val < 0 + 768; omega⟩
  | ⟨1, _⟩ => exact ⟨h1, h2⟩

/-- A load of a whole small operand. -/
theorem ldw {sp : Space} {a b : ℕ} {e : EltTy} {kd : _} (v : View sig kd sp ⟨2, ![a, b]⟩ e) (X : (⟨2, ![a, b]⟩ : Shape).Idx → Elt Ideal e)
    (inb : ∀ i, (![0, 0] : Fin 2 → ℕ) i + (![a, b] : Fin 2 → ℕ) i ≤ (![a, b] : Fin 2 → ℕ) i) :
    v.readAt (Elt Ideal) (Rect.unit (s := ⟨2, ![a, b]⟩) ![0, 0] ![a, b] inb).toLoadRect (v.rep X) = X := by
  funext x
  rw [View.readAt_apply, View.read_rep]
  refine congrArg X (funext fun i => Fin.ext ?_)
  match i with
  | ⟨0, _⟩ => show 0 + 1 * (x 0).val = (x 0).val; omega
  | ⟨1, _⟩ => show 0 + 1 * (x 1).val = (x 1).val; omega

set_option maxHeartbeats 4000000 in
theorem canon_oC (c : Dev nD) (arg4 arg5 : Memref sig .tc .vmem S768x1024 .bf16) (arg6 : Memref sig .tc .vmem S8x128 .f32) (arg7 : Memref sig .tc .vmem S1x128 .f32)
    (x1 x2 : Vec Ideal S768x1024 .bf16) (x3 : Vec Ideal S8x128 .f32) (x4 : Vec Ideal S1x128 .f32)
    (xa0 : Buf (Elt Ideal) ((c : Thread nD τ).loc cc0_scratch0)) (xa1 : Buf (Elt Ideal) ((c : Thread nD τ).loc cc0_scratch1))
    (xa2 : Buf (Elt Ideal) ((c : Thread nD τ).loc cc0_scratch2)) (y : S768x1024.Idx) :
    View.canon (kernelRun0_C.sl.HO5_8 c arg4 arg5 arg6 arg7 x1 x2 x3 x4 xa0 xa1 xa2) y = OUTa x3 x4 (View.canon (kernelRun0_C.sl.HS2_48 c arg4 arg5 x1 x2 xa0 xa1 xa2)) y := by
  refine canon_first (e := .bf16) (OUTa x3 x4 (View.canon (kernelRun0_C.sl.HS2_48 c arg4 arg5 x1 x2 xa0 xa1 xa2))) 8 _ ?_ y ?_
  · exact List.forall_mem_cons.2 ⟨piece_o (X := View.readAt (Elt Ideal) arg6.view (Rect.unit (s := S8x128) ![0, 0] S8x128.size inb_S8x128_S8x128_0_0).toLoadRect (arg6.view.rep x3)) (gn := View.readAt (Elt Ideal) arg7.view (Rect.unit (s := S1x128) ![0, 0] S1x128.size inb_S1x128_S1x128_0_0).toLoadRect (arg7.view.rep x4)) (a := scM0_2.view.readCov (kernelRun0_C.sl.HS2_48 c arg4 arg5 x1 x2 xa0 xa1 xa2) (Rect.unit (s := S8x1536x256) ![7, 0, 0] S1x1536x256.size inb_S8x1536x256_S1x1536x256_7_0_0).toLoadRect) (A := View.canon (kernelRun0_C.sl.HS2_48 c arg4 arg5 x1 x2 xa0 xa1 xa2)) (o := 896) 7 rfl (ldw _ _ _) (fun l => congrFun (ldw _ _ _) _) (fun x l => ldc3 _ _ _ x l 7 x l rfl (Nat.zero_add _).symm rfl) inb_S768x1024_S768x128_0_896,
    List.forall_mem_cons.2 ⟨piece_o (X := View.readAt (Elt Ideal) arg6.view (Rect.unit (s := S8x128) ![0, 0] S8x128.size inb_S8x128_S8x128_0_0).toLoadRect (arg6.view.rep x3)) (gn := View.readAt (Elt Ideal) arg7.view (Rect.unit (s := S1x128) ![0, 0] S1x128.size inb_S1x128_S1x128_0_0).toLoadRect (arg7.view.rep x4)) (a := scM0_2.view.readCov (kernelRun0_C.sl.HS2_48 c arg4 arg5 x1 x2 xa0 xa1 xa2) (Rect.unit (s := S8x1536x256) ![6, 0, 0] S1x1536x256.size inb_S8x1536x256_S1x1536x256_6_0_0).toLoadRect) (A := View.canon (kernelRun0_C.sl.HS2_48 c arg4 arg5 x1 x2 xa0 xa1 xa2)) (o := 768) 6 rfl (ldw _ _ _) (fun l => congrFun (ldw _ _ _) _) (fun x l => ldc3 _ _ _ x l 6 x l rfl (Nat.zero_add _).symm rfl) inb_S768x1024_S768x128_0_768,
    List.forall_mem_cons.2 ⟨piece_o (X := View.readAt (Elt Ideal) arg6.view (Rect.unit (s := S8x128) ![0, 0] S8x128.size inb_S8x128_S8x128_0_0).toLoadRect (arg6.view.rep x3)) (gn := View.readAt (Elt Ideal) arg7.view (Rect.unit (s := S1x128) ![0, 0] S1x128.size inb_S1x128_S1x128_0_0).toLoadRect (arg7.view.rep x4)) (a := scM0_2.view.readCov (kernelRun0_C.sl.HS2_48 c arg4 arg5 x1 x2 xa0 xa1 xa2) (Rect.unit (s := S8x1536x256) ![5, 0, 0] S1x1536x256.size inb_S8x1536x256_S1x1536x256_5_0_0).toLoadRect) (A := View.canon (kernelRun0_C.sl.HS2_48 c arg4 arg5 x1 x2 xa0 xa1 xa2)) (o := 640) 5 rfl (ldw _ _ _) (fun l => congrFun (ldw _ _ _) _) (fun x l => ldc3 _ _ _ x l 5 x l rfl (Nat.zero_add _).symm rfl) inb_S768x1024_S768x128_0_640,
    List.forall_mem_cons.2 ⟨piece_o (X := View.readAt (Elt Ideal) arg6.view (Rect.unit (s := S8x128) ![0, 0] S8x128.size inb_S8x128_S8x128_0_0).toLoadRect (arg6.view.rep x3)) (gn := View.readAt (Elt Ideal) arg7.view (Rect.unit (s := S1x128) ![0, 0] S1x128.size inb_S1x128_S1x128_0_0).toLoadRect (arg7.view.rep x4)) (a := scM0_2.view.readCov (kernelRun0_C.sl.HS2_48 c arg4 arg5 x1 x2 xa0 xa1 xa2) (Rect.unit (s := S8x1536x256) ![4, 0, 0] S1x1536x256.size inb_S8x1536x256_S1x1536x256_4_0_0).toLoadRect) (A := View.canon (kernelRun0_C.sl.HS2_48 c arg4 arg5 x1 x2 xa0 xa1 xa2)) (o := 512) 4 rfl (ldw _ _ _) (fun l => congrFun (ldw _ _ _) _) (fun x l => ldc3 _ _ _ x l 4 x l rfl (Nat.zero_add _).symm rfl) inb_S768x1024_S768x128_0_512,
    List.forall_mem_cons.2 ⟨piece_o (X := View.readAt (Elt Ideal) arg6.view (Rect.unit (s := S8x128) ![0, 0] S8x128.size inb_S8x128_S8x128_0_0).toLoadRect (arg6.view.rep x3)) (gn := View.readAt (Elt Ideal) arg7.view (Rect.unit (s := S1x128) ![0, 0] S1x128.size inb_S1x128_S1x128_0_0).toLoadRect (arg7.view.rep x4)) (a := scM0_2.view.readCov (kernelRun0_C.sl.HS2_48 c arg4 arg5 x1 x2 xa0 xa1 xa2) (Rect.unit (s := S8x1536x256) ![3, 0, 0] S1x1536x256.size inb_S8x1536x256_S1x1536x256_3_0_0).toLoadRect) (A := View.canon (kernelRun0_C.sl.HS2_48 c arg4 arg5 x1 x2 xa0 xa1 xa2)) (o := 384) 3 rfl (ldw _ _ _) (fun l => congrFun (ldw _ _ _) _) (fun x l => ldc3 _ _ _ x l 3 x l rfl (Nat.zero_add _).symm rfl) inb_S768x1024_S768x128_0_384,
    List.forall_mem_cons.2 ⟨piece_o (X := View.readAt (Elt Ideal) arg6.view (Rect.unit (s := S8x128) ![0, 0] S8x128.size inb_S8x128_S8x128_0_0).toLoadRect (arg6.view.rep x3)) (gn := View.readAt (Elt Ideal) arg7.view (Rect.unit (s := S1x128) ![0, 0] S1x128.size inb_S1x128_S1x128_0_0).toLoadRect (arg7.view.rep x4)) (a := scM0_2.view.readCov (kernelRun0_C.sl.HS2_48 c arg4 arg5 x1 x2 xa0 xa1 xa2) (Rect.unit (s := S8x1536x256) ![2, 0, 0] S1x1536x256.size inb_S8x1536x256_S1x1536x256_2_0_0).toLoadRect) (A := View.canon (kernelRun0_C.sl.HS2_48 c arg4 arg5 x1 x2 xa0 xa1 xa2)) (o := 256) 2 rfl (ldw _ _ _) (fun l => congrFun (ldw _ _ _) _) (fun x l => ldc3 _ _ _ x l 2 x l rfl (Nat.zero_add _).symm rfl) inb_S768x1024_S768x128_0_256,
    List.forall_mem_cons.2 ⟨piece_o (X := View.readAt (Elt Ideal) arg6.view (Rect.unit (s := S8x128) ![0, 0] S8x128.size inb_S8x128_S8x128_0_0).toLoadRect (arg6.view.rep x3)) (gn := View.readAt (Elt Ideal) arg7.view (Rect.unit (s := S1x128) ![0, 0] S1x128.size inb_S1x128_S1x128_0_0).toLoadRect (arg7.view.rep x4)) (a := scM0_2.view.readCov (kernelRun0_C.sl.HS2_48 c arg4 arg5 x1 x2 xa0 xa1 xa2) (Rect.unit (s := S8x1536x256) ![1, 0, 0] S1x1536x256.size inb_S8x1536x256_S1x1536x256_1_0_0).toLoadRect) (A := View.canon (kernelRun0_C.sl.HS2_48 c arg4 arg5 x1 x2 xa0 xa1 xa2)) (o := 128) 1 rfl (ldw _ _ _) (fun l => congrFun (ldw _ _ _) _) (fun x l => ldc3 _ _ _ x l 1 x l rfl (Nat.zero_add _).symm rfl) inb_S768x1024_S768x128_0_128,
    List.forall_mem_cons.2 ⟨piece_o (X := View.readAt (Elt Ideal) arg6.view (Rect.unit (s := S8x128) ![0, 0] S8x128.size inb_S8x128_S8x128_0_0).toLoadRect (arg6.view.rep x3)) (gn := View.readAt (Elt Ideal) arg7.view (Rect.unit (s := S1x128) ![0, 0] S1x128.size inb_S1x128_S1x128_0_0).toLoadRect (arg7.view.rep x4)) (a := scM0_2.view.readCov (kernelRun0_C.sl.HS2_48 c arg4 arg5 x1 x2 xa0 xa1 xa2) (Rect.unit (s := S8x1536x256) ![0, 0, 0] S1x1536x256.size inb_S8x1536x256_S1x1536x256_0_0_0).toLoadRect) (A := View.canon (kernelRun0_C.sl.HS2_48 c arg4 arg5 x1 x2 xa0 xa1 xa2)) (o := 0) 0 rfl (ldw _ _ _) (fun l => congrFun (ldw _ _ _) _) (fun x l => ldc3 _ _ _ x l 0 x l rfl (Nat.zero_add _).symm rfl) inb_S768x1024_S768x128_0_0,
    List.forall_mem_nil _⟩⟩⟩⟩⟩⟩⟩⟩
  · have hy : (y 1).val < 1024 := (y 1).isLt
    have key : ∀ h : Fin 8, (y 1).val / 128 = h.val → ∃ p ∈ (kernelRun0_C.sl.HO5_8 c arg4 arg5 arg6 arg7 x1 x2 x3 x4 xa0 xa1 xa2).take 8, y ∈ p.1.set := fun h hh => by
      match h, hh with
      | ⟨0, _⟩, hh => have h2 : (y 1).val / 128 = 0 := hh; exact ⟨_, List.getElem_mem (l := (kernelRun0_C.sl.HO5_8 c arg4 arg5 arg6 arg7 x1 x2 x3 x4 xa0 xa1 xa2).take 8) (n := 7) (by show 7 < 8; omega), mem_cols inb_S768x1024_S768x128_0_0 y (by omega) (by omega)⟩
      | ⟨1, _⟩, hh => have h2 : (y 1).val / 128 = 1 := hh; exact ⟨_, List.getElem_mem (l := (kernelRun0_C.sl.HO5_8 c arg4 arg5 arg6 arg7 x1 x2 x3 x4 xa0 xa1 xa2).take 8) (n := 6) (by show 6 < 8; omega), mem_cols inb_S768x1024_S768x128_0_128 y (by omega) (by omega)⟩
      | ⟨2, _⟩, hh => have h2 : (y 1).val / 128 = 2 := hh; exact ⟨_, List.getElem_mem (l := (kernelRun0_C.sl.HO5_8 c arg4 arg5 arg6 arg7 x1 x2 x3 x4 xa0 xa1 xa2).take 8) (n := 5) (by show 5 < 8; omega), mem_cols inb_S768x1024_S768x128_0_256 y (by omega) (by omega)⟩
      | ⟨3, _⟩, hh => have h2 : (y 1).val / 128 = 3 := hh; exact ⟨_, List.getElem_mem (l := (kernelRun0_C.sl.HO5_8 c arg4 arg5 arg6 arg7 x1 x2 x3 x4 xa0 xa1 xa2).take 8) (n := 4) (by show 4 < 8; omega), mem_cols inb_S768x1024_S768x128_0_384 y (by omega) (by omega)⟩
      | ⟨4, _⟩, hh => have h2 : (y 1).val / 128 = 4 := hh; exact ⟨_, List.getElem_mem (l := (kernelRun0_C.sl.HO5_8 c arg4 arg5 arg6 arg7 x1 x2 x3 x4 xa0 xa1 xa2).take 8) (n := 3) (by show 3 < 8; omega), mem_cols inb_S768x1024_S768x128_0_512 y (by omega) (by omega)⟩
      | ⟨5, _⟩, hh => have h2 : (y 1).val / 128 = 5 := hh; exact ⟨_, List.getElem_mem (l := (kernelRun0_C.sl.HO5_8 c arg4 arg5 arg6 arg7 x1 x2 x3 x4 xa0 xa1 xa2).take 8) (n := 2) (by show 2 < 8; omega), mem_cols inb_S768x1024_S768x128_0_640 y (by omega) (by omega)⟩
      | ⟨6, _⟩, hh => have h2 : (y 1).val / 128 = 6 := hh; exact ⟨_, List.getElem_mem (l := (kernelRun0_C.sl.HO5_8 c arg4 arg5 arg6 arg7 x1 x2 x3 x4 xa0 xa1 xa2).take 8) (n := 1) (by show 1 < 8; omega), mem_cols inb_S768x1024_S768x128_0_768 y (by omega) (by omega)⟩
      | ⟨7, _⟩, hh => have h2 : (y 1).val / 128 = 7 := hh; exact ⟨_, List.getElem_mem (l := (kernelRun0_C.sl.HO5_8 c arg4 arg5 arg6 arg7 x1 x2 x3 x4 xa0 xa1 xa2).take 8) (n := 0) (by show 0 < 8; omega), mem_cols inb_S768x1024_S768x128_0_896 y (by omega) (by omega)⟩
    exact key ⟨(y 1).val / 128, by omega⟩ rfl

set_option maxHeartbeats 4000000 in
theorem canon_oA (arg3 arg4 arg5 : Memref sig .tc .vmem S768x1024 .bf16) (arg6 : Memref sig .tc .vmem S8x128 .f32) (arg7 : Memref sig .tc .vmem S1x128 .f32)
    (x0 x1 x2 : Vec Ideal S768x1024 .bf16) (x3 : Vec Ideal S8x128 .f32) (x4 : Vec Ideal S1x128 .f32) (y : S768x1024.Idx) :
    View.canon (kernelRun0_A.sl.HO5_8 arg3 arg4 arg5 arg6 arg7 x0 x1 x2 x3 x4) y = OUTa x3 x4 (View.canon (kernelRun0_A.sl.HS2_49 arg3 arg4 arg5 x0 x1 x2)) y := by
  refine canon_first (e := .bf16) (OUTa x3 x4 (View.canon (kernelRun0_A.sl.HS2_49 arg3 arg4 arg5 x0 x1 x2))) 8 _ ?_ y ?_
  · exact List.forall_mem_cons.2 ⟨piece_o (X := View.readAt (Elt Ideal) arg6.view (Rect.unit (s := S8x128) ![0, 0] S8x128.size inb_S8x128_S8x128_0_0).toLoadRect (arg6.view.rep x3)) (gn := View.readAt (Elt Ideal) arg7.view (Rect.unit (s := S1x128) ![0, 0] S1x128.size inb_S1x128_S1x128_0_0).toLoadRect (arg7.view.rep x4)) (a := scM0_2.view.readCov (kernelRun0_A.sl.HS2_49 arg3 arg4 arg5 x0 x1 x2) (Rect.unit (s := S8x1536x256) ![7, 0, 0] S1x1536x256.size inb_S8x1536x256_S1x1536x256_7_0_0).toLoadRect) (A := View.canon (kernelRun0_A.sl.HS2_49 arg3 arg4 arg5 x0 x1 x2)) (o := 896) 7 rfl (ldw _ _ _) (fun l => congrFun (ldw _ _ _) _) (fun x l => ldc3 _ _ _ x l 7 x l rfl (Nat.zero_add _).symm rfl) inb_S768x1024_S768x128_0_896,
    List.forall_mem_cons.2 ⟨piece_o (X := View.readAt (Elt Ideal) arg6.view (Rect.unit (s := S8x128) ![0, 0] S8x128.size inb_S8x128_S8x128_0_0).toLoadRect (arg6.view.rep x3)) (gn := View.readAt (Elt Ideal) arg7.view (Rect.unit (s := S1x128) ![0, 0] S1x128.size inb_S1x128_S1x128_0_0).toLoadRect (arg7.view.rep x4)) (a := scM0_2.view.readCov (kernelRun0_A.sl.HS2_49 arg3 arg4 arg5 x0 x1 x2) (Rect.unit (s := S8x1536x256) ![6, 0, 0] S1x1536x256.size inb_S8x1536x256_S1x1536x256_6_0_0).toLoadRect) (A := View.canon (kernelRun0_A.sl.HS2_49 arg3 arg4 arg5 x0 x1 x2)) (o := 768) 6 rfl (ldw _ _ _) (fun l => congrFun (ldw _ _ _) _) (fun x l => ldc3 _ _ _ x l 6 x l rfl (Nat.zero_add _).symm rfl) inb_S768x1024_S768x128_0_768,
    List.forall_mem_cons.2 ⟨piece_o (X := View.readAt (Elt Ideal) arg6.view (Rect.unit (s := S8x128) ![0, 0] S8x128.size inb_S8x128_S8x128_0_0).toLoadRect (arg6.view.rep x3)) (gn := View.readAt (Elt Ideal) arg7.view (Rect.unit (s := S1x128) ![0, 0] S1x128.size inb_S1x128_S1x128_0_0).toLoadRect (arg7.view.rep x4)) (a := scM0_2.view.readCov (kernelRun0_A.sl.HS2_49 arg3 arg4 arg5 x0 x1 x2) (Rect.unit (s := S8x1536x256) ![5, 0, 0] S1x1536x256.size inb_S8x1536x256_S1x1536x256_5_0_0).toLoadRect) (A := View.canon (kernelRun0_A.sl.HS2_49 arg3 arg4 arg5 x0 x1 x2)) (o := 640) 5 rfl (ldw _ _ _) (fun l => congrFun (ldw _ _ _) _) (fun x l => ldc3 _ _ _ x l 5 x l rfl (Nat.zero_add _).symm rfl) inb_S768x1024_S768x128_0_640,
    List.forall_mem_cons.2 ⟨piece_o (X := View.readAt (Elt Ideal) arg6.view (Rect.unit (s := S8x128) ![0, 0] S8x128.size inb_S8x128_S8x128_0_0).toLoadRect (arg6.view.rep x3)) (gn := View.readAt (Elt Ideal) arg7.view (Rect.unit (s := S1x128) ![0, 0] S1x128.size inb_S1x128_S1x128_0_0).toLoadRect (arg7.view.rep x4)) (a := scM0_2.view.readCov (kernelRun0_A.sl.HS2_49 arg3 arg4 arg5 x0 x1 x2) (Rect.unit (s := S8x1536x256) ![4, 0, 0] S1x1536x256.size inb_S8x1536x256_S1x1536x256_4_0_0).toLoadRect) (A := View.canon (kernelRun0_A.sl.HS2_49 arg3 arg4 arg5 x0 x1 x2)) (o := 512) 4 rfl (ldw _ _ _) (fun l => congrFun (ldw _ _ _) _) (fun x l => ldc3 _ _ _ x l 4 x l rfl (Nat.zero_add _).symm rfl) inb_S768x1024_S768x128_0_512,
    List.forall_mem_cons.2 ⟨piece_o (X := View.readAt (Elt Ideal) arg6.view (Rect.unit (s := S8x128) ![0, 0] S8x128.size inb_S8x128_S8x128_0_0).toLoadRect (arg6.view.rep x3)) (gn := View.readAt (Elt Ideal) arg7.view (Rect.unit (s := S1x128) ![0, 0] S1x128.size inb_S1x128_S1x128_0_0).toLoadRect (arg7.view.rep x4)) (a := scM0_2.view.readCov (kernelRun0_A.sl.HS2_49 arg3 arg4 arg5 x0 x1 x2) (Rect.unit (s := S8x1536x256) ![3, 0, 0] S1x1536x256.size inb_S8x1536x256_S1x1536x256_3_0_0).toLoadRect) (A := View.canon (kernelRun0_A.sl.HS2_49 arg3 arg4 arg5 x0 x1 x2)) (o := 384) 3 rfl (ldw _ _ _) (fun l => congrFun (ldw _ _ _) _) (fun x l => ldc3 _ _ _ x l 3 x l rfl (Nat.zero_add _).symm rfl) inb_S768x1024_S768x128_0_384,
    List.forall_mem_cons.2 ⟨piece_o (X := View.readAt (Elt Ideal) arg6.view (Rect.unit (s := S8x128) ![0, 0] S8x128.size inb_S8x128_S8x128_0_0).toLoadRect (arg6.view.rep x3)) (gn := View.readAt (Elt Ideal) arg7.view (Rect.unit (s := S1x128) ![0, 0] S1x128.size inb_S1x128_S1x128_0_0).toLoadRect (arg7.view.rep x4)) (a := scM0_2.view.readCov (kernelRun0_A.sl.HS2_49 arg3 arg4 arg5 x0 x1 x2) (Rect.unit (s := S8x1536x256) ![2, 0, 0] S1x1536x256.size inb_S8x1536x256_S1x1536x256_2_0_0).toLoadRect) (A := View.canon (kernelRun0_A.sl.HS2_49 arg3 arg4 arg5 x0 x1 x2)) (o := 256) 2 rfl (ldw _ _ _) (fun l => congrFun (ldw _ _ _) _) (fun x l => ldc3 _ _ _ x l 2 x l rfl (Nat.zero_add _).symm rfl) inb_S768x1024_S768x128_0_256,
    List.forall_mem_cons.2 ⟨piece_o (X := View.readAt (Elt Ideal) arg6.view (Rect.unit (s := S8x128) ![0, 0] S8x128.size inb_S8x128_S8x128_0_0).toLoadRect (arg6.view.rep x3)) (gn := View.readAt (Elt Ideal) arg7.view (Rect.unit (s := S1x128) ![0, 0] S1x128.size inb_S1x128_S1x128_0_0).toLoadRect (arg7.view.rep x4)) (a := scM0_2.view.readCov (kernelRun0_A.sl.HS2_49 arg3 arg4 arg5 x0 x1 x2) (Rect.unit (s := S8x1536x256) ![1, 0, 0] S1x1536x256.size inb_S8x1536x256_S1x1536x256_1_0_0).toLoadRect) (A := View.canon (kernelRun0_A.sl.HS2_49 arg3 arg4 arg5 x0 x1 x2)) (o := 128) 1 rfl (ldw _ _ _) (fun l => congrFun (ldw _ _ _) _) (fun x l => ldc3 _ _ _ x l 1 x l rfl (Nat.zero_add _).symm rfl) inb_S768x1024_S768x128_0_128,
    List.forall_mem_cons.2 ⟨piece_o (X := View.readAt (Elt Ideal) arg6.view (Rect.unit (s := S8x128) ![0, 0] S8x128.size inb_S8x128_S8x128_0_0).toLoadRect (arg6.view.rep x3)) (gn := View.readAt (Elt Ideal) arg7.view (Rect.unit (s := S1x128) ![0, 0] S1x128.size inb_S1x128_S1x128_0_0).toLoadRect (arg7.view.rep x4)) (a := scM0_2.view.readCov (kernelRun0_A.sl.HS2_49 arg3 arg4 arg5 x0 x1 x2) (Rect.unit (s := S8x1536x256) ![0, 0, 0] S1x1536x256.size inb_S8x1536x256_S1x1536x256_0_0_0).toLoadRect) (A := View.canon (kernelRun0_A.sl.HS2_49 arg3 arg4 arg5 x0 x1 x2)) (o := 0) 0 rfl (ldw _ _ _) (fun l => congrFun (ldw _ _ _) _) (fun x l => ldc3 _ _ _ x l 0 x l rfl (Nat.zero_add _).symm rfl) inb_S768x1024_S768x128_0_0,
    List.forall_mem_nil _⟩⟩⟩⟩⟩⟩⟩⟩
  · have hy : (y 1).val < 1024 := (y 1).isLt
    have key : ∀ h : Fin 8, (y 1).val / 128 = h.val → ∃ p ∈ (kernelRun0_A.sl.HO5_8 arg3 arg4 arg5 arg6 arg7 x0 x1 x2 x3 x4).take 8, y ∈ p.1.set := fun h hh => by
      match h, hh with
      | ⟨0, _⟩, hh => have h2 : (y 1).val / 128 = 0 := hh; exact ⟨_, List.getElem_mem (l := (kernelRun0_A.sl.HO5_8 arg3 arg4 arg5 arg6 arg7 x0 x1 x2 x3 x4).take 8) (n := 7) (by show 7 < 8; omega), mem_cols inb_S768x1024_S768x128_0_0 y (by omega) (by omega)⟩
      | ⟨1, _⟩, hh => have h2 : (y 1).val / 128 = 1 := hh; exact ⟨_, List.getElem_mem (l := (kernelRun0_A.sl.HO5_8 arg3 arg4 arg5 arg6 arg7 x0 x1 x2 x3 x4).take 8) (n := 6) (by show 6 < 8; omega), mem_cols inb_S768x1024_S768x128_0_128 y (by omega) (by omega)⟩
      | ⟨2, _⟩, hh => have h2 : (y 1).val / 128 = 2 := hh; exact ⟨_, List.getElem_mem (l := (kernelRun0_A.sl.HO5_8 arg3 arg4 arg5 arg6 arg7 x0 x1 x2 x3 x4).take 8) (n := 5) (by show 5 < 8; omega), mem_cols inb_S768x1024_S768x128_0_256 y (by omega) (by omega)⟩
      | ⟨3, _⟩, hh => have h2 : (y 1).val / 128 = 3 := hh; exact ⟨_, List.getElem_mem (l := (kernelRun0_A.sl.HO5_8 arg3 arg4 arg5 arg6 arg7 x0 x1 x2 x3 x4).take 8) (n := 4) (by show 4 < 8; omega), mem_cols inb_S768x1024_S768x128_0_384 y (by omega) (by omega)⟩
      | ⟨4, _⟩, hh => have h2 : (y 1).val / 128 = 4 := hh; exact ⟨_, List.getElem_mem (l := (kernelRun0_A.sl.HO5_8 arg3 arg4 arg5 arg6 arg7 x0 x1 x2 x3 x4).take 8) (n := 3) (by show 3 < 8; omega), mem_cols inb_S768x1024_S768x128_0_512 y (by omega) (by omega)⟩
      | ⟨5, _⟩, hh => have h2 : (y 1).val / 128 = 5 := hh; exact ⟨_, List.getElem_mem (l := (kernelRun0_A.sl.HO5_8 arg3 arg4 arg5 arg6 arg7 x0 x1 x2 x3 x4).take 8) (n := 2) (by show 2 < 8; omega), mem_cols inb_S768x1024_S768x128_0_640 y (by omega) (by omega)⟩
      | ⟨6, _⟩, hh => have h2 : (y 1).val / 128 = 6 := hh; exact ⟨_, List.getElem_mem (l := (kernelRun0_A.sl.HO5_8 arg3 arg4 arg5 arg6 arg7 x0 x1 x2 x3 x4).take 8) (n := 1) (by show 1 < 8; omega), mem_cols inb_S768x1024_S768x128_0_768 y (by omega) (by omega)⟩
      | ⟨7, _⟩, hh => have h2 : (y 1).val / 128 = 7 := hh; exact ⟨_, List.getElem_mem (l := (kernelRun0_A.sl.HO5_8 arg3 arg4 arg5 arg6 arg7 x0 x1 x2 x3 x4).take 8) (n := 0) (by show 0 < 8; omega), mem_cols inb_S768x1024_S768x128_0_896 y (by omega) (by omega)⟩
    exact key ⟨(y 1).val / 128, by omega⟩ rfl

end Cert.KernelIdeal.Attn

end
-- ==== Proof.AttnTie.lean ====
/-
  The attention: one point of the grid as a step on the contents of the scratch arrays.
-/
module

public import proofs.«01_k».proof.Proof.AttnFin
public import proofs.«01_k».proof.Proof.AttnC
public import proofs.«01_k».proof.Proof.AttnInit

@[expose] public section

set_option maxRecDepth 65536

noncomputable section

namespace Cert.KernelIdeal.Attn

open Cert.KernelIdeal Cert.KernelIdeal.Gen
open Idealize.ShloMosaic Idealize.ShloMosaic.TcCoe
open scoped BigOperators

/-- What the result block and the three scratch arrays hold. -/
abbrev St (c : Dev nD) := (S768x1024.Idx → Elt Ideal .bf16) × Buf (Elt Ideal) ((c : Thread nD τ).loc cc0_scratch0)
  × Buf (Elt Ideal) ((c : Thread nD τ).loc cc0_scratch1) × Buf (Elt Ideal) ((c : Thread nD τ).loc cc0_scratch2)

/-- The queries kept, the running maxima and the running sums. -/
def Qv (c : Dev nD) (s : St c) : S8x1536x128.Idx → EReal := scM0_0.view.read (Elt Ideal) s.2.1
def Mv (c : Dev nD) (s : St c) : S8x1536x128.Idx → EReal := scM0_1.view.read (Elt Ideal) s.2.2.1
def Av (c : Dev nD) (s : St c) : S8x1536x256.Idx → EReal := scM0_2.view.read (Elt Ideal) s.2.2.2

variable (m : (ℓ : Loc nD τ sig) → Buf (Elt Ideal) ℓ) (ρ : Dev nD → PrngReg) (c : Dev nD) (t : Fin (cfgA 0).N) (prev : St c)

set_option maxHeartbeats 4000000 in
theorem tie_A (q0 : P0_0 0 t) (q1 : ¬P0_1 0 t) :
    Qv c (step0 0 m ρ c t prev) = (QGa (iblk 0 m ρ c (0 : Fin 6) t))
    ∧ Mv c (step0 0 m ρ c t prev) = GMa true (QGa (iblk 0 m ρ c (0 : Fin 6) t)) (iblk 0 m ρ c (1 : Fin 6) t) (fun _ _ => ⊥)
    ∧ Av c (step0 0 m ρ c t prev) = GAa true (QGa (iblk 0 m ρ c (0 : Fin 6) t)) (iblk 0 m ρ c (1 : Fin 6) t) (iblk 0 m ρ c (2 : Fin 6) t) (fun _ _ => ⊥) (fun _ => 0)
    ∧ (step0 0 m ρ c t prev).1 = OUTa (iblk 0 m ρ c (3 : Fin 6) t) (iblk 0 m ρ c (4 : Fin 6) t) (GAa true (QGa (iblk 0 m ρ c (0 : Fin 6) t)) (iblk 0 m ρ c (1 : Fin 6) t) (iblk 0 m ρ c (2 : Fin 6) t) (fun _ _ => ⊥) (fun _ => 0)) := by
  rw [step0_A 0 m ρ c t prev q0 q1]
  refine ⟨?_, ?_, ?_, ?_⟩
  · unfold Qv; dsimp only; unfold kernelRun0_A; dsimp only; exact (View.read_writes_junk_eq_canon _ _).trans (funext fun y => canon_qA (ms0_0 0 t) (iblk 0 m ρ c (0 : Fin 6) t) y)
  · unfold Mv; dsimp only; unfold kernelRun0_A; dsimp only; exact (View.read_writes_junk_eq_canon _ _).trans (funext fun y => A.canon_m (ms0_0 0 t) (ms0_1 0 t) (iblk 0 m ρ c (0 : Fin 6) t) (iblk 0 m ρ c (1 : Fin 6) t) y)
  · unfold Av; dsimp only; unfold kernelRun0_A; dsimp only; exact (View.read_writes_junk_eq_canon _ _).trans (funext fun y => A.canon_a (ms0_0 0 t) (ms0_1 0 t) (ms0_2 0 t) (iblk 0 m ρ c (0 : Fin 6) t) (iblk 0 m ρ c (1 : Fin 6) t) (iblk 0 m ρ c (2 : Fin 6) t) y)
  · unfold out0_A_5; dsimp only; unfold kernelRun0_A; dsimp only; exact (View.read_writes_junk_eq_canon _ _).trans (funext fun y => (canon_oA (ms0_0 0 t) (ms0_1 0 t) (ms0_2 0 t) (ms0_3 0 t) (ms0_4 0 t) (iblk 0 m ρ c (0 : Fin 6) t) (iblk 0 m ρ c (1 : Fin 6) t) (iblk 0 m ρ c (2 : Fin 6) t) (iblk 0 m ρ c (3 : Fin 6) t) (iblk 0 m ρ c (4 : Fin 6) t) y).trans (congrFun (congrArg (OUTa (iblk 0 m ρ c (3 : Fin 6) t) (iblk 0 m ρ c (4 : Fin 6) t)) (funext fun z => A.canon_a (ms0_0 0 t) (ms0_1 0 t) (ms0_2 0 t) (iblk 0 m ρ c (0 : Fin 6) t) (iblk 0 m ρ c (1 : Fin 6) t) (iblk 0 m ρ c (2 : Fin 6) t) z)) y))

set_option maxHeartbeats 4000000 in
theorem tie_B (q0 : P0_0 0 t) (q1 : P0_1 0 t) :
    Qv c (step0 0 m ρ c t prev) = (QGa (iblk 0 m ρ c (0 : Fin 6) t))
    ∧ Mv c (step0 0 m ρ c t prev) = GMa false (QGa (iblk 0 m ρ c (0 : Fin 6) t)) (iblk 0 m ρ c (1 : Fin 6) t) (fun _ _ => ⊥)
    ∧ Av c (step0 0 m ρ c t prev) = GAa false (QGa (iblk 0 m ρ c (0 : Fin 6) t)) (iblk 0 m ρ c (1 : Fin 6) t) (iblk 0 m ρ c (2 : Fin 6) t) (fun _ _ => ⊥) (fun _ => 0) := by
  rw [step0_B 0 m ρ c t prev q0 q1]
  refine ⟨?_, ?_, ?_⟩
  · unfold Qv; dsimp only; unfold kernelRun0_B; dsimp only; exact (View.read_writes_junk_eq_canon _ _).trans (funext fun y => canon_qB (ms0_0 0 t) (iblk 0 m ρ c (0 : Fin 6) t) y)
  · unfold Mv; dsimp only; unfold kernelRun0_B; dsimp only; exact (View.read_writes_junk_eq_canon _ _).trans (funext fun y => B.canon_m (ms0_0 0 t) (ms0_1 0 t) (iblk 0 m ρ c (0 : Fin 6) t) (iblk 0 m ρ c (1 : Fin 6) t) y)
  · unfold Av; dsimp only; unfold kernelRun0_B; dsimp only; exact (View.read_writes_junk_eq_canon _ _).trans (funext fun y => B.canon_a (ms0_0 0 t) (ms0_1 0 t) (ms0_2 0 t) (iblk 0 m ρ c (0 : Fin 6) t) (iblk 0 m ρ c (1 : Fin 6) t) (iblk 0 m ρ c (2 : Fin 6) t) y)

set_option maxHeartbeats 4000000 in
theorem tie_C (q0 : ¬P0_0 0 t) (q1 : ¬P0_1 0 t) (M0 : Fin 8 → Fin 1536 → EReal) (hM : ∀ h r l, Mv c prev (ix3 h r l) = M0 h r) :
    Qv c (step0 0 m ρ c t prev) = (Qv c prev)
    ∧ Mv c (step0 0 m ρ c t prev) = GMa true (Qv c prev) (iblk 0 m ρ c (1 : Fin 6) t) M0
    ∧ Av c (step0 0 m ρ c t prev) = GAa true (Qv c prev) (iblk 0 m ρ c (1 : Fin 6) t) (iblk 0 m ρ c (2 : Fin 6) t) M0 (Av c prev)
    ∧ (step0 0 m ρ c t prev).1 = OUTa (iblk 0 m ρ c (3 : Fin 6) t) (iblk 0 m ρ c (4 : Fin 6) t) (GAa true (Qv c prev) (iblk 0 m ρ c (1 : Fin 6) t) (iblk 0 m ρ c (2 : Fin 6) t) M0 (Av c prev)) := by
  rw [step0_C 0 m ρ c t prev q0 q1]
  refine ⟨?_, ?_, ?_, ?_⟩
  · unfold Qv; dsimp only; unfold kernelRun0_C; dsimp only; first | done | rfl
  · unfold Mv; dsimp only; unfold kernelRun0_C; dsimp only; exact (View.read_writes_junk_eq_canon _ _).trans (funext fun y => canon_mC c (ms0_1 0 t) (iblk 0 m ρ c (1 : Fin 6) t) prev.2.1 prev.2.2.1 M0 hM y)
  · unfold Av; dsimp only; unfold kernelRun0_C; dsimp only; exact (View.read_writes_junk_eq_canon _ _).trans (funext fun y => canon_aC c (ms0_1 0 t) (ms0_2 0 t) (iblk 0 m ρ c (1 : Fin 6) t) (iblk 0 m ρ c (2 : Fin 6) t) prev.2.1 prev.2.2.1 prev.2.2.2 M0 hM y)
  · unfold out0_C_5; dsimp only; unfold kernelRun0_C; dsimp only; exact (View.read_writes_junk_eq_canon _ _).trans (funext fun y => (canon_oC c (ms0_1 0 t) (ms0_2 0 t) (ms0_3 0 t) (ms0_4 0 t) (iblk 0 m ρ c (1 : Fin 6) t) (iblk 0 m ρ c (2 : Fin 6) t) (iblk 0 m ρ c (3 : Fin 6) t) (iblk 0 m ρ c (4 : Fin 6) t) prev.2.1 prev.2.2.1 prev.2.2.2 y).trans (congrFun (congrArg (OUTa (iblk 0 m ρ c (3 : Fin 6) t) (iblk 0 m ρ c (4 : Fin 6) t)) (funext fun z => canon_aC c (ms0_1 0 t) (ms0_2 0 t) (iblk 0 m ρ c (1 : Fin 6) t) (iblk 0 m ρ c (2 : Fin 6) t) prev.2.1 prev.2.2.1 prev.2.2.2 M0 hM z)) y))

set_option maxHeartbeats 4000000 in
theorem tie_D (q0 : ¬P0_0 0 t) (q1 : P0_1 0 t) (M0 : Fin 8 → Fin 1536 → EReal) (hM : ∀ h r l, Mv c prev (ix3 h r l) = M0 h r) :
    Qv c (step0 0 m ρ c t prev) = (Qv c prev)
    ∧ Mv c (step0 0 m ρ c t prev) = GMa false (Qv c prev) (iblk 0 m ρ c (1 : Fin 6) t) M0
    ∧ Av c (step0 0 m ρ c t prev) = GAa false (Qv c prev) (iblk 0 m ρ c (1 : Fin 6) t) (iblk 0 m ρ c (2 : Fin 6) t) M0 (Av c prev) := by
  rw [step0_D 0 m ρ c t prev q0 q1]
  refine ⟨?_, ?_, ?_⟩
  · unfold Qv; dsimp only; unfold kernelRun0_D; dsimp only; first | done | rfl
  · unfold Mv; dsimp only; unfold kernelRun0_D; dsimp only; exact (View.read_writes_junk_eq_canon _ _).trans (funext fun y => canon_mD c (ms0_1 0 t) (iblk 0 m ρ c (1 : Fin 6) t) prev.2.1 prev.2.2.1 M0 hM y)
  · unfold Av; dsimp only; unfold kernelRun0_D; dsimp only; exact (View.read_writes_junk_eq_canon _ _).trans (funext fun y => canon_aD c (ms0_1 0 t) (ms0_2 0 t) (iblk 0 m ρ c (1 : Fin 6) t) (iblk 0 m ρ c (2 : Fin 6) t) prev.2.1 prev.2.2.1 prev.2.2.2 M0 hM y)

end Cert.KernelIdeal.Attn

end
-- ==== Proof.AttnArr.lean ====
/-
  The attention: which block of queries and of keys a point of the grid works on, and the windows' blocks as entries of the
  arguments.
-/
module

public import proofs.«01_k».proof.Proof.Gen.KernelIdeal.Flash
public import Idealize.ShloMosaic.Lib.Pipeline.ValueKit
public import Idealize.ShloMosaic.Lib.ValueIdx

@[expose] public section

set_option maxRecDepth 65536

noncomputable section

namespace Cert.KernelIdeal.Attn

open Cert.KernelIdeal Cert.KernelIdeal.Gen
open Idealize.ShloMosaic Idealize.ShloMosaic.TcCoe

/-- The block of queries and the block of keys at a point. -/
def qiN (t : Fin (cfgA 0).N) : ℕ := (pinT_0 0 (ix1 ⟨t.val, t.isLt⟩)).toNat
def kiN (t : Fin (cfgA 0).N) : ℕ := (pinT_1 0 (ix1 ⟨t.val, t.isLt⟩)).toNat

theorem first_iff : ∀ t : Fin (cfgA 0).N, P0_0 0 t ↔ kiN t = 0 := by decide +kernel
theorem off_iff : ∀ t : Fin (cfgA 0).N, P0_1 0 t ↔ kiN t ≠ qiN t := by decide +kernel
theorem ki_le : ∀ t : Fin (cfgA 0).N, kiN t ≤ qiN t := by decide +kernel
theorem qi_lt : ∀ t : Fin (cfgA 0).N, qiN t < 11 := by decide +kernel
/-- After the first of its row of blocks a point follows the one with the block of keys before. -/
theorem before : ∀ t : Fin (cfgA 0).N, kiN t ≠ 0 → ∃ u : Fin (cfgA 0).N, u.val + 1 = t.val ∧ qiN u = qiN t ∧ kiN u + 1 = kiN t ∧ kiN u ≠ qiN u := by decide +kernel
/-- The result is written back at the diagonal points. -/
theorem flush_diag : ∀ t : Fin (cfgA 0).N, ((cfgA 0).win (5 : Fin 6)).flush t = true → kiN t = qiN t := by decide +kernel

theorem tr0 : ∀ t : Fin (cfgA 0).N, ((cfgA 0).win (0 : Fin 6)).index t = ![qiN t, 3] := by decide +kernel
theorem tr1 : ∀ t : Fin (cfgA 0).N, ((cfgA 0).win (1 : Fin 6)).index t = ![kiN t, 4] := by decide +kernel
theorem tr2 : ∀ t : Fin (cfgA 0).N, ((cfgA 0).win (2 : Fin 6)).index t = ![kiN t, 5] := by decide +kernel
theorem tr3 : ∀ t : Fin (cfgA 0).N, ((cfgA 0).win (3 : Fin 6)).index t = ![0, 0] := by decide +kernel
theorem tr4 : ∀ t : Fin (cfgA 0).N, ((cfgA 0).win (4 : Fin 6)).index t = ![0, 0] := by decide +kernel
theorem tr5 : ∀ t : Fin (cfgA 0).N, ((cfgA 0).win (5 : Fin 6)).index t = ![qiN t, 0] := by decide +kernel

theorem covers5 : ((cfgA 0).win (5 : Fin 6)).Covers := by decide +kernel

end Cert.KernelIdeal.Attn

end
-- ==== Proof.AttnSpec.lean ====
/-
  The differential attention as mathematics: the scores of each of a head's two maps, the values, the weight of the second
  map, and the normalised difference of the two softmax averages.
-/
module

public import proofs.«01_k».proof.Proof.AttnMath

@[expose] public section

noncomputable section

namespace Cert.AttnSpec

open Idealize.ShloMosaic Cert.AttnMath
open scoped BigOperators

/-- A head's column. -/
def hcol (h : Fin 8) (l : Fin 128) : Fin 1024 := ⟨128 * h.val + l.val, by omega⟩

/-- The lane of a map: the first 64 of the head, or the last. -/
def lane (b : Bool) (l : Fin 64) : Fin 128 := ⟨(if b then 64 else 0) + l.val, by split <;> omega⟩

/-- The score of a query row against key `j`. -/
def sc (fq fk : Fin 8448 → Fin 1024 → ℝ) (b : Bool) (h : Fin 8) (i : Fin 8448) (j : ℕ) : ℝ :=
  if hj : j < 8448 then ∑ l : Fin 64, fq i (hcol h (lane b l)) * fk ⟨j, hj⟩ (hcol h (lane b l)) else 0

/-- The value of key `j`. -/
def vv (fv : Fin 8448 → Fin 1024 → ℝ) (h : Fin 8) (l : Fin 128) (j : ℕ) : ℝ :=
  if hj : j < 8448 then fv ⟨j, hj⟩ (hcol h l) else 0

/-- The weight of the second map. -/
def LAM (f : Fin 8 → Fin 128 → EReal) : EReal :=
  Ideal.exp (∑ l : Fin 128, f 0 l * f 1 l) - Ideal.exp (∑ l : Fin 128, f 2 l * f 3 l) + Ideal.ofBits .f32 0x3E4CCCCD#32

/-- The difference of the two averages over the keys up to the query's own. -/
def diff (fq fk fv : Fin 8448 → Fin 1024 → ℝ) (lam : EReal) (i : Fin 8448) (h : Fin 8) (l : Fin 128) : EReal :=
  (att (sc fq fk false h i) (vv fv h l) (i.val + 1) : EReal) - lam * (att (sc fq fk true h i) (vv fv h l) (i.val + 1) : EReal)

/-- A row over its root mean square, times the gains and 0.8. -/
def NRM (od gn : Fin 128 → EReal) (l : Fin 128) : EReal :=
  od l * Ideal.rsqrt (Ideal.div (∑ k : Fin 128, od k * od k) (Ideal.ofBits .f32 0x43000000#32) + Ideal.ofBits .f32 0x3727C5AC#32) * gn l
    * Ideal.ofBits .f32 0x3F4CCCCD#32

end Cert.AttnSpec

end
-- ==== Proof.AttnSeq.lean ====
/-
  The attention over the whole grid: after each point every row's running pair is that of the keys seen so far, and at the
  diagonal the block of the result is the normalised difference of the two softmax averages.
-/
module

public import proofs.«01_k».proof.Proof.AttnTie
public import proofs.«01_k».proof.Proof.AttnArr
public import proofs.«01_k».proof.Proof.AttnSpec

@[expose] public section

set_option maxRecDepth 65536

noncomputable section

namespace Cert.KernelIdeal.Attn

open Cert.KernelIdeal Cert.KernelIdeal.Gen Cert.AttnMath
open Cert.AttnSpec (hcol lane sc vv)
open Idealize.ShloMosaic Idealize.ShloMosaic.TcCoe
open scoped BigOperators

/-- A row of a block as a row of the array. -/
def row (q : Fin 11) (r : Fin 768) : Fin 8448 := ⟨768 * q.val + r.val, by omega⟩

def qF (t : Fin (cfgA 0).N) : Fin 11 := ⟨qiN t, qi_lt t⟩
def kF (t : Fin (cfgA 0).N) : Fin 11 := ⟨kiN t, lt_of_le_of_lt (ki_le t) (qi_lt t)⟩

/-- The row of the block that a kept row of queries comes from, and its map. -/
def rr (r : Fin 1536) : Fin 768 := ⟨r.val % 768, Nat.mod_lt _ (by omega)⟩
def mp (r : Fin 1536) : Bool := decide (768 ≤ r.val)

/-- What the sums weigh. -/
def wt (fv : Fin 8448 → Fin 1024 → ℝ) (h : Fin 8) (l : Fin 256) : ℕ → ℝ :=
  if hl : l.val < 128 then vv fv h ⟨l.val, hl⟩ else fun _ => 1

theorem sum_lanes (f : Fin 128 → EReal) (b : Bool) (hz : ∀ l : Fin 128, (b = true ↔ l.val < 64) → f l = 0) :
    ∑ l : Fin 128, f l = ∑ l : Fin 64, f (lane b l) := by
  have e : ∑ l : Fin 128, f l = ∑ l : Fin 64, f (lane false l) + ∑ l : Fin 64, f (lane true l) := by
    refine (Fin.sum_univ_add (a := 64) (b := 64) f).trans ?_
    refine congrArg₂ _ (Finset.sum_congr rfl fun l _ => congrArg f (Fin.ext ?_)) (Finset.sum_congr rfl fun l _ => congrArg f (Fin.ext ?_))
    · show l.val = 0 + l.val; omega
    · show 64 + l.val = 64 + l.val; rfl
  rw [e]
  cases b
  · rw [Finset.sum_eq_zero (s := Finset.univ) (f := fun l : Fin 64 => f (lane true l)) (fun l _ => hz _ ⟨fun h => absurd h (by decide), fun h => by
      have h' : 64 + l.val < 64 := h
      omega⟩), add_zero]
  · rw [Finset.sum_eq_zero (s := Finset.univ) (f := fun l : Fin 64 => f (lane false l)) (fun l _ => hz _ ⟨fun _ => by
      show 0 + l.val < 64
      omega, fun _ => rfl⟩), zero_add]

section
variable (fq fk fv : Fin 8448 → Fin 1024 → ℝ) (q k : Fin 11) (X K V : S768x1024.Idx → EReal)
  (hX : ∀ (r : Fin 768) (j : Fin 1024), X (ix2 r j) = (fq (row q r) j : EReal))
  (hK : ∀ (r : Fin 768) (j : Fin 1024), K (ix2 r j) = (fk (row k r) j : EReal))
  (hV : ∀ (r : Fin 768) (j : Fin 1024), V (ix2 r j) = (fv (row k r) j : EReal))

include hX hK in
theorem T_at (d : Bool) (h : Fin 8) (r : Fin 1536) (c : Fin 768) :
    T d (QGa X) K h r c = if c.val < (if d = true then r.val % 768 + 1 else 768) then (sc fq fk (mp r) h (row q (rr r)) (768 * k.val + c.val) : EReal) else ⊥ := by
  unfold T
  have hc := c.isLt
  have e : (d = false ∨ c.val ≤ r.val % 768) ↔ c.val < (if d = true then r.val % 768 + 1 else 768) := by
    cases d
    · simp
    · simp [Nat.lt_succ_iff]
  rw [if_congr e rfl rfl]
  refine if_congr Iff.rfl ?_ rfl
  have hj : 768 * k.val + c.val < 8448 := by omega
  unfold sc
  rw [dif_pos hj, ← coe_sum]
  refine (sum_lanes (fun l => QGa X (ix3 h r l) * K (ix2 c (col h l))) (mp r) fun l hl => ?_).trans (Finset.sum_congr rfl fun l _ => ?_)
  · have e0 : QGa X (ix3 h r l) = 0 := if_neg fun hh => by
      unfold mp at hl
      rw [decide_eq_true_eq] at hl
      have h3 : r.val < 768 ↔ l.val < 64 := hh
      by_cases h1 : r.val < 768
      · have := hl.mpr (h3.mp h1); omega
      · exact h1 (h3.mpr (hl.mp (by omega)))
    show QGa X (ix3 h r l) * K (ix2 c (col h l)) = 0
    rw [e0, zero_mul]
  · have e1 : QGa X (ix3 h r (lane (mp r) l)) = X (ix2 (rr r) (col h (lane (mp r) l))) := if_pos (by
      show r.val < 768 ↔ (if mp r = true then 64 else 0) + l.val < 64
      have hl := l.isLt
      have e2 : mp r = true ↔ 768 ≤ r.val := decide_eq_true_iff
      by_cases hm : 768 ≤ r.val
      · rw [if_pos (e2.mpr hm)]; omega
      · rw [if_neg (fun h => hm (e2.mp h))]; omega)
    show QGa X (ix3 h r (lane (mp r) l)) * K (ix2 c (col h (lane (mp r) l))) = _
    rw [e1, hX, hK, ← EReal.coe_mul]
    rfl

include hX hK hV in
/-- ONE POINT on every row's running pair. -/
theorem advance (d : Bool) (M0 : Fin 8 → Fin 1536 → EReal) (A0 : S8x1536x256.Idx → EReal) (n : ℕ) (hn : n = 768 * k.val)
    (hi : ∀ h r l, Inv (sc fq fk (mp r) h (row q (rr r))) (wt fv h l) n (M0 h r) (A0 (ix3 h r l))) (h : Fin 8) (r : Fin 1536) (l : Fin 256) :
    Inv (sc fq fk (mp r) h (row q (rr r))) (wt fv h l) (n + (if d = true then r.val % 768 + 1 else 768))
      (GM d (QGa X) K M0 h r) (GAa d (QGa X) K V M0 A0 (ix3 h r l)) := by
  have hr : r.val % 768 < 768 := Nat.mod_lt _ (by omega)
  subst hn
  refine (hi h r l).step (nc := 768) (by split <;> omega) (by split <;> omega) (T d (QGa X) K h r) (W V h l)
    (fun c => T_at fq fk q k X K hX hK d h r c) (fun c _ => ?_)
  unfold W wt
  have hj : 768 * k.val + c.val < 8448 := by omega
  by_cases hl : l.val < 128
  · rw [dif_pos hl, dif_pos hl, hV]
    unfold vv
    rw [dif_pos hj]
    rfl
  · rw [dif_neg hl, dif_neg hl]
    rfl

end

variable (m : (ℓ : Loc nD τ sig) → Buf (Elt Ideal) ℓ) (ρ : Dev nD → PrngReg) (c : Dev nD)

theorem blk0 (t : Fin (cfgA 0).N) (r : Fin 768) (j : Fin 1024) :
    iblk 0 m ρ c (0 : Fin 6) t (ix2 r j) = m ((c.tc : Thread nD τ).loc main_arg2) (ix2 (row (qF t) r) ⟨3072 + j.val, by omega⟩) := by
  unfold iblk
  rw [View.read_apply]
  show m _ _ = _
  refine congrArg _ (funext fun a => Fin.ext ?_)
  match a with
  | ⟨0, _⟩ => show ((cfgA 0).win (0 : Fin 6)).index t 0 * 768 + 1 * r.val = 768 * qiN t + r.val; rw [tr0]; show qiN t * 768 + 1 * r.val = _; omega
  | ⟨1, _⟩ => show ((cfgA 0).win (0 : Fin 6)).index t 1 * 1024 + 1 * j.val = 3072 + j.val; rw [tr0]; show 3 * 1024 + 1 * j.val = _; omega

theorem blk1 (t : Fin (cfgA 0).N) (r : Fin 768) (j : Fin 1024) :
    iblk 0 m ρ c (1 : Fin 6) t (ix2 r j) = m ((c.tc : Thread nD τ).loc main_arg3) (ix2 (row (kF t) r) ⟨4096 + j.val, by omega⟩) := by
  unfold iblk
  rw [View.read_apply]
  show m _ _ = _
  refine congrArg _ (funext fun a => Fin.ext ?_)
  match a with
  | ⟨0, _⟩ => show ((cfgA 0).win (1 : Fin 6)).index t 0 * 768 + 1 * r.val = 768 * kiN t + r.val; rw [tr1]; show kiN t * 768 + 1 * r.val = _; omega
  | ⟨1, _⟩ => show ((cfgA 0).win (1 : Fin 6)).index t 1 * 1024 + 1 * j.val = 4096 + j.val; rw [tr1]; show 4 * 1024 + 1 * j.val = _; omega

theorem blk2 (t : Fin (cfgA 0).N) (r : Fin 768) (j : Fin 1024) :
    iblk 0 m ρ c (2 : Fin 6) t (ix2 r j) = m ((c.tc : Thread nD τ).loc main_arg4) (ix2 (row (kF t) r) ⟨5120 + j.val, by omega⟩) := by
  unfold iblk
  rw [View.read_apply]
  show m _ _ = _
  refine congrArg _ (funext fun a => Fin.ext ?_)
  match a with
  | ⟨0, _⟩ => show ((cfgA 0).win (2 : Fin 6)).index t 0 * 768 + 1 * r.val = 768 * kiN t + r.val; rw [tr2]; show kiN t * 768 + 1 * r.val = _; omega
  | ⟨1, _⟩ => show ((cfgA 0).win (2 : Fin 6)).index t 1 * 1024 + 1 * j.val = 5120 + j.val; rw [tr2]; show 5 * 1024 + 1 * j.val = _; omega

theorem blk3 (t : Fin (cfgA 0).N) (r : Fin 8) (j : Fin 128) :
    iblk 0 m ρ c (3 : Fin 6) t (ix2 r j) = m ((c.tc : Thread nD τ).loc main_arg5) (ix2 r j) := by
  unfold iblk
  rw [View.read_apply]
  show m _ _ = _
  refine congrArg _ (funext fun a => Fin.ext ?_)
  match a with
  | ⟨0, _⟩ => show ((cfgA 0).win (3 : Fin 6)).index t 0 * 8 + 1 * r.val = r.val; rw [tr3]; show 0 * 8 + 1 * r.val = _; omega
  | ⟨1, _⟩ => show ((cfgA 0).win (3 : Fin 6)).index t 1 * 128 + 1 * j.val = j.val; rw [tr3]; show 0 * 128 + 1 * j.val = _; omega

theorem blk4 (t : Fin (cfgA 0).N) (r : Fin 1) (j : Fin 128) :
    iblk 0 m ρ c (4 : Fin 6) t (ix2 r j) = m ((c.tc : Thread nD τ).loc main_arg6) (ix2 r j) := by
  unfold iblk
  rw [View.read_apply]
  show m _ _ = _
  refine congrArg _ (funext fun a => Fin.ext ?_)
  match a with
  | ⟨0, _⟩ => show ((cfgA 0).win (4 : Fin 6)).index t 0 * 1 + 1 * r.val = r.val; rw [tr4]; show 0 * 1 + 1 * r.val = _; omega
  | ⟨1, _⟩ => show ((cfgA 0).win (4 : Fin 6)).index t 1 * 128 + 1 * j.val = j.val; rw [tr4]; show 0 * 128 + 1 * j.val = _; omega

/-- The block of queries of a row of blocks. -/
def X0 (q : Fin 11) : S768x1024.Idx → EReal := fun y =>
  m ((c.tc : Thread nD τ).loc main_arg2) (ix2 (row q (y 0)) ⟨3072 + (y 1).val, by have h : (y 1).val < 1024 := (y 1).isLt; omega⟩)

theorem iblk0_eq (t : Fin (cfgA 0).N) : iblk 0 m ρ c (0 : Fin 6) t = X0 m c (qF t) := by
  funext y
  exact (congrArg _ (eq_ix2 y)).trans (blk0 m ρ c t (y 0) (y 1))

/-- What holds after a point: the queries kept, and every row's running pair after its keys. -/
def Good (fq fk fv : Fin 8448 → Fin 1024 → ℝ) (q : Fin 11) (n : Fin 1536 → ℕ) (s : St c) : Prop :=
  Qv c s = QGa (X0 m c q) ∧ ∃ M0 : Fin 8 → Fin 1536 → EReal, (∀ h r l, Mv c s (ix3 h r l) = M0 h r)
    ∧ ∀ h r l, Inv (sc fq fk (mp r) h (row q (rr r))) (wt fv h l) (n r) (M0 h r) (Av c s (ix3 h r l))

variable (fq fk fv : Fin 8448 → Fin 1024 → ℝ)
  (hq : ∀ (i : Fin 8448) (j : Fin 1024), m ((c.tc : Thread nD τ).loc main_arg2) (ix2 i ⟨3072 + j.val, by omega⟩) = (fq i j : EReal))
  (hk : ∀ (i : Fin 8448) (j : Fin 1024), m ((c.tc : Thread nD τ).loc main_arg3) (ix2 i ⟨4096 + j.val, by omega⟩) = (fk i j : EReal))
  (hv : ∀ (i : Fin 8448) (j : Fin 1024), m ((c.tc : Thread nD τ).loc main_arg4) (ix2 i ⟨5120 + j.val, by omega⟩) = (fv i j : EReal))

/-- The keys seen by a row after a point. -/
def seen (t : Fin (cfgA 0).N) (r : Fin 1536) : ℕ := 768 * kiN t + (if kiN t = qiN t then r.val % 768 + 1 else 768)

include hq hk hv in
theorem good_step (t : Fin (cfgA 0).N) (prev : St c)
    (hp : kiN t ≠ 0 → Good m c fq fk fv (qF t) (fun _ => 768 * kiN t) prev) :
    Good m c fq fk fv (qF t) (seen t) (step0 0 m ρ c t prev)
      ∧ (kiN t = qiN t → (step0 0 m ρ c t prev).1 = OUTa (iblk 0 m ρ c (3 : Fin 6) t) (iblk 0 m ρ c (4 : Fin 6) t) (Av c (step0 0 m ρ c t prev))) := by
  have hX : ∀ (r : Fin 768) (j : Fin 1024), X0 m c (qF t) (ix2 r j) = (fq (row (qF t) r) j : EReal) := fun r j => hq _ _
  have hK : ∀ (r : Fin 768) (j : Fin 1024), iblk 0 m ρ c (1 : Fin 6) t (ix2 r j) = (fk (row (kF t) r) j : EReal) := fun r j => (blk1 m ρ c t r j).trans (hk _ _)
  have hV : ∀ (r : Fin 768) (j : Fin 1024), iblk 0 m ρ c (2 : Fin 6) t (ix2 r j) = (fv (row (kF t) r) j : EReal) := fun r j => (blk2 m ρ c t r j).trans (hv _ _)
  by_cases h0 : kiN t = 0
  · have q0 := (first_iff t).mpr h0
    have base : ∀ (h : Fin 8) (r : Fin 1536) (l : Fin 256), Inv (sc fq fk (mp r) h (row (qF t) (rr r))) (wt fv h l) 0 ((fun _ _ => ⊥ : Fin 8 → Fin 1536 → EReal) h r) ((fun _ => 0 : S8x1536x256.Idx → EReal) (ix3 h r l)) :=
      fun h r l => .inl ⟨rfl, rfl, rfl⟩
    by_cases h1 : kiN t = qiN t
    · have q1 : ¬P0_1 0 t := fun h => (off_iff t).mp h h1
      obtain ⟨eQ, eM, eA, eO⟩ := tie_A m ρ c t prev q0 q1
      rw [iblk0_eq] at eQ eM eA eO
      refine ⟨⟨eQ, _, fun h r l => (congrFun eM _).trans rfl, fun h r l => ?_⟩, fun _ => by rw [eA]; exact eO⟩
      rw [eA]
      have := advance fq fk fv (qF t) (kF t) _ _ _ hX hK hV true (fun _ _ => ⊥) (fun _ => 0) 0 (by show 0 = 768 * kiN t; omega) base h r l
      unfold seen; rw [if_pos h1, h0]; simpa using this
    · have q1 : P0_1 0 t := (off_iff t).mpr h1
      obtain ⟨eQ, eM, eA⟩ := tie_B m ρ c t prev q0 q1
      rw [iblk0_eq] at eQ eM eA
      refine ⟨⟨eQ, _, fun h r l => (congrFun eM _).trans rfl, fun h r l => ?_⟩, fun h => absurd h h1⟩
      rw [eA]
      have := advance fq fk fv (qF t) (kF t) _ _ _ hX hK hV false (fun _ _ => ⊥) (fun _ => 0) 0 (by show 0 = 768 * kiN t; omega) base h r l
      unfold seen; rw [if_neg h1, h0]; simpa using this
  · have q0 : ¬P0_0 0 t := fun h => h0 ((first_iff t).mp h)
    obtain ⟨pQ, M0, pM, pI⟩ := hp h0
    by_cases h1 : kiN t = qiN t
    · have q1 : ¬P0_1 0 t := fun h => (off_iff t).mp h h1
      obtain ⟨eQ, eM, eA, eO⟩ := tie_C m ρ c t prev q0 q1 M0 pM
      rw [pQ] at eQ eM eA eO
      refine ⟨⟨eQ, _, fun h r l => (congrFun eM _).trans rfl, fun h r l => ?_⟩, fun _ => by rw [eA]; exact eO⟩
      rw [eA]
      have := advance fq fk fv (qF t) (kF t) _ _ _ hX hK hV true M0 _ (768 * kiN t) rfl pI h r l
      unfold seen; rw [if_pos h1]; simpa using this
    · have q1 : P0_1 0 t := (off_iff t).mpr h1
      obtain ⟨eQ, eM, eA⟩ := tie_D m ρ c t prev q0 q1 M0 pM
      rw [pQ] at eQ eM eA
      refine ⟨⟨eQ, _, fun h r l => (congrFun eM _).trans rfl, fun h r l => ?_⟩, fun h => absurd h h1⟩
      rw [eA]
      have := advance fq fk fv (qF t) (kF t) _ _ _ hX hK hV false M0 _ (768 * kiN t) rfl pI h r l
      unfold seen; rw [if_neg h1]; simpa using this

theorem prev_eq (t u : Fin (cfgA 0).N) (h : u.val + 1 = t.val) : prev0 0 m ρ c t = traj0 0 m ρ c u.val u.isLt := by
  unfold prev0
  rw [dif_neg (by omega)]
  have : ∀ (n : ℕ) (hn : n < (cfgA 0).N), n = u.val → traj0 0 m ρ c n hn = traj0 0 m ρ c u.val u.isLt := fun n hn e => by subst e; rfl
  exact this _ _ (by omega)

include hq hk hv in
theorem good (n : ℕ) : ∀ t : Fin (cfgA 0).N, t.val = n → Good m c fq fk fv (qF t) (seen t) (traj0 0 m ρ c t.val t.isLt)
      ∧ (kiN t = qiN t → (traj0 0 m ρ c t.val t.isLt).1 = OUTa (iblk 0 m ρ c (3 : Fin 6) t) (iblk 0 m ρ c (4 : Fin 6) t) (Av c (traj0 0 m ρ c t.val t.isLt))) := by
  induction n using Nat.strong_induction_on with
  | _ n ih =>
    intro t ht
    rw [traj0_eq]
    refine good_step m ρ c fq fk fv hq hk hv t _ fun h0 => ?_
    obtain ⟨u, hu, eq, ek, hne⟩ := before t h0
    rw [prev_eq m ρ c t u hu]
    have := (ih u.val (by omega) u rfl).1
    have e1 : qF u = qF t := Fin.ext eq
    rw [e1] at this
    have e2 : seen u = fun _ => 768 * kiN t := funext fun r => by unfold seen; rw [if_neg hne]; omega
    rw [e2] at this
    exact this

/-- The result. -/
def GO : S8448x1024.Idx → EReal := fun i =>
  Cert.AttnSpec.NRM (Cert.AttnSpec.diff fq fk fv (Cert.AttnSpec.LAM fun a l => m ((c.tc : Thread nD τ).loc main_arg5) (ix2 a l)) (i 0)
      ⟨(i 1).val / 128, by have h : (i 1).val < 1024 := (i 1).isLt; omega⟩)
    (fun l => m ((c.tc : Thread nD τ).loc main_arg6) (ix2 0 l)) ⟨(i 1).val % 128, Nat.mod_lt _ (by omega)⟩

include hq hk hv in
theorem out_at (t : Fin (cfgA 0).N) (hd : kiN t = qiN t) (y : S768x1024.Idx) :
    (traj0 0 m ρ c t.val t.isLt).1 y = GO m c fq fk fv (ix2 (row (qF t) (y 0)) (y 1)) := by
  obtain ⟨⟨-, M0, -, hI⟩, hO⟩ := good m ρ c fq fk fv hq hk hv t.val t rfl
  rw [hO hd]
  generalize Av c (traj0 0 m ρ c t.val t.isLt) = A at hI
  unfold OUTa GO
  have eL : LAM (iblk 0 m ρ c (3 : Fin 6) t) = Cert.AttnSpec.LAM fun a l => m ((c.tc : Thread nD τ).loc main_arg5) (ix2 a l) := by
    unfold LAM Cert.AttnSpec.LAM
    simp only [blk3]
  have eG : (fun l => iblk 0 m ρ c (4 : Fin 6) t (ix2 0 l)) = fun l => m ((c.tc : Thread nD τ).loc main_arg6) (ix2 0 l) := funext fun l => blk4 m ρ c t 0 l
  rw [eL, eG]
  have eD : ∀ (lam : EReal) (h : Fin 8) (r : Fin 768), OD lam A h r = Cert.AttnSpec.diff fq fk fv lam (row (qF t) r) h := fun lam h r => funext fun l => by
    have hr := r.isLt
    have hl := l.isLt
    have part : ∀ (b : Bool) (r' : Fin 1536), mp r' = b → rr r' = r →
        Ideal.div (A (ix3 h r' ⟨l.val, by omega⟩)) (A (ix3 h r' ⟨128 + l.val, by omega⟩)) = (att (sc fq fk b h (row (qF t) r)) (vv fv h l) (768 * qiN t + r.val + 1) : EReal) := fun b r' e1 e2 => by
      subst e1 e2
      have hs : seen t r' = 768 * qiN t + (rr r').val + 1 := by unfold seen; rw [if_pos hd, hd]; show _ = 768 * qiN t + r'.val % 768 + 1; omega
      have i1 := hI h r' ⟨l.val, by omega⟩
      have i2 := hI h r' ⟨128 + l.val, by omega⟩
      rw [hs] at i1 i2
      have w1 : wt fv h ⟨l.val, by omega⟩ = vv fv h l := dif_pos hl
      have w2 : wt fv h ⟨128 + l.val, by omega⟩ = fun _ => 1 := dif_neg (by show ¬(128 + l.val < 128); omega)
      rw [w1] at i1
      rw [w2] at i2
      exact Inv.quotient (by omega) i1 i2
    unfold OD Cert.AttnSpec.diff
    rw [part false ⟨r.val, by omega⟩ (by unfold mp; exact decide_eq_false (by show ¬ 768 ≤ r.val; omega)) (Fin.ext (by show r.val % 768 = r.val; omega)),
      part true ⟨768 + r.val, by omega⟩ (by unfold mp; exact decide_eq_true (by show 768 ≤ 768 + r.val; omega)) (Fin.ext (by show (768 + r.val) % 768 = r.val; omega))]
    rfl
  exact congrArg (fun od => NRM od (fun l => m ((c.tc : Thread nD τ).loc main_arg6) (ix2 0 l)) ⟨(y 1).val % 128, Nat.mod_lt _ (by omega)⟩) (eD _ ⟨(y 1).val / 128, by have h : (y 1).val < 1024 := (y 1).isLt; omega⟩ (y 0))

include hq hk hv in
/-- THE ARRAY after the run. -/
theorem array : (dats 0 m ρ 0 c).arrAt (5 : Fin 6) (cfgA 0).N = GO m c fq fk fv := by
  refine (dats 0 m ρ 0 c).arrAt_eq_of_covers (5 : Fin 6) _ covers5 fun t hf y => ?_
  refine (out_at m ρ c fq fk fv hq hk hv t (flush_diag t hf) y).trans (congrArg (GO m c fq fk fv) (funext fun a => Fin.ext ?_))
  match a with
  | ⟨0, _⟩ => show 768 * qiN t + (y 0).val = ((cfgA 0).win (5 : Fin 6)).index t 0 * 768 + 1 * (y 0).val; rw [tr5]; show _ = qiN t * 768 + 1 * (y 0).val; omega
  | ⟨1, _⟩ => show (y 1).val = ((cfgA 0).win (5 : Fin 6)).index t 1 * 1024 + 1 * (y 1).val; rw [tr5]; show _ = 0 * 1024 + 1 * (y 1).val; omega

end Cert.KernelIdeal.Attn

end
-- ==== Proof.AttnRef.lean ====
/-
  The reference attention read at one place of its result: for one query row, one head and one lane, the difference of the
  two softmax averages over the keys up to the query's own, over its root mean square, times the gains and 0.8.
-/
module

public import proofs.«01_k».proof.Proof.Gen.ReferenceIdeal.Read
public import Idealize.ShloMosaic.Lib.Pointwise
public import proofs.«01_k».proof.Proof.AttnSpec

@[expose] public section

set_option maxRecDepth 16384
set_option backward.proofsInPublic true

noncomputable section

namespace Cert.ReferenceIdeal.Read

open Cert.ReferenceIdeal Cert.ReferenceIdeal.Gen Cert.AttnSpec Cert.AttnMath
open Idealize.ShloMosaic
open scoped BigOperators

theorem neg_inf_word : Ideal.ofBits .f32 0xFF800000#32 = ⊥ := by
  decide

theorem toInt_of_lt (n : ℕ) (h : n < 8448) : (BitVec.ofNat 32 n).toInt = (n : ℤ) := by
  rw [BitVec.toInt_eq_toNat_cond, BitVec.toNat_ofNat, Nat.mod_eq_of_lt (by omega), if_pos (by omega)]

/-- The causal test: key `c` is kept by query `i`. -/
theorem causal_iff (i c : ℕ) (hi : i < 8448) (hc : c < 8448) :
    (IntOp.cmpi .sle (BitVec.ofNat 32 c) (BitVec.ofNat 32 i) = 1) ↔ c < i + 1 := by
  show (BitVec.ofBool (BitVec.sle (BitVec.ofNat 32 c) (BitVec.ofNat 32 i)) = 1#1) ↔ _
  rw [BitVec.sle, toInt_of_lt c hc, toInt_of_lt i hi]
  by_cases h : c < i + 1
  · simp only [h, iff_true]
    rw [decide_eq_true (by omega)]
    rfl
  · simp only [h, iff_false]
    rw [decide_eq_false (by omega)]
    decide

/-- The greatest entry along the last axis. -/
theorem host_max {a b c : ℕ} (T : (⟨3, ![a, b, c]⟩ : Shape).Idx → EReal) (init : (⟨0, ![]⟩ : Shape).Idx → EReal)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (j : (⟨2, ![a, b]⟩ : Shape).Idx) :
    Host.reduce (FloatOps.maximumf (F := Ideal) (φ := .f32)) T init h' hu j
      = Finset.univ.fold max (init (Shape.Idx.first hu)) fun k : Fin c => T (ix3 (j 0) (j 1) k) := by
  rw [Host.reduce_eq_fold_single (FloatOps.maximumf (F := Ideal) (φ := .f32)) T init h' h hu j]
  refine congrArg (fun g => Finset.univ.fold max (init (Shape.Idx.first hu)) g) (funext fun k => congrArg T (funext fun a => Fin.ext ?_))
  match a with
  | ⟨0, _⟩ => rfl
  | ⟨1, _⟩ => rfl
  | ⟨2, _⟩ => rfl

theorem lt_q (j : Fin 1024) : 3072 + j.val < 6144 := by omega
theorem lt_k (j : Fin 1024) : 4096 + j.val < 6144 := by omega
theorem lt_v (j : Fin 1024) : 5120 + j.val < 6144 := by omega
theorem head_lt (j : Fin 1024) : j.val / 128 < 8 := by omega
theorem lane_lt (j : Fin 1024) : j.val % 128 < 128 := by omega

section At
variable (x2 x3 x4 : (⟨S8448x6144, .bf16⟩ : BufTy).Contents (Elt Ideal)) (x5 : (⟨S8x128, .f32⟩ : BufTy).Contents (Elt Ideal))
  (x6 : (⟨S1x128, .f32⟩ : BufTy).Contents (Elt Ideal))
variable (fq fk fv : Fin 8448 → Fin 1024 → ℝ)
  (hq : ∀ (i : Fin 8448) (j : Fin 1024), x2 (ix2 i ⟨3072 + j.val, lt_q j⟩) = (fq i j : EReal))
  (hk : ∀ (i : Fin 8448) (j : Fin 1024), x3 (ix2 i ⟨4096 + j.val, lt_k j⟩) = (fk i j : EReal))
  (hv : ∀ (i : Fin 8448) (j : Fin 1024), x4 (ix2 i ⟨5120 + j.val, lt_v j⟩) = (fv i j : EReal))

include hq in
theorem q_at (i : Fin 8448) (h : Fin 8) (l : Fin 128) :
    val_main_v1 (F := Ideal) x2 (ix3 i h l) = (fq i (hcol h l) : EReal) := by
  rw [val_main_v1_apply, val_main_v0_apply, ← hq]
  refine congrArg x2 (funext fun a => Fin.ext ?_)
  match a with
  | ⟨0, _⟩ => show ((i.val * 8 + h.val) * 128 + l.val) / 1024 = i.val; omega
  | ⟨1, _⟩ => show 3072 + ((i.val * 8 + h.val) * 128 + l.val) % 1024 = 3072 + (128 * h.val + l.val); omega

include hk in
theorem k_at (i : Fin 8448) (h : Fin 8) (l : Fin 128) :
    val_main_v3 (F := Ideal) x3 (ix3 i h l) = (fk i (hcol h l) : EReal) := by
  rw [val_main_v3_apply, val_main_v2_apply, ← hk]
  refine congrArg x3 (funext fun a => Fin.ext ?_)
  match a with
  | ⟨0, _⟩ => show ((i.val * 8 + h.val) * 128 + l.val) / 1024 = i.val; omega
  | ⟨1, _⟩ => show 4096 + ((i.val * 8 + h.val) * 128 + l.val) % 1024 = 4096 + (128 * h.val + l.val); omega

include hv in
theorem v_at (i : Fin 8448) (h : Fin 8) (l : Fin 128) :
    val_main_v5 (F := Ideal) x4 (ix3 i h l) = (fv i (hcol h l) : EReal) := by
  rw [val_main_v5_apply, val_main_v4_apply, ← hv]
  refine congrArg x4 (funext fun a => Fin.ext ?_)
  match a with
  | ⟨0, _⟩ => show ((i.val * 8 + h.val) * 128 + l.val) / 1024 = i.val; omega
  | ⟨1, _⟩ => show 5120 + ((i.val * 8 + h.val) * 128 + l.val) % 1024 = 5120 + (128 * h.val + l.val); omega

/-! ### The first map -/

include hq hk in
/-- The scores. -/
theorem score0_at (h : Fin 8) (i j : Fin 8448) :
    val_main_v30 (F := Ideal) x2 x3 (ix3 h i j) = (sc fq fk false h i j.val : EReal) := by
  rw [val_main_v30_apply]
  unfold sc
  rw [dif_pos j.isLt, ← coe_sum]
  refine Finset.sum_congr rfl fun k _ => ?_
  rw [EReal.coe_mul, ← q_at x2 fq hq, ← k_at x3 fk hk]
  refine congrArg₂ (· * ·) ?_ ?_
  · rw [val_main_v28_apply]
    refine congrArg (val_main_v1 (F := Ideal) x2) (funext fun a => Fin.ext ?_)
    match a with
    | ⟨0, _⟩ => rfl
    | ⟨1, _⟩ => rfl
    | ⟨2, _⟩ => show k.val = (if false then 64 else 0) + k.val; simp
  · rw [val_main_v29_apply]
    refine congrArg (val_main_v3 (F := Ideal) x3) (funext fun a => Fin.ext ?_)
    match a with
    | ⟨0, _⟩ => rfl
    | ⟨1, _⟩ => rfl
    | ⟨2, _⟩ => show k.val = (if false then 64 else 0) + k.val; simp

include hq hk in
/-- The masked scores. -/
theorem masked0_at (h : Fin 8) (i j : Fin 8448) :
    val_main_v31 (F := Ideal) x2 x3 (ix3 h i j) = if j.val < i.val + 1 then (sc fq fk false h i j.val : EReal) else ⊥ := by
  rw [val_main_v31_apply, score0_at x2 x3 fq fk hq hk, val_main_call0_v1_apply, val_main_call0_v2_apply, val_main_call0_v0_apply, val_main_v27_apply,
    val_main_v25_apply, val_main_v26_apply, val_main_v23_apply, val_main_v24_apply, val_main_v22_apply, val_main_v22_apply]
  unfold Scalar.select
  refine (if_congr (causal_iff i.val j.val i.isLt j.isLt) rfl ?_)
  exact neg_inf_word

/-- The greatest masked score. -/
theorem max0_at (h : Fin 8) (i : Fin 8448) :
    val_main_v34 (F := Ideal) x2 x3 (ix2 h i) = Finset.univ.fold max ⊥ fun k : Fin 8448 => val_main_v31 (F := Ideal) x2 x3 (ix3 h i k) := by
  rw [val_main_v34_apply, val_main_v33_apply]
  unfold val_main_v32
  generalize val_main_v31 (F := Ideal) x2 x3 = T
  have e := host_max (a := 8) (b := 8448) (c := 8448) T (val_main_cst_3 (F := Ideal)) reducesTo_S8x8448x8448_S8x8448_d2 (by decide) h_S_ (ix2 h i)
  refine (congrArg (fun z : EReal => max (Ideal.ofBits .f32 0xFF800000#32) z) e).trans ?_
  have ei : val_main_cst_3 (F := Ideal) (Shape.Idx.first h_S_) = (⊥ : EReal) := neg_inf_word
  rw [ei, neg_inf_word]
  exact max_eq_right bot_le

/-- A key's unnormalised weight. -/
theorem exp0_at (h : Fin 8) (i j : Fin 8448) :
    val_main_v38 (F := Ideal) x2 x3 (ix3 h i j)
      = Ideal.exp (val_main_v31 (F := Ideal) x2 x3 (ix3 h i j) - Finset.univ.fold max ⊥ fun k : Fin 8448 => val_main_v31 (F := Ideal) x2 x3 (ix3 h i k)) := by
  rw [val_main_v38_apply, val_main_v37_apply, val_main_v36_apply, val_main_v35_apply, ← max0_at]
  refine congrArg (fun z => Ideal.exp (val_main_v31 (F := Ideal) x2 x3 (ix3 h i j) - z)) ?_
  refine congrArg (val_main_v34 (F := Ideal) x2 x3) (funext fun a => Fin.ext ?_)
  match a with
  | ⟨0, _⟩ => rfl
  | ⟨1, _⟩ => rfl

/-- A key's weight. -/
theorem prob0_at (h : Fin 8) (i j : Fin 8448) :
    val_main_v42 (F := Ideal) x2 x3 (ix3 h i j)
      = Ideal.div (Ideal.exp (val_main_v31 (F := Ideal) x2 x3 (ix3 h i j) - Finset.univ.fold max ⊥ fun k : Fin 8448 => val_main_v31 (F := Ideal) x2 x3 (ix3 h i k)))
        (∑ c : Fin 8448, Ideal.exp (val_main_v31 (F := Ideal) x2 x3 (ix3 h i c) - Finset.univ.fold max ⊥ fun k : Fin 8448 => val_main_v31 (F := Ideal) x2 x3 (ix3 h i k))) := by
  rw [val_main_v42_apply, val_main_v41_apply, val_main_v40_apply, val_main_v39_apply, exp0_at]
  refine congrArg (Ideal.div _) ?_
  refine (congrArg₂ (· + ·) Ideal.ofBits_zero_f32 (Finset.sum_congr rfl fun c _ => ?_)).trans (zero_add _)
  rw [← exp0_at]
  refine congrArg (val_main_v38 (F := Ideal) x2 x3) (funext fun a => Fin.ext ?_)
  match a with
  | ⟨0, _⟩ => rfl
  | ⟨1, _⟩ => rfl
  | ⟨2, _⟩ => rfl

/-! ### The second map -/

include hq hk in
/-- The scores. -/
theorem score1_at (h : Fin 8) (i j : Fin 8448) :
    val_main_v45 (F := Ideal) x2 x3 (ix3 h i j) = (sc fq fk true h i j.val : EReal) := by
  rw [val_main_v45_apply]
  unfold sc
  rw [dif_pos j.isLt, ← coe_sum]
  refine Finset.sum_congr rfl fun k _ => ?_
  rw [EReal.coe_mul, ← q_at x2 fq hq, ← k_at x3 fk hk]
  refine congrArg₂ (· * ·) ?_ ?_
  · rw [val_main_v43_apply]
    refine congrArg (val_main_v1 (F := Ideal) x2) (funext fun a => Fin.ext ?_)
    match a with
    | ⟨0, _⟩ => rfl
    | ⟨1, _⟩ => rfl
    | ⟨2, _⟩ => show 64 + k.val = (if true then 64 else 0) + k.val; simp
  · rw [val_main_v44_apply]
    refine congrArg (val_main_v3 (F := Ideal) x3) (funext fun a => Fin.ext ?_)
    match a with
    | ⟨0, _⟩ => rfl
    | ⟨1, _⟩ => rfl
    | ⟨2, _⟩ => show 64 + k.val = (if true then 64 else 0) + k.val; simp

include hq hk in
/-- The masked scores. -/
theorem masked1_at (h : Fin 8) (i j : Fin 8448) :
    val_main_v46 (F := Ideal) x2 x3 (ix3 h i j) = if j.val < i.val + 1 then (sc fq fk true h i j.val : EReal) else ⊥ := by
  rw [val_main_v46_apply, score1_at x2 x3 fq fk hq hk, val_main_call1_v1_apply, val_main_call1_v2_apply, val_main_call1_v0_apply, val_main_v27_apply,
    val_main_v25_apply, val_main_v26_apply, val_main_v23_apply, val_main_v24_apply, val_main_v22_apply, val_main_v22_apply]
  unfold Scalar.select
  refine (if_congr (causal_iff i.val j.val i.isLt j.isLt) rfl ?_)
  exact neg_inf_word

/-- The greatest masked score. -/
theorem max1_at (h : Fin 8) (i : Fin 8448) :
    val_main_v49 (F := Ideal) x2 x3 (ix2 h i) = Finset.univ.fold max ⊥ fun k : Fin 8448 => val_main_v46 (F := Ideal) x2 x3 (ix3 h i k) := by
  rw [val_main_v49_apply, val_main_v48_apply]
  unfold val_main_v47
  generalize val_main_v46 (F := Ideal) x2 x3 = T
  have e := host_max (a := 8) (b := 8448) (c := 8448) T (val_main_cst_7 (F := Ideal)) reducesTo_S8x8448x8448_S8x8448_d2 (by decide) h_S_ (ix2 h i)
  refine (congrArg (fun z : EReal => max (Ideal.ofBits .f32 0xFF800000#32) z) e).trans ?_
  have ei : val_main_cst_7 (F := Ideal) (Shape.Idx.first h_S_) = (⊥ : EReal) := neg_inf_word
  rw [ei, neg_inf_word]
  exact max_eq_right bot_le

/-- A key's unnormalised weight. -/
theorem exp1_at (h : Fin 8) (i j : Fin 8448) :
    val_main_v53 (F := Ideal) x2 x3 (ix3 h i j)
      = Ideal.exp (val_main_v46 (F := Ideal) x2 x3 (ix3 h i j) - Finset.univ.fold max ⊥ fun k : Fin 8448 => val_main_v46 (F := Ideal) x2 x3 (ix3 h i k)) := by
  rw [val_main_v53_apply, val_main_v52_apply, val_main_v51_apply, val_main_v50_apply, ← max1_at]
  refine congrArg (fun z => Ideal.exp (val_main_v46 (F := Ideal) x2 x3 (ix3 h i j) - z)) ?_
  refine congrArg (val_main_v49 (F := Ideal) x2 x3) (funext fun a => Fin.ext ?_)
  match a with
  | ⟨0, _⟩ => rfl
  | ⟨1, _⟩ => rfl

/-- A key's weight. -/
theorem prob1_at (h : Fin 8) (i j : Fin 8448) :
    val_main_v57 (F := Ideal) x2 x3 (ix3 h i j)
      = Ideal.div (Ideal.exp (val_main_v46 (F := Ideal) x2 x3 (ix3 h i j) - Finset.univ.fold max ⊥ fun k : Fin 8448 => val_main_v46 (F := Ideal) x2 x3 (ix3 h i k)))
        (∑ c : Fin 8448, Ideal.exp (val_main_v46 (F := Ideal) x2 x3 (ix3 h i c) - Finset.univ.fold max ⊥ fun k : Fin 8448 => val_main_v46 (F := Ideal) x2 x3 (ix3 h i k))) := by
  rw [val_main_v57_apply, val_main_v56_apply, val_main_v55_apply, val_main_v54_apply, exp1_at]
  refine congrArg (Ideal.div _) ?_
  refine (congrArg₂ (· + ·) Ideal.ofBits_zero_f32 (Finset.sum_congr rfl fun c _ => ?_)).trans (zero_add _)
  rw [← exp1_at]
  refine congrArg (val_main_v53 (F := Ideal) x2 x3) (funext fun a => Fin.ext ?_)
  match a with
  | ⟨0, _⟩ => rfl
  | ⟨1, _⟩ => rfl
  | ⟨2, _⟩ => rfl

/-! ### The weight of the second map -/

theorem row_sum (y : (⟨S128, .f32⟩ : BufTy).Contents (Elt Ideal)) (g : Fin 128 → EReal) (hy : ∀ l, y (ix1 l) = g l) :
    Ideal.ofBits .f32 0x00000000#32 + ∑ j : S128.Idx, y j = ∑ l : Fin 128, g l := by
  rw [Ideal.ofBits_zero_f32, zero_add]
  refine Fintype.sum_equiv ⟨fun j => j 0, fun l => ix1 l, fun j => funext fun a => by match a with | ⟨0, _⟩ => rfl, fun l => rfl⟩ _ _ fun j => ?_
  refine Eq.trans (congrArg y (funext fun a => ?_)) (hy (j 0))
  match a with
  | ⟨0, _⟩ => rfl

theorem prod1_at (l : Fin 128) : val_main_v10 (F := Ideal) x5 (ix1 l) = x5 (ix2 0 l) * x5 (ix2 1 l) := by
  rw [val_main_v10_apply, val_main_v7_apply, val_main_v6_apply, val_main_v9_apply, val_main_v8_apply]
  refine congrArg₂ (fun a b : EReal => a * b) (congrArg x5 (funext fun a => Fin.ext ?_)) (congrArg x5 (funext fun a => Fin.ext ?_))
  · match a with
    | ⟨0, _⟩ => rfl
    | ⟨1, _⟩ => show l.val % 128 = l.val; omega
  · match a with
    | ⟨0, _⟩ => rfl
    | ⟨1, _⟩ => show l.val % 128 = l.val; omega

theorem prod2_at (l : Fin 128) : val_main_v17 (F := Ideal) x5 (ix1 l) = x5 (ix2 2 l) * x5 (ix2 3 l) := by
  rw [val_main_v17_apply, val_main_v14_apply, val_main_v13_apply, val_main_v16_apply, val_main_v15_apply]
  refine congrArg₂ (fun a b : EReal => a * b) (congrArg x5 (funext fun a => Fin.ext ?_)) (congrArg x5 (funext fun a => Fin.ext ?_))
  · match a with
    | ⟨0, _⟩ => rfl
    | ⟨1, _⟩ => show l.val % 128 = l.val; omega
  · match a with
    | ⟨0, _⟩ => rfl
    | ⟨1, _⟩ => show l.val % 128 = l.val; omega

theorem lam_at (i : S_.Idx) : val_main_v21 (F := Ideal) x5 i = LAM fun a l => x5 (ix2 a l) := by
  rw [val_main_v21_apply, val_main_v20_apply, val_main_v12_apply, val_main_v19_apply, val_main_v11_apply, val_main_v18_apply]
  exact congrArg₂ (fun a b : EReal => Ideal.exp a - Ideal.exp b + Ideal.ofBits .f32 0x3E4CCCCD#32)
    (row_sum _ _ (prod1_at x5)) (row_sum _ _ (prod2_at x5))

/-! ### The difference of the averages -/

include hq hk hv in
theorem diff_at (lam : ℝ) (hl : (LAM fun a l => x5 (ix2 a l)) = (lam : EReal)) (i : Fin 8448) (h : Fin 8) (l : Fin 128) :
    val_main_v63 (F := Ideal) x2 x3 x4 x5 (ix3 i h l) = diff fq fk fv (LAM fun a l => x5 (ix2 a l)) i h l := by
  have key := softmax_rows (N := 8448) (cnt := i.val + 1) (by omega) (by omega) (sc fq fk false h i) (sc fq fk true h i) (vv fv h l) lam
    (fun c => val_main_v31 (F := Ideal) x2 x3 (ix3 h i c)) (fun c => val_main_v46 (F := Ideal) x2 x3 (ix3 h i c)) (fun c => (fv c (hcol h l) : EReal))
    (fun c => masked0_at x2 x3 fq fk hq hk h i c) (fun c => masked1_at x2 x3 fq fk hq hk h i c)
    (fun c => by unfold vv; rw [dif_pos c.isLt])
  unfold diff
  rw [hl]
  refine Eq.trans ?_ key
  rw [val_main_v63_apply, val_main_v62_apply]
  refine Finset.sum_congr rfl fun c _ => congrArg₂ (fun a b : EReal => a * b) ?_ ?_
  · refine Eq.trans (congrArg (val_main_v5 (F := Ideal) x4) (funext fun a => Fin.ext ?_)) (v_at x4 fv hv c h l)
    match a with
    | ⟨0, _⟩ => rfl
    | ⟨1, _⟩ => rfl
    | ⟨2, _⟩ => rfl
  · refine Eq.trans (congrArg (val_main_v61 (F := Ideal) x2 x3 x5) (a₂ := ix3 h i c) (funext fun a => Fin.ext ?_)) ?_
    · match a with
      | ⟨0, _⟩ => rfl
      | ⟨1, _⟩ => rfl
      | ⟨2, _⟩ => rfl
    · rw [val_main_v61_apply, val_main_v60_apply, val_main_v59_apply, val_main_v58_apply, prob0_at, prob1_at, lam_at, hl]
      rfl

/-! ### The result -/

theorem gain_at (i : Fin 8448) (h : Fin 8) (l : Fin 128) : val_main_v76 (F := Ideal) x6 (ix3 i h l) = x6 (ix2 0 l) := by
  rw [val_main_v76_apply, val_main_v75_apply, val_main_v74_apply]
  refine congrArg x6 (funext fun a => Fin.ext ?_)
  match a with
  | ⟨0, _⟩ => rfl
  | ⟨1, _⟩ => show l.val % 128 = l.val; omega

theorem square_at (i : Fin 8448) (h : Fin 8) :
    val_main_v65 (F := Ideal) x2 x3 x4 x5 (ix2 i h)
      = ∑ k : Fin 128, val_main_v63 (F := Ideal) x2 x3 x4 x5 (ix3 i h k) * val_main_v63 (F := Ideal) x2 x3 x4 x5 (ix3 i h k) := by
  rw [val_main_v65_apply]
  refine (congrArg₂ (fun a b : EReal => a + b) Ideal.ofBits_zero_f32 (Finset.sum_congr rfl fun c _ => ?_)).trans (zero_add _)
  refine (congrArg (val_main_v64 (F := Ideal) x2 x3 x4 x5) (a₂ := ix3 i h c) (funext fun a => Fin.ext ?_)).trans (val_main_v64_apply x2 x3 x4 x5 _)
  match a with
  | ⟨0, _⟩ => rfl
  | ⟨1, _⟩ => rfl
  | ⟨2, _⟩ => rfl

theorem inv_rms_at (i : Fin 8448) (h : Fin 8) (l : Fin 128) :
    val_main_v72 (F := Ideal) x2 x3 x4 x5 (ix3 i h l)
      = Ideal.rsqrt (Ideal.div (∑ k : Fin 128, val_main_v63 (F := Ideal) x2 x3 x4 x5 (ix3 i h k) * val_main_v63 (F := Ideal) x2 x3 x4 x5 (ix3 i h k)) (Ideal.ofBits .f32 0x43000000#32)
          + Ideal.ofBits .f32 0x3727C5AC#32) := by
  rw [val_main_v72_apply, val_main_v71_apply, val_main_v70_apply, val_main_v68_apply, val_main_v66_apply, val_main_v67_apply, val_main_v69_apply, ← square_at]
  refine congrArg (fun z => Ideal.rsqrt (Ideal.div z (Ideal.ofBits .f32 0x43000000#32) + Ideal.ofBits .f32 0x3727C5AC#32)) ?_
  refine congrArg (val_main_v65 (F := Ideal) x2 x3 x4 x5) (funext fun a => Fin.ext ?_)
  match a with
  | ⟨0, _⟩ => rfl
  | ⟨1, _⟩ => rfl

theorem normed_at (i : Fin 8448) (h : Fin 8) (l : Fin 128) :
    val_main_v80 (F := Ideal) x2 x3 x4 x5 x6 (ix3 i h l)
      = NRM (fun k => val_main_v63 (F := Ideal) x2 x3 x4 x5 (ix3 i h k)) (fun k => x6 (ix2 0 k)) l := by
  rw [val_main_v80_apply, val_main_v79_apply, val_main_v77_apply, val_main_v73_apply, inv_rms_at, gain_at, val_main_v78_apply]
  rfl

include hq hk hv in
/-- The reference's result. -/
theorem result_at (lam : ℝ) (hl : (LAM fun a l => x5 (ix2 a l)) = (lam : EReal)) (i : S8448x1024.Idx) :
    val_main_v81 (F := Ideal) x2 x3 x4 x5 x6 i
      = NRM (diff fq fk fv (LAM fun a l => x5 (ix2 a l)) (i 0) ⟨(i 1).val / 128, head_lt (i 1)⟩)
          (fun l => x6 (ix2 0 l)) ⟨(i 1).val % 128, lane_lt (i 1)⟩ := by
  have h0 : (i 0).val < 8448 := (i 0).isLt
  have h1 : (i 1).val < 1024 := (i 1).isLt
  rw [val_main_v81_apply]
  refine (congrArg (val_main_v80 (F := Ideal) x2 x3 x4 x5 x6)
    (a₂ := ix3 (i 0) ⟨(i 1).val / 128, head_lt (i 1)⟩ ⟨(i 1).val % 128, lane_lt (i 1)⟩) (funext fun a => Fin.ext ?_)).trans ?_
  · match a with
    | ⟨0, _⟩ => show ((i 0).val * 1024 + (i 1).val) / 1024 = (i 0).val; omega
    | ⟨1, _⟩ => show ((i 0).val * 1024 + (i 1).val) / 128 % 8 = (i 1).val / 128; omega
    | ⟨2, _⟩ => show ((i 0).val * 1024 + (i 1).val) % 128 = (i 1).val % 128; omega
  · refine (normed_at x2 x3 x4 x5 x6 (i 0) ⟨(i 1).val / 128, head_lt (i 1)⟩ ⟨(i 1).val % 128, lane_lt (i 1)⟩).trans ?_
    exact congrArg (fun od => NRM od (fun l => x6 (ix2 0 l)) ⟨(i 1).val % 128, lane_lt (i 1)⟩)
      (funext fun l => diff_at x2 x3 x4 x5 fq fk fv hq hk hv lam hl _ _ l)

end At

end Cert.ReferenceIdeal.Read

end
-- ==== Proof.AttnTop.lean ====
/-
  The attention's claims from its preconditions: the tables are the ones the grid was laid out for, every entry read is a
  real number, and then the kernel's array and the reference's result are one function of the arguments.
-/
module

public import proofs.«01_k».proof.Defs
public import proofs.«01_k».proof.Proof.Gen.Kernel.Flash
public import proofs.«01_k».proof.Proof.Gen.ReferenceIdeal.Run
public import proofs.«01_k».proof.Proof.Gen.Pre_causal_tables
public import proofs.«01_k».proof.Proof.Gen.Pre_causal_finite
public import proofs.«01_k».proof.Proof.AttnSeq
public import proofs.«01_k».proof.Proof.AttnRef
public import Idealize.ShloMosaic.Adequacy
public import Idealize.ShloMosaic.Init
public import Idealize.ShloMosaic.Lib.Quiescent

@[expose] public section

set_option maxRecDepth 16384
set_option backward.proofsInPublic true

noncomputable section

namespace Cert.AttnTop

open Idealize.ShloMosaic Idealize.SL.Sem Cert.AttnMath
open scoped BigOperators

theorem ofBool_eq_one (p : Bool) : (BitVec.ofBool p = 1#1) ↔ p = true := by cases p <;> decide

/-! ### The tables -/

theorem entry0 : ∀ x : Pre_causal_tables.S66.Idx, Pre_causal_tables.lit0 (Pre_causal_tables.S66.rowMajor x) = Cert.KernelIdeal.Gen.pinT_0 0 x := by decide
theorem entry1 : ∀ x : Pre_causal_tables.S66.Idx, Pre_causal_tables.lit1 (Pre_causal_tables.S66.rowMajor x) = Cert.KernelIdeal.Gen.pinT_1 0 x := by decide

theorem pinned_bits (m) (h : Cert.Pre_Kernel m) : Cert.Kernel.Gen.Pinned 0 m := by
  refine ⟨fun c => funext fun x => ?_, fun c => funext fun x => ?_⟩
  · have e := congrFun (h c).1 x
    simp only [Pre_causal_tables.fn, cmpi, IntOp.cmpi, ofBool_eq_one, beq_iff_eq] at e
    exact e.trans (entry0 x)
  · have e := congrFun (h c).2 x
    simp only [Pre_causal_tables.fn, cmpi, IntOp.cmpi, ofBool_eq_one, beq_iff_eq] at e
    exact e.trans (entry1 x)

theorem pinned_ideal (m) (h : Cert.Pre_KernelIdeal m) : Cert.KernelIdeal.Gen.Pinned 0 m := by
  refine ⟨fun c => funext fun x => ?_, fun c => funext fun x => ?_⟩
  · have e := congrFun (h c).1 x
    simp only [Pre_causal_tables.fn, cmpi, IntOp.cmpi, ofBool_eq_one, beq_iff_eq] at e
    exact e.trans (entry0 x)
  · have e := congrFun (h c).2 x
    simp only [Pre_causal_tables.fn, cmpi, IntOp.cmpi, ofBool_eq_one, beq_iff_eq] at e
    exact e.trans (entry1 x)

theorem pinned_finite (m) (h : Cert.Pre_KernelIdeal_causal_finite m) : Cert.KernelIdeal.Gen.Pinned 0 m := by
  refine ⟨fun c => funext fun x => ?_, fun c => funext fun x => ?_⟩
  · have e := congrFun (h c).1 x
    simp only [Pre_causal_finite.fn, cmpi, IntOp.cmpi, ofBool_eq_one, beq_iff_eq] at e
    exact e.trans (entry0 x)
  · have e := congrFun (h c).2.1 x
    simp only [Pre_causal_finite.fn, cmpi, IntOp.cmpi, ofBool_eq_one, beq_iff_eq] at e
    exact e.trans (entry1 x)

/-! ### The entries are real -/

theorem inf_word : Ideal.ofBits .f32 0x7F800000#32 = ⊤ := by
  decide

theorem real_of_bounded (x : EReal) (h : max x (-x) < ⊤) : ∃ r : ℝ, x = (r : EReal) := by
  induction x with
  | bot => exact absurd h (by simp)
  | top => exact absurd h (by simp)
  | coe r => exact ⟨r, rfl⟩

theorem real_of_cmp (x : EReal) (h : Ideal.cmp .olt (max x (-x)) (Ideal.ofBits .f32 0x7F800000#32) = 1#1) : ∃ r : ℝ, x = (r : EReal) := by
  rw [inf_word] at h
  unfold Ideal.cmp at h
  rw [ofBool_eq_one] at h
  exact real_of_bounded x (of_decide_eq_true h)

section Real
variable (m : (ℓ : Loc Cert.KernelIdeal.nD Cert.KernelIdeal.τ Cert.KernelIdeal.sig) → Buf (Elt Ideal) ℓ) (h : Cert.Pre_KernelIdeal_causal_finite m)
  (c : Dev Cert.KernelIdeal.nD)
include h

theorem real2 (x : Cert.KernelIdeal.S8448x6144.Idx) : ∃ r : ℝ, m ((c.tc : Thread Cert.KernelIdeal.nD Cert.KernelIdeal.τ).loc Cert.KernelIdeal.main_arg2) x = (r : EReal) :=
  real_of_cmp _ (congrFun (h c).2.2.1 x)
theorem real3 (x : Cert.KernelIdeal.S8448x6144.Idx) : ∃ r : ℝ, m ((c.tc : Thread Cert.KernelIdeal.nD Cert.KernelIdeal.τ).loc Cert.KernelIdeal.main_arg3) x = (r : EReal) :=
  real_of_cmp _ (congrFun (h c).2.2.2.1 x)
theorem real4 (x : Cert.KernelIdeal.S8448x6144.Idx) : ∃ r : ℝ, m ((c.tc : Thread Cert.KernelIdeal.nD Cert.KernelIdeal.τ).loc Cert.KernelIdeal.main_arg4) x = (r : EReal) :=
  real_of_cmp _ (congrFun (h c).2.2.2.2.1 x)
theorem real5 (x : Cert.KernelIdeal.S8x128.Idx) : ∃ r : ℝ, m ((c.tc : Thread Cert.KernelIdeal.nD Cert.KernelIdeal.τ).loc Cert.KernelIdeal.main_arg5) x = (r : EReal) :=
  real_of_cmp _ (congrFun (h c).2.2.2.2.2 x)

end Real

/-! ### The second map's weight is real -/

theorem base_real : ∃ r : ℝ, Ideal.ofBits .f32 0x3E4CCCCD#32 = (r : EReal) := by
  unfold Ideal.ofBits
  simp only
  unfold Ideal.ieee
  dsimp only
  rw [if_neg (by decide), if_neg (by decide)]
  exact ⟨_, rfl⟩

theorem lam_real (f : Fin 8 → Fin 128 → EReal) (hf : ∀ a l, ∃ r : ℝ, f a l = (r : EReal)) : ∃ lam : ℝ, AttnSpec.LAM f = (lam : EReal) := by
  choose g hg using hf
  obtain ⟨r, hr⟩ := base_real
  have e : ∀ a b, ∑ l : Fin 128, f a l * f b l = ((∑ l : Fin 128, g a l * g b l : ℝ) : EReal) := fun a b => by
    rw [← coe_sum]
    refine Finset.sum_congr rfl fun l _ => ?_
    rw [hg, hg, EReal.coe_mul]
  refine ⟨Real.exp (∑ l : Fin 128, g 0 l * g 1 l) - Real.exp (∑ l : Fin 128, g 2 l * g 3 l) + r, ?_⟩
  unfold AttnSpec.LAM
  rw [e, e, hr]
  rfl

/-! ### The claims -/

/-- The reference's result, on a memory whose arguments are the kernel's, is the kernel's array. -/
theorem attn_eq (m : (ℓ : Loc Cert.KernelIdeal.nD Cert.KernelIdeal.τ Cert.KernelIdeal.sig) → Buf (Elt Ideal) ℓ) (ρ) (h : Cert.Pre_KernelIdeal_causal_finite m)
    (c : Dev Cert.KernelIdeal.nD) :
    (Cert.ReferenceIdeal.Read.val_main_v81 (F := Ideal)
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) : Cert.KernelIdeal.S8448x1024.Idx → EReal)
      = (Cert.KernelIdeal.Gen.dats 0 m ρ 0 c).arrAt (5 : Fin 6) (Cert.KernelIdeal.Gen.cfgA 0).N := by
  choose q hq using real2 m h c
  choose k hk using real3 m h c
  choose v hv using real4 m h c
  obtain ⟨lam, hl⟩ := lam_real (fun a l => m ((c.tc : Thread Cert.KernelIdeal.nD Cert.KernelIdeal.τ).loc Cert.KernelIdeal.main_arg5) (ix2 a l)) fun a l => real5 m h c _
  refine Eq.trans (funext fun i => ?_) (Cert.KernelIdeal.Attn.array m ρ c (fun i j => q (ix2 i ⟨3072 + j.val, by omega⟩)) (fun i j => k (ix2 i ⟨4096 + j.val, by omega⟩))
    (fun i j => v (ix2 i ⟨5120 + j.val, by omega⟩)) (fun i j => hq _) (fun i j => hk _) (fun i j => hv _)).symm
  exact Cert.ReferenceIdeal.Read.result_at _ _ _ _ _ _ _ _ (fun i j => hq _) (fun i j => hk _) (fun i j => hv _) lam hl i

theorem quiescent_Kernel : quiescent_Kernel := fun m ρ h => Cert.Kernel.Gen.frame 0 m ρ (pinned_bits m h)

theorem quiescent_KernelIdeal : quiescent_KernelIdeal := fun m ρ h => Cert.KernelIdeal.Gen.frame 0 m ρ (pinned_ideal m h)

theorem quiescent_KernelIdeal_finite : quiescent_KernelIdeal_pre_causal_finite := fun m ρ h => Cert.KernelIdeal.Gen.frame 0 m ρ (pinned_finite m h)

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_ReferenceIdeal_finite : quiescent_ReferenceIdeal_pre_causal_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : preserves_Kernel_KernelIdeal := IdealRules.named_const.statement _ _ _ _ _ rfl

theorem algebraic : algebraic_KernelIdeal_ReferenceIdeal_pre_causal_finite := by
  intro m ρ m' ρ' h hagree
  refine ⟨fun c => (Cert.KernelIdeal.Gen.dats 0 m ρ 0 c).arrAt (5 : Fin 6) (Cert.KernelIdeal.Gen.cfgA 0).N, ?_, ?_⟩
  · exact (θ_run Cert.KernelIdeal.defs _ _).mono (fun r hr c => ⟨(hr.1 c).1 (5 : Fin 6), hr.2 c⟩)
      (θ_run_and (Cert.KernelIdeal.Gen.run_main 0 m ρ (pinned_finite m h)) (Cert.KernelIdeal.Gen.unchanged 0 m ρ (pinned_finite m h)))
  · refine (θ_run Cert.ReferenceIdeal.defs _ _).mono (fun _ hr c => ⟨?_, (hr c).2⟩) (Cert.ReferenceIdeal.Value.run (F := Ideal) m' ρ')
    rw [(hr c).1, Cert.ReferenceIdeal.Read.val_main_v81_eq]
    simp only [hagree c]
    exact attn_eq m ρ h c

end Cert.AttnTop

end
-- ==== Proof.FfnSpec.lean ====
/-
  The feed-forward sublayer over the extended reals, as both programs compute it: the hidden unit, the mean of a row and
  the layer normalisation of a row.
-/
module

public import Idealize.ShloMosaic.Lib.Pointwise

@[expose] public section

noncomputable section

namespace Cert.FfnSpec

open Idealize.ShloMosaic
open scoped BigOperators

/-- One hidden unit: the product of a row of the input with a column of the first matrix, clipped at zero, squared. -/
def unit {n : ℕ} (x w : Fin n → EReal) : EReal := max (∑ k, x k * w k) 0 * max (∑ k, x k * w k) 0

/-- The mean of a row of 2048 numbers. -/
def mean (x : Fin 2048 → EReal) : EReal := Ideal.div (∑ k, x k) (Ideal.ofBits .f32 0x45000000#32)

/-- Layer normalisation of a row of 2048 numbers, read at place `j`. -/
def layerNorm (x g b : Fin 2048 → EReal) (j : Fin 2048) : EReal :=
  (x j - mean x) * Ideal.rsqrt (mean (fun k => (x k - mean x) * (x k - mean x)) + Ideal.ofBits .f32 0x3727C5AC#32) * g j + b j

end Cert.FfnSpec

end
-- ==== Proof.FfnPay.lean ====
/-
  The feed-forward kernel's three stores read at one place of the block, over the extended reals: the accumulation step
  (the running block plus the products of the squared, clipped hidden units with the second matrix's rows) and the last
  step (the layer normalisation of the scaled input plus the accumulated block, row by row).
-/
module

public import proofs.«01_k».proof.Proof.Gen.Kernel2Ideal.Skeleton
public import Idealize.ShloMosaic.Lib.Pointwise
public import proofs.«01_k».proof.Proof.FfnSpec

@[expose] public section

noncomputable section

namespace Cert.Kernel2Ideal.Gen

open Idealize.ShloMosaic Cert.FfnSpec
open scoped BigOperators

set_option maxRecDepth 16384

theorem pay1_at (v : Vec Ideal S512x2048 .f32) (r : Fin 512) (d : Fin 2048) :
    k0_pay1 (F := Ideal) v (ix2 r d) = v (ix2 r d) := by
  unfold_payloads
  pointwise

theorem pay2_at (r : Fin 512) (d : Fin 2048) : k0_pay2 (F := Ideal) (ix2 r d) = 0 := by
  unfold_payloads
  pointwise

theorem pay3_at (v3 : Vec Ideal S512x2048 .bf16) (v4 : Vec Ideal S2048x1024 .bf16) (v9 : Vec Ideal S512x2048 .f32)
    (v12 : Vec Ideal S1024x2048 .bf16) (r : Fin 512) (d : Fin 2048) :
    k0_pay3 (F := Ideal) v3 v4 v9 v12 (ix2 r d)
      = v9 (ix2 r d) + ∑ f : Fin 1024, unit (fun k => v3 (ix2 r k)) (fun k => v4 (ix2 k f)) * v12 (ix2 f d) := by
  unfold_payloads
  pointwise [dot_S512x2048_S2048x1024_S512x1024_1_0_0_1_n_n, dot_S512x1024_S1024x2048_S512x2048_1_0_0_1_n_n]
  rfl

theorem pay4_at (h acc : Vec Ideal S512x2048 .f32) (g b : Vec Ideal S1x2048 .f32) (r : Fin 512) (d : Fin 2048) :
    k0_pay4 (F := Ideal) h acc g b (ix2 r d)
      = layerNorm (fun k => Ideal.ofBits .f32 0x3F9837F0#32 * h (ix2 r k) + acc (ix2 r k)) (fun k => g (ix2 0 k)) (fun k => b (ix2 0 k)) d := by
  unfold_payloads
  pointwise
  rfl

end Cert.Kernel2Ideal.Gen

end
-- ==== Proof.FfnKernel.lean ====
/-
  The feed-forward kernel's run, over the extended reals. Eight consecutive grid points treat one block of 512 rows, each
  point one block of 1024 hidden units. The first of them keeps the block's rows and clears the running block; every one
  adds its hidden units' share; the last normalises and writes the block back. This file reads what each point leaves
  (`left_A`, `left_B`, `left_C`), the windows' blocks (`rows_at`, `up_at`, `down_at`, `gain_at`, `bias_at`), what the
  running block holds after each point (`acc_at`), and the array the run ends with (`out_at`).
-/
module

public import proofs.«01_k».proof.Proof.Gen.Kernel2Ideal.Value
public import proofs.«01_k».proof.Proof.FfnPay
public import Idealize.ShloMosaic.Lib.Tactic
public import Idealize.ShloMosaic.Lib.StableHlo.Run

@[expose] public section

set_option maxRecDepth 16384

noncomputable section

namespace Cert.Kernel2Ideal.Ffn

open Cert.Kernel2Ideal Cert.Kernel2Ideal.Gen Cert.Kernel2Ideal.Value Cert.FfnSpec
open Idealize.ShloMosaic Idealize.ShloMosaic.TcCoe Idealize.SL.Sem
open scoped BigOperators

theorem hz : (![0, 0] : Fin 2 → Nat) = fun _ => 0 := funext fun a => by fin_cases a <;> rfl

section Cases

variable (c : Dev nD) (i : grid0.Coords) (a2 : Memref sig .tc .vmem S512x2048 .f32) (h2 : a2.IsWhole) (a3 : Memref sig .tc .vmem S2048x1024 .bf16) (h3 : a3.IsWhole) (a4 : Memref sig .tc .vmem S1024x2048 .bf16) (h4 : a4.IsWhole) (a5 : Memref sig .tc .vmem S1x2048 .f32) (h5 : a5.IsWhole) (a6 : Memref sig .tc .vmem S1x2048 .f32) (h6 : a6.IsWhole) (a7 : Memref sig .tc .vmem S512x2048 .f32) (h7 : a7.IsWhole) (a8 : Memref sig .tc .vmem S512x2048 .bf16) (h8 : a8.IsWhole) (a9 : Memref sig .tc .vmem S512x2048 .f32) (h9 : a9.IsWhole)
variable (x0 : Vec Ideal S512x2048 .f32) (x1 : Vec Ideal S2048x1024 .bf16) (x2 : Vec Ideal S1024x2048 .bf16) (x3 x4 : Vec Ideal S1x2048 .f32) (xs0 : Vec Ideal S512x2048 .bf16) (xs1 : Vec Ideal S512x2048 .f32)

theorem kept_A (hc0 : cond0_0 i) (hc1 : ¬cond0_1 i) :
    sout0_A_0 c i a2 h2 a3 h3 a4 h4 a5 h5 a6 h6 a7 h7 a8 h8 a9 h9 hc0 hc1 x0 x1 x2 x3 x4 = k0_pay1 x0 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_unit_zero hz]
  simp only [View.readAt_eq_ld, h2.read_unread, View.ld_unit_zero (S := S512x2048) hz]

theorem left_A (hc0 : cond0_0 i) (hc1 : ¬cond0_1 i) :
    sout0_A_1 c i a2 h2 a3 h3 a4 h4 a5 h5 a6 h6 a7 h7 a8 h8 a9 h9 hc0 hc1 x0 x1 x2 x3 x4 = k0_pay3 (F := Ideal) (k0_pay1 x0) x1 (k0_pay2 (F := Ideal)) x2 := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S512x2048) hz]
  simp only [View.readCov_unit_zero (S := S512x2048) _ hz, View.readAt_eq_ld, h2.read_unread, h3.read_unread, h4.read_unread, View.ld_unit_zero (S := S512x2048) hz, View.ld_unit_zero (S := S2048x1024) hz, View.ld_unit_zero (S := S1024x2048) hz]

theorem left_B (hc0 : ¬cond0_0 i) (hc1 : ¬cond0_1 i) :
    sout0_B_1 c i a2 h2 a3 h3 a4 h4 a5 h5 a6 h6 a7 h7 a8 h8 a9 h9 hc0 hc1 x0 x1 x2 x3 x4 xs0 xs1 = k0_pay3 (F := Ideal) xs0 x1 xs1 x2 := by
  unfold sout0_B_1
  rw [View.read_writes_eq_canon _ _ _ (scover0_B_1 c i a2 h2 a3 h3 a4 h4 a5 h5 a6 h6 a7 h7 a8 h8 a9 h9 hc0 hc1 x0 x1 x2 x3 x4 xs0 xs1)]
  unfold kernelRun0_B
  dsimp only
  sl_unfold_words
  rw [View.canon_unit_zero hz]
  simp only [View.readAt_eq_ld, h3.read_unread, h4.read_unread, h8.read_unread, h9.read_unread, View.ld_unit_zero (S := S512x2048) hz, View.ld_unit_zero (S := S2048x1024) hz, View.ld_unit_zero (S := S1024x2048) hz]

theorem left_C (hc0 : ¬cond0_0 i) (hc1 : cond0_1 i) :
    sout0_C_1 c i a2 h2 a3 h3 a4 h4 a5 h5 a6 h6 a7 h7 a8 h8 a9 h9 hc0 hc1 x0 x1 x2 x3 x4 xs0 xs1 = k0_pay3 (F := Ideal) xs0 x1 xs1 x2 := by
  unfold sout0_C_1
  rw [View.read_writes_eq_canon _ _ _ (scover0_C_1 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readAt_eq_ld, h3.read_unread, h4.read_unread, h8.read_unread, h9.read_unread, View.ld_unit_zero (S := S512x2048) hz, View.ld_unit_zero (S := S2048x1024) hz, View.ld_unit_zero (S := S1024x2048) hz]

theorem written_C (hc0 : ¬cond0_0 i) (hc1 : cond0_1 i) :
    out0_C_5 c i a2 h2 a3 h3 a4 h4 a5 h5 a6 h6 a7 h7 a8 h8 a9 h9 hc0 hc1 x0 x1 x2 x3 x4 xs0 xs1 = k0_pay4 (F := Ideal) x0 (k0_pay3 (F := Ideal) xs0 x1 xs1 x2) x3 x4 := by
  unfold out0_C_5
  rw [View.read_writes_eq_canon _ _ _ (cover0_C_5 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readCov_unit_zero (S := S512x2048) _ hz, View.readAt_eq_ld, h2.read_unread, h3.read_unread, h4.read_unread, h5.read_unread, h6.read_unread, h8.read_unread, h9.read_unread, View.ld_unit_zero (S := S512x2048) hz, View.ld_unit_zero (S := S2048x1024) hz, View.ld_unit_zero (S := S1024x2048) hz, View.ld_unit_zero (S := S1x2048) hz]

end Cases

variable (m : (ℓ : Loc nD τ sig) → Buf (Elt Ideal) ℓ) (c : Dev nD)

/-! ## The arrays the windows read, at numbers -/

/-- The input array at row `a`. -/
def inp (a : ℕ) (k : Fin 2048) : EReal :=
  if h : a < 8448 then (m ((c : Thread nD τ).loc main_arg0) : Vec Ideal S8448x2048 .f32) (ix2 ⟨a, h⟩ k) else 0
/-- The first matrix at column `f`. -/
def upm (f : ℕ) (k : Fin 2048) : EReal :=
  if h : f < 8192 then (m ((c : Thread nD τ).loc main_arg1) : Vec Ideal S1x2048x8192 .f32) (ix3 0 k ⟨f, h⟩) else 0
/-- The second matrix at row `f`. -/
def dnm (f : ℕ) (d : Fin 2048) : EReal :=
  if h : f < 8192 then (m ((c : Thread nD τ).loc main_arg2) : Vec Ideal S1x8192x2048 .f32) (ix3 0 ⟨f, h⟩ d) else 0

theorem up_cast (x : Vec Ideal S1x2048x8192 .f32) (k : Fin 2048) (q : Fin 8192) :
    (truncf (F := Ideal) .bf16 (shapeCast _ x shapeCasts_S1x2048x8192_S2048x8192) bitsLt_bf16_f32 : Vec Ideal S2048x8192 .bf16) (ix2 k q) = x (ix3 0 k q) := by
  pointwise
theorem down_cast (x : Vec Ideal S1x8192x2048 .f32) (q : Fin 8192) (k : Fin 2048) :
    (truncf (F := Ideal) .bf16 (shapeCast _ x shapeCasts_S1x8192x2048_S8192x2048) bitsLt_bf16_f32 : Vec Ideal S8192x2048 .bf16) (ix2 q k) = x (ix3 0 q k) := by
  pointwise

theorem V_v1 : V m c main_v1 = (truncf (F := Ideal) .bf16 (shapeCast _ (m ((c : Thread nD τ).loc main_arg1) : Vec Ideal S1x2048x8192 .f32) shapeCasts_S1x2048x8192_S2048x8192) bitsLt_bf16_f32 : Vec Ideal S2048x8192 .bf16) := by
  unfold V; simp only [hostOps0]; after_results_simp; rfl
theorem V_v3 : V m c main_v3 = (truncf (F := Ideal) .bf16 (shapeCast _ (m ((c : Thread nD τ).loc main_arg2) : Vec Ideal S1x8192x2048 .f32) shapeCasts_S1x8192x2048_S8192x2048) bitsLt_bf16_f32 : Vec Ideal S8192x2048 .bf16) := by
  unfold V; simp only [hostOps0]; after_results_simp; rfl
theorem V_v5 : V m c main_v5 = (shapeCast S1x2048 (shapeCast S2048 (m ((c : Thread nD τ).loc main_arg3) : Vec Ideal S1x2048 .f32) shapeCasts_S1x2048_S2048) shapeCasts_S2048_S1x2048 : Vec Ideal S1x2048 .f32) := by
  unfold V; simp only [hostOps0]; after_results_simp; rfl
theorem V_v7 : V m c main_v7 = (shapeCast S1x2048 (shapeCast S2048 (m ((c : Thread nD τ).loc main_arg4) : Vec Ideal S1x2048 .f32) shapeCasts_S1x2048_S2048) shapeCasts_S2048_S1x2048 : Vec Ideal S1x2048 .f32) := by
  unfold V; simp only [hostOps0]; after_results_simp; rfl

theorem place0 : ∀ t : Fin grid0.N, cc0_transform_0 (grid0.coords t) 0 = 16 + 512 * (t.val / 8) ∧ cc0_transform_0 (grid0.coords t) 1 = 0 := by
  decide +kernel
theorem place1 : ∀ t : Fin grid0.N, cc0_transform_1 (grid0.coords t) 0 = 0 ∧ cc0_transform_1 (grid0.coords t) 1 = t.val % 8 := by
  decide +kernel
theorem place2 : ∀ t : Fin grid0.N, cc0_transform_2 (grid0.coords t) 0 = t.val % 8 ∧ cc0_transform_2 (grid0.coords t) 1 = 0 := by
  decide +kernel
theorem place3 : ∀ t : Fin grid0.N, cc0_transform_3 (grid0.coords t) 0 = 0 ∧ cc0_transform_3 (grid0.coords t) 1 = 0 := by
  decide +kernel
theorem place4 : ∀ t : Fin grid0.N, cc0_transform_4 (grid0.coords t) 0 = 0 ∧ cc0_transform_4 (grid0.coords t) 1 = 0 := by
  decide +kernel

theorem rows_at (t : Fin cfg0.N) (r : Fin 512) (k : Fin 2048) :
    (iblk m c 0 t : Vec Ideal S512x2048 .f32) (ix2 r k) = inp m c (16 + 512 * (t.val / 8) + r.val) k := by
  have hN := lt_of_lt_of_eq t.isLt (show cfg0.N = 128 from N_0)
  have hr : 16 + 512 * (t.val / 8) + r.val < 8448 := by have := r.isLt; omega
  unfold iblk inp
  rw [View.read_apply, dif_pos hr]
  show V m c main_arg0 _ = _
  rw [V_main_arg0]
  refine congrArg _ (funext fun a => Fin.ext ?_)
  match a with
  | ⟨0, _⟩ => show cc0_transform_0 (grid0.coords t) 0 + 1 * r.val = 16 + 512 * (t.val / 8) + r.val; rw [(place0 t).1]; omega
  | ⟨1, _⟩ => show cc0_transform_0 (grid0.coords t) 1 + 1 * k.val = k.val; rw [(place0 t).2]; omega

theorem up_at (t : Fin cfg0.N) (k : Fin 2048) (f : Fin 1024) :
    (iblk m c 1 t : Vec Ideal S2048x1024 .bf16) (ix2 k f) = upm m c (1024 * (t.val % 8) + f.val) k := by
  have hr : 1024 * (t.val % 8) + f.val < 8192 := by have := f.isLt; omega
  unfold iblk upm
  rw [View.read_apply, dif_pos hr]
  show V m c main_v1 _ = _
  rw [V_v1]
  have e : ((cfg0.win 1).blk t).view.emb (ix2 k f) = (ix2 k ⟨1024 * (t.val % 8) + f.val, hr⟩ : S2048x8192.Idx) := by
    refine funext fun a => Fin.ext ?_
    match a with
    | ⟨0, _⟩ => show cc0_transform_1 (grid0.coords t) 0 * 2048 + 1 * k.val = k.val; rw [(place1 t).1]; omega
    | ⟨1, _⟩ => show cc0_transform_1 (grid0.coords t) 1 * 1024 + 1 * f.val = 1024 * (t.val % 8) + f.val; rw [(place1 t).2]; omega
  rw [e]
  exact up_cast _ _ _

theorem down_at (t : Fin cfg0.N) (f : Fin 1024) (d : Fin 2048) :
    (iblk m c 2 t : Vec Ideal S1024x2048 .bf16) (ix2 f d) = dnm m c (1024 * (t.val % 8) + f.val) d := by
  have hr : 1024 * (t.val % 8) + f.val < 8192 := by have := f.isLt; omega
  unfold iblk dnm
  rw [View.read_apply, dif_pos hr]
  show V m c main_v3 _ = _
  rw [V_v3]
  have e : ((cfg0.win 2).blk t).view.emb (ix2 f d) = (ix2 ⟨1024 * (t.val % 8) + f.val, hr⟩ d : S8192x2048.Idx) := by
    refine funext fun a => Fin.ext ?_
    match a with
    | ⟨0, _⟩ => show cc0_transform_2 (grid0.coords t) 0 * 1024 + 1 * f.val = 1024 * (t.val % 8) + f.val; rw [(place2 t).1]; omega
    | ⟨1, _⟩ => show cc0_transform_2 (grid0.coords t) 1 * 2048 + 1 * d.val = d.val; rw [(place2 t).2]; omega
  rw [e]
  exact down_cast _ _ _

theorem gain_at (t : Fin cfg0.N) (k : Fin 2048) :
    (iblk m c 3 t : Vec Ideal S1x2048 .f32) (ix2 0 k) = (m ((c : Thread nD τ).loc main_arg3) : Vec Ideal S1x2048 .f32) (ix2 0 k) := by
  unfold iblk
  rw [View.read_apply]
  show V m c main_v5 _ = _
  rw [V_v5]
  have e : ((cfg0.win 3).blk t).view.emb (ix2 0 k) = (ix2 0 k : S1x2048.Idx) := by
    refine funext fun a => Fin.ext ?_
    match a with
    | ⟨0, _⟩ => show cc0_transform_3 (grid0.coords t) 0 * 1 + 1 * 0 = 0; rw [(place3 t).1]
    | ⟨1, _⟩ => show cc0_transform_3 (grid0.coords t) 1 * 2048 + 1 * k.val = k.val; rw [(place3 t).2]; omega
  rw [e]
  pointwise

theorem bias_at (t : Fin cfg0.N) (k : Fin 2048) :
    (iblk m c 4 t : Vec Ideal S1x2048 .f32) (ix2 0 k) = (m ((c : Thread nD τ).loc main_arg4) : Vec Ideal S1x2048 .f32) (ix2 0 k) := by
  unfold iblk
  rw [View.read_apply]
  show V m c main_v7 _ = _
  rw [V_v7]
  have e : ((cfg0.win 4).blk t).view.emb (ix2 0 k) = (ix2 0 k : S1x2048.Idx) := by
    refine funext fun a => Fin.ext ?_
    match a with
    | ⟨0, _⟩ => show cc0_transform_4 (grid0.coords t) 0 * 1 + 1 * 0 = 0; rw [(place4 t).1]
    | ⟨1, _⟩ => show cc0_transform_4 (grid0.coords t) 1 * 2048 + 1 * k.val = k.val; rw [(place4 t).2]; omega
  rw [e]
  pointwise

/-! ## What the two scratch arrays hold after each point -/

/-- The share of hidden unit `f` in row `a` and column `d`. -/
def term (a f : ℕ) (d : Fin 2048) : EReal := unit (inp m c a) (upm m c f) * dnm m c f d

/-- The running block's step, at a point whose kept rows are the input's. -/
theorem step_at (t : Fin cfg0.N) (hb : Vec Ideal S512x2048 .bf16) (acc : Vec Ideal S512x2048 .f32)
    (hhb : ∀ r k, hb (ix2 r k) = inp m c (16 + 512 * (t.val / 8) + r.val) k) (r : Fin 512) (d : Fin 2048) :
    k0_pay3 (F := Ideal) hb (iblk m c 1 t) acc (iblk m c 2 t) (ix2 r d)
      = acc (ix2 r d) + ∑ l ∈ Finset.range 1024, term m c (16 + 512 * (t.val / 8) + r.val) (1024 * (t.val % 8) + l) d := by
  rw [pay3_at]
  refine congrArg _ ?_
  rw [Finset.sum_range]
  refine Finset.sum_congr rfl fun f _ => ?_
  rw [down_at]
  unfold term
  simp only [hhb, up_at]

theorem acc_at : ∀ (n : ℕ) (h : n < cfg0.N),
    (∀ (r : Fin 512) (k : Fin 2048), (outsAt0 m c n h).2.1 (ix2 r k) = inp m c (16 + 512 * (n / 8) + r.val) k)
    ∧ (∀ (r : Fin 512) (d : Fin 2048), (outsAt0 m c n h).2.2 (ix2 r d)
        = ∑ f ∈ Finset.range (1024 * (n % 8 + 1)), term m c (16 + 512 * (n / 8) + r.val) f d) := by
  intro n
  induction n with
  | zero =>
    intro h
    have e := outsAt0_A m c ⟨0, h⟩ rfl (by show ¬(0 % 8 = 7); omega)
    have hk : ∀ (r : Fin 512) (k : Fin 2048), k0_pay1 (F := Ideal) (iblk m c 0 ⟨0, h⟩) (ix2 r k) = inp m c (16 + 512 * (0 / 8) + r.val) k := by
      intro r k; rw [pay1_at, rows_at]
    constructor
    · intro r k
      rw [show outsAt0 m c 0 h = _ from e]; dsimp only
      rw [kept_A, hk]
    · intro r d
      rw [show outsAt0 m c 0 h = _ from e]; dsimp only
      rw [left_A, step_at m c ⟨0, h⟩ _ _ hk, pay2_at, zero_add]
      simp only [Nat.zero_mod, Nat.mul_zero, Nat.zero_add, Nat.mul_one]
  | succ n ih =>
    intro h
    have hN := lt_of_lt_of_eq h (show cfg0.N = 128 from N_0)
    obtain ⟨ihk, iha⟩ := ih (Nat.lt_of_succ_lt h)
    by_cases h0 : (n + 1) % 8 = 0
    · have e := outsAt0_A m c ⟨n + 1, h⟩ h0 (by show ¬((n + 1) % 8 = 7); omega)
      have hk : ∀ (r : Fin 512) (k : Fin 2048), k0_pay1 (F := Ideal) (iblk m c 0 ⟨n + 1, h⟩) (ix2 r k) = inp m c (16 + 512 * ((n + 1) / 8) + r.val) k := by
        intro r k; rw [pay1_at, rows_at]
      constructor
      · intro r k
        rw [show outsAt0 m c (n + 1) h = _ from e]; dsimp only
        rw [kept_A, hk]
      · intro r d
        rw [show outsAt0 m c (n + 1) h = _ from e]; dsimp only
        rw [left_A, step_at m c ⟨n + 1, h⟩ _ _ hk, pay2_at, zero_add]
        simp only [h0, Nat.mul_zero, Nat.zero_add, Nat.mul_one]
    · have hd : (n + 1) / 8 = n / 8 := by omega
      have hm : (n + 1) % 8 = n % 8 + 1 := by omega
      have hk : ∀ (r : Fin 512) (k : Fin 2048), (outsAt0 m c n (Nat.lt_of_succ_lt h)).2.1 (ix2 r k) = inp m c (16 + 512 * ((n + 1) / 8) + r.val) k := by
        intro r k; rw [ihk, hd]
      by_cases h1 : (n + 1) % 8 = 7
      · have e := outsAt0_C m c ⟨n + 1, h⟩ h0 h1
        constructor
        · intro r k
          rw [show outsAt0 m c (n + 1) h = _ from e]; dsimp only
          exact hk r k
        · intro r d
          rw [show outsAt0 m c (n + 1) h = _ from e]; dsimp only
          rw [left_C]
          refine (step_at m c ⟨n + 1, h⟩ (outsAt0 m c n (Nat.lt_of_succ_lt h)).2.1 (outsAt0 m c n (Nat.lt_of_succ_lt h)).2.2 hk r d).trans ?_
          rw [iha]
          dsimp only
          rw [hd, hm, Nat.mul_add 1024 (n % 8 + 1) 1, Finset.sum_range_add]
      · have e := outsAt0_B m c ⟨n + 1, h⟩ h0 h1
        constructor
        · intro r k
          rw [show outsAt0 m c (n + 1) h = _ from e]; dsimp only
          exact hk r k
        · intro r d
          rw [show outsAt0 m c (n + 1) h = _ from e]; dsimp only
          rw [left_B]
          refine (step_at m c ⟨n + 1, h⟩ (outsAt0 m c n (Nat.lt_of_succ_lt h)).2.1 (outsAt0 m c n (Nat.lt_of_succ_lt h)).2.2 hk r d).trans ?_
          rw [iha]
          dsimp only
          rw [hd, hm, Nat.mul_add 1024 (n % 8 + 1) 1, Finset.sum_range_add]

/-! ## What the last point of a row block writes back -/

/-- One row of the result before normalisation. -/
def row (a : ℕ) (d : Fin 2048) : EReal :=
  Ideal.ofBits .f32 0x3F9837F0#32 * inp m c a d + ∑ f ∈ Finset.range 8192, term m c a f d

theorem written_at (t : Fin cfg0.N) (h7 : t.val % 8 = 7) (r : Fin 512) (d : Fin 2048) :
    (outsAt0 m c t.val t.isLt).1 (ix2 r d)
      = layerNorm (row m c (16 + 512 * (t.val / 8) + r.val))
          (fun k => (m ((c : Thread nD τ).loc main_arg3) : Vec Ideal S1x2048 .f32) (ix2 0 k))
          (fun k => (m ((c : Thread nD τ).loc main_arg4) : Vec Ideal S1x2048 .f32) (ix2 0 k)) d := by
  have h0 : ¬t.val % 8 = 0 := by omega
  have e := outsAt0_C m c t h0 h7
  have ha := (acc_at m c t.val t.isLt).2
  rw [e] at ha ⊢
  dsimp only at ha ⊢
  rw [written_C, pay4_at]
  rw [left_C] at ha
  simp only [ha, rows_at, gain_at, bias_at, h7]
  rfl

/-- The array the run ends with, at row `i` and column `d`. -/
theorem out_at (i : Fin 8192) (d : Fin 2048) :
    (G5 m c : Vec Ideal S8192x2048 .f32) (ix2 i d)
      = layerNorm (row m c (16 + i.val))
          (fun k => (m ((c : Thread nD τ).loc main_arg3) : Vec Ideal S1x2048 .f32) (ix2 0 k))
          (fun k => (m ((c : Thread nD τ).loc main_arg4) : Vec Ideal S1x2048 .f32) (ix2 0 k)) d := by
  have hi := i.isLt
  have hd := d.isLt
  have hp : pt5Of (ix2 i d) = 8 * (i.val / 512) + 7 := by
    show 8 * (1 * (i.val / 512 - 0) + 1 * (d.val / 2048 - 0)) + 7 = _
    omega
  have hN : cfg0.N = 128 := N_0
  have hlt : 8 * (i.val / 512) + 7 < cfg0.N := by rw [hN]; omega
  have hl : loc5Of (ix2 i d) = ix2 ⟨i.val % 512, Nat.mod_lt _ (by decide)⟩ d := by
    funext a; apply Fin.ext
    match a with
    | ⟨0, _⟩ => rfl
    | ⟨1, _⟩ => show d.val % 2048 = d.val; omega
  unfold G5
  rw [dif_pos (by rw [hp]; exact hlt), hl, fold0_congr m c _ _ _ (by omega : 0 + (8 * (i.val / 512) + 7) < cfg0.N) hp,
    ← outsAt0_sweep m c _ hlt]
  rw [written_at m c ⟨8 * (i.val / 512) + 7, hlt⟩ (by show (8 * (i.val / 512) + 7) % 8 = 7; omega)]
  dsimp only
  rw [show 16 + 512 * ((8 * (i.val / 512) + 7) / 8) + i.val % 512 = 16 + i.val from by omega]

end Cert.Kernel2Ideal.Ffn

end
-- ==== Proof.FfnRef.lean ====
/-
  The feed-forward reference read at one place of its result: the layer normalisation of one row of 2048 numbers, each the
  scaled input plus the sum over all 8192 hidden units.
-/
module

public import proofs.«01_k».proof.Proof.Gen.Reference2Ideal.Read
public import Idealize.ShloMosaic.Lib.Pointwise
public import proofs.«01_k».proof.Proof.FfnSpec

@[expose] public section

noncomputable section

namespace Cert.Reference2Ideal.Read

open Cert.Reference2Ideal Cert.Reference2Ideal.Gen Cert.FfnSpec Idealize.ShloMosaic
open scoped BigOperators

/-- The input rows of the reference: rows 16 to 8207 of the array. -/
theorem v0_at (x0 : Vec Ideal S8448x2048 .f32) (i : Fin 8192) (k : Fin 2048) :
    val_main_v0 (F := Ideal) x0 (ix2 i k) = x0 (ix2 ⟨16 + i.val, by omega⟩ k) := by
  unfold val_main_v0
  pointwise

theorem v1_at (x1 : Vec Ideal S1x2048x8192 .f32) (k : Fin 2048) (f : Fin 8192) :
    val_main_v1 (F := Ideal) x1 (ix2 k f) = x1 (ix3 0 k f) := by
  unfold val_main_v1
  pointwise

theorem v7_at (x2 : Vec Ideal S1x8192x2048 .f32) (f : Fin 8192) (d : Fin 2048) :
    val_main_v7 (F := Ideal) x2 (ix2 f d) = x2 (ix3 0 f d) := by
  unfold val_main_v7
  pointwise

/-- The hidden units. -/
theorem v4_at (x0 : Vec Ideal S8448x2048 .f32) (x1 : Vec Ideal S1x2048x8192 .f32) (i : Fin 8192) (f : Fin 8192) :
    val_main_v4 (F := Ideal) x0 x1 (ix2 i f) = unit (fun k => x0 (ix2 ⟨16 + i.val, by omega⟩ k)) (fun k => x1 (ix3 0 k f)) := by
  unfold val_main_v4 val_main_v3 val_main_v2 val_main_call0_v0 val_main_call0_cst
  simp only [← v0_at, ← v1_at]
  generalize val_main_v0 (F := Ideal) x0 = y0
  generalize val_main_v1 (F := Ideal) x1 = y1
  pointwise [dot_S8192x2048_S2048x8192_S8192x8192_1_0_0_1_n_n]
  rfl

/-- The scaled input plus the second product. -/
theorem v9_at (x0 : Vec Ideal S8448x2048 .f32) (x1 : Vec Ideal S1x2048x8192 .f32) (x2 : Vec Ideal S1x8192x2048 .f32)
    (i : Fin 8192) (d : Fin 2048) :
    val_main_v9 (F := Ideal) x0 x1 x2 (ix2 i d)
      = Ideal.ofBits .f32 0x3F9837F0#32 * x0 (ix2 ⟨16 + i.val, by omega⟩ d)
        + ∑ f : Fin 8192, unit (fun k => x0 (ix2 ⟨16 + i.val, by omega⟩ k)) (fun k => x1 (ix3 0 k f)) * x2 (ix3 0 f d) := by
  have e : val_main_v9 (F := Ideal) x0 x1 x2 (ix2 i d)
      = Ideal.ofBits .f32 0x3F9837F0#32 * val_main_v0 (F := Ideal) x0 (ix2 i d)
        + ∑ f : Fin 8192, val_main_v4 (F := Ideal) x0 x1 (ix2 i f) * val_main_v7 (F := Ideal) x2 (ix2 f d) := by
    unfold val_main_v9 val_main_v8 val_main_v6 val_main_v5 val_main_cst
    generalize val_main_v0 (F := Ideal) x0 = y0
    generalize val_main_v4 (F := Ideal) x0 x1 = y4
    generalize val_main_v7 (F := Ideal) x2 = y7
    pointwise [dot_S8192x8192_S8192x2048_S8192x2048_1_0_0_1_n_n]
  rw [e]
  simp only [v4_at, v0_at, v7_at]

theorem v10_at (x3 : Vec Ideal S1x2048 .f32) (k : Fin 2048) : val_main_v10 (F := Ideal) x3 (ix1 k) = x3 (ix2 0 k) := by
  unfold val_main_v10
  pointwise

theorem v11_at (x4 : Vec Ideal S1x2048 .f32) (k : Fin 2048) : val_main_v11 (F := Ideal) x4 (ix1 k) = x4 (ix2 0 k) := by
  unfold val_main_v11
  pointwise

/-- The mean of each row. -/
theorem v15_at (x0 : Vec Ideal S8448x2048 .f32) (x1 : Vec Ideal S1x2048x8192 .f32) (x2 : Vec Ideal S1x8192x2048 .f32) (i : Fin 8192) :
    val_main_v15 (F := Ideal) x0 x1 x2 (ix2 i 0) = mean (fun k => val_main_v9 (F := Ideal) x0 x1 x2 (ix2 i k)) := by
  unfold val_main_v15 val_main_v14 val_main_v13 val_main_v12 val_main_cst_0 val_main_cst_1
  generalize val_main_v9 (F := Ideal) x0 x1 x2 = y
  pointwise
  rfl

/-- The variance of each row. -/
theorem v22_at (x0 : Vec Ideal S8448x2048 .f32) (x1 : Vec Ideal S1x2048x8192 .f32) (x2 : Vec Ideal S1x8192x2048 .f32) (i : Fin 8192) :
    val_main_v22 (F := Ideal) x0 x1 x2 (ix2 i 0)
      = mean (fun k => (val_main_v9 (F := Ideal) x0 x1 x2 (ix2 i k) - mean (fun k => val_main_v9 (F := Ideal) x0 x1 x2 (ix2 i k)))
          * (val_main_v9 (F := Ideal) x0 x1 x2 (ix2 i k) - mean (fun k => val_main_v9 (F := Ideal) x0 x1 x2 (ix2 i k)))) := by
  unfold val_main_v22 val_main_v21 val_main_v20 val_main_v19 val_main_v18 val_main_v17 val_main_v16 val_main_cst_2 val_main_cst_3
  simp only [← v15_at]
  generalize val_main_v15 (F := Ideal) x0 x1 x2 = mu
  generalize val_main_v9 (F := Ideal) x0 x1 x2 = y
  pointwise
  rfl

/-- The result. -/
theorem v35_at (x0 : Vec Ideal S8448x2048 .f32) (x1 : Vec Ideal S1x2048x8192 .f32) (x2 : Vec Ideal S1x8192x2048 .f32)
    (x3 x4 : Vec Ideal S1x2048 .f32) (i : Fin 8192) (d : Fin 2048) :
    val_main_v35 (F := Ideal) x0 x1 x2 x3 x4 (ix2 i d)
      = layerNorm (fun d => Ideal.ofBits .f32 0x3F9837F0#32 * x0 (ix2 ⟨16 + i.val, by omega⟩ d)
        + ∑ f : Fin 8192, unit (fun k => x0 (ix2 ⟨16 + i.val, by omega⟩ k)) (fun k => x1 (ix3 0 k f)) * x2 (ix3 0 f d))
          (fun k => x3 (ix2 0 k)) (fun k => x4 (ix2 0 k)) d := by
  have e : val_main_v35 (F := Ideal) x0 x1 x2 x3 x4 (ix2 i d)
      = (val_main_v9 (F := Ideal) x0 x1 x2 (ix2 i d) - val_main_v15 (F := Ideal) x0 x1 x2 (ix2 i 0))
          * Ideal.rsqrt (val_main_v22 (F := Ideal) x0 x1 x2 (ix2 i 0) + Ideal.ofBits .f32 0x3727C5AC#32)
          * val_main_v10 (F := Ideal) x3 (ix1 d) + val_main_v11 (F := Ideal) x4 (ix1 d) := by
    unfold val_main_v35 val_main_v34 val_main_v33 val_main_v32 val_main_v31 val_main_v30 val_main_v29 val_main_v28 val_main_v27
      val_main_v26 val_main_v25 val_main_v24 val_main_v23 val_main_cst_4
    generalize val_main_v22 (F := Ideal) x0 x1 x2 = va
    generalize val_main_v15 (F := Ideal) x0 x1 x2 = mu
    generalize val_main_v9 (F := Ideal) x0 x1 x2 = y
    generalize val_main_v10 (F := Ideal) x3 = g
    generalize val_main_v11 (F := Ideal) x4 = b
    pointwise
  rw [e]
  simp only [v22_at, v15_at, v10_at, v11_at, v9_at]
  rfl

end Cert.Reference2Ideal.Read

end
-- ==== Proof.FfnTop.lean ====
/-
  The feed-forward block's claims: the kernel's array and the reference's result are one function of the arguments.
-/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.FfnKernel
public import proofs.«01_k».proof.Proof.FfnRef
public import Idealize.ShloMosaic.Adequacy
public import Idealize.ShloMosaic.Init
public import Idealize.ShloMosaic.Lib.Quiescent

@[expose] public section

noncomputable section

namespace Cert.FfnTop

open Idealize.ShloMosaic Idealize.SL.Sem

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference's result, on a memory whose arguments are the kernel's, is the kernel's array. -/
theorem ffn_eq (m : (ℓ : Loc Cert.Kernel2Ideal.nD Cert.Kernel2Ideal.τ Cert.Kernel2Ideal.sig) → Buf (Elt Ideal) ℓ) (c : Dev Cert.Kernel2Ideal.nD) :
    (Cert.Reference2Ideal.Read.val_main_v35 (F := Ideal)
      (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4)) : Vec Ideal Cert.Kernel2Ideal.S8192x2048 .f32) = Cert.Kernel2Ideal.Value.G5 m c := by
  funext i
  rw [eq_ix2 i]
  refine (Cert.Reference2Ideal.Read.v35_at _ _ _ _ _ (i 0) (i 1)).trans ((Cert.Kernel2Ideal.Ffn.out_at m c (i 0) (i 1)).trans ?_).symm
  refine congrArg (fun x => Cert.FfnSpec.layerNorm x _ _ (i 1)) (funext fun d => ?_)
  have hi : 16 + (i 0).val < 8448 := by have h : (i 0).val < 8192 := (i 0).isLt; omega
  unfold Cert.Kernel2Ideal.Ffn.row
  rw [Finset.sum_range]
  unfold Cert.Kernel2Ideal.Ffn.term
  have hx : ∀ k, Cert.Kernel2Ideal.Ffn.inp m c (16 + (i 0).val) k = _ := fun k => dif_pos hi
  have hu : ∀ (f : Fin 8192) k, Cert.Kernel2Ideal.Ffn.upm m c f.val k = _ := fun f k => dif_pos f.isLt
  have hd : ∀ (f : Fin 8192) k, Cert.Kernel2Ideal.Ffn.dnm m c f.val k = _ := fun f k => dif_pos f.isLt
  rw [hx]
  refine congrArg _ (Finset.sum_congr rfl fun f _ => ?_)
  rw [hd, funext hx, funext (hu f)]

theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1, Cert.Reference2Ideal.Read.val_main_v35_eq]
  simp only [hagree c]
  exact ffn_eq m c

end Cert.FfnTop

end
-- ==== Proof.SamplePay.lean ====
/-
  The feed-forward kernel's three stores read at one place of the block, over the extended reals: the accumulation step
  (the running block plus the products of the squared, clipped hidden units with the second matrix's rows) and the last
  step (the layer normalisation of the scaled input plus the accumulated block, row by row).
-/
module

public import proofs.«01_k».proof.Proof.Gen.Kernel3Ideal.Skeleton
public import Idealize.ShloMosaic.Lib.Pointwise
public import proofs.«01_k».proof.Proof.FfnSpec

@[expose] public section

noncomputable section

namespace Cert.Kernel3Ideal.Gen

open Idealize.ShloMosaic Cert.FfnSpec
open scoped BigOperators

set_option maxRecDepth 16384

theorem pay1_at (v : Vec Ideal S32x2048 .f32) (r : Fin 32) (d : Fin 2048) :
    k0_pay1 (F := Ideal) v (ix2 r d) = v (ix2 r d) := by
  unfold_payloads
  pointwise

theorem pay2_at (r : Fin 32) (d : Fin 2048) : k0_pay2 (F := Ideal) (ix2 r d) = 0 := by
  unfold_payloads
  pointwise

theorem pay3_at (v3 : Vec Ideal S32x2048 .bf16) (v4 : Vec Ideal S2048x1024 .bf16) (v9 : Vec Ideal S32x2048 .f32)
    (v12 : Vec Ideal S1024x2048 .bf16) (r : Fin 32) (d : Fin 2048) :
    k0_pay3 (F := Ideal) v3 v4 v9 v12 (ix2 r d)
      = v9 (ix2 r d) + ∑ f : Fin 1024, unit (fun k => v3 (ix2 r k)) (fun k => v4 (ix2 k f)) * v12 (ix2 f d) := by
  unfold_payloads
  pointwise [dot_S32x2048_S2048x1024_S32x1024_1_0_0_1_n_n, dot_S32x1024_S1024x2048_S32x2048_1_0_0_1_n_n]
  rfl

theorem pay4_at (h acc : Vec Ideal S32x2048 .f32) (g b : Vec Ideal S1x2048 .f32) (r : Fin 32) (d : Fin 2048) :
    k0_pay4 (F := Ideal) h acc g b (ix2 r d)
      = layerNorm (fun k => Ideal.ofBits .f32 0x3F9837F0#32 * h (ix2 r k) + acc (ix2 r k)) (fun k => g (ix2 0 k)) (fun k => b (ix2 0 k)) d := by
  unfold_payloads
  pointwise
  rfl

end Cert.Kernel3Ideal.Gen

end
-- ==== Proof.SampleKernel.lean ====
/-
  The sample's feed-forward run, over the extended reals. The eight grid points treat one block of 32 rows, each
  point one block of 1024 hidden units. The first of them keeps the block's rows and clears the running block; every one
  adds its hidden units' share; the last normalises and writes the block back. This file reads what each point leaves
  (`left_A`, `left_B`, `left_C`), the windows' blocks (`rows_at`, `up_at`, `down_at`, `gain_at`, `bias_at`), what the
  running block holds after each point (`acc_at`), and the array the run ends with (`out_at`).
-/
module

public import proofs.«01_k».proof.Proof.Gen.Kernel3Ideal.Value
public import proofs.«01_k».proof.Proof.SamplePay
public import Idealize.ShloMosaic.Lib.Tactic
public import Idealize.ShloMosaic.Lib.StableHlo.Run

@[expose] public section

set_option maxRecDepth 16384

noncomputable section

namespace Cert.Kernel3Ideal.Ffn

open Cert.Kernel3Ideal Cert.Kernel3Ideal.Gen Cert.Kernel3Ideal.Value Cert.FfnSpec
open Idealize.ShloMosaic Idealize.ShloMosaic.TcCoe Idealize.SL.Sem
open scoped BigOperators

theorem hz : (![0, 0] : Fin 2 → Nat) = fun _ => 0 := funext fun a => by fin_cases a <;> rfl

section Cases

variable (c : Dev nD) (i : grid0.Coords) (a2 : Memref sig .tc .vmem S32x2048 .f32) (h2 : a2.IsWhole) (a3 : Memref sig .tc .vmem S2048x1024 .bf16) (h3 : a3.IsWhole) (a4 : Memref sig .tc .vmem S1024x2048 .bf16) (h4 : a4.IsWhole) (a5 : Memref sig .tc .vmem S1x2048 .f32) (h5 : a5.IsWhole) (a6 : Memref sig .tc .vmem S1x2048 .f32) (h6 : a6.IsWhole) (a7 : Memref sig .tc .vmem S32x2048 .f32) (h7 : a7.IsWhole) (a8 : Memref sig .tc .vmem S32x2048 .bf16) (h8 : a8.IsWhole) (a9 : Memref sig .tc .vmem S32x2048 .f32) (h9 : a9.IsWhole)
variable (x0 : Vec Ideal S32x2048 .f32) (x1 : Vec Ideal S2048x1024 .bf16) (x2 : Vec Ideal S1024x2048 .bf16) (x3 x4 : Vec Ideal S1x2048 .f32) (xs0 : Vec Ideal S32x2048 .bf16) (xs1 : Vec Ideal S32x2048 .f32)

theorem kept_A (hc0 : cond0_0 i) (hc1 : ¬cond0_1 i) :
    sout0_A_0 c i a2 h2 a3 h3 a4 h4 a5 h5 a6 h6 a7 h7 a8 h8 a9 h9 hc0 hc1 x0 x1 x2 x3 x4 = k0_pay1 x0 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_unit_zero hz]
  simp only [View.readAt_eq_ld, h2.read_unread, View.ld_unit_zero (S := S32x2048) hz]

theorem left_A (hc0 : cond0_0 i) (hc1 : ¬cond0_1 i) :
    sout0_A_1 c i a2 h2 a3 h3 a4 h4 a5 h5 a6 h6 a7 h7 a8 h8 a9 h9 hc0 hc1 x0 x1 x2 x3 x4 = k0_pay3 (F := Ideal) (k0_pay1 x0) x1 (k0_pay2 (F := Ideal)) x2 := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S32x2048) hz]
  simp only [View.readCov_unit_zero (S := S32x2048) _ hz, View.readAt_eq_ld, h2.read_unread, h3.read_unread, h4.read_unread, View.ld_unit_zero (S := S32x2048) hz, View.ld_unit_zero (S := S2048x1024) hz, View.ld_unit_zero (S := S1024x2048) hz]

theorem left_B (hc0 : ¬cond0_0 i) (hc1 : ¬cond0_1 i) :
    sout0_B_1 c i a2 h2 a3 h3 a4 h4 a5 h5 a6 h6 a7 h7 a8 h8 a9 h9 hc0 hc1 x0 x1 x2 x3 x4 xs0 xs1 = k0_pay3 (F := Ideal) xs0 x1 xs1 x2 := by
  unfold sout0_B_1
  rw [View.read_writes_eq_canon _ _ _ (scover0_B_1 c i a2 h2 a3 h3 a4 h4 a5 h5 a6 h6 a7 h7 a8 h8 a9 h9 hc0 hc1 x0 x1 x2 x3 x4 xs0 xs1)]
  unfold kernelRun0_B
  dsimp only
  sl_unfold_words
  rw [View.canon_unit_zero hz]
  simp only [View.readAt_eq_ld, h3.read_unread, h4.read_unread, h8.read_unread, h9.read_unread, View.ld_unit_zero (S := S32x2048) hz, View.ld_unit_zero (S := S2048x1024) hz, View.ld_unit_zero (S := S1024x2048) hz]

theorem left_C (hc0 : ¬cond0_0 i) (hc1 : cond0_1 i) :
    sout0_C_1 c i a2 h2 a3 h3 a4 h4 a5 h5 a6 h6 a7 h7 a8 h8 a9 h9 hc0 hc1 x0 x1 x2 x3 x4 xs0 xs1 = k0_pay3 (F := Ideal) xs0 x1 xs1 x2 := by
  unfold sout0_C_1
  rw [View.read_writes_eq_canon _ _ _ (scover0_C_1 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readAt_eq_ld, h3.read_unread, h4.read_unread, h8.read_unread, h9.read_unread, View.ld_unit_zero (S := S32x2048) hz, View.ld_unit_zero (S := S2048x1024) hz, View.ld_unit_zero (S := S1024x2048) hz]

theorem written_C (hc0 : ¬cond0_0 i) (hc1 : cond0_1 i) :
    out0_C_5 c i a2 h2 a3 h3 a4 h4 a5 h5 a6 h6 a7 h7 a8 h8 a9 h9 hc0 hc1 x0 x1 x2 x3 x4 xs0 xs1 = k0_pay4 (F := Ideal) x0 (k0_pay3 (F := Ideal) xs0 x1 xs1 x2) x3 x4 := by
  unfold out0_C_5
  rw [View.read_writes_eq_canon _ _ _ (cover0_C_5 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readCov_unit_zero (S := S32x2048) _ hz, View.readAt_eq_ld, h2.read_unread, h3.read_unread, h4.read_unread, h5.read_unread, h6.read_unread, h8.read_unread, h9.read_unread, View.ld_unit_zero (S := S32x2048) hz, View.ld_unit_zero (S := S2048x1024) hz, View.ld_unit_zero (S := S1024x2048) hz, View.ld_unit_zero (S := S1x2048) hz]

end Cases

variable (m : (ℓ : Loc nD τ sig) → Buf (Elt Ideal) ℓ) (c : Dev nD)

/-! ## The arrays the windows read, at numbers -/

/-- The input array at row `a`. -/
def inp (a : ℕ) (k : Fin 2048) : EReal :=
  if h : a < 32 then (m ((c : Thread nD τ).loc main_arg0) : Vec Ideal S32x2048 .f32) (ix2 ⟨a, h⟩ k) else 0
/-- The first matrix at column `f`. -/
def upm (f : ℕ) (k : Fin 2048) : EReal :=
  if h : f < 8192 then (m ((c : Thread nD τ).loc main_arg1) : Vec Ideal S1x2048x8192 .f32) (ix3 0 k ⟨f, h⟩) else 0
/-- The second matrix at row `f`. -/
def dnm (f : ℕ) (d : Fin 2048) : EReal :=
  if h : f < 8192 then (m ((c : Thread nD τ).loc main_arg2) : Vec Ideal S1x8192x2048 .f32) (ix3 0 ⟨f, h⟩ d) else 0

theorem up_cast (x : Vec Ideal S1x2048x8192 .f32) (k : Fin 2048) (q : Fin 8192) :
    (truncf (F := Ideal) .bf16 (shapeCast _ x shapeCasts_S1x2048x8192_S2048x8192) bitsLt_bf16_f32 : Vec Ideal S2048x8192 .bf16) (ix2 k q) = x (ix3 0 k q) := by
  pointwise
theorem down_cast (x : Vec Ideal S1x8192x2048 .f32) (q : Fin 8192) (k : Fin 2048) :
    (truncf (F := Ideal) .bf16 (shapeCast _ x shapeCasts_S1x8192x2048_S8192x2048) bitsLt_bf16_f32 : Vec Ideal S8192x2048 .bf16) (ix2 q k) = x (ix3 0 q k) := by
  pointwise

theorem V_v1 : V m c main_v1 = (truncf (F := Ideal) .bf16 (shapeCast _ (m ((c : Thread nD τ).loc main_arg1) : Vec Ideal S1x2048x8192 .f32) shapeCasts_S1x2048x8192_S2048x8192) bitsLt_bf16_f32 : Vec Ideal S2048x8192 .bf16) := by
  unfold V; simp only [hostOps0]; after_results_simp; rfl
theorem V_v3 : V m c main_v3 = (truncf (F := Ideal) .bf16 (shapeCast _ (m ((c : Thread nD τ).loc main_arg2) : Vec Ideal S1x8192x2048 .f32) shapeCasts_S1x8192x2048_S8192x2048) bitsLt_bf16_f32 : Vec Ideal S8192x2048 .bf16) := by
  unfold V; simp only [hostOps0]; after_results_simp; rfl
theorem V_v5 : V m c main_v5 = (shapeCast S1x2048 (shapeCast S2048 (m ((c : Thread nD τ).loc main_arg3) : Vec Ideal S1x2048 .f32) shapeCasts_S1x2048_S2048) shapeCasts_S2048_S1x2048 : Vec Ideal S1x2048 .f32) := by
  unfold V; simp only [hostOps0]; after_results_simp; rfl
theorem V_v7 : V m c main_v7 = (shapeCast S1x2048 (shapeCast S2048 (m ((c : Thread nD τ).loc main_arg4) : Vec Ideal S1x2048 .f32) shapeCasts_S1x2048_S2048) shapeCasts_S2048_S1x2048 : Vec Ideal S1x2048 .f32) := by
  unfold V; simp only [hostOps0]; after_results_simp; rfl

theorem place0 : ∀ t : Fin grid0.N, cc0_transform_0 (grid0.coords t) 0 = 32 * (t.val / 8) ∧ cc0_transform_0 (grid0.coords t) 1 = 0 := by
  decide +kernel
theorem place1 : ∀ t : Fin grid0.N, cc0_transform_1 (grid0.coords t) 0 = 0 ∧ cc0_transform_1 (grid0.coords t) 1 = t.val % 8 := by
  decide +kernel
theorem place2 : ∀ t : Fin grid0.N, cc0_transform_2 (grid0.coords t) 0 = t.val % 8 ∧ cc0_transform_2 (grid0.coords t) 1 = 0 := by
  decide +kernel
theorem place3 : ∀ t : Fin grid0.N, cc0_transform_3 (grid0.coords t) 0 = 0 ∧ cc0_transform_3 (grid0.coords t) 1 = 0 := by
  decide +kernel
theorem place4 : ∀ t : Fin grid0.N, cc0_transform_4 (grid0.coords t) 0 = 0 ∧ cc0_transform_4 (grid0.coords t) 1 = 0 := by
  decide +kernel

theorem rows_at (t : Fin cfg0.N) (r : Fin 32) (k : Fin 2048) :
    (iblk m c 0 t : Vec Ideal S32x2048 .f32) (ix2 r k) = inp m c (32 * (t.val / 8) + r.val) k := by
  have hN := lt_of_lt_of_eq t.isLt (show cfg0.N = 8 from N_0)
  have hr : 32 * (t.val / 8) + r.val < 32 := by have := r.isLt; omega
  unfold iblk inp
  rw [View.read_apply, dif_pos hr]
  show V m c main_arg0 _ = _
  rw [V_main_arg0]
  refine congrArg _ (funext fun a => Fin.ext ?_)
  match a with
  | ⟨0, _⟩ => show cc0_transform_0 (grid0.coords t) 0 + 1 * r.val = 32 * (t.val / 8) + r.val; rw [(place0 t).1]; omega
  | ⟨1, _⟩ => show cc0_transform_0 (grid0.coords t) 1 + 1 * k.val = k.val; rw [(place0 t).2]; omega

theorem up_at (t : Fin cfg0.N) (k : Fin 2048) (f : Fin 1024) :
    (iblk m c 1 t : Vec Ideal S2048x1024 .bf16) (ix2 k f) = upm m c (1024 * (t.val % 8) + f.val) k := by
  have hr : 1024 * (t.val % 8) + f.val < 8192 := by have := f.isLt; omega
  unfold iblk upm
  rw [View.read_apply, dif_pos hr]
  show V m c main_v1 _ = _
  rw [V_v1]
  have e : ((cfg0.win 1).blk t).view.emb (ix2 k f) = (ix2 k ⟨1024 * (t.val % 8) + f.val, hr⟩ : S2048x8192.Idx) := by
    refine funext fun a => Fin.ext ?_
    match a with
    | ⟨0, _⟩ => show cc0_transform_1 (grid0.coords t) 0 * 2048 + 1 * k.val = k.val; rw [(place1 t).1]; omega
    | ⟨1, _⟩ => show cc0_transform_1 (grid0.coords t) 1 * 1024 + 1 * f.val = 1024 * (t.val % 8) + f.val; rw [(place1 t).2]; omega
  rw [e]
  exact up_cast _ _ _

theorem down_at (t : Fin cfg0.N) (f : Fin 1024) (d : Fin 2048) :
    (iblk m c 2 t : Vec Ideal S1024x2048 .bf16) (ix2 f d) = dnm m c (1024 * (t.val % 8) + f.val) d := by
  have hr : 1024 * (t.val % 8) + f.val < 8192 := by have := f.isLt; omega
  unfold iblk dnm
  rw [View.read_apply, dif_pos hr]
  show V m c main_v3 _ = _
  rw [V_v3]
  have e : ((cfg0.win 2).blk t).view.emb (ix2 f d) = (ix2 ⟨1024 * (t.val % 8) + f.val, hr⟩ d : S8192x2048.Idx) := by
    refine funext fun a => Fin.ext ?_
    match a with
    | ⟨0, _⟩ => show cc0_transform_2 (grid0.coords t) 0 * 1024 + 1 * f.val = 1024 * (t.val % 8) + f.val; rw [(place2 t).1]; omega
    | ⟨1, _⟩ => show cc0_transform_2 (grid0.coords t) 1 * 2048 + 1 * d.val = d.val; rw [(place2 t).2]; omega
  rw [e]
  exact down_cast _ _ _

theorem gain_at (t : Fin cfg0.N) (k : Fin 2048) :
    (iblk m c 3 t : Vec Ideal S1x2048 .f32) (ix2 0 k) = (m ((c : Thread nD τ).loc main_arg3) : Vec Ideal S1x2048 .f32) (ix2 0 k) := by
  unfold iblk
  rw [View.read_apply]
  show V m c main_v5 _ = _
  rw [V_v5]
  have e : ((cfg0.win 3).blk t).view.emb (ix2 0 k) = (ix2 0 k : S1x2048.Idx) := by
    refine funext fun a => Fin.ext ?_
    match a with
    | ⟨0, _⟩ => show cc0_transform_3 (grid0.coords t) 0 * 1 + 1 * 0 = 0; rw [(place3 t).1]
    | ⟨1, _⟩ => show cc0_transform_3 (grid0.coords t) 1 * 2048 + 1 * k.val = k.val; rw [(place3 t).2]; omega
  rw [e]
  pointwise

theorem bias_at (t : Fin cfg0.N) (k : Fin 2048) :
    (iblk m c 4 t : Vec Ideal S1x2048 .f32) (ix2 0 k) = (m ((c : Thread nD τ).loc main_arg4) : Vec Ideal S1x2048 .f32) (ix2 0 k) := by
  unfold iblk
  rw [View.read_apply]
  show V m c main_v7 _ = _
  rw [V_v7]
  have e : ((cfg0.win 4).blk t).view.emb (ix2 0 k) = (ix2 0 k : S1x2048.Idx) := by
    refine funext fun a => Fin.ext ?_
    match a with
    | ⟨0, _⟩ => show cc0_transform_4 (grid0.coords t) 0 * 1 + 1 * 0 = 0; rw [(place4 t).1]
    | ⟨1, _⟩ => show cc0_transform_4 (grid0.coords t) 1 * 2048 + 1 * k.val = k.val; rw [(place4 t).2]; omega
  rw [e]
  pointwise

/-! ## What the two scratch arrays hold after each point -/

/-- The share of hidden unit `f` in row `a` and column `d`. -/
def term (a f : ℕ) (d : Fin 2048) : EReal := unit (inp m c a) (upm m c f) * dnm m c f d

/-- The running block's step, at a point whose kept rows are the input's. -/
theorem step_at (t : Fin cfg0.N) (hb : Vec Ideal S32x2048 .bf16) (acc : Vec Ideal S32x2048 .f32)
    (hhb : ∀ r k, hb (ix2 r k) = inp m c (32 * (t.val / 8) + r.val) k) (r : Fin 32) (d : Fin 2048) :
    k0_pay3 (F := Ideal) hb (iblk m c 1 t) acc (iblk m c 2 t) (ix2 r d)
      = acc (ix2 r d) + ∑ l ∈ Finset.range 1024, term m c (32 * (t.val / 8) + r.val) (1024 * (t.val % 8) + l) d := by
  rw [pay3_at]
  refine congrArg _ ?_
  rw [Finset.sum_range]
  refine Finset.sum_congr rfl fun f _ => ?_
  rw [down_at]
  unfold term
  simp only [hhb, up_at]

theorem acc_at : ∀ (n : ℕ) (h : n < cfg0.N),
    (∀ (r : Fin 32) (k : Fin 2048), (outsAt0 m c n h).2.1 (ix2 r k) = inp m c (32 * (n / 8) + r.val) k)
    ∧ (∀ (r : Fin 32) (d : Fin 2048), (outsAt0 m c n h).2.2 (ix2 r d)
        = ∑ f ∈ Finset.range (1024 * (n % 8 + 1)), term m c (32 * (n / 8) + r.val) f d) := by
  intro n
  induction n with
  | zero =>
    intro h
    have e := outsAt0_A m c ⟨0, h⟩ rfl (by show ¬(0 % 8 = 7); omega)
    have hk : ∀ (r : Fin 32) (k : Fin 2048), k0_pay1 (F := Ideal) (iblk m c 0 ⟨0, h⟩) (ix2 r k) = inp m c (32 * (0 / 8) + r.val) k := by
      intro r k; rw [pay1_at, rows_at]
    constructor
    · intro r k
      rw [show outsAt0 m c 0 h = _ from e]; dsimp only
      rw [kept_A, hk]
    · intro r d
      rw [show outsAt0 m c 0 h = _ from e]; dsimp only
      rw [left_A, step_at m c ⟨0, h⟩ _ _ hk, pay2_at, zero_add]
      simp only [Nat.zero_mod, Nat.mul_zero, Nat.zero_add, Nat.mul_one]
  | succ n ih =>
    intro h
    have hN := lt_of_lt_of_eq h (show cfg0.N = 8 from N_0)
    obtain ⟨ihk, iha⟩ := ih (Nat.lt_of_succ_lt h)
    by_cases h0 : (n + 1) % 8 = 0
    · have e := outsAt0_A m c ⟨n + 1, h⟩ h0 (by show ¬((n + 1) % 8 = 7); omega)
      have hk : ∀ (r : Fin 32) (k : Fin 2048), k0_pay1 (F := Ideal) (iblk m c 0 ⟨n + 1, h⟩) (ix2 r k) = inp m c (32 * ((n + 1) / 8) + r.val) k := by
        intro r k; rw [pay1_at, rows_at]
      constructor
      · intro r k
        rw [show outsAt0 m c (n + 1) h = _ from e]; dsimp only
        rw [kept_A, hk]
      · intro r d
        rw [show outsAt0 m c (n + 1) h = _ from e]; dsimp only
        rw [left_A, step_at m c ⟨n + 1, h⟩ _ _ hk, pay2_at, zero_add]
        simp only [h0, Nat.mul_zero, Nat.zero_add, Nat.mul_one]
    · have hd : (n + 1) / 8 = n / 8 := by omega
      have hm : (n + 1) % 8 = n % 8 + 1 := by omega
      have hk : ∀ (r : Fin 32) (k : Fin 2048), (outsAt0 m c n (Nat.lt_of_succ_lt h)).2.1 (ix2 r k) = inp m c (32 * ((n + 1) / 8) + r.val) k := by
        intro r k; rw [ihk, hd]
      by_cases h1 : (n + 1) % 8 = 7
      · have e := outsAt0_C m c ⟨n + 1, h⟩ h0 h1
        constructor
        · intro r k
          rw [show outsAt0 m c (n + 1) h = _ from e]; dsimp only
          exact hk r k
        · intro r d
          rw [show outsAt0 m c (n + 1) h = _ from e]; dsimp only
          rw [left_C]
          refine (step_at m c ⟨n + 1, h⟩ (outsAt0 m c n (Nat.lt_of_succ_lt h)).2.1 (outsAt0 m c n (Nat.lt_of_succ_lt h)).2.2 hk r d).trans ?_
          rw [iha]
          dsimp only
          rw [hd, hm, Nat.mul_add 1024 (n % 8 + 1) 1, Finset.sum_range_add]
      · have e := outsAt0_B m c ⟨n + 1, h⟩ h0 h1
        constructor
        · intro r k
          rw [show outsAt0 m c (n + 1) h = _ from e]; dsimp only
          exact hk r k
        · intro r d
          rw [show outsAt0 m c (n + 1) h = _ from e]; dsimp only
          rw [left_B]
          refine (step_at m c ⟨n + 1, h⟩ (outsAt0 m c n (Nat.lt_of_succ_lt h)).2.1 (outsAt0 m c n (Nat.lt_of_succ_lt h)).2.2 hk r d).trans ?_
          rw [iha]
          dsimp only
          rw [hd, hm, Nat.mul_add 1024 (n % 8 + 1) 1, Finset.sum_range_add]

/-! ## What the last point of a row block writes back -/

/-- One row of the result before normalisation. -/
def row (a : ℕ) (d : Fin 2048) : EReal :=
  Ideal.ofBits .f32 0x3F9837F0#32 * inp m c a d + ∑ f ∈ Finset.range 8192, term m c a f d

theorem written_at (t : Fin cfg0.N) (h7 : t.val % 8 = 7) (r : Fin 32) (d : Fin 2048) :
    (outsAt0 m c t.val t.isLt).1 (ix2 r d)
      = layerNorm (row m c (32 * (t.val / 8) + r.val))
          (fun k => (m ((c : Thread nD τ).loc main_arg3) : Vec Ideal S1x2048 .f32) (ix2 0 k))
          (fun k => (m ((c : Thread nD τ).loc main_arg4) : Vec Ideal S1x2048 .f32) (ix2 0 k)) d := by
  have h0 : ¬t.val % 8 = 0 := by omega
  have e := outsAt0_C m c t h0 h7
  have ha := (acc_at m c t.val t.isLt).2
  rw [e] at ha ⊢
  dsimp only at ha ⊢
  rw [written_C, pay4_at]
  rw [left_C] at ha
  simp only [ha, rows_at, gain_at, bias_at, h7]
  rfl

/-- The array the run ends with, at row `i` and column `d`. -/
theorem out_at (i : Fin 32) (d : Fin 2048) :
    (G5 m c : Vec Ideal S32x2048 .f32) (ix2 i d)
      = layerNorm (row m c (i.val))
          (fun k => (m ((c : Thread nD τ).loc main_arg3) : Vec Ideal S1x2048 .f32) (ix2 0 k))
          (fun k => (m ((c : Thread nD τ).loc main_arg4) : Vec Ideal S1x2048 .f32) (ix2 0 k)) d := by
  have hi := i.isLt
  have hd := d.isLt
  have hp : pt5Of (ix2 i d) = 8 * (i.val / 32) + 7 := by
    show 8 * (1 * (i.val / 32 - 0) + 1 * (d.val / 2048 - 0)) + 7 = _
    omega
  have hN : cfg0.N = 8 := N_0
  have hlt : 8 * (i.val / 32) + 7 < cfg0.N := by rw [hN]; omega
  have hl : loc5Of (ix2 i d) = ix2 ⟨i.val % 32, Nat.mod_lt _ (by decide)⟩ d := by
    funext a; apply Fin.ext
    match a with
    | ⟨0, _⟩ => rfl
    | ⟨1, _⟩ => show d.val % 2048 = d.val; omega
  unfold G5
  rw [dif_pos (by rw [hp]; exact hlt), hl, fold0_congr m c _ _ _ (by omega : 0 + (8 * (i.val / 32) + 7) < cfg0.N) hp,
    ← outsAt0_sweep m c _ hlt]
  rw [written_at m c ⟨8 * (i.val / 32) + 7, hlt⟩ (by show (8 * (i.val / 32) + 7) % 8 = 7; omega)]
  dsimp only
  rw [show 32 * ((8 * (i.val / 32) + 7) / 8) + i.val % 32 = i.val from by omega]

end Cert.Kernel3Ideal.Ffn

end
-- ==== Proof.SampleRef.lean ====
/-
  The feed-forward reference read at one place of its result: the layer normalisation of one row of 2048 numbers, each the
  scaled input plus the sum over all 8192 hidden units.
-/
module

public import proofs.«01_k».proof.Proof.Gen.Reference3Ideal.Read
public import Idealize.ShloMosaic.Lib.Pointwise
public import proofs.«01_k».proof.Proof.FfnSpec

@[expose] public section

noncomputable section

namespace Cert.Reference3Ideal.Read

open Cert.Reference3Ideal Cert.Reference3Ideal.Gen Cert.FfnSpec Idealize.ShloMosaic
open scoped BigOperators

theorem v0_at (x1 : Vec Ideal S1x2048x8192 .f32) (k : Fin 2048) (f : Fin 8192) :
    val_main_v0 (F := Ideal) x1 (ix2 k f) = x1 (ix3 0 k f) := by
  unfold val_main_v0
  pointwise

theorem v6_at (x2 : Vec Ideal S1x8192x2048 .f32) (f : Fin 8192) (d : Fin 2048) :
    val_main_v6 (F := Ideal) x2 (ix2 f d) = x2 (ix3 0 f d) := by
  unfold val_main_v6
  pointwise

/-- The hidden units. -/
theorem v3_at (x0 : Vec Ideal S32x2048 .f32) (x1 : Vec Ideal S1x2048x8192 .f32) (i : Fin 32) (f : Fin 8192) :
    val_main_v3 (F := Ideal) x0 x1 (ix2 i f) = unit (fun k => x0 (ix2 i k)) (fun k => x1 (ix3 0 k f)) := by
  unfold val_main_v3 val_main_v2 val_main_v1 val_main_call0_v0 val_main_call0_cst
  simp only [← v0_at]
  generalize val_main_v0 (F := Ideal) x1 = y1
  pointwise [dot_S32x2048_S2048x8192_S32x8192_1_0_0_1_n_n]
  rfl

/-- The scaled input plus the second product. -/
theorem v8_at (x0 : Vec Ideal S32x2048 .f32) (x1 : Vec Ideal S1x2048x8192 .f32) (x2 : Vec Ideal S1x8192x2048 .f32)
    (i : Fin 32) (d : Fin 2048) :
    val_main_v8 (F := Ideal) x0 x1 x2 (ix2 i d)
      = Ideal.ofBits .f32 0x3F9837F0#32 * x0 (ix2 i d)
        + ∑ f : Fin 8192, unit (fun k => x0 (ix2 i k)) (fun k => x1 (ix3 0 k f)) * x2 (ix3 0 f d) := by
  have e : val_main_v8 (F := Ideal) x0 x1 x2 (ix2 i d)
      = Ideal.ofBits .f32 0x3F9837F0#32 * x0 (ix2 i d)
        + ∑ f : Fin 8192, val_main_v3 (F := Ideal) x0 x1 (ix2 i f) * val_main_v6 (F := Ideal) x2 (ix2 f d) := by
    unfold val_main_v8 val_main_v7 val_main_v5 val_main_v4 val_main_cst
    generalize val_main_v3 (F := Ideal) x0 x1 = y4
    generalize val_main_v6 (F := Ideal) x2 = y7
    pointwise [dot_S32x8192_S8192x2048_S32x2048_1_0_0_1_n_n]
  rw [e]
  simp only [v3_at, v6_at]

theorem v9_at (x3 : Vec Ideal S1x2048 .f32) (k : Fin 2048) : val_main_v9 (F := Ideal) x3 (ix1 k) = x3 (ix2 0 k) := by
  unfold val_main_v9
  pointwise

theorem v10_at (x4 : Vec Ideal S1x2048 .f32) (k : Fin 2048) : val_main_v10 (F := Ideal) x4 (ix1 k) = x4 (ix2 0 k) := by
  unfold val_main_v10
  pointwise

/-- The mean of each row. -/
theorem v14_at (x0 : Vec Ideal S32x2048 .f32) (x1 : Vec Ideal S1x2048x8192 .f32) (x2 : Vec Ideal S1x8192x2048 .f32) (i : Fin 32) :
    val_main_v14 (F := Ideal) x0 x1 x2 (ix2 i 0) = mean (fun k => val_main_v8 (F := Ideal) x0 x1 x2 (ix2 i k)) := by
  unfold val_main_v14 val_main_v13 val_main_v12 val_main_v11 val_main_cst_0 val_main_cst_1
  generalize val_main_v8 (F := Ideal) x0 x1 x2 = y
  pointwise
  rfl

/-- The variance of each row. -/
theorem v21_at (x0 : Vec Ideal S32x2048 .f32) (x1 : Vec Ideal S1x2048x8192 .f32) (x2 : Vec Ideal S1x8192x2048 .f32) (i : Fin 32) :
    val_main_v21 (F := Ideal) x0 x1 x2 (ix2 i 0)
      = mean (fun k => (val_main_v8 (F := Ideal) x0 x1 x2 (ix2 i k) - mean (fun k => val_main_v8 (F := Ideal) x0 x1 x2 (ix2 i k)))
          * (val_main_v8 (F := Ideal) x0 x1 x2 (ix2 i k) - mean (fun k => val_main_v8 (F := Ideal) x0 x1 x2 (ix2 i k)))) := by
  unfold val_main_v21 val_main_v20 val_main_v19 val_main_v18 val_main_v17 val_main_v16 val_main_v15 val_main_cst_2 val_main_cst_3
  simp only [← v14_at]
  generalize val_main_v14 (F := Ideal) x0 x1 x2 = mu
  generalize val_main_v8 (F := Ideal) x0 x1 x2 = y
  pointwise
  rfl

/-- The result. -/
theorem v34_at (x0 : Vec Ideal S32x2048 .f32) (x1 : Vec Ideal S1x2048x8192 .f32) (x2 : Vec Ideal S1x8192x2048 .f32)
    (x3 x4 : Vec Ideal S1x2048 .f32) (i : Fin 32) (d : Fin 2048) :
    val_main_v34 (F := Ideal) x0 x1 x2 x3 x4 (ix2 i d)
      = layerNorm (fun d => Ideal.ofBits .f32 0x3F9837F0#32 * x0 (ix2 i d)
        + ∑ f : Fin 8192, unit (fun k => x0 (ix2 i k)) (fun k => x1 (ix3 0 k f)) * x2 (ix3 0 f d))
          (fun k => x3 (ix2 0 k)) (fun k => x4 (ix2 0 k)) d := by
  have e : val_main_v34 (F := Ideal) x0 x1 x2 x3 x4 (ix2 i d)
      = (val_main_v8 (F := Ideal) x0 x1 x2 (ix2 i d) - val_main_v14 (F := Ideal) x0 x1 x2 (ix2 i 0))
          * Ideal.rsqrt (val_main_v21 (F := Ideal) x0 x1 x2 (ix2 i 0) + Ideal.ofBits .f32 0x3727C5AC#32)
          * val_main_v9 (F := Ideal) x3 (ix1 d) + val_main_v10 (F := Ideal) x4 (ix1 d) := by
    unfold val_main_v34 val_main_v33 val_main_v32 val_main_v31 val_main_v30 val_main_v29 val_main_v28 val_main_v27 val_main_v26
      val_main_v25 val_main_v24 val_main_v23 val_main_v22 val_main_cst_4
    generalize val_main_v21 (F := Ideal) x0 x1 x2 = va
    generalize val_main_v14 (F := Ideal) x0 x1 x2 = mu
    generalize val_main_v8 (F := Ideal) x0 x1 x2 = y
    generalize val_main_v9 (F := Ideal) x3 = g
    generalize val_main_v10 (F := Ideal) x4 = b
    pointwise
  rw [e]
  simp only [v21_at, v14_at, v9_at, v10_at, v8_at]
  rfl

end Cert.Reference3Ideal.Read

end
-- ==== Proof.SampleTop.lean ====
/-
  The claims about the sample's feed-forward call: the kernel's array and the reference's result are one function of the arguments.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.SampleKernel
public import proofs.«01_k».proof.Proof.SampleRef
public import Idealize.ShloMosaic.Adequacy
public import Idealize.ShloMosaic.Init
public import Idealize.ShloMosaic.Lib.Quiescent

@[expose] public section

noncomputable section

namespace Cert.SampleTop

open Idealize.ShloMosaic Idealize.SL.Sem

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference's result, on a memory whose arguments are the kernel's, is the kernel's array. -/
theorem ffn_eq (m : (ℓ : Loc Cert.Kernel3Ideal.nD Cert.Kernel3Ideal.τ Cert.Kernel3Ideal.sig) → Buf (Elt Ideal) ℓ) (c : Dev Cert.Kernel3Ideal.nD) :
    (Cert.Reference3Ideal.Read.val_main_v34 (F := Ideal)
      (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4)) : Vec Ideal Cert.Kernel3Ideal.S32x2048 .f32) = Cert.Kernel3Ideal.Value.G5 m c := by
  funext i
  rw [eq_ix2 i]
  refine (Cert.Reference3Ideal.Read.v34_at _ _ _ _ _ (i 0) (i 1)).trans ((Cert.Kernel3Ideal.Ffn.out_at m c (i 0) (i 1)).trans ?_).symm
  refine congrArg (fun x => Cert.FfnSpec.layerNorm x _ _ (i 1)) (funext fun d => ?_)
  have hi : (i 0).val < 32 := by have h : (i 0).val < 32 := (i 0).isLt; omega
  unfold Cert.Kernel3Ideal.Ffn.row
  rw [Finset.sum_range]
  unfold Cert.Kernel3Ideal.Ffn.term
  have hx : ∀ k, Cert.Kernel3Ideal.Ffn.inp m c ((i 0).val) k = _ := fun k => dif_pos hi
  have hu : ∀ (f : Fin 8192) k, Cert.Kernel3Ideal.Ffn.upm m c f.val k = _ := fun f k => dif_pos f.isLt
  have hd : ∀ (f : Fin 8192) k, Cert.Kernel3Ideal.Ffn.dnm m c f.val k = _ := fun f k => dif_pos f.isLt
  rw [hx]
  refine congrArg _ (Finset.sum_congr rfl fun f _ => ?_)
  rw [hd, funext hx, funext (hu f)]
  rfl

theorem algebraic_Kernel3Ideal_Reference3Ideal : algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨?_, (h c).2⟩) (Cert.Reference3Ideal.Value.run (F := Ideal) m' ρ')
  rw [(h c).1, Cert.Reference3Ideal.Read.val_main_v34_eq]
  simp only [hagree c]
  exact ffn_eq m c

end Cert.SampleTop

end
-- ==== Proof.MixPay.lean ====
/-
  The output projection's stores read at one place of the block, over the extended reals: the layer normalisation of the scaled
  normalised row plus the two products, at the first, a middle and the last grid point, and for the sample's rows by themselves.
-/
module

public import proofs.«01_k».proof.Proof.Gen.Kernel4Ideal.Skeleton
public import Idealize.ShloMosaic.Lib.Pointwise
public import proofs.«01_k».proof.Proof.FfnSpec

@[expose] public section

noncomputable section

namespace Cert.Kernel4Ideal.Gen

open Idealize.ShloMosaic Cert.FfnSpec
open scoped BigOperators

set_option maxRecDepth 16384

theorem pay1_at (o : Vec Ideal S384x1024 .bf16) (y : FVec Ideal S384x2048 .f32) (w : Vec Ideal S1024x2048 .bf16) (g b : Vec Ideal S1x2048 .f32) (r : Fin 384) (d : Fin 2048) :
    k0_pay1 (F := Ideal) o y w g b (ix2 r d)
      = layerNorm (fun k => y (ix2 r k) + ∑ j : Fin 1024, o (ix2 r j) * w (ix2 j k)) (fun k => g (ix2 0 k)) (fun k => b (ix2 0 k)) d := by
  unfold_payloads
  pointwise [dot_S384x1024_S1024x2048_S384x2048_1_0_0_1_n_n]
  rfl

theorem pay2_at (y : FVec Ideal S384x2048 .f32) (g b : Vec Ideal S1x2048 .f32) (r : Fin 384) (d : Fin 2048) :
    k0_pay2 (F := Ideal) y g b (ix2 r d) = layerNorm (fun k => y (ix2 r k)) (fun k => g (ix2 0 k)) (fun k => b (ix2 0 k)) d := by
  unfold_payloads
  pointwise
  rfl

theorem pay4_at (x : Vec Ideal S384x2048 .f32) (mt : Vec Ideal S16x2048 .f32) (o : Vec Ideal S384x1024 .bf16) (g b : Vec Ideal S1x2048 .f32) (w : Vec Ideal S1024x2048 .bf16) (r : Fin 384) (d : Fin 2048) :
    k0_pay4 (F := Ideal) x mt o g b w (ix2 r d)
      = Ideal.ofBits .f32 0x3F9837F0#32 * layerNorm (fun k => if h : r.val < 16 then mt (ix2 ⟨r.val, h⟩ k) else x (ix2 ⟨r.val - 16, Nat.lt_of_le_of_lt (Nat.sub_le _ _) r.isLt⟩ k))
          (fun k => g (ix2 0 k)) (fun k => b (ix2 0 k)) d + ∑ j : Fin 1024, o (ix2 r j) * w (ix2 j d) := by
  unfold_payloads
  pointwise [dot_S384x1024_S1024x2048_S384x2048_1_0_0_1_n_n]
  rfl

theorem pay5_at (x : Vec Ideal S384x2048 .f32) (o o2 : Vec Ideal S384x1024 .bf16) (g b : Vec Ideal S1x2048 .f32) (w w2 : Vec Ideal S1024x2048 .bf16) (r : Fin 384) (d : Fin 2048) :
    k0_pay5 (F := Ideal) x o o2 g b w w2 (ix2 r d)
      = Ideal.ofBits .f32 0x3F9837F0#32 * layerNorm (fun k => x (ix2 r k)) (fun k => g (ix2 0 k)) (fun k => b (ix2 0 k)) d
          + ∑ j : Fin 1024, o (ix2 r j) * w (ix2 j d) + ∑ j : Fin 1024, o2 (ix2 r j) * w2 (ix2 j d) := by
  unfold_payloads
  pointwise [dot_S384x1024_S1024x2048_S384x2048_1_0_0_1_n_n]
  rfl

theorem pay6_at (x : Vec Ideal S384x2048 .f32) (s : Vec Ideal S32x2048 .f32) (g b : Vec Ideal S1x2048 .f32) (r : Fin 384) (d : Fin 2048) :
    k0_pay6 (F := Ideal) x s g b (ix2 r d)
      = Ideal.ofBits .f32 0x3F9837F0#32 * layerNorm (fun k => if h : r.val < 144 then x (ix2 ⟨240 + r.val, Nat.add_lt_add_left h 240⟩ k)
          else if r.val - 144 < 16 then 0 else if h : r.val - 144 - 16 < 32 then s (ix2 ⟨r.val - 144 - 16, h⟩ k) else 0)
        (fun k => g (ix2 0 k)) (fun k => b (ix2 0 k)) d := by
  unfold_payloads
  pointwise
  rfl

theorem pay8_at (o o2 : Vec Ideal S384x1024 .bf16) (y : FVec Ideal S384x2048 .f32) (w w2 : Vec Ideal S1024x2048 .bf16) (g b : Vec Ideal S1x2048 .f32) (r : Fin 384) (d : Fin 2048) :
    k0_pay8 (F := Ideal) o o2 y (k0_pay7 (F := Ideal) w) w2 g b (ix2 r d)
      = layerNorm (fun k => y (ix2 r k) + ∑ j : Fin 1024, o (ix2 r j) * w (ix2 j k) + ∑ j : Fin 1024, o2 (ix2 r j) * w2 (ix2 j k)) (fun k => g (ix2 0 k)) (fun k => b (ix2 0 k)) d := by
  unfold_payloads
  pointwise [dot_S384x1024_S1024x2048_S384x2048_1_0_0_1_n_n]
  rfl

theorem pay12_at (x : Vec Ideal S32x2048 .f32) (o o2 : Vec Ideal S32x1024 .bf16) (g b : Vec Ideal S1x2048 .f32) (w w2 : Vec Ideal S1024x2048 .bf16) (r : Fin 32) (d : Fin 2048) :
    k0_pay12 (F := Ideal) (k0_pay9 (F := Ideal) x) (k0_pay10 (F := Ideal) o) (k0_pay11 (F := Ideal) o2) g b w w2 (ix2 r d)
      = Ideal.ofBits .f32 0x3F9837F0#32 * layerNorm (fun k => x (ix2 r k)) (fun k => g (ix2 0 k)) (fun k => b (ix2 0 k)) d
          + ∑ j : Fin 1024, o (ix2 r j) * w (ix2 j d) + ∑ j : Fin 1024, o2 (ix2 r j) * w2 (ix2 j d) := by
  unfold_payloads
  pointwise [dot_S32x1024_S1024x2048_S32x2048_1_0_0_1_n_n]
  rfl

theorem pay3_at (x : FVec Ideal S32x2048 .f32) (o o2 : FVec Ideal S32x1024 .bf16) (g b : Vec Ideal S1x2048 .f32) (w w2 : Vec Ideal S1024x2048 .bf16) (g2 b2 : Vec Ideal S1x2048 .f32) (r : Fin 32) (d : Fin 2048) :
    k0_pay3 (F := Ideal) (k0_pay12 (F := Ideal) x o o2 g b w w2) (k0_pay13 (F := Ideal) g2) (k0_pay14 (F := Ideal) b2) (k0_pay15 (F := Ideal) x o o2 g b w w2) (ix2 r d)
      = layerNorm (fun k => k0_pay12 (F := Ideal) x o o2 g b w w2 (ix2 r k)) (fun k => g2 (ix2 0 k)) (fun k => b2 (ix2 0 k)) d := by
  unfold k0_pay3 k0_pay15 k0_pay13 k0_pay14
  generalize k0_pay12 (F := Ideal) x o o2 g b w w2 = y
  pointwise
  rfl

end Cert.Kernel4Ideal.Gen

end
-- ==== Proof.MixCases.lean ====
/-
  What each grid point of the output projection writes to its two results, from the blocks it reads.
-/
module

public import proofs.«01_k».proof.Proof.Gen.Kernel4Ideal.Frame
public import proofs.«01_k».proof.Proof.MixPay
public import Idealize.ShloMosaic.Lib.Pointwise

@[expose] public section

set_option maxRecDepth 16384

noncomputable section

namespace Cert.Kernel4Ideal.Mix

open Cert.Kernel4Ideal Cert.Kernel4Ideal.Gen Cert.FfnSpec
open Idealize.ShloMosaic Idealize.ShloMosaic.TcCoe Idealize.SL.Sem
open scoped BigOperators

theorem hz : (![0, 0] : Fin 2 → Nat) = fun _ => 0 := funext fun a => by fin_cases a <;> rfl

variable (c : Dev nD) (i : grid0.Coords) {a1 : Memref sig .tc .vmem S384x2048 .f32} {h1 : a1.IsWhole} {a2 : Memref sig .tc .vmem S16x2048 .f32} {h2 : a2.IsWhole} {a3 : Memref sig .tc .vmem S32x2048 .f32} {h3 : a3.IsWhole} {a4 : Memref sig .tc .vmem S384x1024 .bf16} {h4 : a4.IsWhole} {a5 : Memref sig .tc .vmem S384x1024 .bf16} {h5 : a5.IsWhole} {a6 : Memref sig .tc .vmem S32x1024 .bf16} {h6 : a6.IsWhole} {a7 : Memref sig .tc .vmem S32x1024 .bf16} {h7 : a7.IsWhole} {a8 : Memref sig .tc .vmem S1024x2048 .bf16} {h8 : a8.IsWhole} {a9 : Memref sig .tc .vmem S1024x2048 .bf16} {h9 : a9.IsWhole} {a10 : Memref sig .tc .vmem S1x2048 .f32} {h10 : a10.IsWhole} {a11 : Memref sig .tc .vmem S1x2048 .f32} {h11 : a11.IsWhole} {a12 : Memref sig .tc .vmem S1x2048 .f32} {h12 : a12.IsWhole} {a13 : Memref sig .tc .vmem S1x2048 .f32} {h13 : a13.IsWhole} {a14 : Memref sig .tc .vmem S384x2048 .f32} {h14 : a14.IsWhole} {a15 : Memref sig .tc .vmem S32x2048 .f32} {h15 : a15.IsWhole}
variable {x0 : Vec Ideal S384x2048 .f32} {x1 : Vec Ideal S16x2048 .f32} {x2 : Vec Ideal S32x2048 .f32} {x3 : Vec Ideal S384x1024 .bf16} {x4 : Vec Ideal S384x1024 .bf16} {x5 : Vec Ideal S32x1024 .bf16} {x6 : Vec Ideal S32x1024 .bf16} {x7 : Vec Ideal S1024x2048 .bf16} {x8 : Vec Ideal S1024x2048 .bf16} {x9 : Vec Ideal S1x2048 .f32} {x10 : Vec Ideal S1x2048 .f32} {x11 : Vec Ideal S1x2048 .f32} {x12 : Vec Ideal S1x2048 .f32}

theorem wr_A_13 (hc0 : cond0_0 i) (hc1 : ¬cond0_1 i) (hc2 : ¬cond0_2 i) :
    out0_A_13 c i a1 h1 a2 h2 a3 h3 a4 h4 a5 h5 a6 h6 a7 h7 a8 h8 a9 h9 a10 h10 a11 h11 a12 h12 a13 h13 a14 h14 a15 h15 hc0 hc1 hc2 x0 x1 x2 x3 x4 x5 x6 x7 x8 x9 x10 x11 x12 = k0_pay1 (F := Ideal) x4 (k0_pay4 (F := Ideal) x0 x1 x3 x9 x10 x7) x8 x11 x12 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 hc0 hc1 hc2 x0 x1 x2 x3 x4 x5 x6 x7 x8 x9 x10 x11 x12)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S384x2048) hz, View.ld_unit_zero (S := S16x2048) hz, View.ld_unit_zero (S := S32x2048) hz, View.ld_unit_zero (S := S384x1024) hz, View.ld_unit_zero (S := S32x1024) hz, View.ld_unit_zero (S := S1024x2048) hz, View.ld_unit_zero (S := S1x2048) hz]

theorem wr_B_13 (hc0 : ¬cond0_0 i) (hc1 : cond0_1 i) (hc2 : ¬cond0_2 i) :
    out0_B_13 c i a1 h1 a2 h2 a3 h3 a4 h4 a5 h5 a6 h6 a7 h7 a8 h8 a9 h9 a10 h10 a11 h11 a12 h12 a13 h13 a14 h14 a15 h15 hc0 hc1 hc2 x0 x1 x2 x3 x4 x5 x6 x7 x8 x9 x10 x11 x12 = k0_pay2 (F := Ideal) (k0_pay5 (F := Ideal) x0 x3 x4 x9 x10 x7 x8) x11 x12 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 hc0 hc1 hc2 x0 x1 x2 x3 x4 x5 x6 x7 x8 x9 x10 x11 x12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S384x2048) hz, View.ld_unit_zero (S := S16x2048) hz, View.ld_unit_zero (S := S32x2048) hz, View.ld_unit_zero (S := S384x1024) hz, View.ld_unit_zero (S := S32x1024) hz, View.ld_unit_zero (S := S1024x2048) hz, View.ld_unit_zero (S := S1x2048) hz]

theorem wr_C_13 (hc0 : ¬cond0_0 i) (hc1 : ¬cond0_1 i) (hc2 : cond0_2 i) :
    out0_C_13 c i a1 h1 a2 h2 a3 h3 a4 h4 a5 h5 a6 h6 a7 h7 a8 h8 a9 h9 a10 h10 a11 h11 a12 h12 a13 h13 a14 h14 a15 h15 hc0 hc1 hc2 x0 x1 x2 x3 x4 x5 x6 x7 x8 x9 x10 x11 x12 = k0_pay8 (F := Ideal) x3 x4 (k0_pay6 (F := Ideal) x0 x2 x9 x10) (k0_pay7 (F := Ideal) x7) x8 x11 x12 := by
  unfold out0_C_13
  rw [View.read_writes_eq_canon _ _ _ (cover0_C_13 c i a1 h1 a2 h2 a3 h3 a4 h4 a5 h5 a6 h6 a7 h7 a8 h8 a9 h9 a10 h10 a11 h11 a12 h12 a13 h13 a14 h14 a15 h15 hc0 hc1 hc2 x0 x1 x2 x3 x4 x5 x6 x7 x8 x9 x10 x11 x12)]
  unfold kernelRun0_C
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S384x2048) hz, View.ld_unit_zero (S := S16x2048) hz, View.ld_unit_zero (S := S32x2048) hz, View.ld_unit_zero (S := S384x1024) hz, View.ld_unit_zero (S := S32x1024) hz, View.ld_unit_zero (S := S1024x2048) hz, View.ld_unit_zero (S := S1x2048) hz]

theorem wr_C_14 (hc0 : ¬cond0_0 i) (hc1 : ¬cond0_1 i) (hc2 : cond0_2 i) :
    out0_C_14 c i a1 h1 a2 h2 a3 h3 a4 h4 a5 h5 a6 h6 a7 h7 a8 h8 a9 h9 a10 h10 a11 h11 a12 h12 a13 h13 a14 h14 a15 h15 hc0 hc1 hc2 x0 x1 x2 x3 x4 x5 x6 x7 x8 x9 x10 x11 x12 = k0_pay3 (F := Ideal) (k0_pay12 (F := Ideal) (k0_pay9 (F := Ideal) x2) (k0_pay10 (F := Ideal) x5) (k0_pay11 (F := Ideal) x6) x9 x10 x7 x8) (k0_pay13 (F := Ideal) x11) (k0_pay14 (F := Ideal) x12) (k0_pay15 (F := Ideal) (k0_pay9 (F := Ideal) x2) (k0_pay10 (F := Ideal) x5) (k0_pay11 (F := Ideal) x6) x9 x10 x7 x8) := by
  unfold out0_C_14
  rw [View.read_writes_eq_canon _ _ _ (cover0_C_14 c i a1 h1 a2 h2 a3 h3 a4 h4 a5 h5 a6 h6 a7 h7 a8 h8 a9 h9 a10 h10 a11 h11 a12 h12 a13 h13 a14 h14 a15 h15 hc0 hc1 hc2 x0 x1 x2 x3 x4 x5 x6 x7 x8 x9 x10 x11 x12)]
  unfold kernelRun0_C
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S384x2048) hz, View.ld_unit_zero (S := S16x2048) hz, View.ld_unit_zero (S := S32x2048) hz, View.ld_unit_zero (S := S384x1024) hz, View.ld_unit_zero (S := S32x1024) hz, View.ld_unit_zero (S := S1024x2048) hz, View.ld_unit_zero (S := S1x2048) hz]

end Cert.Kernel4Ideal.Mix

end
-- ==== Proof.MixHost.lean ====
/-
  The arrays the output projection reads, and its blocks of them.
-/
module

public import proofs.«01_k».proof.Proof.Gen.Kernel4Ideal.Frame
public import proofs.«01_k».proof.Proof.MixPay
public import Idealize.ShloMosaic.Lib.Pointwise

@[expose] public section

set_option maxRecDepth 16384

noncomputable section

namespace Cert.Kernel4Ideal.Mix

open Cert.Kernel4Ideal Cert.Kernel4Ideal.Gen Cert.FfnSpec
open Idealize.ShloMosaic Idealize.ShloMosaic.TcCoe Idealize.SL.Sem
open scoped BigOperators

variable (m : (ℓ : Loc nD τ sig) → Buf (Elt Ideal) ℓ) (c : Dev nD)

abbrev A0 : Vec Ideal S1x8192x2048 .f32 := m ((c : Thread nD τ).loc main_arg0)
abbrev A1 : Vec Ideal S16x2048 .f32 := m ((c : Thread nD τ).loc main_arg1)
abbrev A2 : Vec Ideal S32x1x2048 .f32 := m ((c : Thread nD τ).loc main_arg2)
abbrev A3 : Vec Ideal S8448x1024 .bf16 := m ((c : Thread nD τ).loc main_arg3)
abbrev A4 : Vec Ideal S8448x1024 .bf16 := m ((c : Thread nD τ).loc main_arg4)
abbrev A5 : Vec Ideal S32x8x128 .f32 := m ((c : Thread nD τ).loc main_arg5)
abbrev A6 : Vec Ideal S32x8x128 .f32 := m ((c : Thread nD τ).loc main_arg6)
abbrev A7 : Vec Ideal S1x2048x2048 .f32 := m ((c : Thread nD τ).loc main_arg7)
abbrev A8 : Vec Ideal S2048 .f32 := m ((c : Thread nD τ).loc main_arg8)
abbrev A9 : Vec Ideal S2048 .f32 := m ((c : Thread nD τ).loc main_arg9)
abbrev A10 : Vec Ideal S1x2048 .f32 := m ((c : Thread nD τ).loc main_arg10)
abbrev A11 : Vec Ideal S1x2048 .f32 := m ((c : Thread nD τ).loc main_arg11)

theorem V_v2 : V m c main_v2 = (shapeCast S8192x2048 (A0 m c) shapeCasts_S1x8192x2048_S8192x2048 : Vec Ideal S8192x2048 .f32) := by
  unfold V; simp only [hostOps0]; after_results_simp; rfl
theorem V_v3 : V m c main_v3 = (shapeCast S32x2048 (A2 m c) shapeCasts_S32x1x2048_S32x2048 : Vec Ideal S32x2048 .f32) := by
  unfold V; simp only [hostOps0]; after_results_simp; rfl
theorem V_v5 : V m c main_v5 = (truncf (F := Ideal) .bf16 (shapeCast S32x1024 (A5 m c) shapeCasts_S32x8x128_S32x1024) bitsLt_bf16_f32 : Vec Ideal S32x1024 .bf16) := by
  unfold V; simp only [hostOps0]; after_results_simp; rfl
theorem V_v7 : V m c main_v7 = (truncf (F := Ideal) .bf16 (shapeCast S32x1024 (A6 m c) shapeCasts_S32x8x128_S32x1024) bitsLt_bf16_f32 : Vec Ideal S32x1024 .bf16) := by
  unfold V; simp only [hostOps0]; after_results_simp; rfl
theorem V_v8 : V m c main_v8 = (extractStridedSlice S1024x2048 ![0, 0] (truncf (F := Ideal) .bf16 (shapeCast S2048x2048 (A7 m c) shapeCasts_S1x2048x2048_S2048x2048) bitsLt_bf16_f32) slices_S2048x2048_S1024x2048_0_0 : Vec Ideal S1024x2048 .bf16) := by
  unfold V; simp only [hostOps0]; after_results_simp; rfl
theorem V_v9 : V m c main_v9 = (extractStridedSlice S1024x2048 ![1024, 0] (truncf (F := Ideal) .bf16 (shapeCast S2048x2048 (A7 m c) shapeCasts_S1x2048x2048_S2048x2048) bitsLt_bf16_f32) slices_S2048x2048_S1024x2048_1024_0 : Vec Ideal S1024x2048 .bf16) := by
  unfold V; simp only [hostOps0]; after_results_simp; rfl
theorem V_v10 : V m c main_v10 = (shapeCast S1x2048 (A8 m c) shapeCasts_S2048_S1x2048 : Vec Ideal S1x2048 .f32) := by
  unfold V; simp only [hostOps0]; after_results_simp; rfl
theorem V_v11 : V m c main_v11 = (shapeCast S1x2048 (A9 m c) shapeCasts_S2048_S1x2048 : Vec Ideal S1x2048 .f32) := by
  unfold V; simp only [hostOps0]; after_results_simp; rfl
theorem V_v13 : V m c main_v13 = (shapeCast S1x2048 (shapeCast S2048 (A10 m c) shapeCasts_S1x2048_S2048) shapeCasts_S2048_S1x2048 : Vec Ideal S1x2048 .f32) := by
  unfold V; simp only [hostOps0]; after_results_simp; rfl
theorem V_v15 : V m c main_v15 = (shapeCast S1x2048 (shapeCast S2048 (A11 m c) shapeCasts_S1x2048_S2048) shapeCasts_S2048_S1x2048 : Vec Ideal S1x2048 .f32) := by
  unfold V; simp only [hostOps0]; after_results_simp; rfl

/-- The sample's forget-gate attention output, heads side by side. -/
def osf : Vec Ideal S32x1024 .f32 := shapeCast S32x1024 (A5 m c) shapeCasts_S32x8x128_S32x1024
/-- The sample's differential attention output, heads side by side. -/
def osd : Vec Ideal S32x1024 .f32 := shapeCast S32x1024 (A6 m c) shapeCasts_S32x8x128_S32x1024

theorem topLt (k : Fin 1024) : k.val < 2048 := Nat.lt_trans k.isLt (by decide)
theorem botLt (k : Fin 1024) : 1024 + k.val < 2048 := Nat.add_lt_add_left k.isLt 1024

/-- Where the first window's block begins. -/
def start (t : ℕ) : ℕ := min 7808 (384 * t - 16)

theorem place0 : ∀ t : Fin grid0.N, cc0_transform_0 (grid0.coords t) 0 = start t.val ∧ cc0_transform_0 (grid0.coords t) 1 = 0 := by
  decide +kernel
theorem place1 : ∀ t : Fin grid0.N, cc0_transform_1 (grid0.coords t) 0 = 0 ∧ cc0_transform_1 (grid0.coords t) 1 = 0 := by
  decide +kernel
theorem place2 : ∀ t : Fin grid0.N, cc0_transform_2 (grid0.coords t) 0 = 0 ∧ cc0_transform_2 (grid0.coords t) 1 = 0 := by
  decide +kernel
theorem place3 : ∀ t : Fin grid0.N, cc0_transform_3 (grid0.coords t) 0 = t.val ∧ cc0_transform_3 (grid0.coords t) 1 = 0 := by
  decide +kernel
theorem place4 : ∀ t : Fin grid0.N, cc0_transform_4 (grid0.coords t) 0 = t.val ∧ cc0_transform_4 (grid0.coords t) 1 = 0 := by
  decide +kernel
theorem place5 : ∀ t : Fin grid0.N, cc0_transform_5 (grid0.coords t) 0 = 0 ∧ cc0_transform_5 (grid0.coords t) 1 = 0 := by
  decide +kernel
theorem place6 : ∀ t : Fin grid0.N, cc0_transform_6 (grid0.coords t) 0 = 0 ∧ cc0_transform_6 (grid0.coords t) 1 = 0 := by
  decide +kernel
theorem place7 : ∀ t : Fin grid0.N, cc0_transform_7 (grid0.coords t) 0 = 0 ∧ cc0_transform_7 (grid0.coords t) 1 = 0 := by
  decide +kernel
theorem place8 : ∀ t : Fin grid0.N, cc0_transform_8 (grid0.coords t) 0 = 0 ∧ cc0_transform_8 (grid0.coords t) 1 = 0 := by
  decide +kernel
theorem place9 : ∀ t : Fin grid0.N, cc0_transform_9 (grid0.coords t) 0 = 0 ∧ cc0_transform_9 (grid0.coords t) 1 = 0 := by
  decide +kernel
theorem place10 : ∀ t : Fin grid0.N, cc0_transform_10 (grid0.coords t) 0 = 0 ∧ cc0_transform_10 (grid0.coords t) 1 = 0 := by
  decide +kernel
theorem place11 : ∀ t : Fin grid0.N, cc0_transform_11 (grid0.coords t) 0 = 0 ∧ cc0_transform_11 (grid0.coords t) 1 = 0 := by
  decide +kernel
theorem place12 : ∀ t : Fin grid0.N, cc0_transform_12 (grid0.coords t) 0 = 0 ∧ cc0_transform_12 (grid0.coords t) 1 = 0 := by
  decide +kernel
theorem place13 : ∀ t : Fin grid0.N, cc0_transform_13 (grid0.coords t) 0 = t.val ∧ cc0_transform_13 (grid0.coords t) 1 = 0 := by
  decide +kernel
theorem place14 : ∀ t : Fin grid0.N, cc0_transform_14 (grid0.coords t) 0 = 0 ∧ cc0_transform_14 (grid0.coords t) 1 = 0 := by
  decide +kernel

theorem x_at (t : Fin cfg0.N) (r : Fin 384) (k : Fin 2048) (h : start t.val + r.val < 8192) :
    (iblk m c 0 t : Vec Ideal S384x2048 .f32) (ix2 r k) = A0 m c (ix3 0 ⟨start t.val + r.val, h⟩ k) := by
  unfold iblk
  rw [View.read_apply]
  show V m c main_v2 _ = _
  rw [V_v2]
  have e : ((cfg0.win 0).blk t).view.emb (ix2 r k) = (ix2 ⟨start t.val + r.val, h⟩ k : S8192x2048.Idx) := by
    refine funext fun a => Fin.ext ?_
    match a with
    | ⟨0, _⟩ => show cc0_transform_0 (grid0.coords t) 0 + 1 * r.val = start t.val + r.val; rw [(place0 t).1]; omega
    | ⟨1, _⟩ => show cc0_transform_0 (grid0.coords t) 1 + 1 * k.val = k.val; rw [(place0 t).2]; omega
  rw [e]
  pointwise

theorem o3_at (t : Fin cfg0.N) (r : Fin 384) (k : Fin 1024) (q : Fin 8448) (h : 384 * t.val + r.val = q.val) :
    (iblk m c 3 t : Vec Ideal S384x1024 .bf16) (ix2 r k) = A3 m c (ix2 q k) := by
  unfold iblk
  rw [View.read_apply]
  show V m c main_arg3 _ = _
  rw [V_main_arg3]
  have e : ((cfg0.win 3).blk t).view.emb (ix2 r k) = (ix2 q k : S8448x1024.Idx) := by
    refine funext fun a => Fin.ext ?_
    match a with
    | ⟨0, _⟩ => show cc0_transform_3 (grid0.coords t) 0 * 384 + 1 * r.val = q.val; rw [(place3 t).1]; omega
    | ⟨1, _⟩ => show cc0_transform_3 (grid0.coords t) 1 * 1024 + 1 * k.val = k.val; rw [(place3 t).2]; omega
  rw [e]

theorem o4_at (t : Fin cfg0.N) (r : Fin 384) (k : Fin 1024) (q : Fin 8448) (h : 384 * t.val + r.val = q.val) :
    (iblk m c 4 t : Vec Ideal S384x1024 .bf16) (ix2 r k) = A4 m c (ix2 q k) := by
  unfold iblk
  rw [View.read_apply]
  show V m c main_arg4 _ = _
  rw [V_main_arg4]
  have e : ((cfg0.win 4).blk t).view.emb (ix2 r k) = (ix2 q k : S8448x1024.Idx) := by
    refine funext fun a => Fin.ext ?_
    match a with
    | ⟨0, _⟩ => show cc0_transform_4 (grid0.coords t) 0 * 384 + 1 * r.val = q.val; rw [(place4 t).1]; omega
    | ⟨1, _⟩ => show cc0_transform_4 (grid0.coords t) 1 * 1024 + 1 * k.val = k.val; rw [(place4 t).2]; omega
  rw [e]

theorem meta_at (t : Fin cfg0.N) (r : Fin 16) (k : Fin 2048) :
    (iblk m c 1 t : Vec Ideal S16x2048 .f32) (ix2 r k) = A1 m c (ix2 r k) := by
  unfold iblk
  rw [View.read_apply]
  show V m c main_arg1 _ = _
  rw [V_main_arg1]
  have e : ((cfg0.win 1).blk t).view.emb (ix2 r k) = (ix2 r k : S16x2048.Idx) := by
    refine funext fun a => Fin.ext ?_
    match a with
    | ⟨0, _⟩ => show cc0_transform_1 (grid0.coords t) 0 * 16 + 1 * r.val = r.val; rw [(place1 t).1]; omega
    | ⟨1, _⟩ => show cc0_transform_1 (grid0.coords t) 1 * 2048 + 1 * k.val = k.val; rw [(place1 t).2]; omega
  rw [e]

theorem samp_at (t : Fin cfg0.N) (r : Fin 32) (k : Fin 2048) :
    (iblk m c 2 t : Vec Ideal S32x2048 .f32) (ix2 r k) = A2 m c (ix3 r 0 k) := by
  unfold iblk
  rw [View.read_apply]
  show V m c main_v3 _ = _
  rw [V_v3]
  have e : ((cfg0.win 2).blk t).view.emb (ix2 r k) = (ix2 r k : S32x2048.Idx) := by
    refine funext fun a => Fin.ext ?_
    match a with
    | ⟨0, _⟩ => show cc0_transform_2 (grid0.coords t) 0 * 32 + 1 * r.val = r.val; rw [(place2 t).1]; omega
    | ⟨1, _⟩ => show cc0_transform_2 (grid0.coords t) 1 * 2048 + 1 * k.val = k.val; rw [(place2 t).2]; omega
  rw [e]
  pointwise

theorem sf_at (t : Fin cfg0.N) (r : Fin 32) (k : Fin 1024) :
    (iblk m c 5 t : Vec Ideal S32x1024 .bf16) (ix2 r k) = osf m c (ix2 r k) := by
  unfold iblk
  rw [View.read_apply]
  show V m c main_v5 _ = _
  rw [V_v5]
  have e : ((cfg0.win 5).blk t).view.emb (ix2 r k) = (ix2 r k : S32x1024.Idx) := by
    refine funext fun a => Fin.ext ?_
    match a with
    | ⟨0, _⟩ => show cc0_transform_5 (grid0.coords t) 0 * 32 + 1 * r.val = r.val; rw [(place5 t).1]; omega
    | ⟨1, _⟩ => show cc0_transform_5 (grid0.coords t) 1 * 1024 + 1 * k.val = k.val; rw [(place5 t).2]; omega
  rw [e]
  rfl

theorem sd_at (t : Fin cfg0.N) (r : Fin 32) (k : Fin 1024) :
    (iblk m c 6 t : Vec Ideal S32x1024 .bf16) (ix2 r k) = osd m c (ix2 r k) := by
  unfold iblk
  rw [View.read_apply]
  show V m c main_v7 _ = _
  rw [V_v7]
  have e : ((cfg0.win 6).blk t).view.emb (ix2 r k) = (ix2 r k : S32x1024.Idx) := by
    refine funext fun a => Fin.ext ?_
    match a with
    | ⟨0, _⟩ => show cc0_transform_6 (grid0.coords t) 0 * 32 + 1 * r.val = r.val; rw [(place6 t).1]; omega
    | ⟨1, _⟩ => show cc0_transform_6 (grid0.coords t) 1 * 1024 + 1 * k.val = k.val; rw [(place6 t).2]; omega
  rw [e]
  rfl

theorem top_at (t : Fin cfg0.N) (r : Fin 1024) (k : Fin 2048) :
    (iblk m c 7 t : Vec Ideal S1024x2048 .bf16) (ix2 r k) = A7 m c (ix3 0 ⟨r.val, topLt r⟩ k) := by
  unfold iblk
  rw [View.read_apply]
  show V m c main_v8 _ = _
  rw [V_v8]
  have e : ((cfg0.win 7).blk t).view.emb (ix2 r k) = (ix2 r k : S1024x2048.Idx) := by
    refine funext fun a => Fin.ext ?_
    match a with
    | ⟨0, _⟩ => show cc0_transform_7 (grid0.coords t) 0 * 1024 + 1 * r.val = r.val; rw [(place7 t).1]; omega
    | ⟨1, _⟩ => show cc0_transform_7 (grid0.coords t) 1 * 2048 + 1 * k.val = k.val; rw [(place7 t).2]; omega
  rw [e]
  pointwise

theorem bot_at (t : Fin cfg0.N) (r : Fin 1024) (k : Fin 2048) :
    (iblk m c 8 t : Vec Ideal S1024x2048 .bf16) (ix2 r k) = A7 m c (ix3 0 ⟨1024 + r.val, botLt r⟩ k) := by
  unfold iblk
  rw [View.read_apply]
  show V m c main_v9 _ = _
  rw [V_v9]
  have e : ((cfg0.win 8).blk t).view.emb (ix2 r k) = (ix2 r k : S1024x2048.Idx) := by
    refine funext fun a => Fin.ext ?_
    match a with
    | ⟨0, _⟩ => show cc0_transform_8 (grid0.coords t) 0 * 1024 + 1 * r.val = r.val; rw [(place8 t).1]; omega
    | ⟨1, _⟩ => show cc0_transform_8 (grid0.coords t) 1 * 2048 + 1 * k.val = k.val; rw [(place8 t).2]; omega
  rw [e]
  pointwise

theorem gi_at (t : Fin cfg0.N) (r : Fin 1) (k : Fin 2048) :
    (iblk m c 9 t : Vec Ideal S1x2048 .f32) (ix2 r k) = A8 m c (ix1 k) := by
  unfold iblk
  rw [View.read_apply]
  show V m c main_v10 _ = _
  rw [V_v10]
  have e : ((cfg0.win 9).blk t).view.emb (ix2 r k) = (ix2 r k : S1x2048.Idx) := by
    refine funext fun a => Fin.ext ?_
    match a with
    | ⟨0, _⟩ => show cc0_transform_9 (grid0.coords t) 0 * 1 + 1 * r.val = r.val; rw [(place9 t).1]; omega
    | ⟨1, _⟩ => show cc0_transform_9 (grid0.coords t) 1 * 2048 + 1 * k.val = k.val; rw [(place9 t).2]; omega
  rw [e]
  pointwise

theorem bi_at (t : Fin cfg0.N) (r : Fin 1) (k : Fin 2048) :
    (iblk m c 10 t : Vec Ideal S1x2048 .f32) (ix2 r k) = A9 m c (ix1 k) := by
  unfold iblk
  rw [View.read_apply]
  show V m c main_v11 _ = _
  rw [V_v11]
  have e : ((cfg0.win 10).blk t).view.emb (ix2 r k) = (ix2 r k : S1x2048.Idx) := by
    refine funext fun a => Fin.ext ?_
    match a with
    | ⟨0, _⟩ => show cc0_transform_10 (grid0.coords t) 0 * 1 + 1 * r.val = r.val; rw [(place10 t).1]; omega
    | ⟨1, _⟩ => show cc0_transform_10 (grid0.coords t) 1 * 2048 + 1 * k.val = k.val; rw [(place10 t).2]; omega
  rw [e]
  pointwise

theorem g_at (t : Fin cfg0.N) (r : Fin 1) (k : Fin 2048) :
    (iblk m c 11 t : Vec Ideal S1x2048 .f32) (ix2 r k) = A10 m c (ix2 0 k) := by
  rw [show (0 : Fin 1) = r from Subsingleton.elim _ _]
  unfold iblk
  rw [View.read_apply]
  show V m c main_v13 _ = _
  rw [V_v13]
  have e : ((cfg0.win 11).blk t).view.emb (ix2 r k) = (ix2 r k : S1x2048.Idx) := by
    refine funext fun a => Fin.ext ?_
    match a with
    | ⟨0, _⟩ => show cc0_transform_11 (grid0.coords t) 0 * 1 + 1 * r.val = r.val; rw [(place11 t).1]; omega
    | ⟨1, _⟩ => show cc0_transform_11 (grid0.coords t) 1 * 2048 + 1 * k.val = k.val; rw [(place11 t).2]; omega
  rw [e]
  pointwise

theorem b_at (t : Fin cfg0.N) (r : Fin 1) (k : Fin 2048) :
    (iblk m c 12 t : Vec Ideal S1x2048 .f32) (ix2 r k) = A11 m c (ix2 0 k) := by
  rw [show (0 : Fin 1) = r from Subsingleton.elim _ _]
  unfold iblk
  rw [View.read_apply]
  show V m c main_v15 _ = _
  rw [V_v15]
  have e : ((cfg0.win 12).blk t).view.emb (ix2 r k) = (ix2 r k : S1x2048.Idx) := by
    refine funext fun a => Fin.ext ?_
    match a with
    | ⟨0, _⟩ => show cc0_transform_12 (grid0.coords t) 0 * 1 + 1 * r.val = r.val; rw [(place12 t).1]; omega
    | ⟨1, _⟩ => show cc0_transform_12 (grid0.coords t) 1 * 2048 + 1 * k.val = k.val; rw [(place12 t).2]; omega
  rw [e]
  pointwise

end Cert.Kernel4Ideal.Mix

end
-- ==== Proof.GateSpec.lean ====
/-
  The gate call over the extended reals, as both programs compute it: the rows it reads (the meta tokens, the prompt, sixteen
  rows of zeros, the sample, rows of zeros), and the logarithm of the logistic function.
-/
module

public import Idealize.ShloMosaic.Lib.Pointwise
public import proofs.«01_k».proof.Proof.FfnSpec

@[expose] public section

noncomputable section

namespace Cert.GateSpec

open Idealize.ShloMosaic Cert.FfnSpec
open scoped BigOperators

/-- Row `a` of the rows normalised: meta tokens, prompt, sixteen rows of zeros, sample, zeros. -/
def rowAt (mt : Fin 16 → Fin 2048 → EReal) (x : Fin 8192 → Fin 2048 → EReal) (xs : Fin 32 → Fin 2048 → EReal) (a : ℕ) (k : Fin 2048) : EReal :=
  if h : a < 16 then mt ⟨a, h⟩ k
  else if h : a - 16 < 8192 then x ⟨a - 16, h⟩ k
  else if _h : a - 16 - 8192 < 16 then 0
  else if h : a - 16 - 8192 - 16 < 32 then xs ⟨a - 16 - 8192 - 16, h⟩ k
  else 0

/-- The logarithm of the logistic function, in the form that never overflows. -/
def logSig (z : EReal) : EReal := min z 0 - Ideal.log1p (Ideal.exp (0 - max z (-z)))

theorem log1p_exp_ne_bot (z : EReal) : Ideal.log1p (Ideal.exp z) ≠ ⊥ := by
  unfold Ideal.log1p
  induction z using EReal.rec with
  | bot =>
    show Ideal.log (1 + 0) ≠ ⊥
    rw [add_zero]
    show Ideal.log ((1 : ℝ) : EReal) ≠ ⊥
    show (if (1 : ℝ) ≤ 0 then ⊥ else (Real.log 1 : EReal)) ≠ ⊥
    rw [if_neg (by norm_num)]
    exact EReal.coe_ne_bot _
  | top =>
    show Ideal.log (1 + ⊤) ≠ ⊥
    rw [show (1 : EReal) + ⊤ = ⊤ from EReal.coe_add_top 1]
    exact bot_ne_top.symm
  | coe r =>
    show Ideal.log (((1 : ℝ) : EReal) + (Real.exp r : EReal)) ≠ ⊥
    rw [← EReal.coe_add]
    show (if (1 + Real.exp r) ≤ 0 then ⊥ else (Real.log (1 + Real.exp r) : EReal)) ≠ ⊥
    rw [if_neg (by have := Real.exp_pos r; linarith)]
    exact EReal.coe_ne_bot _

/-- The negated sum form of the same function. -/
theorem neg_softplus (z : EReal) :
    -(max (-z) 0 + Ideal.log1p (Ideal.exp (-(max (-z) (- -z))))) = logSig z := by
  have h1 : max (-z) 0 ≠ ⊥ := fun h => by
    have : (0 : EReal) ≤ max (-z) 0 := le_max_right _ _
    rw [h] at this
    exact absurd (le_bot_iff.mp this) (by decide)
  rw [EReal.neg_add (Or.inl h1) (Or.inr (log1p_exp_ne_bot _))]
  unfold logSig
  rw [neg_neg, max_comm (-z) z, zero_sub]
  refine congrArg (fun y => y - Ideal.log1p (Ideal.exp (-max z (-z)))) ?_
  rcases le_total z 0 with h | h
  · rw [min_eq_left h, max_eq_left (by rw [← neg_zero]; exact EReal.neg_le_neg_iff.mpr h), neg_neg]
  · rw [min_eq_right h, max_eq_right (by rw [← neg_zero]; exact EReal.neg_le_neg_iff.mpr h), neg_zero]

end Cert.GateSpec

end
-- ==== Proof.MixKernel.lean ====
/-
  The two arrays the output projection ends with, index by index.
-/
module

public import proofs.«01_k».proof.Proof.MixCases
public import proofs.«01_k».proof.Proof.MixHost
public import proofs.«01_k».proof.Proof.GateSpec
public import Idealize.ShloMosaic.Lib.Pipeline.ValueKit

@[expose] public section

set_option maxRecDepth 16384

noncomputable section

namespace Cert.Kernel4Ideal.Mix

open Cert.Kernel4Ideal Cert.Kernel4Ideal.Gen Cert.FfnSpec Cert.GateSpec
open Idealize.ShloMosaic Idealize.ShloMosaic.TcCoe Idealize.SL.Sem
open scoped BigOperators

variable (m : (ℓ : Loc nD τ sig) → Buf (Elt Ideal) ℓ) (c : Dev nD)

/-- Row `a` of the rows normalised. -/
abbrev rows (a : ℕ) (k : Fin 2048) : EReal :=
  rowAt (fun i j => A1 m c (ix2 i j)) (fun i j => A0 m c (ix3 0 i j)) (fun i j => A2 m c (ix3 i 0 j)) a k

/-- Row `a` normalised and scaled. -/
def ln (a : ℕ) (d : Fin 2048) : EReal := Ideal.ofBits .f32 0x3F9837F0#32 * layerNorm (rows m c a) (fun k => A8 m c (ix1 k)) (fun k => A9 m c (ix1 k)) d

/-- Row `q` before the second normalisation. -/
def pre (q : Fin 8448) (d : Fin 2048) : EReal :=
  ln m c q.val d + ∑ k : Fin 1024, A3 m c (ix2 q k) * A7 m c (ix3 0 ⟨k.val, topLt k⟩ d)
    + ∑ k : Fin 1024, A4 m c (ix2 q k) * A7 m c (ix3 0 ⟨1024 + k.val, botLt k⟩ d)

/-- The sample's row `q` before the second normalisation. -/
def preS (q : Fin 32) (d : Fin 2048) : EReal :=
  Ideal.ofBits .f32 0x3F9837F0#32 * layerNorm (fun k => A2 m c (ix3 q 0 k)) (fun k => A8 m c (ix1 k)) (fun k => A9 m c (ix1 k)) d
    + ∑ k : Fin 1024, osf m c (ix2 q k) * A7 m c (ix3 0 ⟨k.val, topLt k⟩ d)
    + ∑ k : Fin 1024, osd m c (ix2 q k) * A7 m c (ix3 0 ⟨1024 + k.val, botLt k⟩ d)

/-- The first result at row `q`. -/
def out (q : Fin 8448) (d : Fin 2048) : EReal := layerNorm (pre m c q) (fun k => A10 m c (ix2 0 k)) (fun k => A11 m c (ix2 0 k)) d
/-- The second result at row `q`. -/
def outS (q : Fin 32) (d : Fin 2048) : EReal := layerNorm (preS m c q) (fun k => A10 m c (ix2 0 k)) (fun k => A11 m c (ix2 0 k)) d

theorem x_eq (t : Fin cfg0.N) (r : Fin 384) (k : Fin 2048) (q : Fin 8192) (h : start t.val + r.val = q.val) :
    (iblk m c 0 t : Vec Ideal S384x2048 .f32) (ix2 r k) = A0 m c (ix3 0 q k) := by
  obtain ⟨q, hq⟩ := q
  dsimp only at h
  subst h
  exact x_at m c t r k hq

theorem row_A (t : Fin cfg0.N) (ht : t.val = 0) (r : Fin 384) (k : Fin 2048) :
    (if h : r.val < 16 then (iblk m c 1 t : Vec Ideal S16x2048 .f32) (ix2 ⟨r.val, h⟩ k)
      else (iblk m c 0 t : Vec Ideal S384x2048 .f32) (ix2 ⟨r.val - 16, Nat.lt_of_le_of_lt (Nat.sub_le _ _) r.isLt⟩ k)) = rows m c (384 * t.val + r.val) k := by
  rw [ht, Nat.mul_zero, Nat.zero_add]
  unfold rows rowAt
  by_cases h : r.val < 16
  · rw [dif_pos h, dif_pos h, meta_at]
  · have h2 : r.val - 16 < 8192 := by have := r.isLt; omega
    rw [dif_neg h, dif_neg h, dif_pos h2]
    exact x_eq m c t _ k ⟨r.val - 16, h2⟩ (by rw [ht]; show min 7808 (384 * 0 - 16) + (r.val - 16) = r.val - 16; omega)

theorem row_B (t : Fin cfg0.N) (h1 : 1 ≤ t.val) (h2 : t.val ≤ 20) (r : Fin 384) (k : Fin 2048) :
    (iblk m c 0 t : Vec Ideal S384x2048 .f32) (ix2 r k) = rows m c (384 * t.val + r.val) k := by
  unfold rows rowAt
  have hr := r.isLt
  have h3 : 384 * t.val + r.val - 16 < 8192 := by omega
  rw [dif_neg (by omega), dif_pos h3]
  exact x_eq m c t _ k ⟨_, h3⟩ (by show min 7808 (384 * t.val - 16) + r.val = 384 * t.val + r.val - 16; omega)

theorem row_C (t : Fin cfg0.N) (ht : t.val = 21) (r : Fin 384) (k : Fin 2048) :
    (if h : r.val < 144 then (iblk m c 0 t : Vec Ideal S384x2048 .f32) (ix2 ⟨240 + r.val, Nat.add_lt_add_left h 240⟩ k)
          else if _h : r.val - 144 < 16 then 0 else if h : r.val - 144 - 16 < 32 then (iblk m c 2 t : Vec Ideal S32x2048 .f32) (ix2 ⟨r.val - 144 - 16, h⟩ k) else 0 : EReal)
      = rows m c (384 * t.val + r.val) k := by
  unfold rows rowAt
  have hr := r.isLt
  rw [dif_neg (by omega : ¬384 * t.val + r.val < 16)]
  by_cases h : r.val < 144
  · have h2 : 384 * t.val + r.val - 16 < 8192 := by omega
    rw [dif_pos h, dif_pos h2]
    exact x_eq m c t _ k ⟨_, h2⟩ (by show min 7808 (384 * t.val - 16) + (240 + r.val) = 384 * t.val + r.val - 16; omega)
  · rw [dif_neg h, dif_neg (by omega : ¬384 * t.val + r.val - 16 < 8192)]
    by_cases h3 : r.val - 144 < 16
    · rw [dif_pos h3, dif_pos (by omega : 384 * t.val + r.val - 16 - 8192 < 16)]
    · rw [dif_neg h3, dif_neg (by omega : ¬384 * t.val + r.val - 16 - 8192 < 16)]
      by_cases h4 : r.val - 144 - 16 < 32
      · have h5 : 384 * t.val + r.val - 16 - 8192 - 16 < 32 := by omega
        rw [dif_pos h4, dif_pos h5, samp_at]
        exact congrArg (fun q : Fin 32 => A2 m c (ix3 q 0 k)) (Fin.ext (by show r.val - 144 - 16 = 384 * t.val + r.val - 16 - 8192 - 16; omega))
      · rw [dif_neg h4, dif_neg (by omega : ¬384 * t.val + r.val - 16 - 8192 - 16 < 32)]

theorem pre_A (t : Fin cfg0.N) (ht : t.val = 0) (r : Fin 384) (q : Fin 8448) (hq : 384 * t.val + r.val = q.val)
    (o2 : Vec Ideal S384x1024 .bf16) (ho2 : o2 = iblk m c 4 t) (w2 : Vec Ideal S1024x2048 .bf16) (hw2 : w2 = iblk m c 8 t) (d : Fin 2048) :
    k0_pay4 (F := Ideal) (iblk m c 0 t) (iblk m c 1 t) (iblk m c 3 t) (iblk m c 9 t) (iblk m c 10 t) (iblk m c 7 t) (ix2 r d)
      + ∑ j : Fin 1024, o2 (ix2 r j) * w2 (ix2 j d) = pre m c q d := by
  subst ho2 hw2
  rw [pay4_at]
  unfold pre ln
  rw [← hq, ← funext (row_A m c t ht r)]
  simp only [gi_at, bi_at, top_at, bot_at, o3_at m c t r _ q hq, o4_at m c t r _ q hq]

theorem pre_B (t : Fin cfg0.N) (h1 : 1 ≤ t.val) (h2 : t.val ≤ 20) (r : Fin 384) (q : Fin 8448) (hq : 384 * t.val + r.val = q.val) (d : Fin 2048) :
    k0_pay5 (F := Ideal) (iblk m c 0 t) (iblk m c 3 t) (iblk m c 4 t) (iblk m c 9 t) (iblk m c 10 t) (iblk m c 7 t) (iblk m c 8 t) (ix2 r d) = pre m c q d := by
  rw [pay5_at]
  unfold pre ln
  rw [← hq, ← funext (row_B m c t h1 h2 r)]
  simp only [gi_at, bi_at, top_at, bot_at, o3_at m c t r _ q hq, o4_at m c t r _ q hq]

theorem pre_C (t : Fin cfg0.N) (ht : t.val = 21) (r : Fin 384) (q : Fin 8448) (hq : 384 * t.val + r.val = q.val)
    (o : Vec Ideal S384x1024 .bf16) (ho : o = iblk m c 3 t) (w : Vec Ideal S1024x2048 .bf16) (hw : w = iblk m c 7 t)
    (o2 : Vec Ideal S384x1024 .bf16) (ho2 : o2 = iblk m c 4 t) (w2 : Vec Ideal S1024x2048 .bf16) (hw2 : w2 = iblk m c 8 t) (d : Fin 2048) :
    k0_pay6 (F := Ideal) (iblk m c 0 t) (iblk m c 2 t) (iblk m c 9 t) (iblk m c 10 t) (ix2 r d)
      + ∑ j : Fin 1024, o (ix2 r j) * w (ix2 j d)
      + ∑ j : Fin 1024, o2 (ix2 r j) * w2 (ix2 j d) = pre m c q d := by
  subst ho hw ho2 hw2
  rw [pay6_at]
  unfold pre ln
  rw [← hq, ← funext (row_C m c t ht r)]
  simp only [gi_at, bi_at, top_at, bot_at, o3_at m c t r _ q hq, o4_at m c t r _ q hq]
  rfl

theorem pre_S (t : Fin cfg0.N) (r : Fin 32) (d : Fin 2048) :
    k0_pay12 (F := Ideal) (k0_pay9 (F := Ideal) (iblk m c 2 t)) (k0_pay10 (F := Ideal) (iblk m c 5 t)) (k0_pay11 (F := Ideal) (iblk m c 6 t))
      (iblk m c 9 t) (iblk m c 10 t) (iblk m c 7 t) (iblk m c 8 t) (ix2 r d) = preS m c r d := by
  rw [pay12_at]
  unfold preS
  simp only [samp_at, gi_at, bi_at, top_at, bot_at, sf_at, sd_at]

theorem point (t : Fin cfg0.N) (r : Fin 384) (q : Fin 8448) (hq : 384 * t.val + r.val = q.val) (d : Fin 2048) :
    (outsAt0 m c t.val t.isLt).1 (ix2 r d) = out m c q d := by
  have hN := lt_of_lt_of_eq t.isLt (show cfg0.N = 22 from N_0)
  by_cases h0 : t.val = 0
  · rw [outsAt0_A m c t (by omega) (by omega) (by omega)]
    dsimp only
    rw [wr_A_13, pay1_at]
    unfold out
    rw [funext (pre_A m c t h0 r q hq _ rfl _ rfl)]
    simp only [g_at, b_at]
  · by_cases h1 : t.val = 21
    · rw [outsAt0_C m c t (by omega) (by omega) (by omega)]
      dsimp only
      rw [wr_C_13, pay8_at]
      unfold out
      rw [funext (pre_C m c t h1 r q hq _ rfl _ rfl _ rfl _ rfl)]
      simp only [g_at, b_at]
    · rw [outsAt0_B m c t (by omega) (by omega) (by omega)]
      dsimp only
      rw [wr_B_13, pay2_at]
      unfold out
      rw [funext (pre_B m c t (by omega) (by omega) r q hq)]
      simp only [g_at, b_at]

theorem pointS (t : Fin cfg0.N) (ht : t.val = 21) (r : Fin 32) (d : Fin 2048) :
    (outsAt0 m c t.val t.isLt).2 (ix2 r d) = outS m c r d := by
  rw [outsAt0_C m c t (by omega) (by omega) (by omega)]
  dsimp only
  rw [wr_C_14, pay3_at]
  unfold outS
  rw [funext (pre_S m c t r)]
  simp only [g_at, b_at]

/-- The first result. -/
def Y : Vec Ideal S8448x2048 .f32 := fun i => out m c (i 0) (i 1)
/-- The second result. -/
def YS : Vec Ideal S32x2048 .f32 := fun i => outS m c (i 0) (i 1)

theorem covers13 : (cfg0.win (13 : Fin 15)).Covers := by decide +kernel
theorem covers14 : (cfg0.win (14 : Fin 15)).Covers := by decide +kernel

theorem array13 : (dats m 0 c).arrAt (13 : Fin 15) cfg0.N = Y m c := by
  refine (dats m 0 c).arrAt_eq_of_covers (13 : Fin 15) _ covers13 fun t hf y => ?_
  refine (congrFun (after0_13 m c t) y).trans ?_
  show (outsAt0 m c t.val t.isLt).1 y = _
  have e : y = (ix2 (y 0) (y 1) : S384x2048.Idx) := eq_ix2 y
  rw [e]
  have hq : 384 * t.val + (y 0).val < 8448 := by
    have hN := lt_of_lt_of_eq t.isLt (show cfg0.N = 22 from N_0)
    have h : (y 0).val < 384 := (y 0).isLt
    omega
  refine (point m c t (y 0) ⟨_, hq⟩ rfl (y 1)).trans ?_
  show _ = Y m c (((cfg0.win 13).blk t).view.emb (ix2 (y 0) (y 1)))
  have e2 : ((cfg0.win 13).blk t).view.emb (ix2 (y 0) (y 1)) = (ix2 ⟨384 * t.val + (y 0).val, hq⟩ (y 1) : S8448x2048.Idx) := by
    refine funext fun a => Fin.ext ?_
    match a with
    | ⟨0, _⟩ => show cc0_transform_13 (grid0.coords t) 0 * 384 + 1 * (y 0).val = 384 * t.val + (y 0).val; rw [(place13 t).1]; omega
    | ⟨1, _⟩ => show cc0_transform_13 (grid0.coords t) 1 * 2048 + 1 * (y 1).val = (y 1).val; rw [(place13 t).2]; omega
  rw [e2]
  rfl

theorem last_of_flush (t : Fin cfg0.N) (hf : (cfg0.win (14 : Fin 15)).flush t = true) : t.val = 21 := by
  revert t
  decide +kernel

theorem array14 : (dats m 0 c).arrAt (14 : Fin 15) cfg0.N = YS m c := by
  refine (dats m 0 c).arrAt_eq_of_covers (14 : Fin 15) _ covers14 fun t hf y => ?_
  refine (congrFun (after0_14 m c t) y).trans ?_
  show (outsAt0 m c t.val t.isLt).2 y = _
  have e : y = (ix2 (y 0) (y 1) : S32x2048.Idx) := eq_ix2 y
  rw [e]
  refine (pointS m c t (last_of_flush t hf) (y 0) (y 1)).trans ?_
  show _ = YS m c (((cfg0.win 14).blk t).view.emb (ix2 (y 0) (y 1)))
  have e2 : ((cfg0.win 14).blk t).view.emb (ix2 (y 0) (y 1)) = (ix2 (y 0) (y 1) : S32x2048.Idx) := by
    refine funext fun a => Fin.ext ?_
    match a with
    | ⟨0, _⟩ => show cc0_transform_14 (grid0.coords t) 0 * 32 + 1 * (y 0).val = (y 0).val; rw [(place14 t).1]; omega
    | ⟨1, _⟩ => show cc0_transform_14 (grid0.coords t) 1 * 2048 + 1 * (y 1).val = (y 1).val; rw [(place14 t).2]; omega
  rw [e2]
  rfl

end Cert.Kernel4Ideal.Mix

end
-- ==== Proof.MixRef.lean ====
/-
  The output projection's reference read at one place of its two results.
-/
module

public import proofs.«01_k».proof.Proof.Gen.Reference4Ideal.Read
public import Idealize.ShloMosaic.Lib.Pointwise
public import proofs.«01_k».proof.Proof.GateSpec

@[expose] public section

noncomputable section

namespace Cert.Reference4Ideal.Read

open Cert.Reference4Ideal Cert.Reference4Ideal.Gen Cert.FfnSpec Cert.GateSpec Idealize.ShloMosaic
open scoped BigOperators

set_option maxRecDepth 16384

variable (x0 : Vec Ideal S1x8192x2048 .f32) (x1 : Vec Ideal S16x2048 .f32) (x2 : Vec Ideal S32x1x2048 .f32) (x3 x4 : Vec Ideal S8448x1024 .bf16)
  (x5 x6 : Vec Ideal S32x8x128 .f32) (x7 : Vec Ideal S1x2048x2048 .f32) (x8 x9 : Vec Ideal S2048 .f32) (x10 x11 : Vec Ideal S1x2048 .f32)

/-- A sum over 2048 places is the sum over the first 1024 plus the sum over the others. -/
theorem sum_halves (f : Fin 2048 → EReal) :
    ∑ k, f k = ∑ k : Fin 1024, f ⟨k.val, Nat.lt_trans k.isLt (by decide)⟩ + ∑ k : Fin 1024, f ⟨1024 + k.val, Nat.add_lt_add_left k.isLt 1024⟩ :=
  Fin.sum_univ_add (a := 1024) (b := 1024) f

/-- The rows. -/
abbrev rowsOf (a : ℕ) (k : Fin 2048) : EReal :=
  rowAt (fun i j => x1 (ix2 i j)) (fun i j => x0 (ix3 0 i j)) (fun i j => x2 (ix3 i 0 j)) a k

theorem v4_at (i : Fin 8448) (k : Fin 2048) : val_main_v4 (F := Ideal) x0 x1 x2 (ix2 i k) = rowsOf x0 x1 x2 i.val k := by
  unfold val_main_v4 val_main_v0 val_main_v1 val_main_v2 val_main_v3 val_main_cst val_main_cst_0
  pointwise
  unfold rowsOf rowAt
  rfl

theorem v32_at (i : Fin 8448) (d : Fin 2048) :
    val_main_v32 (F := Ideal) x0 x1 x2 x8 x9 (ix2 i d) = Ideal.ofBits .f32 0x3F9837F0#32 * layerNorm (rowsOf x0 x1 x2 i.val) (fun k => x8 (ix1 k)) (fun k => x9 (ix1 k)) d := by
  rw [show rowsOf x0 x1 x2 i.val = fun k => val_main_v4 (F := Ideal) x0 x1 x2 (ix2 i k) from funext fun k => (v4_at x0 x1 x2 i k).symm]
  unfold val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7
    val_main_cst_1 val_main_cst_2 val_main_cst_3 val_main_cst_4 val_main_cst_5 val_main_cst_6
  generalize val_main_v4 (F := Ideal) x0 x1 x2 = y
  pointwise
  rfl

theorem v34_at (i : Fin 8448) (d : Fin 2048) :
    val_main_v34 (F := Ideal) x3 x4 x7 (ix2 i d)
      = ∑ k : Fin 1024, x3 (ix2 i k) * x7 (ix3 0 ⟨k.val, Nat.lt_trans k.isLt (by decide)⟩ d)
        + ∑ k : Fin 1024, x4 (ix2 i k) * x7 (ix3 0 ⟨1024 + k.val, Nat.add_lt_add_left k.isLt 1024⟩ d) := by
  have e : val_main_v34 (F := Ideal) x3 x4 x7 (ix2 i d) = ∑ k : Fin 2048, val_main_v5 (F := Ideal) x3 x4 (ix2 i k) * x7 (ix3 0 k d) := by
    unfold val_main_v34 val_main_v33 val_main_v6
    generalize val_main_v5 (F := Ideal) x3 x4 = y
    pointwise [dot_S8448x2048_S2048x2048_S8448x2048_1_0_0_1_n_n]
  have e5 : ∀ k : Fin 2048, val_main_v5 (F := Ideal) x3 x4 (ix2 i k)
      = if h : k.val < 1024 then x3 (ix2 i ⟨k.val, h⟩) else x4 (ix2 i ⟨k.val - 1024, by omega⟩) := fun k => by
    unfold val_main_v5
    pointwise
  rw [e, sum_halves]
  refine congrArg₂ (· + ·) (Finset.sum_congr rfl fun k _ => ?_) (Finset.sum_congr rfl fun k _ => ?_)
  · rw [e5, dif_pos (show (⟨k.val, Nat.lt_trans k.isLt (by decide)⟩ : Fin 2048).val < 1024 from k.isLt)]
  · rw [e5, dif_neg (show ¬(⟨1024 + k.val, Nat.add_lt_add_left k.isLt 1024⟩ : Fin 2048).val < 1024 from by show ¬1024 + k.val < 1024; omega)]
    refine congrArg (fun j => x4 (ix2 i j) * _) (Fin.ext ?_)
    show 1024 + k.val - 1024 = k.val
    omega

theorem v61_at (i : Fin 8448) (d : Fin 2048) :
    val_main_v61 (F := Ideal) x0 x1 x2 x3 x4 x7 x8 x9 x10 x11 (ix2 i d)
      = layerNorm (fun e => Ideal.ofBits .f32 0x3F9837F0#32 * layerNorm (rowsOf x0 x1 x2 i.val) (fun k => x8 (ix1 k)) (fun k => x9 (ix1 k)) e
          + ∑ k : Fin 1024, x3 (ix2 i k) * x7 (ix3 0 ⟨k.val, Nat.lt_trans k.isLt (by decide)⟩ e)
          + ∑ k : Fin 1024, x4 (ix2 i k) * x7 (ix3 0 ⟨1024 + k.val, Nat.add_lt_add_left k.isLt 1024⟩ e)) (fun k => x10 (ix2 0 k)) (fun k => x11 (ix2 0 k)) d := by
  have e : val_main_v61 (F := Ideal) x0 x1 x2 x3 x4 x7 x8 x9 x10 x11 (ix2 i d)
      = layerNorm (fun e => val_main_v35 (F := Ideal) x0 x1 x2 x3 x4 x7 x8 x9 (ix2 i e)) (fun k => x10 (ix2 0 k)) (fun k => x11 (ix2 0 k)) d := by
    unfold val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36
      val_main_cst_7 val_main_cst_8 val_main_cst_9 val_main_cst_10 val_main_cst_11
    generalize val_main_v35 (F := Ideal) x0 x1 x2 x3 x4 x7 x8 x9 = y
    pointwise
    rfl
  rw [e]
  refine congrArg (fun f => layerNorm f _ _ d) (funext fun e => ?_)
  unfold val_main_v35
  refine (congrArg₂ (· + ·) (v32_at x0 x1 x2 x8 x9 i e) (v34_at x3 x4 x7 i e)).trans ?_
  exact (add_assoc _ _ _).symm

theorem v90_at (i : Fin 32) (d : Fin 2048) :
    val_main_v90 (F := Ideal) x2 x8 x9 (ix2 i d) = Ideal.ofBits .f32 0x3F9837F0#32 * layerNorm (fun k => x2 (ix3 i 0 k)) (fun k => x8 (ix1 k)) (fun k => x9 (ix1 k)) d := by
  rw [show (fun k => x2 (ix3 i 0 k)) = fun k => val_main_v0 (F := Ideal) x2 (ix2 i k) from funext fun k => by unfold val_main_v0; pointwise]
  unfold val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65
    val_main_cst_12 val_main_cst_13 val_main_cst_14 val_main_cst_15 val_main_cst_16 val_main_cst_17
  generalize val_main_v0 (F := Ideal) x2 = y
  pointwise
  rfl

theorem v92_at (i : Fin 32) (d : Fin 2048) :
    val_main_v92 (F := Ideal) x5 x6 x7 (ix2 i d)
      = ∑ k : Fin 1024, val_main_v62 (F := Ideal) x5 (ix2 i k) * x7 (ix3 0 ⟨k.val, Nat.lt_trans k.isLt (by decide)⟩ d)
        + ∑ k : Fin 1024, val_main_v63 (F := Ideal) x6 (ix2 i k) * x7 (ix3 0 ⟨1024 + k.val, Nat.add_lt_add_left k.isLt 1024⟩ d) := by
  have e : val_main_v92 (F := Ideal) x5 x6 x7 (ix2 i d) = ∑ k : Fin 2048, val_main_v64 (F := Ideal) x5 x6 (ix2 i k) * x7 (ix3 0 k d) := by
    unfold val_main_v92 val_main_v91
    generalize val_main_v64 (F := Ideal) x5 x6 = y
    pointwise [dot_S32x2048_S2048x2048_S32x2048_1_0_0_1_n_n]
  have e5 : ∀ k : Fin 2048, val_main_v64 (F := Ideal) x5 x6 (ix2 i k)
      = if h : k.val < 1024 then val_main_v62 (F := Ideal) x5 (ix2 i ⟨k.val, h⟩) else val_main_v63 (F := Ideal) x6 (ix2 i ⟨k.val - 1024, by omega⟩) := fun k => by
    unfold val_main_v64
    generalize val_main_v62 (F := Ideal) x5 = y
    generalize val_main_v63 (F := Ideal) x6 = z
    pointwise
  rw [e, sum_halves]
  refine congrArg₂ (· + ·) (Finset.sum_congr rfl fun k _ => ?_) (Finset.sum_congr rfl fun k _ => ?_)
  · rw [e5, dif_pos (show (⟨k.val, Nat.lt_trans k.isLt (by decide)⟩ : Fin 2048).val < 1024 from k.isLt)]
  · rw [e5, dif_neg (show ¬(⟨1024 + k.val, Nat.add_lt_add_left k.isLt 1024⟩ : Fin 2048).val < 1024 from by show ¬1024 + k.val < 1024; omega)]
    refine congrArg (fun j => val_main_v63 (F := Ideal) x6 (ix2 i j) * _) (Fin.ext ?_)
    show 1024 + k.val - 1024 = k.val
    omega

theorem v119_at (i : Fin 32) (d : Fin 2048) :
    val_main_v119 (F := Ideal) x2 x5 x6 x7 x8 x9 x10 x11 (ix2 i d)
      = layerNorm (fun e => Ideal.ofBits .f32 0x3F9837F0#32 * layerNorm (fun k => x2 (ix3 i 0 k)) (fun k => x8 (ix1 k)) (fun k => x9 (ix1 k)) e
          + ∑ k : Fin 1024, val_main_v62 (F := Ideal) x5 (ix2 i k) * x7 (ix3 0 ⟨k.val, Nat.lt_trans k.isLt (by decide)⟩ e)
          + ∑ k : Fin 1024, val_main_v63 (F := Ideal) x6 (ix2 i k) * x7 (ix3 0 ⟨1024 + k.val, Nat.add_lt_add_left k.isLt 1024⟩ e)) (fun k => x10 (ix2 0 k)) (fun k => x11 (ix2 0 k)) d := by
  have e : val_main_v119 (F := Ideal) x2 x5 x6 x7 x8 x9 x10 x11 (ix2 i d)
      = layerNorm (fun e => val_main_v93 (F := Ideal) x2 x5 x6 x7 x8 x9 (ix2 i e)) (fun k => x10 (ix2 0 k)) (fun k => x11 (ix2 0 k)) d := by
    unfold val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94
      val_main_cst_18 val_main_cst_19 val_main_cst_20 val_main_cst_21 val_main_cst_22
    generalize val_main_v93 (F := Ideal) x2 x5 x6 x7 x8 x9 = y
    pointwise
    rfl
  rw [e]
  refine congrArg (fun f => layerNorm f _ _ d) (funext fun e => ?_)
  unfold val_main_v93
  refine (congrArg₂ (· + ·) (v90_at x2 x8 x9 i e) (v92_at x5 x6 x7 i e)).trans ?_
  exact (add_assoc _ _ _).symm

end Cert.Reference4Ideal.Read

end
-- ==== Proof.MixTop.lean ====
/-
  The claims about the output projection's call: the two arrays the kernel ends with and the reference's two results are one function of the arguments.
-/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.MixKernel
public import proofs.«01_k».proof.Proof.MixRef
public import Idealize.ShloMosaic.Adequacy
public import Idealize.ShloMosaic.Init
public import Idealize.ShloMosaic.Lib.Quiescent

@[expose] public section

set_option maxRecDepth 16384

noncomputable section

namespace Cert.MixTop

open Idealize.ShloMosaic Idealize.SL.Sem
open scoped BigOperators

theorem quiescent_Reference4Ideal : quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem rows_eq (m : (ℓ : Loc Cert.Kernel4Ideal.nD Cert.Kernel4Ideal.τ Cert.Kernel4Ideal.sig) → Buf (Elt Ideal) ℓ) (c : Dev Cert.Kernel4Ideal.nD) :
    (Cert.Reference4Ideal.Read.val_main_v61 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) : Vec Ideal Cert.Kernel4Ideal.S8448x2048 .f32)
      = Cert.Kernel4Ideal.Mix.Y m c := by
  funext i
  rw [eq_ix2 i]
  exact Cert.Reference4Ideal.Read.v61_at _ _ _ _ _ _ _ _ _ _ (i 0) (i 1)

theorem sample_eq (m : (ℓ : Loc Cert.Kernel4Ideal.nD Cert.Kernel4Ideal.τ Cert.Kernel4Ideal.sig) → Buf (Elt Ideal) ℓ) (c : Dev Cert.Kernel4Ideal.nD) :
    (Cert.Reference4Ideal.Read.val_main_v119 (F := Ideal) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) : Vec Ideal Cert.Kernel4Ideal.S32x2048 .f32)
      = Cert.Kernel4Ideal.Mix.YS m c := by
  funext i
  rw [eq_ix2 i]
  exact Cert.Reference4Ideal.Read.v119_at _ _ _ _ _ _ _ _ (i 0) (i 1)

theorem algebraic_Kernel4Ideal_Reference4Ideal : algebraic_Kernel4Ideal_Reference4Ideal := by
  intro m ρ m' ρ' _ hagree
  refine ⟨fun c => (Cert.Kernel4Ideal.Gen.dats m 0 c).arrAt (13 : Fin 15) Cert.Kernel4Ideal.cfg0.N,
    fun c => (Cert.Kernel4Ideal.Gen.dats m 0 c).arrAt (14 : Fin 15) Cert.Kernel4Ideal.cfg0.N, ?_, ?_⟩
  · exact (θ_run Cert.Kernel4Ideal.defs _ _).mono (fun r hr c => ⟨(hr.1 c).1 (13 : Fin 15), (hr.1 c).1 (14 : Fin 15), hr.2 c⟩)
      (θ_run_and (Cert.Kernel4Ideal.Gen.run_main m ρ) (Cert.Kernel4Ideal.Gen.unchanged m ρ))
  · refine (θ_run Cert.Reference4Ideal.defs _ _).mono (fun _ hr c => ⟨?_, ?_, (hr c).2.2⟩) (Cert.Reference4Ideal.Value.run (F := Ideal) m' ρ')
    · rw [(hr c).1, Cert.Reference4Ideal.Read.val_main_v61_eq]
      simp only [hagree c]
      exact (rows_eq m c).trans (Cert.Kernel4Ideal.Mix.array13 m c).symm
    · rw [(hr c).2.1, Cert.Reference4Ideal.Read.val_main_v119_eq]
      simp only [hagree c]
      exact (sample_eq m c).trans (Cert.Kernel4Ideal.Mix.array14 m c).symm

end Cert.MixTop

end
-- ==== Proof.GatePay.lean ====
/-
  The gate kernel's stores read at one place of the block, over the extended reals: the layer normalisation of a row, at the
  first, a middle and the last grid point, and the logarithm of the logistic function of the row's product with the gate's matrix.
-/
module

public import proofs.«01_k».proof.Proof.Gen.Kernel5Ideal.Skeleton
public import Idealize.ShloMosaic.Lib.Pointwise
public import proofs.«01_k».proof.Proof.GateSpec

@[expose] public section

noncomputable section

namespace Cert.Kernel5Ideal.Gen

open Idealize.ShloMosaic Cert.FfnSpec Cert.GateSpec
open scoped BigOperators

set_option maxRecDepth 16384

theorem pay6_at (x : Vec Ideal S384x2048 .f32) (w : Vec Ideal S16x2048 .f32) (g b : Vec Ideal S1x2048 .f32) (r : Fin 384) (d : Fin 2048) :
    k0_pay6 (F := Ideal) x w g b (ix2 r d)
      = layerNorm (fun k => if h : r.val < 16 then w (ix2 ⟨r.val, h⟩ k) else x (ix2 ⟨r.val - 16, Nat.lt_of_le_of_lt (Nat.sub_le _ _) r.isLt⟩ k)) (fun k => g (ix2 0 k)) (fun k => b (ix2 0 k)) d := by
  unfold_payloads
  pointwise
  rfl

theorem pay21_at (x : Vec Ideal S384x2048 .f32) (g b : Vec Ideal S1x2048 .f32) (r : Fin 384) (d : Fin 2048) :
    k0_pay21 (F := Ideal) x g b (ix2 r d) = layerNorm (fun k => x (ix2 r k)) (fun k => g (ix2 0 k)) (fun k => b (ix2 0 k)) d := by
  unfold_payloads
  pointwise
  rfl

theorem pay35_at (x : Vec Ideal S384x2048 .f32) (w : Vec Ideal S32x2048 .f32) (g b : Vec Ideal S1x2048 .f32) (r : Fin 384) (d : Fin 2048) :
    k0_pay35 (F := Ideal) x w g b (ix2 r d)
      = layerNorm (fun k => if h : r.val < 144 then x (ix2 ⟨240 + r.val, Nat.add_lt_add_left h 240⟩ k)
          else if r.val - 144 < 16 then 0 else if h : r.val - 144 - 16 < 32 then w (ix2 ⟨r.val - 144 - 16, h⟩ k) else 0)
        (fun k => g (ix2 0 k)) (fun k => b (ix2 0 k)) d := by
  unfold_payloads
  pointwise
  rfl

theorem pay7_at (x : Vec Ideal S384x2048 .f32) (w : Vec Ideal S16x2048 .f32) (g b : Vec Ideal S1x2048 .f32) (wf : Vec Ideal S2048x128 .bf16) (bf : Vec Ideal S1x128 .f32) (r : Fin 384) (d : Fin 128) :
    k0_pay7 (F := Ideal) x w g b wf bf (ix2 r d) = ∑ k, k0_pay6 (F := Ideal) x w g b (ix2 r k) * wf (ix2 k d) + bf (ix2 0 d) := by
  unfold k0_pay7
  generalize k0_pay6 (F := Ideal) x w g b = h
  pointwise [dot_S384x2048_S2048x128_S384x128_1_0_0_1_n_n]

theorem pay22_at (x : Vec Ideal S384x2048 .f32) (g b : Vec Ideal S1x2048 .f32) (wf : Vec Ideal S2048x128 .bf16) (bf : Vec Ideal S1x128 .f32) (r : Fin 384) (d : Fin 128) :
    k0_pay22 (F := Ideal) x g b wf bf (ix2 r d) = ∑ k, k0_pay21 (F := Ideal) x g b (ix2 r k) * wf (ix2 k d) + bf (ix2 0 d) := by
  unfold k0_pay22
  generalize k0_pay21 (F := Ideal) x g b = h
  pointwise [dot_S384x2048_S2048x128_S384x128_1_0_0_1_n_n]

theorem pay36_at (x : Vec Ideal S384x2048 .f32) (w : Vec Ideal S32x2048 .f32) (g b : Vec Ideal S1x2048 .f32) (wf : Vec Ideal S2048x128 .bf16) (r : Fin 384) (d : Fin 128) :
    k0_pay36 (F := Ideal) x w g b wf (ix2 r d) = ∑ k, k0_pay35 (F := Ideal) x w g b (ix2 r k) * wf (ix2 k d) := by
  unfold k0_pay36
  generalize k0_pay35 (F := Ideal) x w g b = h
  pointwise [dot_S384x2048_S2048x128_S384x128_1_0_0_1_n_n]

/-- A lane below 8 among the 128 lanes. -/
def lane (d : Fin 8) : Fin 128 := ⟨d.val, Nat.lt_trans d.isLt (by decide)⟩

theorem pay9_at (z : FVec Ideal S384x128 .f32) (r : Fin 384) (d : Fin 8) :
    k0_pay9 (F := Ideal) z (Scalar.ofBits .f32 0x00000000#32) (ix2 r d) = logSig (z (ix2 r (lane d))) := by
  unfold_payloads
  pointwise
  rfl

theorem pay27_at (x : Vec Ideal S384x2048 .f32) (g b : Vec Ideal S1x2048 .f32) (wf : Vec Ideal S2048x128 .bf16) (bf : Vec Ideal S1x128 .f32) (r : Fin 384) (d : Fin 8) :
    k0_pay27 (F := Ideal) (k0_pay23 x g b wf bf) (k0_pay24 x g b wf bf) k0_pay25 (ix2 r d) = logSig (k0_pay22 (F := Ideal) x g b wf bf (ix2 r (lane d))) := by
  unfold k0_pay27 k0_pay26 k0_pay23 k0_pay24 k0_pay25
  generalize k0_pay22 (F := Ideal) x g b wf bf = h
  pointwise
  rfl

theorem pay38_at (z : FVec Ideal S384x128 .f32) (bf : Vec Ideal S1x128 .f32) (r : Fin 384) (d : Fin 8) :
    k0_pay38 (F := Ideal) z bf (ix2 r d) = logSig (z (ix2 r (lane d)) + bf (ix2 0 (lane d))) := by
  unfold_payloads
  pointwise
  rfl

end Cert.Kernel5Ideal.Gen

end
-- ==== Proof.GateCases.lean ====
/-
  What each grid point of the gate kernel writes to its first and last results, from the blocks it reads.
-/
module

public import proofs.«01_k».proof.Proof.Gen.Kernel5Ideal.Frame
public import proofs.«01_k».proof.Proof.GatePay
public import Idealize.ShloMosaic.Lib.Pointwise

@[expose] public section

set_option maxRecDepth 16384

noncomputable section

namespace Cert.Kernel5Ideal.Gate

open Cert.Kernel5Ideal Cert.Kernel5Ideal.Gen Cert.FfnSpec Cert.GateSpec
open Idealize.ShloMosaic Idealize.ShloMosaic.TcCoe Idealize.SL.Sem
open scoped BigOperators

theorem hz : (![0, 0] : Fin 2 → Nat) = fun _ => 0 := funext fun a => by fin_cases a <;> rfl

variable (c : Dev nD) (i : grid0.Coords) (a1 : Memref sig .tc .vmem S384x2048 .f32) (h1 : a1.IsWhole) (a2 : Memref sig .tc .vmem S16x2048 .f32) (h2 : a2.IsWhole) (a3 : Memref sig .tc .vmem S32x2048 .f32) (h3 : a3.IsWhole) (a4 : Memref sig .tc .vmem S1x2048 .f32) (h4 : a4.IsWhole) (a5 : Memref sig .tc .vmem S1x2048 .f32) (h5 : a5.IsWhole) (a6 : Memref sig .tc .vmem S2048x128 .bf16) (h6 : a6.IsWhole) (a7 : Memref sig .tc .vmem S1x128 .f32) (h7 : a7.IsWhole) (a8 : Memref sig .tc .vmem S1x128 .i32) (h8 : a8.IsWhole) (a9 : Memref sig .tc .vmem S384x2048 .bf16) (h9 : a9.IsWhole) (a10 : Memref sig .tc .vmem S384x128 .bf16) (h10 : a10.IsWhole) (a11 : Memref sig .tc .vmem S384x128 .bf16) (h11 : a11.IsWhole) (a12 : Memref sig .tc .vmem S384x8 .f32) (h12 : a12.IsWhole) (a13 : Memref sig .tc .vmem S8x128 .f32) (h13 : a13.IsWhole)
variable (x0 : Vec Ideal S384x2048 .f32) (x1 : Vec Ideal S16x2048 .f32) (x2 : Vec Ideal S32x2048 .f32) (x3 : Vec Ideal S1x2048 .f32) (x4 : Vec Ideal S1x2048 .f32) (x5 : Vec Ideal S2048x128 .bf16) (x6 : Vec Ideal S1x128 .f32) (x7 : Vec Ideal S1x128 .i32) (xs0 : Vec Ideal S8x128 .f32)

theorem wr_A_8 (hc0 : cond0_0 i) (hc1 : cond0_1 i) (hc2 : ¬cond0_2 i) (hc3 : ¬cond0_3 i) :
    out0_A_8 c i a1 h1 a2 h2 a3 h3 a4 h4 a5 h5 a6 h6 a7 h7 a8 h8 a9 h9 a10 h10 a11 h11 a12 h12 a13 h13 hc0 hc1 hc2 hc3 x0 x1 x2 x3 x4 x5 x6 x7 = k0_pay6 (F := Ideal) x0 x1 x3 x4 := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 hc0 hc1 hc2 hc3 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S384x2048) hz, View.ld_unit_zero (S := S16x2048) hz, View.ld_unit_zero (S := S32x2048) hz, View.ld_unit_zero (S := S1x2048) hz, View.ld_unit_zero (S := S2048x128) hz, View.ld_unit_zero (S := S1x128) hz]

theorem wr_A_11 (hc0 : cond0_0 i) (hc1 : cond0_1 i) (hc2 : ¬cond0_2 i) (hc3 : ¬cond0_3 i) :
    out0_A_11 c i a1 h1 a2 h2 a3 h3 a4 h4 a5 h5 a6 h6 a7 h7 a8 h8 a9 h9 a10 h10 a11 h11 a12 h12 a13 h13 hc0 hc1 hc2 hc3 x0 x1 x2 x3 x4 x5 x6 x7 = k0_pay9 (F := Ideal) (k0_pay7 (F := Ideal) x0 x1 x3 x4 x5 x6) (Scalar.ofBits .f32 0x00000000#32) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 hc0 hc1 hc2 hc3 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S384x2048) hz, View.ld_unit_zero (S := S16x2048) hz, View.ld_unit_zero (S := S32x2048) hz, View.ld_unit_zero (S := S1x2048) hz, View.ld_unit_zero (S := S2048x128) hz, View.ld_unit_zero (S := S1x128) hz]

theorem wr_B_8 (hc0 : ¬cond0_0 i) (hc1 : ¬cond0_1 i) (hc2 : cond0_2 i) (hc3 : ¬cond0_3 i) :
    out0_B_8 c i a1 h1 a2 h2 a3 h3 a4 h4 a5 h5 a6 h6 a7 h7 a8 h8 a9 h9 a10 h10 a11 h11 a12 h12 a13 h13 hc0 hc1 hc2 hc3 x0 x1 x2 x3 x4 x5 x6 x7 xs0 = k0_pay21 (F := Ideal) x0 x3 x4 := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 hc0 hc1 hc2 hc3 x0 x1 x2 x3 x4 x5 x6 x7 xs0)]
  unfold kernelRun0_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S384x2048) hz, View.ld_unit_zero (S := S16x2048) hz, View.ld_unit_zero (S := S32x2048) hz, View.ld_unit_zero (S := S1x2048) hz, View.ld_unit_zero (S := S2048x128) hz, View.ld_unit_zero (S := S1x128) hz]

theorem wr_B_11 (hc0 : ¬cond0_0 i) (hc1 : ¬cond0_1 i) (hc2 : cond0_2 i) (hc3 : ¬cond0_3 i) :
    out0_B_11 c i a1 h1 a2 h2 a3 h3 a4 h4 a5 h5 a6 h6 a7 h7 a8 h8 a9 h9 a10 h10 a11 h11 a12 h12 a13 h13 hc0 hc1 hc2 hc3 x0 x1 x2 x3 x4 x5 x6 x7 xs0 = k0_pay27 (F := Ideal) (k0_pay23 x0 x3 x4 x5 x6) (k0_pay24 x0 x3 x4 x5 x6) k0_pay25 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 hc0 hc1 hc2 hc3 x0 x1 x2 x3 x4 x5 x6 x7 xs0)]
  unfold kernelRun0_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S384x2048) hz, View.ld_unit_zero (S := S16x2048) hz, View.ld_unit_zero (S := S32x2048) hz, View.ld_unit_zero (S := S1x2048) hz, View.ld_unit_zero (S := S2048x128) hz, View.ld_unit_zero (S := S1x128) hz]

theorem wr_C_8 (hc0 : ¬cond0_0 i) (hc1 : ¬cond0_1 i) (hc2 : ¬cond0_2 i) (hc3 : cond0_3 i) :
    out0_C_8 c i a1 h1 a2 h2 a3 h3 a4 h4 a5 h5 a6 h6 a7 h7 a8 h8 a9 h9 a10 h10 a11 h11 a12 h12 a13 h13 hc0 hc1 hc2 hc3 x0 x1 x2 x3 x4 x5 x6 x7 xs0 = k0_pay35 (F := Ideal) x0 x2 x3 x4 := by
  unfold out0_C_8
  rw [View.read_writes_eq_canon _ _ _ (cover0_C_8 c i a1 h1 a2 h2 a3 h3 a4 h4 a5 h5 a6 h6 a7 h7 a8 h8 a9 h9 a10 h10 a11 h11 a12 h12 a13 h13 hc0 hc1 hc2 hc3 x0 x1 x2 x3 x4 x5 x6 x7 xs0)]
  unfold kernelRun0_C
  dsimp only
  sl_unfold_words
  rw [View.canon_unit_zero hz]
  simp only [View.readAt_eq_ld, h1.read_unread, h2.read_unread, h3.read_unread, h4.read_unread, h5.read_unread, h6.read_unread, h7.read_unread, View.ld_unit_zero (S := S384x2048) hz, View.ld_unit_zero (S := S16x2048) hz, View.ld_unit_zero (S := S32x2048) hz, View.ld_unit_zero (S := S1x2048) hz, View.ld_unit_zero (S := S2048x128) hz, View.ld_unit_zero (S := S1x128) hz]

theorem wr_C_11 (hc0 : ¬cond0_0 i) (hc1 : ¬cond0_1 i) (hc2 : ¬cond0_2 i) (hc3 : cond0_3 i) :
    out0_C_11 c i a1 h1 a2 h2 a3 h3 a4 h4 a5 h5 a6 h6 a7 h7 a8 h8 a9 h9 a10 h10 a11 h11 a12 h12 a13 h13 hc0 hc1 hc2 hc3 x0 x1 x2 x3 x4 x5 x6 x7 xs0 = k0_pay38 (F := Ideal) (k0_pay36 (F := Ideal) x0 x2 x3 x4 x5) x6 := by
  unfold out0_C_11
  rw [View.read_writes_eq_canon _ _ _ (cover0_C_11 c i a1 h1 a2 h2 a3 h3 a4 h4 a5 h5 a6 h6 a7 h7 a8 h8 a9 h9 a10 h10 a11 h11 a12 h12 a13 h13 hc0 hc1 hc2 hc3 x0 x1 x2 x3 x4 x5 x6 x7 xs0)]
  unfold kernelRun0_C
  dsimp only
  sl_unfold_words
  rw [View.canon_unit_zero hz]
  simp only [View.readAt_eq_ld, h1.read_unread, h2.read_unread, h3.read_unread, h4.read_unread, h5.read_unread, h6.read_unread, h7.read_unread, View.ld_unit_zero (S := S384x2048) hz, View.ld_unit_zero (S := S16x2048) hz, View.ld_unit_zero (S := S32x2048) hz, View.ld_unit_zero (S := S1x2048) hz, View.ld_unit_zero (S := S2048x128) hz, View.ld_unit_zero (S := S1x128) hz]

end Cert.Kernel5Ideal.Gate

end
-- ==== Proof.GateHost.lean ====
/-
  The arrays the gate kernel reads, at numbers, and its blocks of them.
-/
module

public import proofs.«01_k».proof.Proof.Gen.Kernel5Ideal.Frame
public import proofs.«01_k».proof.Proof.GatePay
public import Idealize.ShloMosaic.Lib.Pointwise

@[expose] public section

set_option maxRecDepth 16384

noncomputable section

namespace Cert.Kernel5Ideal.Gate

open Cert.Kernel5Ideal Cert.Kernel5Ideal.Gen Cert.FfnSpec Cert.GateSpec
open Idealize.ShloMosaic Idealize.ShloMosaic.TcCoe Idealize.SL.Sem
open scoped BigOperators

variable (m : (ℓ : Loc nD τ sig) → Buf (Elt Ideal) ℓ) (c : Dev nD)

abbrev A0 : Vec Ideal S1x8192x2048 .f32 := m ((c : Thread nD τ).loc main_arg0)
abbrev A1 : Vec Ideal S32x1x2048 .f32 := m ((c : Thread nD τ).loc main_arg1)
abbrev A2 : Vec Ideal S16x2048 .f32 := m ((c : Thread nD τ).loc main_arg2)
abbrev A3 : Vec Ideal S2048 .f32 := m ((c : Thread nD τ).loc main_arg3)
abbrev A4 : Vec Ideal S2048 .f32 := m ((c : Thread nD τ).loc main_arg4)
abbrev A5 : Vec Ideal S1x2048x6152 .f32 := m ((c : Thread nD τ).loc main_arg5)
abbrev A6 : Vec Ideal S1x8 .f32 := m ((c : Thread nD τ).loc main_arg6)

theorem V_v18 : V m c main_v18 = (shapeCast S8192x2048 (A0 m c) shapeCasts_S1x8192x2048_S8192x2048 : Vec Ideal S8192x2048 .f32) := by
  unfold V; simp only [hostOps0, hostOps0_1, hostOps0_2, hostOps0_3, hostOps0_4, List.flatten_cons, List.flatten_nil, List.append_nil, List.cons_append, List.nil_append]; after_results_simp; rfl
theorem V_v19 : V m c main_v19 = (shapeCast S32x2048 (A1 m c) shapeCasts_S32x1x2048_S32x2048 : Vec Ideal S32x2048 .f32) := by
  unfold V; simp only [hostOps0, hostOps0_1, hostOps0_2, hostOps0_3, hostOps0_4, List.flatten_cons, List.flatten_nil, List.append_nil, List.cons_append, List.nil_append]; after_results_simp; rfl
theorem V_v20 : V m c main_v20 = (shapeCast S1x2048 (A3 m c) shapeCasts_S2048_S1x2048 : Vec Ideal S1x2048 .f32) := by
  unfold V; simp only [hostOps0, hostOps0_1, hostOps0_2, hostOps0_3, hostOps0_4, List.flatten_cons, List.flatten_nil, List.append_nil, List.cons_append, List.nil_append]; after_results_simp; rfl
theorem V_v21 : V m c main_v21 = (shapeCast S1x2048 (A4 m c) shapeCasts_S2048_S1x2048 : Vec Ideal S1x2048 .f32) := by
  unfold V; simp only [hostOps0, hostOps0_1, hostOps0_2, hostOps0_3, hostOps0_4, List.flatten_cons, List.flatten_nil, List.append_nil, List.cons_append, List.nil_append]; after_results_simp; rfl

theorem gather_cols {α : Type} (x : S2048x8.Idx → α) (idx : IVec S128x1 32) (k : Fin 2048) (l : Fin 128) (q : Fin 8)
    (hq : min (idx (ix2 l 0)).toInt.toNat 7 = q.val) :
    Host.gather gather_S2048x8_S128x1_S2048x128_0_1_n_n_1_1_20481 x idx (ix2 k l) = x (ix2 k q) := by
  unfold Host.gather
  congr 1
  funext a
  refine Fin.ext ?_
  show gather_S2048x8_S128x1_S2048x128_0_1_n_n_1_1_20481.start (ix2 k l) idx a + gather_S2048x8_S128x1_S2048x128_0_1_n_n_1_1_20481.batchCoord (ix2 k l) a
      + gather_S2048x8_S128x1_S2048x128_0_1_n_n_1_1_20481.offCoord (ix2 k l) a = _
  rw [GatherDims.batchCoord_eq_zero _ _ _ (show a ∉ gather_S2048x8_S128x1_S2048x128_0_1_n_n_1_1_20481.operandBatchingDims from List.not_mem_nil)]
  have h01 : a = (0 : Fin 2) ∨ a = (1 : Fin 2) := by
    match a with
    | ⟨0, _⟩ => exact Or.inl rfl
    | ⟨1, _⟩ => exact Or.inr rfl
  rcases h01 with rfl | rfl
  · unfold GatherDims.start GatherDims.offCoord
    rw [dif_neg (show (0 : Fin 2) ∉ gather_S2048x8_S128x1_S2048x128_0_1_n_n_1_1_20481.startIndexMap from by decide),
      dif_pos (show (0 : Fin 2) ∈ gather_S2048x8_S128x1_S2048x128_0_1_n_n_1_1_20481.sKept from by decide)]
    exact (Nat.zero_add _).trans rfl
  · rw [GatherDims.offCoord_eq_zero _ _ _ (show (1 : Fin 2) ∉ gather_S2048x8_S128x1_S2048x128_0_1_n_n_1_1_20481.sKept from by decide)]
    rw [Nat.add_zero]
    unfold GatherDims.start
    rw [dif_pos (show (1 : Fin 2) ∈ gather_S2048x8_S128x1_S2048x128_0_1_n_n_1_1_20481.startIndexMap from by decide)]
    have hsi : gather_S2048x8_S128x1_S2048x128_0_1_n_n_1_1_20481.siIdx (ix2 k l) ⟨List.idxOf (1 : Fin 2) gather_S2048x8_S128x1_S2048x128_0_1_n_n_1_1_20481.startIndexMap,
        List.idxOf_lt_length_iff.2 (by decide)⟩ = ix2 l 0 := by
      funext b; refine Fin.ext ?_
      match b with
      | ⟨0, _⟩ => rfl
      | ⟨1, _⟩ => rfl
    rw [hsi]
    exact hq

theorem gather_lanes {α : Type} (x : S8.Idx → α) (idx : IVec S128x1 32) (l : Fin 128) (q : Fin 8)
    (hq : min (idx (ix2 l 0)).toInt.toNat 7 = q.val) :
    Host.gather gather_S8_S128x1_S128_n_0_n_n_0_1_1 x idx (ix1 l) = x (ix1 q) := by
  unfold Host.gather
  congr 1
  funext a
  obtain rfl : a = 0 := Subsingleton.elim _ _
  refine Fin.ext ?_
  show gather_S8_S128x1_S128_n_0_n_n_0_1_1.start (ix1 l) idx 0 + gather_S8_S128x1_S128_n_0_n_n_0_1_1.batchCoord (ix1 l) 0
      + gather_S8_S128x1_S128_n_0_n_n_0_1_1.offCoord (ix1 l) 0 = _
  rw [GatherDims.batchCoord_eq_zero _ _ _ (show (0 : Fin 1) ∉ gather_S8_S128x1_S128_n_0_n_n_0_1_1.operandBatchingDims from List.not_mem_nil),
    GatherDims.offCoord_eq_zero _ _ _ (show (0 : Fin 1) ∉ gather_S8_S128x1_S128_n_0_n_n_0_1_1.sKept from by decide)]
  rw [Nat.add_zero]
  unfold GatherDims.start
  rw [dif_pos (show (0 : Fin 1) ∈ gather_S8_S128x1_S128_n_0_n_n_0_1_1.startIndexMap from by decide)]
  have hsi : gather_S8_S128x1_S128_n_0_n_n_0_1_1.siIdx (ix1 l) ⟨List.idxOf (0 : Fin 1) gather_S8_S128x1_S128_n_0_n_n_0_1_1.startIndexMap,
      List.idxOf_lt_length_iff.2 (by decide)⟩ = ix2 l 0 := by
    funext b; refine Fin.ext ?_
    match b with
    | ⟨0, _⟩ => rfl
    | ⟨1, _⟩ => rfl
  rw [hsi]
  exact hq

/-- The head each lane takes its column from. -/
def heads : IVec S128x1 32 := broadcastInDim S128x1 ![0] bcast_S128_S128x1_0
  (select (constantI S128 1 0#1) (addi (fun i => lit0 (S128.rowMajor i)) (broadcastInDim S128 ![] bcast_S_S128 (constantI S_ 32 8#32))) fun i => lit0 (S128.rowMajor i))

theorem heads_at : ∀ d : Fin 8, min (heads (ix2 (lane d) 0)).toInt.toNat 7 = d.val := by decide +kernel
theorem used1_at : ∀ d : Fin 8, lit1 (S128.rowMajor (ix1 (lane d))) = 1#1 := by decide +kernel
theorem used2_at : ∀ d : Fin 8, lit2 (S128.rowMajor (ix1 (lane d))) = 1#1 := by decide +kernel

theorem V_v9 : V m c main_v9 = (truncf (F := Ideal) .bf16 (select
    (broadcastInDim S2048x128 ![0, 1] bcast_S1x128_S2048x128_0_1 (broadcastInDim S1x128 ![1] bcast_S128_S1x128_1 fun i => lit1 (S128.rowMajor i)))
    (Host.gather gather_S2048x8_S128x1_S2048x128_0_1_n_n_1_1_20481
      (extractStridedSlice S2048x8 ![0, 3072] (shapeCast S2048x6152 (A5 m c) shapeCasts_S1x2048x6152_S2048x6152) slices_S2048x6152_S2048x8_0_3072) heads)
    (broadcastInDim S2048x128 ![] bcast_S_S2048x128 (constant S_ .f32 0x00000000#32 : FVec Ideal S_ .f32))) bitsLt_bf16_f32 : Vec Ideal S2048x128 .bf16) := by
  unfold V; simp only [hostOps0, hostOps0_1, hostOps0_2, hostOps0_3, hostOps0_4, List.flatten_cons, List.flatten_nil, List.append_nil, List.cons_append, List.nil_append]; after_results_simp; rfl

theorem V_v17 : V m c main_v17 = (broadcastInDim S1x128 ![1] bcast_S128_S1x128_1 (select (fun i => lit2 (S128.rowMajor i))
    (Host.gather gather_S8_S128x1_S128_n_0_n_n_0_1_1 (shapeCast S8 (A6 m c) shapeCasts_S1x8_S8) heads)
    (broadcastInDim S128 ![] bcast_S_S128 (constant S_ .f32 0x00000000#32 : FVec Ideal S_ .f32))) : Vec Ideal S1x128 .f32) := by
  unfold V; simp only [hostOps0, hostOps0_1, hostOps0_2, hostOps0_3, hostOps0_4, List.flatten_cons, List.flatten_nil, List.append_nil, List.cons_append, List.nil_append]; after_results_simp; rfl

theorem V_v9_at (k : Fin 2048) (d : Fin 8) : (V m c main_v9 : Vec Ideal S2048x128 .bf16) (ix2 k (lane d)) = A5 m c (ix3 0 k ⟨3072 + d.val, Nat.lt_of_lt_of_le (Nat.add_lt_add_left d.isLt 3072) (by decide)⟩) := by
  have e : (extractStridedSlice S2048x8 ![0, 3072] (shapeCast S2048x6152 (A5 m c) shapeCasts_S1x2048x6152_S2048x6152) slices_S2048x6152_S2048x8_0_3072 : FVec Ideal S2048x8 .f32) (ix2 k d)
      = A5 m c (ix3 0 k ⟨3072 + d.val, Nat.lt_of_lt_of_le (Nat.add_lt_add_left d.isLt 3072) (by decide)⟩) := by pointwise
  rw [V_v9]
  generalize (extractStridedSlice S2048x8 ![0, 3072] (shapeCast S2048x6152 (A5 m c) shapeCasts_S1x2048x6152_S2048x6152) slices_S2048x6152_S2048x8_0_3072 : FVec Ideal S2048x8 .f32) = y at e ⊢
  refine Eq.trans ?_ ((gather_cols y heads k (lane d) d (heads_at d)).trans e)
  generalize (Host.gather gather_S2048x8_S128x1_S2048x128_0_1_n_n_1_1_20481 y heads : FVec Ideal S2048x128 .f32) = z
  show Scalar.select (lit1 (S128.rowMajor (ix1 (lane d)))) (z (ix2 k (lane d))) _ = _
  rw [used1_at]
  rfl

theorem V_v17_at (d : Fin 8) : (V m c main_v17 : Vec Ideal S1x128 .f32) (ix2 0 (lane d)) = A6 m c (ix2 0 d) := by
  have e : (shapeCast S8 (A6 m c) shapeCasts_S1x8_S8 : FVec Ideal S8 .f32) (ix1 d) = A6 m c (ix2 0 d) := by pointwise
  rw [V_v17]
  generalize (shapeCast S8 (A6 m c) shapeCasts_S1x8_S8 : FVec Ideal S8 .f32) = y at e ⊢
  refine Eq.trans ?_ ((gather_lanes y heads (lane d) d (heads_at d)).trans e)
  generalize (Host.gather gather_S8_S128x1_S128_n_0_n_n_0_1_1 y heads : FVec Ideal S128 .f32) = z
  generalize hl : (fun i : S128.Idx => lit2 (S128.rowMajor i)) = l
  have hu : l (ix1 (lane d)) = 1#1 := by rw [← hl]; exact used2_at d
  pointwise
  exact if_pos hu

/-- Where the first window's block begins. -/
def start (t : ℕ) : ℕ := min 7808 (384 * t - 16)

theorem place0 : ∀ t : Fin grid0.N, cc0_transform_0 (grid0.coords t) 0 = start t.val ∧ cc0_transform_0 (grid0.coords t) 1 = 0 := by
  decide +kernel
theorem place1 : ∀ t : Fin grid0.N, cc0_transform_1 (grid0.coords t) 0 = 0 ∧ cc0_transform_1 (grid0.coords t) 1 = 0 := by
  decide +kernel
theorem place2 : ∀ t : Fin grid0.N, cc0_transform_2 (grid0.coords t) 0 = 0 ∧ cc0_transform_2 (grid0.coords t) 1 = 0 := by
  decide +kernel
theorem place3 : ∀ t : Fin grid0.N, cc0_transform_3 (grid0.coords t) 0 = 0 ∧ cc0_transform_3 (grid0.coords t) 1 = 0 := by
  decide +kernel
theorem place4 : ∀ t : Fin grid0.N, cc0_transform_4 (grid0.coords t) 0 = 0 ∧ cc0_transform_4 (grid0.coords t) 1 = 0 := by
  decide +kernel
theorem place5 : ∀ t : Fin grid0.N, cc0_transform_5 (grid0.coords t) 0 = 0 ∧ cc0_transform_5 (grid0.coords t) 1 = 0 := by
  decide +kernel
theorem place6 : ∀ t : Fin grid0.N, cc0_transform_6 (grid0.coords t) 0 = 0 ∧ cc0_transform_6 (grid0.coords t) 1 = 0 := by
  decide +kernel

theorem x_at (t : Fin cfg0.N) (r : Fin 384) (k : Fin 2048) (h : start t.val + r.val < 8192) :
    (iblk m c 0 t : Vec Ideal S384x2048 .f32) (ix2 r k) = A0 m c (ix3 0 ⟨start t.val + r.val, h⟩ k) := by
  unfold iblk
  rw [View.read_apply]
  show V m c main_v18 _ = _
  rw [V_v18]
  have e : ((cfg0.win 0).blk t).view.emb (ix2 r k) = (ix2 ⟨start t.val + r.val, h⟩ k : S8192x2048.Idx) := by
    refine funext fun a => Fin.ext ?_
    match a with
    | ⟨0, _⟩ => show cc0_transform_0 (grid0.coords t) 0 + 1 * r.val = start t.val + r.val; rw [(place0 t).1]; omega
    | ⟨1, _⟩ => show cc0_transform_0 (grid0.coords t) 1 + 1 * k.val = k.val; rw [(place0 t).2]; omega
  rw [e]
  pointwise

theorem meta_at (t : Fin cfg0.N) (r : Fin 16) (k : Fin 2048) :
    (iblk m c 1 t : Vec Ideal S16x2048 .f32) (ix2 r k) = A2 m c (ix2 r k) := by
  unfold iblk
  rw [View.read_apply]
  show V m c main_arg2 _ = _
  rw [V_main_arg2]
  have e : ((cfg0.win 1).blk t).view.emb (ix2 r k) = (ix2 r k : S16x2048.Idx) := by
    refine funext fun a => Fin.ext ?_
    match a with
    | ⟨0, _⟩ => show cc0_transform_1 (grid0.coords t) 0 * 16 + 1 * r.val = r.val; rw [(place1 t).1]; omega
    | ⟨1, _⟩ => show cc0_transform_1 (grid0.coords t) 1 * 2048 + 1 * k.val = k.val; rw [(place1 t).2]; omega
  rw [e]

theorem samp_at (t : Fin cfg0.N) (r : Fin 32) (k : Fin 2048) :
    (iblk m c 2 t : Vec Ideal S32x2048 .f32) (ix2 r k) = A1 m c (ix3 r 0 k) := by
  unfold iblk
  rw [View.read_apply]
  show V m c main_v19 _ = _
  rw [V_v19]
  have e : ((cfg0.win 2).blk t).view.emb (ix2 r k) = (ix2 r k : S32x2048.Idx) := by
    refine funext fun a => Fin.ext ?_
    match a with
    | ⟨0, _⟩ => show cc0_transform_2 (grid0.coords t) 0 * 32 + 1 * r.val = r.val; rw [(place2 t).1]; omega
    | ⟨1, _⟩ => show cc0_transform_2 (grid0.coords t) 1 * 2048 + 1 * k.val = k.val; rw [(place2 t).2]; omega
  rw [e]
  pointwise

theorem gain_at (t : Fin cfg0.N) (r : Fin 1) (k : Fin 2048) :
    (iblk m c 3 t : Vec Ideal S1x2048 .f32) (ix2 r k) = A3 m c (ix1 k) := by
  unfold iblk
  rw [View.read_apply]
  show V m c main_v20 _ = _
  rw [V_v20]
  have e : ((cfg0.win 3).blk t).view.emb (ix2 r k) = (ix2 r k : S1x2048.Idx) := by
    refine funext fun a => Fin.ext ?_
    match a with
    | ⟨0, _⟩ => show cc0_transform_3 (grid0.coords t) 0 * 1 + 1 * r.val = r.val; rw [(place3 t).1]; omega
    | ⟨1, _⟩ => show cc0_transform_3 (grid0.coords t) 1 * 2048 + 1 * k.val = k.val; rw [(place3 t).2]; omega
  rw [e]
  pointwise

theorem bias_at (t : Fin cfg0.N) (r : Fin 1) (k : Fin 2048) :
    (iblk m c 4 t : Vec Ideal S1x2048 .f32) (ix2 r k) = A4 m c (ix1 k) := by
  unfold iblk
  rw [View.read_apply]
  show V m c main_v21 _ = _
  rw [V_v21]
  have e : ((cfg0.win 4).blk t).view.emb (ix2 r k) = (ix2 r k : S1x2048.Idx) := by
    refine funext fun a => Fin.ext ?_
    match a with
    | ⟨0, _⟩ => show cc0_transform_4 (grid0.coords t) 0 * 1 + 1 * r.val = r.val; rw [(place4 t).1]; omega
    | ⟨1, _⟩ => show cc0_transform_4 (grid0.coords t) 1 * 2048 + 1 * k.val = k.val; rw [(place4 t).2]; omega
  rw [e]
  pointwise

theorem wf_at (t : Fin cfg0.N) (r : Fin 2048) (k : Fin 128) :
    (iblk m c 5 t : Vec Ideal S2048x128 .bf16) (ix2 r k) = (V m c main_v9 : Vec Ideal S2048x128 .bf16) (ix2 r k) := by
  unfold iblk
  rw [View.read_apply]
  show V m c main_v9 _ = _
  have e : ((cfg0.win 5).blk t).view.emb (ix2 r k) = (ix2 r k : S2048x128.Idx) := by
    refine funext fun a => Fin.ext ?_
    match a with
    | ⟨0, _⟩ => show cc0_transform_5 (grid0.coords t) 0 * 2048 + 1 * r.val = r.val; rw [(place5 t).1]; omega
    | ⟨1, _⟩ => show cc0_transform_5 (grid0.coords t) 1 * 128 + 1 * k.val = k.val; rw [(place5 t).2]; omega
  rw [e]

theorem bf_at (t : Fin cfg0.N) (r : Fin 1) (k : Fin 128) :
    (iblk m c 6 t : Vec Ideal S1x128 .f32) (ix2 r k) = (V m c main_v17 : Vec Ideal S1x128 .f32) (ix2 r k) := by
  unfold iblk
  rw [View.read_apply]
  show V m c main_v17 _ = _
  have e : ((cfg0.win 6).blk t).view.emb (ix2 r k) = (ix2 r k : S1x128.Idx) := by
    refine funext fun a => Fin.ext ?_
    match a with
    | ⟨0, _⟩ => show cc0_transform_6 (grid0.coords t) 0 * 1 + 1 * r.val = r.val; rw [(place6 t).1]; omega
    | ⟨1, _⟩ => show cc0_transform_6 (grid0.coords t) 1 * 128 + 1 * k.val = k.val; rw [(place6 t).2]; omega
  rw [e]

end Cert.Kernel5Ideal.Gate

end
-- ==== Proof.GateKernel.lean ====
/-
  The two arrays the gate kernel ends with, index by index.
-/
module

public import proofs.«01_k».proof.Proof.GateCases
public import proofs.«01_k».proof.Proof.GateHost
public import Idealize.ShloMosaic.Lib.Pipeline.ValueKit

@[expose] public section

set_option maxRecDepth 16384

noncomputable section

namespace Cert.Kernel5Ideal.Gate

open Cert.Kernel5Ideal Cert.Kernel5Ideal.Gen Cert.FfnSpec Cert.GateSpec
open Idealize.ShloMosaic Idealize.ShloMosaic.TcCoe Idealize.SL.Sem
open scoped BigOperators

variable (m : (ℓ : Loc nD τ sig) → Buf (Elt Ideal) ℓ) (c : Dev nD)

/-- Row `a` of the rows normalised. -/
abbrev rows (a : ℕ) (k : Fin 2048) : EReal :=
  rowAt (fun i j => A2 m c (ix2 i j)) (fun i j => A0 m c (ix3 0 i j)) (fun i j => A1 m c (ix3 i 0 j)) a k

/-- Row `a` normalised. -/
def ln (a : ℕ) (d : Fin 2048) : EReal := layerNorm (rows m c a) (fun k => A3 m c (ix1 k)) (fun k => A4 m c (ix1 k)) d

theorem colLt (h : Fin 8) : 3072 + h.val < 6152 := Nat.lt_of_lt_of_le (Nat.add_lt_add_left h.isLt 3072) (by decide)

/-- The gate's logarithm at row `a`, head `h`. -/
def gate (a : ℕ) (h : Fin 8) : EReal := logSig (∑ k, ln m c a k * A5 m c (ix3 0 k ⟨3072 + h.val, colLt h⟩) + A6 m c (ix2 0 h))

theorem x_eq (t : Fin cfg0.N) (r : Fin 384) (k : Fin 2048) (q : Fin 8192) (h : start t.val + r.val = q.val) :
    (iblk m c 0 t : Vec Ideal S384x2048 .f32) (ix2 r k) = A0 m c (ix3 0 q k) := by
  obtain ⟨q, hq⟩ := q
  dsimp only at h
  subst h
  exact x_at m c t r k hq

theorem row_A (t : Fin cfg0.N) (ht : t.val = 0) (r : Fin 384) (k : Fin 2048) :
    (if h : r.val < 16 then (iblk m c 1 t : Vec Ideal S16x2048 .f32) (ix2 ⟨r.val, h⟩ k)
      else (iblk m c 0 t : Vec Ideal S384x2048 .f32) (ix2 ⟨r.val - 16, Nat.lt_of_le_of_lt (Nat.sub_le _ _) r.isLt⟩ k)) = rows m c (384 * t.val + r.val) k := by
  rw [ht, Nat.mul_zero, Nat.zero_add]
  unfold rows rowAt
  by_cases h : r.val < 16
  · rw [dif_pos h, dif_pos h, meta_at]
  · have h2 : r.val - 16 < 8192 := by have := r.isLt; omega
    rw [dif_neg h, dif_neg h, dif_pos h2]
    exact x_eq m c t _ k ⟨r.val - 16, h2⟩ (by rw [ht]; show min 7808 (384 * 0 - 16) + (r.val - 16) = r.val - 16; omega)

theorem row_B (t : Fin cfg0.N) (h1 : 1 ≤ t.val) (h2 : t.val ≤ 20) (r : Fin 384) (k : Fin 2048) :
    (iblk m c 0 t : Vec Ideal S384x2048 .f32) (ix2 r k) = rows m c (384 * t.val + r.val) k := by
  unfold rows rowAt
  have hr := r.isLt
  have h3 : 384 * t.val + r.val - 16 < 8192 := by omega
  rw [dif_neg (by omega), dif_pos h3]
  exact x_eq m c t _ k ⟨_, h3⟩ (by show min 7808 (384 * t.val - 16) + r.val = 384 * t.val + r.val - 16; omega)

theorem row_C (t : Fin cfg0.N) (ht : t.val = 21) (r : Fin 384) (k : Fin 2048) :
    (if h : r.val < 144 then (iblk m c 0 t : Vec Ideal S384x2048 .f32) (ix2 ⟨240 + r.val, Nat.add_lt_add_left h 240⟩ k)
          else if _h : r.val - 144 < 16 then 0 else if h : r.val - 144 - 16 < 32 then (iblk m c 2 t : Vec Ideal S32x2048 .f32) (ix2 ⟨r.val - 144 - 16, h⟩ k) else 0 : EReal)
      = rows m c (384 * t.val + r.val) k := by
  unfold rows rowAt
  have hr := r.isLt
  rw [dif_neg (by omega : ¬384 * t.val + r.val < 16)]
  by_cases h : r.val < 144
  · have h2 : 384 * t.val + r.val - 16 < 8192 := by omega
    rw [dif_pos h, dif_pos h2]
    exact x_eq m c t _ k ⟨_, h2⟩ (by show min 7808 (384 * t.val - 16) + (240 + r.val) = 384 * t.val + r.val - 16; omega)
  · rw [dif_neg h, dif_neg (by omega : ¬384 * t.val + r.val - 16 < 8192)]
    by_cases h3 : r.val - 144 < 16
    · rw [dif_pos h3, dif_pos (by omega : 384 * t.val + r.val - 16 - 8192 < 16)]
    · rw [dif_neg h3, dif_neg (by omega : ¬384 * t.val + r.val - 16 - 8192 < 16)]
      by_cases h4 : r.val - 144 - 16 < 32
      · have h5 : 384 * t.val + r.val - 16 - 8192 - 16 < 32 := by omega
        rw [dif_pos h4, dif_pos h5, samp_at]
        exact congrArg (fun q : Fin 32 => A1 m c (ix3 q 0 k)) (Fin.ext (by show r.val - 144 - 16 = 384 * t.val + r.val - 16 - 8192 - 16; omega))
      · rw [dif_neg h4, dif_neg (by omega : ¬384 * t.val + r.val - 16 - 8192 - 16 < 32)]

theorem ln_A (t : Fin cfg0.N) (ht : t.val = 0) (r : Fin 384) (d : Fin 2048) :
    k0_pay6 (F := Ideal) (iblk m c 0 t) (iblk m c 1 t) (iblk m c 3 t) (iblk m c 4 t) (ix2 r d) = ln m c (384 * t.val + r.val) d := by
  rw [pay6_at]
  unfold ln
  rw [← funext (row_A m c t ht r)]
  simp only [gain_at, bias_at]

theorem ln_B (t : Fin cfg0.N) (h1 : 1 ≤ t.val) (h2 : t.val ≤ 20) (r : Fin 384) (d : Fin 2048) :
    k0_pay21 (F := Ideal) (iblk m c 0 t) (iblk m c 3 t) (iblk m c 4 t) (ix2 r d) = ln m c (384 * t.val + r.val) d := by
  rw [pay21_at]
  unfold ln
  rw [← funext (row_B m c t h1 h2 r)]
  simp only [gain_at, bias_at]

theorem ln_C (t : Fin cfg0.N) (ht : t.val = 21) (r : Fin 384) (d : Fin 2048) :
    k0_pay35 (F := Ideal) (iblk m c 0 t) (iblk m c 2 t) (iblk m c 3 t) (iblk m c 4 t) (ix2 r d) = ln m c (384 * t.val + r.val) d := by
  rw [pay35_at]
  unfold ln
  rw [← funext (row_C m c t ht r)]
  simp only [gain_at, bias_at]
  rfl

theorem wgt_at (t : Fin cfg0.N) (k : Fin 2048) (h : Fin 8) :
    (iblk m c 5 t : Vec Ideal S2048x128 .bf16) (ix2 k (lane h)) = A5 m c (ix3 0 k ⟨3072 + h.val, colLt h⟩) :=
  (wf_at m c t k (lane h)).trans (V_v9_at m c k h)

theorem off_at (t : Fin cfg0.N) (h : Fin 8) : (iblk m c 6 t : Vec Ideal S1x128 .f32) (ix2 0 (lane h)) = A6 m c (ix2 0 h) :=
  (bf_at m c t 0 (lane h)).trans (V_v17_at m c h)

theorem point (t : Fin cfg0.N) (r : Fin 384) :
    (∀ d : Fin 2048, (outsAt0 m c t.val t.isLt).1 (ix2 r d) = ln m c (384 * t.val + r.val) d)
    ∧ (∀ h : Fin 8, (outsAt0 m c t.val t.isLt).2.2.2.1 (ix2 r h) = gate m c (384 * t.val + r.val) h) := by
  have hN := lt_of_lt_of_eq t.isLt (show cfg0.N = 22 from N_0)
  by_cases h0 : t.val = 0
  · rw [outsAt0_A m c t (by omega) (by omega) (by omega) (by omega)]
    dsimp only
    refine ⟨fun d => ?_, fun h => ?_⟩
    · rw [wr_A_8, ln_A m c t h0]
    · rw [wr_A_11, pay9_at, pay7_at, off_at]
      unfold gate
      simp only [ln_A m c t h0, wgt_at]
  · by_cases h1 : t.val = 21
    · rw [outsAt0_C m c t (by omega) (by omega) (by omega) (by omega)]
      dsimp only
      refine ⟨fun d => ?_, fun h => ?_⟩
      · rw [wr_C_8, ln_C m c t h1]
      · rw [wr_C_11, pay38_at, pay36_at, off_at]
        unfold gate
        simp only [ln_C m c t h1, wgt_at]
    · rw [outsAt0_B m c t (by omega) (by omega) (by omega) (by omega)]
      dsimp only
      refine ⟨fun d => ?_, fun h => ?_⟩
      · rw [wr_B_8, ln_B m c t (by omega) (by omega)]
      · rw [wr_B_11, pay27_at, pay22_at, off_at]
        unfold gate
        simp only [ln_B m c t (by omega) (by omega), wgt_at]

/-- The first result. -/
def HB : Vec Ideal S8448x2048 .bf16 := fun i => ln m c (i 0).val (i 1)
/-- The last result. -/
def LF : Vec Ideal S8448x8 .f32 := fun i => gate m c (i 0).val (i 1)

theorem covers8 : (cfg0.win (8 : Fin 12)).Covers := by decide +kernel
theorem covers11 : (cfg0.win (11 : Fin 12)).Covers := by decide +kernel
theorem place8 : ∀ t : Fin grid0.N, cc0_transform_8 (grid0.coords t) 0 = t.val ∧ cc0_transform_8 (grid0.coords t) 1 = 0 := by
  decide +kernel
theorem place11 : ∀ t : Fin grid0.N, cc0_transform_11 (grid0.coords t) 0 = t.val ∧ cc0_transform_11 (grid0.coords t) 1 = 0 := by
  decide +kernel

theorem array8 : (dats m 0 c).arrAt (8 : Fin 12) cfg0.N = HB m c := by
  refine (dats m 0 c).arrAt_eq_of_covers (8 : Fin 12) _ covers8 fun t hf y => ?_
  refine (congrFun (after0_8 m c t) y).trans ?_
  show (outsAt0 m c t.val t.isLt).1 y = _
  have e : y = (ix2 (y 0) (y 1) : S384x2048.Idx) := eq_ix2 y
  rw [e]
  refine ((point m c t (y 0)).1 (y 1)).trans ?_
  show _ = HB m c (((cfg0.win 8).blk t).view.emb (ix2 (y 0) (y 1)))
  have e2 : ((cfg0.win 8).blk t).view.emb (ix2 (y 0) (y 1)) = (ix2 ⟨384 * t.val + (y 0).val, by
      have hN := lt_of_lt_of_eq t.isLt (show cfg0.N = 22 from N_0)
      have h : (y 0).val < 384 := (y 0).isLt
      omega⟩ (y 1) : S8448x2048.Idx) := by
    refine funext fun a => Fin.ext ?_
    match a with
    | ⟨0, _⟩ => show cc0_transform_8 (grid0.coords t) 0 * 384 + 1 * (y 0).val = 384 * t.val + (y 0).val; rw [(place8 t).1]; omega
    | ⟨1, _⟩ => show cc0_transform_8 (grid0.coords t) 1 * 2048 + 1 * (y 1).val = (y 1).val; rw [(place8 t).2]; omega
  rw [e2]
  rfl

theorem array11 : (dats m 0 c).arrAt (11 : Fin 12) cfg0.N = LF m c := by
  refine (dats m 0 c).arrAt_eq_of_covers (11 : Fin 12) _ covers11 fun t hf y => ?_
  refine (congrFun (after0_11 m c t) y).trans ?_
  show (outsAt0 m c t.val t.isLt).2.2.2.1 y = _
  have e : y = (ix2 (y 0) (y 1) : S384x8.Idx) := eq_ix2 y
  rw [e]
  refine ((point m c t (y 0)).2 (y 1)).trans ?_
  show _ = LF m c (((cfg0.win 11).blk t).view.emb (ix2 (y 0) (y 1)))
  have e2 : ((cfg0.win 11).blk t).view.emb (ix2 (y 0) (y 1)) = (ix2 ⟨384 * t.val + (y 0).val, by
      have hN := lt_of_lt_of_eq t.isLt (show cfg0.N = 22 from N_0)
      have h : (y 0).val < 384 := (y 0).isLt
      omega⟩ (y 1) : S8448x8.Idx) := by
    refine funext fun a => Fin.ext ?_
    match a with
    | ⟨0, _⟩ => show cc0_transform_11 (grid0.coords t) 0 * 384 + 1 * (y 0).val = 384 * t.val + (y 0).val; rw [(place11 t).1]; omega
    | ⟨1, _⟩ => show cc0_transform_11 (grid0.coords t) 1 * 8 + 1 * (y 1).val = (y 1).val; rw [(place11 t).2]; omega
  rw [e2]
  rfl

end Cert.Kernel5Ideal.Gate

end
-- ==== Proof.GateRef.lean ====
/-
  The gate's reference read at one place of its two results.
-/
module

public import proofs.«01_k».proof.Proof.Gen.Reference5Ideal.Read
public import Idealize.ShloMosaic.Lib.Pointwise
public import proofs.«01_k».proof.Proof.GateSpec

@[expose] public section

noncomputable section

namespace Cert.Reference5Ideal.Read

open Cert.Reference5Ideal Cert.Reference5Ideal.Gen Cert.FfnSpec Cert.GateSpec Idealize.ShloMosaic
open scoped BigOperators

set_option maxRecDepth 16384

variable (x0 : Vec Ideal S1x8192x2048 .f32) (x1 : Vec Ideal S32x1x2048 .f32) (x2 : Vec Ideal S16x2048 .f32) (x3 x4 : Vec Ideal S2048 .f32)
  (x5 : Vec Ideal S1x2048x6152 .f32) (x6 : Vec Ideal S1x8 .f32)

/-- The rows. -/
abbrev rowsOf (a : ℕ) (k : Fin 2048) : EReal :=
  rowAt (fun i j => x2 (ix2 i j)) (fun i j => x0 (ix3 0 i j)) (fun i j => x1 (ix3 i 0 j)) a k

theorem v4_at (i : Fin 8448) (k : Fin 2048) : val_main_v4 (F := Ideal) x0 x1 x2 (ix2 i k) = rowsOf x0 x1 x2 i.val k := by
  unfold val_main_v4 val_main_v0 val_main_v1 val_main_v2 val_main_v3 val_main_cst val_main_cst_0
  pointwise
  unfold rowsOf rowAt
  rfl

theorem v28_at (i : Fin 8448) (d : Fin 2048) :
    val_main_v28 (F := Ideal) x0 x1 x2 x3 x4 (ix2 i d) = layerNorm (rowsOf x0 x1 x2 i.val) (fun k => x3 (ix1 k)) (fun k => x4 (ix1 k)) d := by
  rw [show rowsOf x0 x1 x2 i.val = fun k => val_main_v4 (F := Ideal) x0 x1 x2 (ix2 i k) from funext fun k => (v4_at x0 x1 x2 i k).symm]
  unfold val_main_v28 val_main_v27 val_main_v26 val_main_v25 val_main_v24 val_main_v23 val_main_v22 val_main_v21 val_main_v20 val_main_v19
    val_main_v18 val_main_v17 val_main_v16 val_main_v15 val_main_v14 val_main_v13 val_main_v12 val_main_v11 val_main_v10 val_main_v9 val_main_v8
    val_main_v7 val_main_v6 val_main_v5 val_main_cst_1 val_main_cst_2 val_main_cst_3 val_main_cst_4 val_main_cst_5
  generalize val_main_v4 (F := Ideal) x0 x1 x2 = y
  pointwise
  rfl

theorem v32_at (i : Fin 8448) (d : Fin 2048) :
    val_main_v32 (F := Ideal) x0 x1 x2 x3 x4 (ix2 i d) = layerNorm (rowsOf x0 x1 x2 i.val) (fun k => x3 (ix1 k)) (fun k => x4 (ix1 k)) d := by
  rw [← v28_at]
  unfold val_main_v32
  pointwise

theorem v30_at (k : Fin 2048) (h : Fin 8) :
    val_main_v30 (F := Ideal) x5 (ix2 k h) = x5 (ix3 0 k ⟨3072 + h.val, by omega⟩) := by
  unfold val_main_v30 val_main_v29
  pointwise

theorem v36_at (i : Fin 8448) (h : Fin 8) :
    val_main_v36 (F := Ideal) x0 x1 x2 x3 x4 x5 x6 (ix2 i h)
      = ∑ k, layerNorm (rowsOf x0 x1 x2 i.val) (fun k => x3 (ix1 k)) (fun k => x4 (ix1 k)) k * x5 (ix3 0 k ⟨3072 + h.val, by omega⟩) + x6 (ix2 0 h) := by
  simp only [← v28_at, ← v30_at]
  unfold val_main_v36 val_main_v35 val_main_v34 val_main_v33 val_main_v31
  generalize val_main_v28 (F := Ideal) x0 x1 x2 x3 x4 = y
  generalize val_main_v30 (F := Ideal) x5 = w
  pointwise [dot_S8448x2048_S2048x8_S8448x8_1_0_0_1_n_n]

theorem v37_at (i : Fin 8448) (h : Fin 8) :
    val_main_v37 (F := Ideal) x0 x1 x2 x3 x4 x5 x6 (ix2 i h) = logSig (val_main_v36 (F := Ideal) x0 x1 x2 x3 x4 x5 x6 (ix2 i h)) := by
  rw [← neg_softplus]
  unfold val_main_v37 val_main_call0_v1 val_main_call0_call0_v4 val_main_call0_call0_v6 val_main_call0_call0_v11 val_main_call0_call0_v10
    val_main_call0_call0_v9 val_main_call0_call0_v8 val_main_call0_call0_v7 val_main_call0_call0_v5 val_main_call0_call0_v3 val_main_call0_call0_v2
    val_main_call0_call0_v1 val_main_call0_call0_v0 val_main_call0_call0_cst val_main_call0_v0
  generalize val_main_v36 (F := Ideal) x0 x1 x2 x3 x4 x5 x6 = z
  pointwise
  rw [if_neg (not_not_intro rfl)]
  rfl

end Cert.Reference5Ideal.Read

end
-- ==== Proof.GateTop.lean ====
/-
  The claims about the gate's call: the two arrays the kernel ends with and the reference's two results are one function of the arguments.
-/
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.GateKernel
public import proofs.«01_k».proof.Proof.GateRef
public import Idealize.ShloMosaic.Adequacy
public import Idealize.ShloMosaic.Init
public import Idealize.ShloMosaic.Lib.Quiescent

@[expose] public section

set_option maxRecDepth 16384

noncomputable section

namespace Cert.GateTop

open Idealize.ShloMosaic Idealize.SL.Sem
open scoped BigOperators

theorem quiescent_Reference5Ideal : quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem ln_eq (m : (ℓ : Loc Cert.Kernel5Ideal.nD Cert.Kernel5Ideal.τ Cert.Kernel5Ideal.sig) → Buf (Elt Ideal) ℓ) (c : Dev Cert.Kernel5Ideal.nD) :
    (Cert.Reference5Ideal.Read.val_main_v32 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) : Vec Ideal Cert.Kernel5Ideal.S8448x2048 .bf16)
      = Cert.Kernel5Ideal.Gate.HB m c := by
  funext i
  rw [eq_ix2 i]
  exact Cert.Reference5Ideal.Read.v32_at _ _ _ _ _ (i 0) (i 1)

theorem gate_eq (m : (ℓ : Loc Cert.Kernel5Ideal.nD Cert.Kernel5Ideal.τ Cert.Kernel5Ideal.sig) → Buf (Elt Ideal) ℓ) (c : Dev Cert.Kernel5Ideal.nD) :
    (Cert.Reference5Ideal.Read.val_main_v37 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) : Vec Ideal Cert.Kernel5Ideal.S8448x8 .f32)
      = Cert.Kernel5Ideal.Gate.LF m c := by
  funext i
  rw [eq_ix2 i]
  exact (Cert.Reference5Ideal.Read.v37_at _ _ _ _ _ _ _ (i 0) (i 1)).trans
    (congrArg Cert.GateSpec.logSig (Cert.Reference5Ideal.Read.v36_at _ _ _ _ _ _ _ (i 0) (i 1)))

theorem algebraic_Kernel5Ideal_Reference5Ideal : algebraic_Kernel5Ideal_Reference5Ideal := by
  intro m ρ m' ρ' _ hagree
  refine ⟨fun c => (Cert.Kernel5Ideal.Gen.dats m 0 c).arrAt (8 : Fin 12) Cert.Kernel5Ideal.cfg0.N,
    fun c => (Cert.Kernel5Ideal.Gen.dats m 0 c).arrAt (11 : Fin 12) Cert.Kernel5Ideal.cfg0.N, ?_, ?_⟩
  · exact (θ_run Cert.Kernel5Ideal.defs _ _).mono (fun r hr c => ⟨(hr.1 c).1 (8 : Fin 12), (hr.1 c).1 (11 : Fin 12), hr.2 c⟩)
      (θ_run_and (Cert.Kernel5Ideal.Gen.run_main m ρ) (Cert.Kernel5Ideal.Gen.unchanged m ρ))
  · refine (θ_run Cert.Reference5Ideal.defs _ _).mono (fun _ hr c => ⟨?_, ?_, (hr c).2.2⟩) (Cert.Reference5Ideal.Value.run (F := Ideal) m' ρ')
    · rw [(hr c).1, Cert.Reference5Ideal.Read.val_main_v32_eq]
      simp only [hagree c]
      exact (ln_eq m c).trans (Cert.Kernel5Ideal.Gate.array8 m c).symm
    · rw [(hr c).2.1, Cert.Reference5Ideal.Read.val_main_v37_eq]
      simp only [hagree c]
      exact (gate_eq m c).trans (Cert.Kernel5Ideal.Gate.array11 m c).symm

end Cert.GateTop

end
-- ==== Proof.lean ====
/-
  The certificate: the claims about every call taken, put together.
-/
module

public import proofs.«01_k».proof.Defs
public import proofs.«01_k».proof.Proof.Gen.Kernel.Flash
public import proofs.«01_k».proof.Proof.Gen.KernelIdeal.Flash
public import proofs.«01_k».proof.Proof.Gen.ReferenceIdeal.Run
public import proofs.«01_k».proof.Proof.Gen.ReferenceIdeal.Read
public import proofs.«01_k».proof.Proof.Gen.Pre_causal_tables
public import proofs.«01_k».proof.Proof.Gen.Pre_causal_finite
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.AttnTop
public import proofs.«01_k».proof.Proof.FfnTop
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.SampleTop
public import proofs.«01_k».proof.Proof.MixTop
public import proofs.«01_k».proof.Proof.GateTop

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
    Cert.Pre_causal_tables.Gen.facts, Cert.Pre_causal_finite.Gen.facts,
    Cert.AttnTop.quiescent_Kernel, Cert.AttnTop.quiescent_KernelIdeal, Cert.AttnTop.quiescent_KernelIdeal_finite, Cert.AttnTop.quiescent_ReferenceIdeal,
    Cert.AttnTop.quiescent_ReferenceIdeal_finite,
    fun m ρ _ => Cert.Kernel2.Gen.frame m ρ, fun m ρ _ => Cert.Kernel2Ideal.Gen.frame m ρ, Cert.FfnTop.quiescent_Reference2Ideal,
    fun m ρ _ => Cert.Kernel3.Gen.frame m ρ, fun m ρ _ => Cert.Kernel3Ideal.Gen.frame m ρ, Cert.SampleTop.quiescent_Reference3Ideal,
    fun m ρ _ => Cert.Kernel4.Gen.frame m ρ, fun m ρ _ => Cert.Kernel4Ideal.Gen.frame m ρ, Cert.MixTop.quiescent_Reference4Ideal,
    fun m ρ _ => Cert.Kernel5.Gen.frame m ρ, fun m ρ _ => Cert.Kernel5Ideal.Gen.frame m ρ, Cert.GateTop.quiescent_Reference5Ideal,
    Cert.AttnTop.preserves, Cert.AttnTop.algebraic, (trivial : preserves_Kernel2_Kernel2Ideal), Cert.FfnTop.algebraic_Kernel2Ideal_Reference2Ideal,
    (trivial : preserves_Kernel3_Kernel3Ideal), Cert.SampleTop.algebraic_Kernel3Ideal_Reference3Ideal,
    (trivial : preserves_Kernel4_Kernel4Ideal), Cert.MixTop.algebraic_Kernel4Ideal_Reference4Ideal,
    (trivial : preserves_Kernel5_Kernel5Ideal), Cert.GateTop.algebraic_Kernel5Ideal_Reference5Ideal⟩

end Cert.Proof

end
